-- ==== Defs.lean ====
def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Adw (m : (ℓ : Loc Cert.Adw.nD Cert.Adw.τ Cert.Adw.sig) → Buf (Elt Bits) ℓ) : Prop :=
  True

def Pre_AdwIdeal (m : (ℓ : Loc Cert.AdwIdeal.nD Cert.AdwIdeal.τ Cert.AdwIdeal.sig) → Buf (Elt Ideal) ℓ) : Prop :=
  True

def Pre_AdwRefIdeal (m : (ℓ : Loc Cert.AdwRefIdeal.nD Cert.AdwRefIdeal.τ Cert.AdwRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))).2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7))).2.2 = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_inp [hPre_finite_inp : Cert.Pre_finite_inp.Facts] (m : (ℓ : Loc Cert.InpIdeal.nD Cert.InpIdeal.τ Cert.InpIdeal.sig) → Buf (Elt Ideal) ℓ) : Prop :=
  ∀ c : Dev Cert.InpIdeal.nD,
    (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))).1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))).2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))).2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_inp [hPre_finite_inp : Cert.Pre_finite_inp.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2))).1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2))).2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2))).2.2 = (fun _ => 1#1)

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackRefIdeal (m : (ℓ : Loc Cert.InBackRefIdeal.nD Cert.InBackRefIdeal.τ Cert.InBackRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Adw [hAdw : Cert.Adw.Facts] : Prop :=
  ∀ (m : (ℓ : Loc Cert.Adw.nD Cert.Adw.τ Cert.Adw.sig) → Buf (Elt Bits) ℓ) (g : Dev Cert.Adw.nD → PrngReg), Pre_Adw m →
    θ_run (Cert.Adw.defs (F := Bits)) (onTc (τ := Cert.Adw.τ) (Cert.Adw.main (F := Bits))) ⟨m, fun _ => 0, g⟩ (fun r => (∀ c : Dev Cert.Adw.nD,
      r.2.mem ((c.tc : Thread Cert.Adw.nD Cert.Adw.τ).loc Cert.Adw.main_arg0) = m ((c.tc : Thread Cert.Adw.nD Cert.Adw.τ).loc Cert.Adw.main_arg0)
      ∧ r.2.mem ((c.tc : Thread Cert.Adw.nD Cert.Adw.τ).loc Cert.Adw.main_arg1) = m ((c.tc : Thread Cert.Adw.nD Cert.Adw.τ).loc Cert.Adw.main_arg1)
      ∧ r.2.mem ((c.tc : Thread Cert.Adw.nD Cert.Adw.τ).loc Cert.Adw.main_arg2) = m ((c.tc : Thread Cert.Adw.nD Cert.Adw.τ).loc Cert.Adw.main_arg2)
      ∧ r.2.mem ((c.tc : Thread Cert.Adw.nD Cert.Adw.τ).loc Cert.Adw.main_arg3) = m ((c.tc : Thread Cert.Adw.nD Cert.Adw.τ).loc Cert.Adw.main_arg3))
      ∧ r.2.sem = fun _ => 0)

def quiescent_AdwIdeal [hAdwIdeal : Cert.AdwIdeal.Facts] : Prop :=
  ∀ (m : (ℓ : Loc Cert.AdwIdeal.nD Cert.AdwIdeal.τ Cert.AdwIdeal.sig) → Buf (Elt Ideal) ℓ) (g : Dev Cert.AdwIdeal.nD → PrngReg), Pre_AdwIdeal m →
    θ_run (Cert.AdwIdeal.defs (F := Ideal)) (onTc (τ := Cert.AdwIdeal.τ) (Cert.AdwIdeal.main (F := Ideal))) ⟨m, fun _ => 0, g⟩ (fun r => (∀ c : Dev Cert.AdwIdeal.nD,
      r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
      ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
      ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
      ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ r.2.sem = fun _ => 0)

def quiescent_AdwRefIdeal [hAdwRefIdeal : Cert.AdwRefIdeal.Facts] : Prop :=
  ∀ (m : (ℓ : Loc Cert.AdwRefIdeal.nD Cert.AdwRefIdeal.τ Cert.AdwRefIdeal.sig) → Buf (Elt Ideal) ℓ) (g : Dev Cert.AdwRefIdeal.nD → PrngReg), Pre_AdwRefIdeal m →
    θ_run (Cert.AdwRefIdeal.defs (F := Ideal)) (onTc (τ := Cert.AdwRefIdeal.τ) (Cert.AdwRefIdeal.main (F := Ideal))) ⟨m, fun _ => 0, g⟩ (fun r => (∀ c : Dev Cert.AdwRefIdeal.nD,
      r.2.mem ((c.tc : Thread Cert.AdwRefIdeal.nD Cert.AdwRefIdeal.τ).loc Cert.AdwRefIdeal.main_arg0) = m ((c.tc : Thread Cert.AdwRefIdeal.nD Cert.AdwRefIdeal.τ).loc Cert.AdwRefIdeal.main_arg0)
      ∧ r.2.mem ((c.tc : Thread Cert.AdwRefIdeal.nD Cert.AdwRefIdeal.τ).loc Cert.AdwRefIdeal.main_arg1) = m ((c.tc : Thread Cert.AdwRefIdeal.nD Cert.AdwRefIdeal.τ).loc Cert.AdwRefIdeal.main_arg1)
      ∧ r.2.mem ((c.tc : Thread Cert.AdwRefIdeal.nD Cert.AdwRefIdeal.τ).loc Cert.AdwRefIdeal.main_arg2) = m ((c.tc : Thread Cert.AdwRefIdeal.nD Cert.AdwRefIdeal.τ).loc Cert.AdwRefIdeal.main_arg2)
      ∧ r.2.mem ((c.tc : Thread Cert.AdwRefIdeal.nD Cert.AdwRefIdeal.τ).loc Cert.AdwRefIdeal.main_arg3) = m ((c.tc : Thread Cert.AdwRefIdeal.nD Cert.AdwRefIdeal.τ).loc Cert.AdwRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpIdeal_pre_finite_inp [hInpIdeal : Cert.InpIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_inp m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_InpRefIdeal_pre_finite_inp [hInpRefIdeal : Cert.InpRefIdeal.Facts] [hPre_finite_inp : Cert.Pre_finite_inp.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_inp m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1)
      ∧ r.2.mem ((c.tc : Thread Cert.InBack.nD Cert.InBack.τ).loc Cert.InBack.main_arg2) = m ((c.tc : Thread Cert.InBack.nD Cert.InBack.τ).loc Cert.InBack.main_arg2)
      ∧ r.2.mem ((c.tc : Thread Cert.InBack.nD Cert.InBack.τ).loc Cert.InBack.main_arg3) = m ((c.tc : Thread Cert.InBack.nD Cert.InBack.τ).loc Cert.InBack.main_arg3)
      ∧ r.2.mem ((c.tc : Thread Cert.InBack.nD Cert.InBack.τ).loc Cert.InBack.main_arg4) = m ((c.tc : Thread Cert.InBack.nD Cert.InBack.τ).loc Cert.InBack.main_arg4)
      ∧ r.2.mem ((c.tc : Thread Cert.InBack.nD Cert.InBack.τ).loc Cert.InBack.main_arg5) = m ((c.tc : Thread Cert.InBack.nD Cert.InBack.τ).loc Cert.InBack.main_arg5)
      ∧ r.2.mem ((c.tc : Thread Cert.InBack.nD Cert.InBack.τ).loc Cert.InBack.main_arg6) = m ((c.tc : Thread Cert.InBack.nD Cert.InBack.τ).loc Cert.InBack.main_arg6)
      ∧ r.2.mem ((c.tc : Thread Cert.InBack.nD Cert.InBack.τ).loc Cert.InBack.main_arg7) = m ((c.tc : Thread Cert.InBack.nD Cert.InBack.τ).loc Cert.InBack.main_arg7)
      ∧ r.2.mem ((c.tc : Thread Cert.InBack.nD Cert.InBack.τ).loc Cert.InBack.main_arg8) = m ((c.tc : Thread Cert.InBack.nD Cert.InBack.τ).loc Cert.InBack.main_arg8)
      ∧ r.2.mem ((c.tc : Thread Cert.InBack.nD Cert.InBack.τ).loc Cert.InBack.main_arg9) = m ((c.tc : Thread Cert.InBack.nD Cert.InBack.τ).loc Cert.InBack.main_arg9)
      ∧ r.2.mem ((c.tc : Thread Cert.InBack.nD Cert.InBack.τ).loc Cert.InBack.main_arg10) = m ((c.tc : Thread Cert.InBack.nD Cert.InBack.τ).loc Cert.InBack.main_arg10)
      ∧ r.2.mem ((c.tc : Thread Cert.InBack.nD Cert.InBack.τ).loc Cert.InBack.main_arg11) = m ((c.tc : Thread Cert.InBack.nD Cert.InBack.τ).loc Cert.InBack.main_arg11)
      ∧ r.2.mem ((c.tc : Thread Cert.InBack.nD Cert.InBack.τ).loc Cert.InBack.main_arg12) = m ((c.tc : Thread Cert.InBack.nD Cert.InBack.τ).loc Cert.InBack.main_arg12)
      ∧ r.2.mem ((c.tc : Thread Cert.InBack.nD Cert.InBack.τ).loc Cert.InBack.main_arg13) = m ((c.tc : Thread Cert.InBack.nD Cert.InBack.τ).loc Cert.InBack.main_arg13)
      ∧ r.2.mem ((c.tc : Thread Cert.InBack.nD Cert.InBack.τ).loc Cert.InBack.main_arg14) = m ((c.tc : Thread Cert.InBack.nD Cert.InBack.τ).loc Cert.InBack.main_arg14))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9)
      ∧ r.2.mem ((c.tc : Thread Cert.InBackIdeal.nD Cert.InBackIdeal.τ).loc Cert.InBackIdeal.main_arg10) = m ((c.tc : Thread Cert.InBackIdeal.nD Cert.InBackIdeal.τ).loc Cert.InBackIdeal.main_arg10)
      ∧ r.2.mem ((c.tc : Thread Cert.InBackIdeal.nD Cert.InBackIdeal.τ).loc Cert.InBackIdeal.main_arg11) = m ((c.tc : Thread Cert.InBackIdeal.nD Cert.InBackIdeal.τ).loc Cert.InBackIdeal.main_arg11)
      ∧ r.2.mem ((c.tc : Thread Cert.InBackIdeal.nD Cert.InBackIdeal.τ).loc Cert.InBackIdeal.main_arg12) = m ((c.tc : Thread Cert.InBackIdeal.nD Cert.InBackIdeal.τ).loc Cert.InBackIdeal.main_arg12)
      ∧ r.2.mem ((c.tc : Thread Cert.InBackIdeal.nD Cert.InBackIdeal.τ).loc Cert.InBackIdeal.main_arg13) = m ((c.tc : Thread Cert.InBackIdeal.nD Cert.InBackIdeal.τ).loc Cert.InBackIdeal.main_arg13)
      ∧ r.2.mem ((c.tc : Thread Cert.InBackIdeal.nD Cert.InBackIdeal.τ).loc Cert.InBackIdeal.main_arg14) = m ((c.tc : Thread Cert.InBackIdeal.nD Cert.InBackIdeal.τ).loc Cert.InBackIdeal.main_arg14))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9)
      ∧ r.2.mem ((c.tc : Thread Cert.InBackRefIdeal.nD Cert.InBackRefIdeal.τ).loc Cert.InBackRefIdeal.main_arg10) = m ((c.tc : Thread Cert.InBackRefIdeal.nD Cert.InBackRefIdeal.τ).loc Cert.InBackRefIdeal.main_arg10)
      ∧ r.2.mem ((c.tc : Thread Cert.InBackRefIdeal.nD Cert.InBackRefIdeal.τ).loc Cert.InBackRefIdeal.main_arg11) = m ((c.tc : Thread Cert.InBackRefIdeal.nD Cert.InBackRefIdeal.τ).loc Cert.InBackRefIdeal.main_arg11)
      ∧ r.2.mem ((c.tc : Thread Cert.InBackRefIdeal.nD Cert.InBackRefIdeal.τ).loc Cert.InBackRefIdeal.main_arg12) = m ((c.tc : Thread Cert.InBackRefIdeal.nD Cert.InBackRefIdeal.τ).loc Cert.InBackRefIdeal.main_arg12)
      ∧ r.2.mem ((c.tc : Thread Cert.InBackRefIdeal.nD Cert.InBackRefIdeal.τ).loc Cert.InBackRefIdeal.main_arg13) = m ((c.tc : Thread Cert.InBackRefIdeal.nD Cert.InBackRefIdeal.τ).loc Cert.InBackRefIdeal.main_arg13)
      ∧ r.2.mem ((c.tc : Thread Cert.InBackRefIdeal.nD Cert.InBackRefIdeal.τ).loc Cert.InBackRefIdeal.main_arg14) = m ((c.tc : Thread Cert.InBackRefIdeal.nD Cert.InBackRefIdeal.τ).loc Cert.InBackRefIdeal.main_arg14))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10))
      ∧ r.2.sem = fun _ => 0)

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Adw_AdwIdeal : Prop :=
  True

def algebraic_AdwIdeal_AdwRefIdeal [hAdwIdeal : Cert.AdwIdeal.Facts] [hAdwRefIdeal : Cert.AdwRefIdeal.Facts] : Prop :=
  ∀ (m : (ℓ : Loc Cert.AdwIdeal.nD Cert.AdwIdeal.τ Cert.AdwIdeal.sig) → Buf (Elt Ideal) ℓ) (g : Dev Cert.AdwIdeal.nD → PrngReg)
    (m' : (ℓ : Loc Cert.AdwRefIdeal.nD Cert.AdwRefIdeal.τ Cert.AdwRefIdeal.sig) → Buf (Elt Ideal) ℓ) (g' : Dev Cert.AdwRefIdeal.nD → PrngReg), Pre_AdwIdeal m →
    (∀ c : Dev Cert.AdwIdeal.nD,
      m' ((c.tc : Thread Cert.AdwRefIdeal.nD Cert.AdwRefIdeal.τ).loc Cert.AdwRefIdeal.main_arg0) = m ((c.tc : Thread Cert.AdwIdeal.nD Cert.AdwIdeal.τ).loc Cert.AdwIdeal.main_arg0)
      ∧ m' ((c.tc : Thread Cert.AdwRefIdeal.nD Cert.AdwRefIdeal.τ).loc Cert.AdwRefIdeal.main_arg1) = m ((c.tc : Thread Cert.AdwIdeal.nD Cert.AdwIdeal.τ).loc Cert.AdwIdeal.main_arg1)
      ∧ m' ((c.tc : Thread Cert.AdwRefIdeal.nD Cert.AdwRefIdeal.τ).loc Cert.AdwRefIdeal.main_arg2) = m ((c.tc : Thread Cert.AdwIdeal.nD Cert.AdwIdeal.τ).loc Cert.AdwIdeal.main_arg2)
      ∧ m' ((c.tc : Thread Cert.AdwRefIdeal.nD Cert.AdwRefIdeal.τ).loc Cert.AdwRefIdeal.main_arg3) = m ((c.tc : Thread Cert.AdwIdeal.nD Cert.AdwIdeal.τ).loc Cert.AdwIdeal.main_arg3)) →
    ∃ (v0 : (c : Dev Cert.AdwIdeal.nD) → Buf (Elt Ideal) ((c.tc : Thread Cert.AdwIdeal.nD Cert.AdwIdeal.τ).loc Cert.AdwIdeal.main_v0_0)) (v1 : (c : Dev Cert.AdwIdeal.nD) → Buf (Elt Ideal) ((c.tc : Thread Cert.AdwIdeal.nD Cert.AdwIdeal.τ).loc Cert.AdwIdeal.main_v0_1)) (v2 : (c : Dev Cert.AdwIdeal.nD) → Buf (Elt Ideal) ((c.tc : Thread Cert.AdwIdeal.nD Cert.AdwIdeal.τ).loc Cert.AdwIdeal.main_v0_2)) (v3 : (c : Dev Cert.AdwIdeal.nD) → Buf (Elt Ideal) ((c.tc : Thread Cert.AdwIdeal.nD Cert.AdwIdeal.τ).loc Cert.AdwIdeal.main_v0_3)),
      θ_run (Cert.AdwIdeal.defs (F := Ideal)) (onTc (τ := Cert.AdwIdeal.τ) (Cert.AdwIdeal.main (F := Ideal))) ⟨m, fun _ => 0, g⟩ (fun r => ∀ c : Dev Cert.AdwIdeal.nD,
          r.2.mem ((c.tc : Thread Cert.AdwIdeal.nD Cert.AdwIdeal.τ).loc Cert.AdwIdeal.main_v0_0) = v0 c
          ∧ r.2.mem ((c.tc : Thread Cert.AdwIdeal.nD Cert.AdwIdeal.τ).loc Cert.AdwIdeal.main_v0_1) = v1 c
          ∧ r.2.mem ((c.tc : Thread Cert.AdwIdeal.nD Cert.AdwIdeal.τ).loc Cert.AdwIdeal.main_v0_2) = v2 c
          ∧ r.2.mem ((c.tc : Thread Cert.AdwIdeal.nD Cert.AdwIdeal.τ).loc Cert.AdwIdeal.main_v0_3) = v3 c
          ∧ r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
          ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
          ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
          ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ θ_run (Cert.AdwRefIdeal.defs (F := Ideal)) (onTc (τ := Cert.AdwRefIdeal.τ) (Cert.AdwRefIdeal.main (F := Ideal))) ⟨m', fun _ => 0, g'⟩ (fun r => ∀ c : Dev Cert.AdwRefIdeal.nD,
          r.2.mem ((c.tc : Thread Cert.AdwRefIdeal.nD Cert.AdwRefIdeal.τ).loc Cert.AdwRefIdeal.main_arg0) = v0 c
          ∧ r.2.mem ((c.tc : Thread Cert.AdwRefIdeal.nD Cert.AdwRefIdeal.τ).loc Cert.AdwRefIdeal.main_v23) = v1 c
          ∧ r.2.mem ((c.tc : Thread Cert.AdwRefIdeal.nD Cert.AdwRefIdeal.τ).loc Cert.AdwRefIdeal.main_v4) = v2 c
          ∧ r.2.mem ((c.tc : Thread Cert.AdwRefIdeal.nD Cert.AdwRefIdeal.τ).loc Cert.AdwRefIdeal.main_v10) = v3 c
          ∧ r.2.mem ((c.tc : Thread Cert.AdwRefIdeal.nD Cert.AdwRefIdeal.τ).loc Cert.AdwRefIdeal.main_arg0) = m' ((c.tc : Thread Cert.AdwRefIdeal.nD Cert.AdwRefIdeal.τ).loc Cert.AdwRefIdeal.main_arg0)
          ∧ r.2.mem ((c.tc : Thread Cert.AdwRefIdeal.nD Cert.AdwRefIdeal.τ).loc Cert.AdwRefIdeal.main_arg1) = m' ((c.tc : Thread Cert.AdwRefIdeal.nD Cert.AdwRefIdeal.τ).loc Cert.AdwRefIdeal.main_arg1)
          ∧ r.2.mem ((c.tc : Thread Cert.AdwRefIdeal.nD Cert.AdwRefIdeal.τ).loc Cert.AdwRefIdeal.main_arg2) = m' ((c.tc : Thread Cert.AdwRefIdeal.nD Cert.AdwRefIdeal.τ).loc Cert.AdwRefIdeal.main_arg2)
          ∧ r.2.mem ((c.tc : Thread Cert.AdwRefIdeal.nD Cert.AdwRefIdeal.τ).loc Cert.AdwRefIdeal.main_arg3) = m' ((c.tc : Thread Cert.AdwRefIdeal.nD Cert.AdwRefIdeal.τ).loc Cert.AdwRefIdeal.main_arg3))

def preserves_Attn_AttnIdeal : Prop :=
  IdealRules.named_const.Statement Cert.AttnIdeal.κ "attn_scale" .f32 0x3DD105EC#32 (((Real.sqrt 96)⁻¹ : ℝ) : EReal)
  ∧ IdealRules.named_const.Statement Cert.AttnIdeal.κ "ln_2" .f32 0x3F317218#32 ((Real.log 2 : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v57)) (v1 : (c : Dev Cert.AttnIdeal.nD) → Buf (Elt Ideal) ((c.tc : Thread Cert.AttnIdeal.nD Cert.AttnIdeal.τ).loc Cert.AttnIdeal.main_v59)) (v2 : (c : Dev Cert.AttnIdeal.nD) → Buf (Elt Ideal) ((c.tc : Thread Cert.AttnIdeal.nD Cert.AttnIdeal.τ).loc Cert.AttnIdeal.main_v62)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v57) = v0 c
          ∧ r.2.mem ((c.tc : Thread Cert.AttnIdeal.nD Cert.AttnIdeal.τ).loc Cert.AttnIdeal.main_v59) = v1 c
          ∧ r.2.mem ((c.tc : Thread Cert.AttnIdeal.nD Cert.AttnIdeal.τ).loc Cert.AttnIdeal.main_v62) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_v64) = v1 c
          ∧ r.2.mem ((c.tc : Thread Cert.AttnRefIdeal.nD Cert.AttnRefIdeal.τ).loc Cert.AttnRefIdeal.main_v47) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Fwd_FwdIdeal : Prop :=
  IdealRules.named_const.Statement Cert.FwdIdeal.κ "log2_e" .f32 0x3FB8AA3B#32 (((Real.log 2)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v24_0)) (v1 : (c : Dev Cert.FwdIdeal.nD) → Buf (Elt Ideal) ((c.tc : Thread Cert.FwdIdeal.nD Cert.FwdIdeal.τ).loc Cert.FwdIdeal.main_v24_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v24_0) = v0 c
          ∧ r.2.mem ((c.tc : Thread Cert.FwdIdeal.nD Cert.FwdIdeal.τ).loc Cert.FwdIdeal.main_v24_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v25) = v0 c
          ∧ r.2.mem ((c.tc : Thread Cert.FwdRefIdeal.nD Cert.FwdRefIdeal.τ).loc Cert.FwdRefIdeal.main_v39) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Mlp_MlpIdeal : Prop :=
  True

def algebraic_MlpIdeal_MlpRefIdeal_pre_finite_mlp [hMlpIdeal : Cert.MlpIdeal.Facts] [hMlpRefIdeal : Cert.MlpRefIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v60_0)) (v1 : (c : Dev Cert.MlpIdeal.nD) → Buf (Elt Ideal) ((c.tc : Thread Cert.MlpIdeal.nD Cert.MlpIdeal.τ).loc Cert.MlpIdeal.main_v60_1)) (v2 : (c : Dev Cert.MlpIdeal.nD) → Buf (Elt Ideal) ((c.tc : Thread Cert.MlpIdeal.nD Cert.MlpIdeal.τ).loc Cert.MlpIdeal.main_v60_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v60_0) = v0 c
          ∧ r.2.mem ((c.tc : Thread Cert.MlpIdeal.nD Cert.MlpIdeal.τ).loc Cert.MlpIdeal.main_v60_1) = v1 c
          ∧ r.2.mem ((c.tc : Thread Cert.MlpIdeal.nD Cert.MlpIdeal.τ).loc Cert.MlpIdeal.main_v60_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v95) = v0 c
          ∧ r.2.mem ((c.tc : Thread Cert.MlpRefIdeal.nD Cert.MlpRefIdeal.τ).loc Cert.MlpRefIdeal.main_v96) = v1 c
          ∧ r.2.mem ((c.tc : Thread Cert.MlpRefIdeal.nD Cert.MlpRefIdeal.τ).loc Cert.MlpRefIdeal.main_v97) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Inp_InpIdeal : Prop :=
  True

def algebraic_InpIdeal_InpRefIdeal_pre_finite_inp [hInpIdeal : Cert.InpIdeal.Facts] [hInpRefIdeal : Cert.InpRefIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_inp m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v23)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v23) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v44) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_InBack_InBackIdeal : Prop :=
  True

def preserves_Mla_MlaIdeal : Prop :=
  True

def Claim : Prop :=
  ∃ (hAda : Cert.Ada.Facts) (hAdaIdeal : Cert.AdaIdeal.Facts) (hAdaRefIdeal : Cert.AdaRefIdeal.Facts) (hAdw : Cert.Adw.Facts) (hAdwIdeal : Cert.AdwIdeal.Facts) (hAdwRefIdeal : Cert.AdwRefIdeal.Facts) (hAttn : Cert.Attn.Facts) (hAttnIdeal : Cert.AttnIdeal.Facts) (hAttnRefIdeal : Cert.AttnRefIdeal.Facts) (hFwd : Cert.Fwd.Facts) (hFwdIdeal : Cert.FwdIdeal.Facts) (hFwdRefIdeal : Cert.FwdRefIdeal.Facts) (hMlp : Cert.Mlp.Facts) (hMlpIdeal : Cert.MlpIdeal.Facts) (hMlpRefIdeal : Cert.MlpRefIdeal.Facts) (hInp : Cert.Inp.Facts) (hInpIdeal : Cert.InpIdeal.Facts) (hInpRefIdeal : Cert.InpRefIdeal.Facts) (hInBack : Cert.InBack.Facts) (hInBackIdeal : Cert.InBackIdeal.Facts) (hInBackRefIdeal : Cert.InBackRefIdeal.Facts) (hMla : Cert.Mla.Facts) (hMlaIdeal : Cert.MlaIdeal.Facts) (hMlaRefIdeal : Cert.MlaRefIdeal.Facts) (hPre_finite_attn : Cert.Pre_finite_attn.Facts) (hPre_finite_fwd : Cert.Pre_finite_fwd.Facts) (hPre_finite_mlp : Cert.Pre_finite_mlp.Facts) (hPre_finite_inp : Cert.Pre_finite_inp.Facts),
    quiescent_Ada (hAda := hAda)
    ∧ quiescent_AdaIdeal (hAdaIdeal := hAdaIdeal)
    ∧ quiescent_AdaRefIdeal (hAdaRefIdeal := hAdaRefIdeal)
    ∧ quiescent_Adw (hAdw := hAdw)
    ∧ quiescent_AdwIdeal (hAdwIdeal := hAdwIdeal)
    ∧ quiescent_AdwRefIdeal (hAdwRefIdeal := hAdwRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_Inp (hInp := hInp)
    ∧ quiescent_InpIdeal (hInpIdeal := hInpIdeal)
    ∧ quiescent_InpIdeal_pre_finite_inp (hInpIdeal := hInpIdeal) (hPre_finite_inp := hPre_finite_inp)
    ∧ quiescent_InpRefIdeal (hInpRefIdeal := hInpRefIdeal)
    ∧ quiescent_InpRefIdeal_pre_finite_inp (hInpRefIdeal := hInpRefIdeal) (hPre_finite_inp := hPre_finite_inp)
    ∧ quiescent_InBack (hInBack := hInBack)
    ∧ quiescent_InBackIdeal (hInBackIdeal := hInBackIdeal)
    ∧ quiescent_InBackRefIdeal (hInBackRefIdeal := hInBackRefIdeal)
    ∧ quiescent_Mla (hMla := hMla)
    ∧ quiescent_MlaIdeal (hMlaIdeal := hMlaIdeal)
    ∧ quiescent_MlaRefIdeal (hMlaRefIdeal := hMlaRefIdeal)
    ∧ preserves_Ada_AdaIdeal
    ∧ algebraic_AdaIdeal_AdaRefIdeal (hAdaIdeal := hAdaIdeal) (hAdaRefIdeal := hAdaRefIdeal)
    ∧ preserves_Adw_AdwIdeal
    ∧ algebraic_AdwIdeal_AdwRefIdeal (hAdwIdeal := hAdwIdeal) (hAdwRefIdeal := hAdwRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Mlp_MlpIdeal
    ∧ algebraic_MlpIdeal_MlpRefIdeal_pre_finite_mlp (hMlpIdeal := hMlpIdeal) (hMlpRefIdeal := hMlpRefIdeal) (hPre_finite_mlp := hPre_finite_mlp)
    ∧ preserves_Inp_InpIdeal
    ∧ algebraic_InpIdeal_InpRefIdeal_pre_finite_inp (hInpIdeal := hInpIdeal) (hInpRefIdeal := hInpRefIdeal) (hPre_finite_inp := hPre_finite_inp)
    ∧ preserves_InBack_InBackIdeal
    ∧ preserves_Mla_MlaIdeal
-- ==== Pre_finite_attn.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)
  bcast_S_S4096x512 : S_.BroadcastsInDim S4096x512 (![] : Fin 0 → Fin S4096x512.rank)

variable [Facts]

def fn {F : FTy → Type} [FloatOps F] (main_arg0 : FVec F S4096x8x96 .f32) (main_arg1 : FVec F S4096x8x96 .f32) (main_arg2 : FVec F S4096x8x64 .f32) (main_arg3 : FVec F S4096x512 .f32) : IVec S4096x8x96 1 × IVec S4096x8x96 1 × IVec S4096x8x64 1 × IVec S4096x512 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Pre_finite_fwd.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) : IVec S4096x8x96 1 × IVec S4096x8x96 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  (main_v2, main_v5, main_v8)
-- ==== Pre_finite_inp.lean ====
abbrev S4096x1024 : Shape := ⟨2, ![4096, 1024]⟩
abbrev S1x3072 : Shape := ⟨2, ![1, 3072]⟩
abbrev S1024x5152 : Shape := ⟨2, ![1024, 5152]⟩
abbrev S_ : Shape := ⟨0, ![]⟩

class Facts : Prop where
  bcast_S_S4096x1024 : S_.BroadcastsInDim S4096x1024 (![] : Fin 0 → Fin S4096x1024.rank)
  bcast_S_S1x3072 : S_.BroadcastsInDim S1x3072 (![] : Fin 0 → Fin S1x3072.rank)
  bcast_S_S1024x5152 : S_.BroadcastsInDim S1024x5152 (![] : Fin 0 → Fin S1024x5152.rank)

variable [Facts]

def fn {F : FTy → Type} [FloatOps F] (main_arg0 : FVec F S4096x1024 .f32) (main_arg1 : FVec F S1x3072 .f32) (main_arg2 : FVec F S1024x5152 .f32) : IVec S4096x1024 1 × IVec S1x3072 1 × IVec S1024x5152 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x3072 .f32 := Host.absf main_arg1
  let main_cst_0 : FVec F S_ .f32 := constant S_ .f32 0x7F800000#32
  let main_v4 : FVec F S1x3072 .f32 := broadcastInDim S1x3072 ![] bcast_S_S1x3072 main_cst_0
  let main_v5 : IVec S1x3072 1 := cmpf .olt main_v3 main_v4
  let main_v6 : FVec F S1024x5152 .f32 := Host.absf main_arg2
  let main_cst_1 : FVec F S_ .f32 := constant S_ .f32 0x7F800000#32
  let main_v7 : FVec F S1024x5152 .f32 := broadcastInDim S1024x5152 ![] bcast_S_S1024x5152 main_cst_1
  let main_v8 : IVec S1024x5152 1 := cmpf .olt main_v6 main_v7
  (main_v2, main_v5, main_v8)
-- ==== Pre_finite_mlp.lean ====
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S_ : Shape := ⟨0, ![]⟩

class Facts : Prop where
  bcast_S_S4096x256 : S_.BroadcastsInDim S4096x256 (![] : Fin 0 → Fin S4096x256.rank)
  bcast_S_S1x256 : S_.BroadcastsInDim S1x256 (![] : Fin 0 → Fin S1x256.rank)
  bcast_S_S256x768 : S_.BroadcastsInDim S256x768 (![] : Fin 0 → Fin S256x768.rank)

variable [Facts]

def fn {F : FTy → Type} [FloatOps F] (main_arg0 : FVec F S4096x256 .f32) (main_arg1 : FVec F S4096x128 .f32) (main_arg2 : FVec F S4096x32 .f32) (main_arg3 : IVec S4096 32) (main_arg4 : FVec F S1x256 .f32) (main_arg5 : FVec F S256x768 .f32) (main_arg6 : FVec F S1x128 .f32) (main_arg7 : FVec F S128x1024 .f32) : IVec S4096x256 1 × IVec S1x256 1 × IVec S256x768 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S1x256 .f32 := Host.absf main_arg4
  let main_cst_0 : FVec F S_ .f32 := constant S_ .f32 0x7F800000#32
  let main_v4 : FVec F S1x256 .f32 := broadcastInDim S1x256 ![] bcast_S_S1x256 main_cst_0
  let main_v5 : IVec S1x256 1 := cmpf .olt main_v3 main_v4
  let main_v6 : FVec F S256x768 .f32 := Host.absf main_arg5
  let main_cst_1 : FVec F S_ .f32 := constant S_ .f32 0x7F800000#32
  let main_v7 : FVec F S256x768 .f32 := broadcastInDim S256x768 ![] bcast_S_S256x768 main_cst_1
  let main_v8 : IVec S256x768 1 := cmpf .olt main_v6 main_v7
  (main_v2, main_v5, main_v8)
-- ==== Ada.lean ====
abbrev S8x1024 : Shape := ⟨2, ![8, 1024]⟩
abbrev S1024x384 : Shape := ⟨2, ![1024, 384]⟩
abbrev S8x384 : Shape := ⟨2, ![8, 384]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x384, .f32⟩
  | .hbm, ⟨3, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaRefIdeal.lean ====
abbrev S8x1024 : Shape := ⟨2, ![8, 1024]⟩
abbrev S1024x384 : Shape := ⟨2, ![1024, 384]⟩
abbrev S8x384 : Shape := ⟨2, ![8, 384]⟩
abbrev S_ : Shape := ⟨0, ![]⟩
abbrev S384x1024 : Shape := ⟨2, ![384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x384, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x384, .f32⟩
  | .hbm, ⟨13, _⟩ => ⟨S384x1024, .f32⟩
  | .hbm, ⟨14, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Adw.lean ====
abbrev S1x1024x384 : Shape := ⟨3, ![1, 1024, 384]⟩
abbrev S3 : Shape := ⟨1, ![3]⟩
abbrev S1 : Shape := ⟨1, ![1]⟩
abbrev S_ : Shape := ⟨0, ![]⟩
abbrev S1024x384 : Shape := ⟨2, ![1024, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S1x1024x384, .f32⟩
  | .hbm, ⟨6, _⟩ => ⟨S1x1024x384, .f32⟩
  | .hbm, ⟨7, _⟩ => ⟨S1x1024x384, .f32⟩
  | .local _ .vmem, ⟨0, _⟩ => ⟨S1x1024x384, .f32⟩
  | .local _ .vmem, ⟨1, _⟩ => ⟨S1x1024x384, .f32⟩
  | .local _ .vmem, ⟨2, _⟩ => ⟨S1x1024x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AdwRefIdeal.lean ====
abbrev S1x1024x384 : Shape := ⟨3, ![1, 1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S_, .f32⟩
  | .hbm, ⟨5, _⟩ => ⟨S1x1024x384, .f32⟩
  | .hbm, ⟨6, _⟩ => ⟨S1x1024x384, .f32⟩
  | .hbm, ⟨7, _⟩ => ⟨S_, .f32⟩
  | .hbm, ⟨8, _⟩ => ⟨S1x1024x384, .f32⟩
  | .hbm, ⟨9, _⟩ => ⟨S1x1024x384, .f32⟩
  | .hbm, ⟨10, _⟩ => ⟨S1x1024x384, .f32⟩
  | .hbm, ⟨11, _⟩ => ⟨S_, .f32⟩
  | .hbm, ⟨12, _⟩ => ⟨S1x1024x384, .f32⟩
  | .hbm, ⟨13, _⟩ => ⟨S1x1024x384, .f32⟩
  | .hbm, ⟨14, _⟩ => ⟨S1x1024x384, .f32⟩
  | .hbm, ⟨15, _⟩ => ⟨S_, .f32⟩
  | .hbm, ⟨16, _⟩ => ⟨S1x1024x384, .f32⟩
  | .hbm, ⟨17, _⟩ => ⟨S1x1024x384, .f32⟩
  | .hbm, ⟨18, _⟩ => ⟨S1x1024x384, .f32⟩
  | .hbm, ⟨19, _⟩ => ⟨S_, .f32⟩
  | .hbm, ⟨20, _⟩ => ⟨S1x1024x384, .f32⟩
  | .hbm, ⟨21, _⟩ => ⟨S1x1024x384, .f32⟩
  | .hbm, ⟨22, _⟩ => ⟨S_, .f32⟩
  | .hbm, ⟨23, _⟩ => ⟨S1x1024x384, .f32⟩
  | .hbm, ⟨24, _⟩ => ⟨S1x1024x384, .f32⟩
  | .hbm, ⟨25, _⟩ => ⟨S1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Attn.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩
abbrev S8 : Shape := ⟨1, ![8]⟩
abbrev S1x8x1 : Shape := ⟨3, ![1, 8, 1]⟩
abbrev S4096x8x128 : Shape := ⟨3, ![4096, 8, 128]⟩
abbrev S4096x1024 : Shape := ⟨2, ![4096, 1024]⟩
abbrev S4096x8x32 : Shape := ⟨3, ![4096, 8, 32]⟩
abbrev S4096 : Shape := ⟨1, ![4096]⟩
abbrev S8x4096x4096 : Shape := ⟨3, ![8, 4096, 4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8x1 : Shape := ⟨3, ![4096, 8, 1]⟩
abbrev S4096x256 : Shape := ⟨2, ![4096, 256]⟩
abbrev S512x256 : Shape := ⟨2, ![512, 256]⟩
abbrev S4096x128 : Shape := ⟨2, ![4096, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 128
  | .vmem => 18
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S_, .i1⟩
  | .hbm, ⟨27, _⟩ => ⟨S8, .i1⟩
  | .hbm, ⟨28, _⟩ => ⟨S8, .i1⟩
  | .hbm, ⟨29, _⟩ => ⟨S8, .i1⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i1⟩
  | .hbm, ⟨36, _⟩ => ⟨S1x8x1, .i1⟩
  | .hbm, ⟨37, _⟩ => ⟨S_, .i32⟩
  | .hbm, ⟨38, _⟩ => ⟨S_, .f32⟩
  | .hbm, ⟨39, _⟩ => ⟨S4096x8x64, .i1⟩
  | .hbm, ⟨40, _⟩ => ⟨S4096x8x64, .f32⟩
  | .hbm, ⟨41, _⟩ => ⟨S4096x8x64, .f32⟩
  | .hbm, ⟨42, _⟩ => ⟨S_, .i32⟩
  | .hbm, ⟨43, _⟩ => ⟨S_, .f32⟩
  | .hbm, ⟨44, _⟩ => ⟨S4096x8x64, .i1⟩
  | .hbm, ⟨45, _⟩ => ⟨S4096x8x64, .f32⟩
  | .hbm, ⟨46, _⟩ => ⟨S4096x8x64, .f32⟩
  | .hbm, ⟨47, _⟩ => ⟨S4096x8x128, .f32⟩
  | .hbm, ⟨48, _⟩ => ⟨S4096x1024, .f32⟩
  | .hbm, ⟨49, _⟩ => ⟨S_, .f32⟩
  | .hbm, ⟨50, _⟩ => ⟨S4096x8x32, .f32⟩
  | .hbm, ⟨51, _⟩ => ⟨S4096x8x128, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S_, .f32⟩
  | .hbm, ⟨58, _⟩ => ⟨S4096x8x32, .f32⟩
  | .hbm, ⟨59, _⟩ => ⟨S4096x8x128, .f32⟩
  | .hbm, ⟨60, _⟩ => ⟨S4096x1024, .f32⟩
  | .hbm, ⟨61, _⟩ => ⟨S4096x1024, .bf16⟩
  | .hbm, ⟨62, _⟩ => ⟨S4096x1024, .bf16⟩
  | .hbm, ⟨63, _⟩ => ⟨S4096, .i32⟩
  | .hbm, ⟨64, _⟩ => ⟨S_, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S1x4096, .i32⟩
  | .hbm, ⟨86, _⟩ => ⟨S4096x1, .i32⟩
  | .hbm, ⟨87, _⟩ => ⟨S4096x4096, .i32⟩
  | .hbm, ⟨88, _⟩ => ⟨S4096x4096, .i32⟩
  | .hbm, ⟨89, _⟩ => ⟨S4096x4096, .i1⟩
  | .hbm, ⟨90, _⟩ => ⟨S_, .f32⟩
  | .hbm, ⟨91, _⟩ => ⟨S_, .f32⟩
  | .hbm, ⟨92, _⟩ => ⟨S8x4096x4096, .i1⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x4096x1, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096, .f32⟩
  | .hbm, ⟨103, _⟩ => ⟨S8x4096x1, .f32⟩
  | .hbm, ⟨104, _⟩ => ⟨S8x4096x4096, .f32⟩
  | .hbm, ⟨105, _⟩ => ⟨S8x4096x4096, .f32⟩
  | .hbm, ⟨106, _⟩ => ⟨S8x64x4096, .f32⟩
  | .hbm, ⟨107, _⟩ => ⟨S4096x8x64, .f32⟩
  | .hbm, ⟨108, _⟩ => ⟨S4096x512, .f32⟩
  | .hbm, ⟨109, _⟩ => ⟨S8x4096x1, .f32⟩
  | .hbm, ⟨110, _⟩ => ⟨S8x4096x1, .f32⟩
  | .hbm, ⟨111, _⟩ => ⟨S8x4096x1, .f32⟩
  | .hbm, ⟨112, _⟩ => ⟨S8x4096x1, .f32⟩
  | .hbm, ⟨113, _⟩ => ⟨S4096x8x1, .f32⟩
  | .hbm, ⟨114, _⟩ => ⟨S4096x8x64, .f32⟩
  | .hbm, ⟨115, _⟩ => ⟨S4096x512, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x8x128, .f32⟩
  | .hbm, ⟨120, _⟩ => ⟨S4096x8x128, .f32⟩
  | .hbm, ⟨121, _⟩ => ⟨S4096x8x96, .f32⟩
  | .hbm, ⟨122, _⟩ => ⟨S4096x8x128, .f32⟩
  | .hbm, ⟨123, _⟩ => ⟨S4096x8x96, .f32⟩
  | .hbm, ⟨124, _⟩ => ⟨S4096x8x64, .f32⟩
  | .hbm, ⟨125, _⟩ => ⟨S4096x8x64, .f32⟩
  | .hbm, ⟨126, _⟩ => ⟨S4096x8x64, .i1⟩
  | .hbm, ⟨127, _⟩ => ⟨S4096x8x64, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v4 : Ref sig .tc := ⟨.hbm, 32, rfl⟩
abbrev main_c_2 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v8 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_5 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_6 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_7 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_cst_8 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v34 : Ref sig .tc := ⟨.hbm, 94, rfl⟩
abbrev main_cst_9 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_cst_10 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54_0 : Ref sig .tc := ⟨.hbm, 116, rfl⟩
abbrev main_v54_1 : Ref sig .tc := ⟨.hbm, 117, rfl⟩
abbrev main_v54_2 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_call5_v0 : Ref sig .tc := ⟨.hbm, 126, rfl⟩
abbrev main_v62 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c0_i32_17 : BitVec 32 := 0#32
  let v42 : BitVec 32 := Scalar.addi v41 c0_i32_17
  let c512_i32_18 : BitVec 32 := 512#32
  let v43 : BitVec 32 := Scalar.muli v42 c512_i32_18
  v43
def k0_off1 (i : grid0.Coords) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c0_i32_17 : BitVec 32 := 0#32
  let v42 : BitVec 32 := Scalar.addi v41 c0_i32_17
  let c512_i32_18 : BitVec 32 := 512#32
  let v43 : BitVec 32 := Scalar.muli v42 c512_i32_18
  let v44 : BitVec 32 := v43
  let v45 : Index := Scalar.indexCast v44
  let c0_19 : Index := 0#32
  ![v45.toNat, 0]
def k0_off2 (i : grid0.Coords) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c0_i32_17 : BitVec 32 := 0#32
  let v42 : BitVec 32 := Scalar.addi v41 c0_i32_17
  let c512_i32_18 : BitVec 32 := 512#32
  let v43 : BitVec 32 := Scalar.muli v42 c512_i32_18
  let v44 : BitVec 32 := v43
  let v48 : Index := Scalar.indexCast v44
  let c128_20 : Index := 128#32
  ![v48.toNat, 128]
def k0_off3 (i : grid0.Coords) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c0_i32_17 : BitVec 32 := 0#32
  let v42 : BitVec 32 := Scalar.addi v41 c0_i32_17
  let c512_i32_18 : BitVec 32 := 512#32
  let v43 : BitVec 32 := Scalar.muli v42 c512_i32_18
  let v44 : BitVec 32 := v43
  let v51 : Index := Scalar.indexCast v44
  let c0_21 : Index := 0#32
  ![v51.toNat, 0]
@[reducible] def k0_t1_loop (i : grid0.Coords) : Scf.Loop 32 :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c8_i32 : BitVec 32 := 8#32
  let v249 : BitVec 32 := Scalar.subi c8_i32 v248
  let c1_i32_83 : BitVec 32 := 1#32
  let v251 : BitVec 32 := Scalar.divsi v249 c1_i32_83
  let v252 : BitVec 32 := Scalar.muli v251 c1_i32_83
  let v253 : BitVec 32 := Scalar.addi v248 v252
  let c1_i32_84 : BitVec 32 := 1#32
  ⟨v248, v253, c1_i32_84⟩
def k0_mult2 (i : grid0.Coords) (k0_t1 : Fin (k0_t1_loop i).trips) : BitVec 32 :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c1_i32_84 : BitVec 32 := 1#32
  let arg11 : BitVec 32 := Scf.iv v248 c1_i32_84 k0_t1
  let c512_i32_96 : BitVec 32 := 512#32
  let v264 : BitVec 32 := Scalar.muli arg11 c512_i32_96
  v264
def k0_off4 (i : grid0.Coords) (k0_t1 : Fin (k0_t1_loop i).trips) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c1_i32_84 : BitVec 32 := 1#32
  let arg11 : BitVec 32 := Scf.iv v248 c1_i32_84 k0_t1
  let c512_i32_96 : BitVec 32 := 512#32
  let v264 : BitVec 32 := Scalar.muli arg11 c512_i32_96
  let v265 : BitVec 32 := v264
  let v266 : Index := Scalar.indexCast v265
  let c0_97 : Index := 0#32
  ![v266.toNat, 0]
def k0_off5 (i : grid0.Coords) (k0_t1 : Fin (k0_t1_loop i).trips) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c1_i32_84 : BitVec 32 := 1#32
  let arg11 : BitVec 32 := Scf.iv v248 c1_i32_84 k0_t1
  let c512_i32_96 : BitVec 32 := 512#32
  let v264 : BitVec 32 := Scalar.muli arg11 c512_i32_96
  let v265 : BitVec 32 := v264
  let v269 : Index := Scalar.indexCast v265
  let c128_98 : Index := 128#32
  ![v269.toNat, 128]
def k0_off6 (i : grid0.Coords) (k0_t1 : Fin (k0_t1_loop i).trips) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c1_i32_84 : BitVec 32 := 1#32
  let arg11 : BitVec 32 := Scf.iv v248 c1_i32_84 k0_t1
  let c512_i32_96 : BitVec 32 := 512#32
  let v264 : BitVec 32 := Scalar.muli arg11 c512_i32_96
  let v265 : BitVec 32 := v264
  let v272 : Index := Scalar.indexCast v265
  let c0_99 : Index := 0#32
  ![v272.toNat, 0]
@[reducible] def k0_t2_loop (i : grid0.Coords) : Scf.Loop 32 :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c8_i32 : BitVec 32 := 8#32
  let v249 : BitVec 32 := Scalar.subi c8_i32 v248
  let c1_i32_83 : BitVec 32 := 1#32
  let v251 : BitVec 32 := Scalar.divsi v249 c1_i32_83
  let v252 : BitVec 32 := Scalar.muli v251 c1_i32_83
  let v253 : BitVec 32 := Scalar.addi v248 v252
  let v250 : BitVec 32 := Scalar.addi v248 v249
  let c1_i32_85 : BitVec 32 := 1#32
  ⟨v253, v250, c1_i32_85⟩
def k0_mult3 (i : grid0.Coords) (k0_t2 : Fin (k0_t2_loop i).trips) : BitVec 32 :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c8_i32 : BitVec 32 := 8#32
  let v249 : BitVec 32 := Scalar.subi c8_i32 v248
  let c1_i32_83 : BitVec 32 := 1#32
  let v251 : BitVec 32 := Scalar.divsi v249 c1_i32_83
  let v252 : BitVec 32 := Scalar.muli v251 c1_i32_83
  let v253 : BitVec 32 := Scalar.addi v248 v252
  let c1_i32_85 : BitVec 32 := 1#32
  let arg11 : BitVec 32 := Scf.iv v253 c1_i32_85 k0_t2
  let c512_i32_96 : BitVec 32 := 512#32
  let v264 : BitVec 32 := Scalar.muli arg11 c512_i32_96
  v264
def k0_off7 (i : grid0.Coords) (k0_t2 : Fin (k0_t2_loop i).trips) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c8_i32 : BitVec 32 := 8#32
  let v249 : BitVec 32 := Scalar.subi c8_i32 v248
  let c1_i32_83 : BitVec 32 := 1#32
  let v251 : BitVec 32 := Scalar.divsi v249 c1_i32_83
  let v252 : BitVec 32 := Scalar.muli v251 c1_i32_83
  let v253 : BitVec 32 := Scalar.addi v248 v252
  let c1_i32_85 : BitVec 32 := 1#32
  let arg11 : BitVec 32 := Scf.iv v253 c1_i32_85 k0_t2
  let c512_i32_96 : BitVec 32 := 512#32
  let v264 : BitVec 32 := Scalar.muli arg11 c512_i32_96
  let v265 : BitVec 32 := v264
  let v266 : Index := Scalar.indexCast v265
  let c0_97 : Index := 0#32
  ![v266.toNat, 0]
def k0_off8 (i : grid0.Coords) (k0_t2 : Fin (k0_t2_loop i).trips) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c8_i32 : BitVec 32 := 8#32
  let v249 : BitVec 32 := Scalar.subi c8_i32 v248
  let c1_i32_83 : BitVec 32 := 1#32
  let v251 : BitVec 32 := Scalar.divsi v249 c1_i32_83
  let v252 : BitVec 32 := Scalar.muli v251 c1_i32_83
  let v253 : BitVec 32 := Scalar.addi v248 v252
  let c1_i32_85 : BitVec 32 := 1#32
  let arg11 : BitVec 32 := Scf.iv v253 c1_i32_85 k0_t2
  let c512_i32_96 : BitVec 32 := 512#32
  let v264 : BitVec 32 := Scalar.muli arg11 c512_i32_96
  let v265 : BitVec 32 := v264
  let v269 : Index := Scalar.indexCast v265
  let c128_98 : Index := 128#32
  ![v269.toNat, 128]
def k0_off9 (i : grid0.Coords) (k0_t2 : Fin (k0_t2_loop i).trips) : Fin 2 → Nat :=
  let arg1 : BitVec 32 := BitVec.ofNat 32 (i 1).val
  let c512_i32 : BitVec 32 := 512#32
  let v24 : BitVec 32 := Scalar.muli arg1 c512_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32 : BitVec 32 := 1#32
  let v40 : BitVec 32 := Scalar.subi v25 c1_i32
  let v41 : BitVec 32 := Scalar.select v39 v40 v25
  let c1_i32_82 : BitVec 32 := 1#32
  let v248 : BitVec 32 := Scalar.addi v41 c1_i32_82
  let c8_i32 : BitVec 32 := 8#32
  let v249 : BitVec 32 := Scalar.subi c8_i32 v248
  let c1_i32_83 : BitVec 32 := 1#32
  let v251 : BitVec 32 := Scalar.divsi v249 c1_i32_83
  let v252 : BitVec 32 := Scalar.muli v251 c1_i32_83
  let v253 : BitVec 32 := Scalar.addi v248 v252
  let c1_i32_85 : BitVec 32 := 1#32
  let arg11 : BitVec 32 := Scf.iv v253 c1_i32_85 k0_t2
  let c512_i32_96 : BitVec 32 := 512#32
  let v264 : BitVec 32 := Scalar.muli arg11 c512_i32_96
  let v265 : BitVec 32 := v264
  let v272 : Index := Scalar.indexCast v265
  let c0_99 : Index := 0#32
  ![v272.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "attn_scale" => some (((Real.sqrt 96)⁻¹ : ℝ) : EReal)
  | "ln_2" => some ((Real.log 2 : ℝ) : EReal)
  | _ => none
-- ==== AttnRefIdeal.lean ====
abbrev S4096x8x96 : Shape := ⟨3, ![4096, 8, 96]⟩
abbrev S4096x8x64 : Shape := ⟨3, ![4096, 8, 64]⟩
abbrev S4096x512 : Shape := ⟨2, ![4096, 512]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩

abbrev nBuf : Space → Nat
  | .hbm => 109
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S8x4096x4096, .f32⟩
  | .hbm, ⟨29, _⟩ => ⟨S_, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .i1⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .i1⟩
  | .hbm, ⟨54, _⟩ => ⟨S_, .f32⟩
  | .hbm, ⟨55, _⟩ => ⟨S8x4096, .f32⟩
  | .hbm, ⟨56, _⟩ => ⟨S8x4096, .i1⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S8x4096, .f32⟩
  | .hbm, ⟨63, _⟩ => ⟨S8x4096, .f32⟩
  | .hbm, ⟨64, _⟩ => ⟨S8x4096, .f32⟩
  | .hbm, ⟨65, _⟩ => ⟨S8x4096x1, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x64x4096, .f32⟩
  | .hbm, ⟨79, _⟩ => ⟨S4096x8x64, .f32⟩
  | .hbm, ⟨80, _⟩ => ⟨S4096x512, .f32⟩
  | .hbm, ⟨81, _⟩ => ⟨S4096x8x64, .f32⟩
  | .hbm, ⟨82, _⟩ => ⟨S8x64x4096, .f32⟩
  | .hbm, ⟨83, _⟩ => ⟨S8x4096x4096, .f32⟩
  | .hbm, ⟨84, _⟩ => ⟨S8x64x4096, .f32⟩
  | .hbm, ⟨85, _⟩ => ⟨S4096x8x64, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S8x4096x1, .f32⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096x4096, .f32⟩
  | .hbm, ⟨102, _⟩ => ⟨S8x4096x4096, .f32⟩
  | .hbm, ⟨103, _⟩ => ⟨S8x4096x4096, .f32⟩
  | .hbm, ⟨104, _⟩ => ⟨S8x4096x4096, .f32⟩
  | .hbm, ⟨105, _⟩ => ⟨S8x4096x96, .f32⟩
  | .hbm, ⟨106, _⟩ => ⟨S4096x8x96, .f32⟩
  | .hbm, ⟨107, _⟩ => ⟨S8x4096x96, .f32⟩
  | .hbm, ⟨108, _⟩ => ⟨S4096x8x96, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call2_cst : Ref sig .tc := ⟨.hbm, 100, rfl⟩
abbrev main_call2_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩

abbrev nD : Nat := 1
abbrev τ : Topo := Topo.v7x

variable {F : FTy → Type} [FloatOps F]
-- ==== Fwd.lean ====
abbrev S4096x8x96 : Shape := ⟨3, ![4096, 8, 96]⟩
abbrev S4096x8x64 : Shape := ⟨3, ![4096, 8, 64]⟩
abbrev S_ : Shape := ⟨0, ![]⟩
abbrev S8 : Shape := ⟨1, ![8]⟩
abbrev S1x8x1 : Shape := ⟨3, ![1, 8, 1]⟩
abbrev S4096x8x128 : Shape := ⟨3, ![4096, 8, 128]⟩
abbrev S4096x1024 : Shape := ⟨2, ![4096, 1024]⟩
abbrev S4096x8x32 : Shape := ⟨3, ![4096, 8, 32]⟩
abbrev S4096x512 : Shape := ⟨2, ![4096, 512]⟩
abbrev S512x256 : Shape := ⟨2, ![512, 256]⟩
abbrev S4096x256 : Shape := ⟨2, ![4096, 256]⟩
abbrev S512x128 : Shape := ⟨2, ![512, 128]⟩
abbrev S512x1 : Shape := ⟨2, ![512, 1]⟩
abbrev S1024x128 : Shape := ⟨2, ![1024, 128]⟩
abbrev S512x1024 : Shape := ⟨2, ![512, 1024]⟩
abbrev S512 : Shape := ⟨1, ![512]⟩

abbrev nBuf : Space → Nat
  | .hbm => 64
  | .vmem => 10
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S_, .i1⟩
  | .hbm, ⟨26, _⟩ => ⟨S8, .i1⟩
  | .hbm, ⟨27, _⟩ => ⟨S8, .i1⟩
  | .hbm, ⟨28, _⟩ => ⟨S8, .i1⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S1x8x1, .i1⟩
  | .hbm, ⟨36, _⟩ => ⟨S_, .i32⟩
  | .hbm, ⟨37, _⟩ => ⟨S_, .f32⟩
  | .hbm, ⟨38, _⟩ => ⟨S4096x8x64, .i1⟩
  | .hbm, ⟨39, _⟩ => ⟨S4096x8x64, .f32⟩
  | .hbm, ⟨40, _⟩ => ⟨S4096x8x64, .f32⟩
  | .hbm, ⟨41, _⟩ => ⟨S_, .i32⟩
  | .hbm, ⟨42, _⟩ => ⟨S_, .f32⟩
  | .hbm, ⟨43, _⟩ => ⟨S4096x8x64, .i1⟩
  | .hbm, ⟨44, _⟩ => ⟨S4096x8x64, .f32⟩
  | .hbm, ⟨45, _⟩ => ⟨S4096x8x64, .f32⟩
  | .hbm, ⟨46, _⟩ => ⟨S4096x8x128, .f32⟩
  | .hbm, ⟨47, _⟩ => ⟨S4096x1024, .f32⟩
  | .hbm, ⟨48, _⟩ => ⟨S_, .f32⟩
  | .hbm, ⟨49, _⟩ => ⟨S4096x8x32, .f32⟩
  | .hbm, ⟨50, _⟩ => ⟨S4096x8x128, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S_, .f32⟩
  | .hbm, ⟨57, _⟩ => ⟨S4096x8x32, .f32⟩
  | .hbm, ⟨58, _⟩ => ⟨S4096x8x128, .f32⟩
  | .hbm, ⟨59, _⟩ => ⟨S4096x1024, .f32⟩
  | .hbm, ⟨60, _⟩ => ⟨S4096x1024, .bf16⟩
  | .hbm, ⟨61, _⟩ => ⟨S4096x1024, .bf16⟩
  | .hbm, ⟨62, _⟩ => ⟨S4096x512, .f32⟩
  | .hbm, ⟨63, _⟩ => ⟨S4096x512, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v8 : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_5 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_6 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24_0 : Ref sig .tc := ⟨.hbm, 62, rfl⟩
abbrev main_v24_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_11 : BitVec 32 := 0#32
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_13 : BitVec 32 := 1#32
  ⟨c0_i32_11, v33, c1_i32_13⟩
def k0_mult1 (i : grid0.Coords) (k0_t1 : Fin (k0_t1_loop i).trips) : BitVec 32 :=
  let c0_i32_11 : BitVec 32 := 0#32
  let c1_i32_13 : BitVec 32 := 1#32
  let arg7 : BitVec 32 := Scf.iv c0_i32_11 c1_i32_13 k0_t1
  let c1024_i32_52 : BitVec 32 := 1024#32
  let v169 : BitVec 32 := Scalar.muli arg7 c1024_i32_52
  v169
def k0_off1 (i : grid0.Coords) (k0_t1 : Fin (k0_t1_loop i).trips) : Fin 2 → Nat :=
  let c0_i32_11 : BitVec 32 := 0#32
  let c1_i32_13 : BitVec 32 := 1#32
  let arg7 : BitVec 32 := Scf.iv c0_i32_11 c1_i32_13 k0_t1
  let c1024_i32_52 : BitVec 32 := 1024#32
  let v169 : BitVec 32 := Scalar.muli arg7 c1024_i32_52
  let v170 : BitVec 32 := v169
  let v171 : Index := Scalar.indexCast v170
  let c0_53 : Index := 0#32
  ![v171.toNat, 0]
def k0_off2 (i : grid0.Coords) (k0_t1 : Fin (k0_t1_loop i).trips) : Fin 2 → Nat :=
  let c0_i32_11 : BitVec 32 := 0#32
  let c1_i32_13 : BitVec 32 := 1#32
  let arg7 : BitVec 32 := Scf.iv c0_i32_11 c1_i32_13 k0_t1
  let c1024_i32_52 : BitVec 32 := 1024#32
  let v169 : BitVec 32 := Scalar.muli arg7 c1024_i32_52
  let v170 : BitVec 32 := v169
  let v175 : Index := Scalar.indexCast v170
  let c128_55 : Index := 128#32
  ![v175.toNat, 128]
@[reducible] def k0_t2_loop (i : grid0.Coords) : Scf.Loop 32 :=
  let c0_i32_11 : BitVec 32 := 0#32
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let v30 : BitVec 32 := Scalar.addi c0_i32_11 v29
  let c1_i32_14 : BitVec 32 := 1#32
  ⟨v33, v30, c1_i32_14⟩
def k0_mult2 (i : grid0.Coords) (k0_t2 : Fin (k0_t2_loop i).trips) : BitVec 32 :=
  let c0_i32_11 : BitVec 32 := 0#32
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_14 : BitVec 32 := 1#32
  let arg7 : BitVec 32 := Scf.iv v33 c1_i32_14 k0_t2
  let c1024_i32_52 : BitVec 32 := 1024#32
  let v169 : BitVec 32 := Scalar.muli arg7 c1024_i32_52
  v169
def k0_off3 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_14 : BitVec 32 := 1#32
  let arg7 : BitVec 32 := Scf.iv v33 c1_i32_14 k0_t2
  let c1024_i32_52 : BitVec 32 := 1024#32
  let v169 : BitVec 32 := Scalar.muli arg7 c1024_i32_52
  let v170 : BitVec 32 := v169
  let v171 : Index := Scalar.indexCast v170
  let c0_53 : Index := 0#32
  ![v171.toNat, 0]
def k0_off4 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let v29 : BitVec 32 := Scalar.subi v28 c0_i32_11
  let c1_i32_12 : BitVec 32 := 1#32
  let v31 : BitVec 32 := Scalar.divsi v29 c1_i32_12
  let v32 : BitVec 32 := Scalar.muli v31 c1_i32_12
  let v33 : BitVec 32 := Scalar.addi c0_i32_11 v32
  let c1_i32_14 : BitVec 32 := 1#32
  let arg7 : BitVec 32 := Scf.iv v33 c1_i32_14 k0_t2
  let c1024_i32_52 : BitVec 32 := 1024#32
  let v169 : BitVec 32 := Scalar.muli arg7 c1024_i32_52
  let v170 : BitVec 32 := v169
  let v175 : Index := Scalar.indexCast v170
  let c128_55 : Index := 128#32
  ![v175.toNat, 128]
def k0_mult3 (i : grid0.Coords) : BitVec 32 :=
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_15 : BitVec 32 := 1024#32
  let v36 : BitVec 32 := Scalar.muli v28 c1024_i32_15
  v36
def k0_off5 (i : grid0.Coords) : Fin 2 → Nat :=
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_15 : BitVec 32 := 1024#32
  let v36 : BitVec 32 := Scalar.muli v28 c1024_i32_15
  let v37 : BitVec 32 := v36
  let v38 : Index := Scalar.indexCast v37
  let c0_16 : Index := 0#32
  ![v38.toNat, 0]
def k0_off6 (i : grid0.Coords) : Fin 2 → Nat :=
  let arg1 : BitVec 32 := BitVec.ofNat 32 (i 1).val
  let c512_i32 : BitVec 32 := 512#32
  let v11 : BitVec 32 := Scalar.muli arg1 c512_i32
  let c0_i32 : BitVec 32 := 0#32
  let v13 : BitVec 1 := Scalar.cmpi .sgt v11 c0_i32
  let v14 : BitVec 32 := Scalar.extui v13
  let c0_i32_7 : BitVec 32 := 0#32
  let v15 : BitVec 1 := Scalar.cmpi .slt v11 c0_i32_7
  let v16 : BitVec 32 := Scalar.extui v15
  let v17 : BitVec 32 := Scalar.subi v14 v16
  let c1024_i32 : BitVec 32 := 1024#32
  let c0_i32_8 : BitVec 32 := 0#32
  let v18 : BitVec 1 := Scalar.cmpi .sgt c1024_i32 c0_i32_8
  let v19 : BitVec 32 := Scalar.extui v18
  let c0_i32_9 : BitVec 32 := 0#32
  let v20 : BitVec 1 := Scalar.cmpi .slt c1024_i32 c0_i32_9
  let v21 : BitVec 32 := Scalar.extui v20
  let v22 : BitVec 32 := Scalar.subi v19 v21
  let v23 : BitVec 1 := Scalar.cmpi .ne v17 v22
  let v24 : BitVec 32 := Scalar.remsi v11 c1024_i32
  let c0_i32_10 : BitVec 32 := 0#32
  let v25 : BitVec 1 := Scalar.cmpi .ne v24 c0_i32_10
  let v26 : BitVec 1 := Scalar.andi v23 v25
  let v12 : BitVec 32 := Scalar.divsi v11 c1024_i32
  let c1_i32 : BitVec 32 := 1#32
  let v27 : BitVec 32 := Scalar.subi v12 c1_i32
  let v28 : BitVec 32 := Scalar.select v26 v27 v12
  let c1024_i32_15 : BitVec 32 := 1024#32
  let v36 : BitVec 32 := Scalar.muli v28 c1024_i32_15
  let v37 : BitVec 32 := v36
  let v42 : Index := Scalar.indexCast v37
  let c128_18 : Index := 128#32
  ![v42.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2_e" => some (((Real.log 2)⁻¹ : ℝ) : EReal)
  | _ => none
-- ==== FwdRefIdeal.lean ====
abbrev S4096x8x96 : Shape := ⟨3, ![4096, 8, 96]⟩
abbrev S4096x8x64 : Shape := ⟨3, ![4096, 8, 64]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x512 : Shape := ⟨2, ![4096, 512]⟩
abbrev S4096x8 : Shape := ⟨2, ![4096, 8]⟩

abbrev nBuf : Space → Nat
  | .hbm => 71
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S8x4096x4096, .f32⟩
  | .hbm, ⟨28, _⟩ => ⟨S_, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x64x4096, .f32⟩
  | .hbm, ⟨52, _⟩ => ⟨S4096x8x64, .f32⟩
  | .hbm, ⟨53, _⟩ => ⟨S4096x512, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096, .f32⟩
  | .hbm, ⟨63, _⟩ => ⟨S8x4096, .f32⟩
  | .hbm, ⟨64, _⟩ => ⟨S_, .f32⟩
  | .hbm, ⟨65, _⟩ => ⟨S_, .f32⟩
  | .hbm, ⟨66, _⟩ => ⟨S8x4096, .f32⟩
  | .hbm, ⟨67, _⟩ => ⟨S8x4096, .f32⟩
  | .hbm, ⟨68, _⟩ => ⟨S4096x8, .f32⟩
  | .hbm, ⟨69, _⟩ => ⟨S4096x8x64, .f32⟩
  | .hbm, ⟨70, _⟩ => ⟨S4096x512, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩

abbrev nD : Nat := 1
abbrev τ : Topo := Topo.v7x

variable {F : FTy → Type} [FloatOps F]
-- ==== Mlp.lean ====
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S256x8x96 : Shape := ⟨3, ![256, 8, 96]⟩
abbrev S_ : Shape := ⟨0, ![]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S256x8x64 : Shape := ⟨3, ![256, 8, 64]⟩
abbrev S128x8x128 : Shape := ⟨3, ![128, 8, 128]⟩
abbrev S128x8x64 : Shape := ⟨3, ![128, 8, 64]⟩
abbrev S8 : Shape := ⟨1, ![8]⟩
abbrev S1x8x1 : Shape := ⟨3, ![1, 8, 1]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x640 : Shape := ⟨2, ![4096, 640]⟩
abbrev S4096x1024 : Shape := ⟨2, ![4096, 1024]⟩
abbrev S512x256 : Shape := ⟨2, ![512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 111
  | .vmem => 24
  | .smem => 0
  | _ => 0

abbrev bufTy : (tb : Table) → Fin (tcTables nBuf tb) → BufTy
  | .hbm, ⟨0, _⟩ => ⟨S4096x256, .f32⟩
  | .hbm, ⟨1, _⟩ => ⟨S4096x128, .f32⟩
  | .hbm, ⟨2, _⟩ => ⟨S4096x32, .f32⟩
  | .hbm, ⟨3, _⟩ => ⟨S4096, .i32⟩
  | .hbm, ⟨4, _⟩ => ⟨S1x256, .f32⟩
  | .hbm, ⟨5, _⟩ => ⟨S256x768, .f32⟩
  | .hbm, ⟨6, _⟩ => ⟨S1x128, .f32⟩
  | .hbm, ⟨7, _⟩ => ⟨S128x1024, .f32⟩
  | .hbm, ⟨8, _⟩ => ⟨S256x768, .bf16⟩
  | .hbm, ⟨9, _⟩ => ⟨S256x8x96, .bf16⟩
  | .hbm, ⟨10, _⟩ => ⟨S_, .bf16⟩
  | .hbm, ⟨11, _⟩ => ⟨S256x8x32, .bf16⟩
  | .hbm, ⟨12, _⟩ => ⟨S256x8x128, .bf16⟩
  | .hbm, ⟨13, _⟩ => ⟨S256x1024, .bf16⟩
  | .hbm, ⟨14, _⟩ => ⟨S256x8x32, .bf16⟩
  | .hbm, ⟨15, _⟩ => ⟨S256x8x16, .bf16⟩
  | .hbm, ⟨16, _⟩ => ⟨S256x8x16, .bf16⟩
  | .hbm, ⟨17, _⟩ => ⟨S256x8x16, .bf16⟩
  | .hbm, ⟨18, _⟩ => ⟨S256x8x32, .bf16⟩
  | .hbm, ⟨19, _⟩ => ⟨S_, .bf16⟩
  | .hbm, ⟨20, _⟩ => ⟨S256x8x64, .bf16⟩
  | .hbm, ⟨21, _⟩ => ⟨S256x8x128, .bf16⟩
  | .hbm, ⟨22, _⟩ => ⟨S256x1024, .bf16⟩
  | .hbm, ⟨23, _⟩ => ⟨S128x1024, .bf16⟩
  | .hbm, ⟨24, _⟩ => ⟨S128x8x128, .bf16⟩
  | .hbm, ⟨25, _⟩ => ⟨S_, .bf16⟩
  | .hbm, ⟨26, _⟩ => ⟨S128x8x64, .bf16⟩
  | .hbm, ⟨27, _⟩ => ⟨S128x8x64, .bf16⟩
  | .hbm, ⟨28, _⟩ => ⟨S128x8x128, .bf16⟩
  | .hbm, ⟨29, _⟩ => ⟨S128x1024, .bf16⟩
  | .hbm, ⟨30, _⟩ => ⟨S128x8x64, .bf16⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S_, .i32⟩
  | .hbm, ⟨44, _⟩ => ⟨S8, .i32⟩
  | .hbm, ⟨45, _⟩ => ⟨S8, .i1⟩
  | .hbm, ⟨46, _⟩ => ⟨S_, .i32⟩
  | .hbm, ⟨47, _⟩ => ⟨S_, .i1⟩
  | .hbm, ⟨48, _⟩ => ⟨S8, .i1⟩
  | .hbm, ⟨49, _⟩ => ⟨S8, .i1⟩
  | .hbm, ⟨50, _⟩ => ⟨S8, .i1⟩
  | .hbm, ⟨51, _⟩ => ⟨S8, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S8, .i32⟩
  | .hbm, ⟨56, _⟩ => ⟨S8, .i1⟩
  | .hbm, ⟨57, _⟩ => ⟨S1x8x1, .i1⟩
  | .hbm, ⟨58, _⟩ => ⟨S_, .i32⟩
  | .hbm, ⟨59, _⟩ => ⟨S_, .bf16⟩
  | .hbm, ⟨60, _⟩ => ⟨S128x8x64, .i1⟩
  | .hbm, ⟨61, _⟩ => ⟨S128x8x64, .bf16⟩
  | .hbm, ⟨62, _⟩ => ⟨S128x8x64, .bf16⟩
  | .hbm, ⟨63, _⟩ => ⟨S_, .i32⟩
  | .hbm, ⟨64, _⟩ => ⟨S_, .bf16⟩
  | .hbm, ⟨65, _⟩ => ⟨S128x8x64, .i1⟩
  | .hbm, ⟨66, _⟩ => ⟨S128x8x64, .bf16⟩
  | .hbm, ⟨67, _⟩ => ⟨S128x8x64, .bf16⟩
  | .hbm, ⟨68, _⟩ => ⟨S128x8x128, .bf16⟩
  | .hbm, ⟨69, _⟩ => ⟨S128x1024, .bf16⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S4096, .f32⟩
  | .hbm, ⟨85, _⟩ => ⟨S4096x1, .f32⟩
  | .hbm, ⟨86, _⟩ => ⟨S1x16, .f32⟩
  | .hbm, ⟨87, _⟩ => ⟨S4096x16, .f32⟩
  | .hbm, ⟨88, _⟩ => ⟨S4096x16, .f32⟩
  | .hbm, ⟨89, _⟩ => ⟨S4096x16, .f32⟩
  | .hbm, ⟨90, _⟩ => ⟨S_, .f32⟩
  | .hbm, ⟨91, _⟩ => ⟨S4096x64, .f32⟩
  | .hbm, ⟨92, _⟩ => ⟨S_, .f32⟩
  | .hbm, ⟨93, _⟩ => ⟨S4096x64, .f32⟩
  | .hbm, ⟨94, _⟩ => ⟨S_, .f32⟩
  | .hbm, ⟨95, _⟩ => ⟨S4096x32, .f32⟩
  | .hbm, ⟨96, _⟩ => ⟨S4096x16, .f32⟩
  | .hbm, ⟨97, _⟩ => ⟨S4096x16, .f32⟩
  | .hbm, ⟨98, _⟩ => ⟨S4096x128, .f32⟩
  | .hbm, ⟨99, _⟩ => ⟨S4096x16, .f32⟩
  | .hbm, ⟨100, _⟩ => ⟨S4096x16, .f32⟩
  | .hbm, ⟨101, _⟩ => ⟨S4096x128, .f32⟩
  | .hbm, ⟨102, _⟩ => ⟨S4096x16, .f32⟩
  | .hbm, ⟨103, _⟩ => ⟨S4096x16, .f32⟩
  | .hbm, ⟨104, _⟩ => ⟨S4096x16, .f32⟩
  | .hbm, ⟨105, _⟩ => ⟨S4096x32, .f32⟩
  | .hbm, ⟨106, _⟩ => ⟨S4096x640, .f32⟩
  | .hbm, ⟨107, _⟩ => ⟨S4096x640, .bf16⟩
  | .hbm, ⟨108, _⟩ => ⟨S4096x1024, .bf16⟩
  | .hbm, ⟨109, _⟩ => ⟨S4096x1024, .bf16⟩
  | .hbm, ⟨110, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x256, .f32⟩
  | .local _ .vmem, ⟨13, _⟩ => ⟨S1x128, .f32⟩
  | .local _ .vmem, ⟨14, _⟩ => ⟨S256x1024, .bf16⟩
  | .local _ .vmem, ⟨15, _⟩ => ⟨S256x1024, .bf16⟩
  | .local _ .vmem, ⟨16, _⟩ => ⟨S128x1024, .bf16⟩
  | .local _ .vmem, ⟨17, _⟩ => ⟨S128x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v21 : Ref sig .tc := ⟨.hbm, 53, rfl⟩
abbrev main_c_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v25 : Ref sig .tc := ⟨.hbm, 62, rfl⟩
abbrev main_c_4 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_5 : Ref sig .tc := ⟨.hbm, 71, rfl⟩
abbrev main_v30 : Ref sig .tc := ⟨.hbm, 72, rfl⟩
abbrev main_v31 : Ref sig .tc := ⟨.hbm, 73, rfl⟩
abbrev main_cst_6 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_7 : Ref sig .tc := ⟨.hbm, 78, rfl⟩
abbrev main_v35 : Ref sig .tc := ⟨.hbm, 79, rfl⟩
abbrev main_v36 : Ref sig .tc := ⟨.hbm, 80, rfl⟩
abbrev main_cst_8 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_9 : Ref sig .tc := ⟨.hbm, 90, rfl⟩
abbrev main_v45 : Ref sig .tc := ⟨.hbm, 91, rfl⟩
abbrev main_cst_10 : Ref sig .tc := ⟨.hbm, 92, rfl⟩
abbrev main_v46 : Ref sig .tc := ⟨.hbm, 93, rfl⟩
abbrev main_cst_11 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60_0 : Ref sig .tc := ⟨.hbm, 108, rfl⟩
abbrev main_v60_1 : Ref sig .tc := ⟨.hbm, 109, rfl⟩
abbrev main_v60_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlpRefIdeal.lean ====
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x768 : Shape := ⟨2, ![4096, 768]⟩
abbrev S4096x8x96 : Shape := ⟨3, ![4096, 8, 96]⟩
abbrev S4096x1024 : Shape := ⟨2, ![4096, 1024]⟩
abbrev S4096x8x128 : Shape := ⟨3, ![4096, 8, 128]⟩
abbrev S4096x8x64 : Shape := ⟨3, ![4096, 8, 64]⟩
abbrev S4096x8x32 : Shape := ⟨3, ![4096, 8, 32]⟩
abbrev S4096x8x16 : Shape := ⟨3, ![4096, 8, 16]⟩
abbrev S4096x1x32 : Shape := ⟨3, ![4096, 1, 32]⟩
abbrev S8 : Shape := ⟨1, ![8]⟩
abbrev S1x8x1 : Shape := ⟨3, ![1, 8, 1]⟩

abbrev nBuf : Space → Nat
  | .hbm => 149
  | .vmem => 0
  | .smem => 0
  | _ => 0

abbrev hbmTy0_0 (i : Nat) : BufTy := match i % 128 with
  | 0 => ⟨S4096x256, .f32⟩
  | 1 => ⟨S4096x128, .f32⟩
  | 2 => ⟨S4096x32, .f32⟩
  | 3 => ⟨S4096, .i32⟩
  | 4 => ⟨S1x256, .f32⟩
  | 5 => ⟨S256x768, .f32⟩
  | 6 => ⟨S1x128, .f32⟩
  | 7 => ⟨S128x1024, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x16, .f32⟩
  | 29 => ⟨S4096x1x16, .f32⟩
  | 30 => ⟨S4096x16, .f32⟩
  | 31 => ⟨S4096x1x16, .f32⟩
  | 32 => ⟨S4096x256, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1, .f32⟩
  | 43 => ⟨S4096x256, .f32⟩
  | 44 => ⟨S4096x256, .f32⟩
  | 45 => ⟨S4096x256, .f32⟩
  | 46 => ⟨S4096x256, .f32⟩
  | 47 => ⟨S4096x768, .f32⟩
  | 48 => ⟨S4096x8x96, .f32⟩
  | 49 => ⟨S4096x128, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x128, .f32⟩
  | 61 => ⟨S4096x128, .f32⟩
  | 62 => ⟨S4096x128, .f32⟩
  | 63 => ⟨S4096x128, .f32⟩
  | 64 => ⟨S4096x1024, .f32⟩
  | 65 => ⟨S4096x8x128, .f32⟩
  | 66 => ⟨S4096x8x64, .f32⟩
  | 67 => ⟨S4096x8x32, .f32⟩
  | 68 => ⟨S4096x8x64, .f32⟩
  | 69 => ⟨S4096x8x64, .f32⟩
  | 70 => ⟨S4096x8x16, .f32⟩
  | 71 => ⟨S4096x8x16, .f32⟩
  | 72 => ⟨S4096x8x16, .f32⟩
  | 73 => ⟨S4096x8x16, .f32⟩
  | 74 => ⟨S4096x8x16, .f32⟩
  | 75 => ⟨S4096x8x16, .f32⟩
  | 76 => ⟨S4096x8x16, .f32⟩
  | 77 => ⟨S4096x8x16, .f32⟩
  | 78 => ⟨S4096x8x16, .f32⟩
  | 79 => ⟨S4096x8x16, .f32⟩
  | 80 => ⟨S4096x8x16, .f32⟩
  | 81 => ⟨S4096x8x16, .f32⟩
  | 82 => ⟨S4096x8x32, .f32⟩
  | 83 => ⟨S4096x1x32, .f32⟩
  | 84 => ⟨S4096x1x16, .f32⟩
  | 85 => ⟨S4096x1x16, .f32⟩
  | 86 => ⟨S4096x1x16, .f32⟩
  | 87 => ⟨S4096x1x16, .f32⟩
  | 88 => ⟨S4096x1x16, .f32⟩
  | 89 => ⟨S4096x1x16, .f32⟩
  | 90 => ⟨S4096x1x16, .f32⟩
  | 91 => ⟨S4096x1x16, .f32⟩
  | 92 => ⟨S4096x1x32, .f32⟩
  | 93 => ⟨S4096x8x96, .f32⟩
  | 94 => ⟨S4096x8x32, .f32⟩
  | 95 => ⟨S4096x8x96, .f32⟩
  | 96 => ⟨S8, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S8, .i32⟩
  | 104 => ⟨S8, .i32⟩
  | 105 => ⟨S_, .i32⟩
  | 106 => ⟨S8, .i32⟩
  | 107 => ⟨S8, .i1⟩
  | 108 => ⟨S_, .i32⟩
  | 109 => ⟨S8, .i32⟩
  | 110 => ⟨S8, .i1⟩
  | 111 => ⟨S_, .i32⟩
  | 112 => ⟨S_, .i1⟩
  | 113 => ⟨S8, .i1⟩
  | 114 => ⟨S8, .i1⟩
  | 115 => ⟨S8, .i1⟩
  | 116 => ⟨S8, .i32⟩
  | 117 => ⟨S8, .i32⟩
  | 118 => ⟨S8, .i32⟩
  | 119 => ⟨S_, .i32⟩
  | 120 => ⟨S8, .i32⟩
  | 121 => ⟨S8, .i1⟩
  | 122 => ⟨S1x8x1, .i1⟩
  | 123 => ⟨S_, .i32⟩
  | 124 => ⟨S_, .f32⟩
  | 125 => ⟨S4096x8x64, .i1⟩
  | 126 => ⟨S4096x8x64, .f32⟩
  | 127 => ⟨S4096x8x64, .f32⟩
  | _ => ⟨S4096x256, .f32⟩

abbrev hbmTy0_1 (i : Nat) : BufTy := match i % 128 with
  | 0 => ⟨S_, .i32⟩
  | 1 => ⟨S_, .f32⟩
  | 2 => ⟨S4096x8x64, .i1⟩
  | 3 => ⟨S4096x8x64, .f32⟩
  | 4 => ⟨S4096x8x64, .f32⟩
  | 5 => ⟨S4096x8x128, .f32⟩
  | 6 => ⟨S4096x1024, .f32⟩
  | 7 => ⟨S_, .f32⟩
  | 8 => ⟨S4096x8x32, .f32⟩
  | 9 => ⟨S4096x8x128, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x8x32, .f32⟩
  | 16 => ⟨S4096x8x128, .f32⟩
  | 17 => ⟨S4096x1024, .f32⟩
  | 18 => ⟨S4096x1024, .bf16⟩
  | 19 => ⟨S4096x1024, .bf16⟩
  | 20 => ⟨S4096x1024, .bf16⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_c_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_1 : Ref sig .tc := ⟨.hbm, 105, rfl⟩
abbrev main_call0_v5 : Ref sig .tc := ⟨.hbm, 106, rfl⟩
abbrev main_call0_v6 : Ref sig .tc := ⟨.hbm, 107, rfl⟩
abbrev main_call0_c_2 : Ref sig .tc := ⟨.hbm, 108, rfl⟩
abbrev main_call0_v7 : Ref sig .tc := ⟨.hbm, 109, rfl⟩
abbrev main_call0_v8 : Ref sig .tc := ⟨.hbm, 110, rfl⟩
abbrev main_call0_c_3 : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_v12 : Ref sig .tc := ⟨.hbm, 115, rfl⟩
abbrev main_call0_v13 : Ref sig .tc := ⟨.hbm, 116, rfl⟩
abbrev main_call0_v14 : Ref sig .tc := ⟨.hbm, 117, rfl⟩
abbrev main_v79 : Ref sig .tc := ⟨.hbm, 118, rfl⟩
abbrev main_c_9 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_10 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v83 : Ref sig .tc := ⟨.hbm, 127, rfl⟩
abbrev main_c_11 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_12 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_13 : Ref sig .tc := ⟨.hbm, 139, rfl⟩
abbrev main_v90 : Ref sig .tc := ⟨.hbm, 140, rfl⟩
abbrev main_v91 : Ref sig .tc := ⟨.hbm, 141, rfl⟩
abbrev main_cst_14 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩

abbrev nD : Nat := 1
abbrev τ : Topo := Topo.v7x

variable {F : FTy → Type} [FloatOps F]
-- ==== Inp.lean ====
abbrev S4096x1024 : Shape := ⟨2, ![4096, 1024]⟩
abbrev S1x3072 : Shape := ⟨2, ![1, 3072]⟩
abbrev S1024x5152 : Shape := ⟨2, ![1024, 5152]⟩
abbrev S3x1024 : Shape := ⟨2, ![3, 1024]⟩
abbrev S5152x1024 : Shape := ⟨2, ![5152, 1024]⟩
abbrev S32x1024 : Shape := ⟨2, ![32, 1024]⟩
abbrev S16x1024 : Shape := ⟨2, ![16, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S_ : Shape := ⟨0, ![]⟩
abbrev S64x1024 : Shape := ⟨2, ![64, 1024]⟩
abbrev S5376x1024 : Shape := ⟨2, ![5376, 1024]⟩
abbrev S4096x5376 : Shape := ⟨2, ![4096, 5376]⟩
abbrev S512x5376 : Shape := ⟨2, ![512, 5376]⟩
abbrev S512 : Shape := ⟨1, ![512]⟩
abbrev S512x1 : Shape := ⟨2, ![512, 1]⟩
abbrev S1x1024 : Shape := ⟨2, ![1, 1024]⟩

abbrev nBuf : Space → Nat
  | .hbm => 31
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x3072, .f32⟩
  | .hbm, ⟨2, _⟩ => ⟨S1024x5152, .f32⟩
  | .hbm, ⟨3, _⟩ => ⟨S3x1024, .f32⟩
  | .hbm, ⟨4, _⟩ => ⟨S5152x1024, .f32⟩
  | .hbm, ⟨5, _⟩ => ⟨S5152x1024, .bf16⟩
  | .hbm, ⟨6, _⟩ => ⟨S32x1024, .bf16⟩
  | .hbm, ⟨7, _⟩ => ⟨S16x1024, .bf16⟩
  | .hbm, ⟨8, _⟩ => ⟨S16x1024, .bf16⟩
  | .hbm, ⟨9, _⟩ => ⟨S16x1024, .bf16⟩
  | .hbm, ⟨10, _⟩ => ⟨S32x1024, .bf16⟩
  | .hbm, ⟨11, _⟩ => ⟨S1024x1024, .bf16⟩
  | .hbm, ⟨12, _⟩ => ⟨S1024x1024, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S256x1024, .bf16⟩
  | .hbm, ⟨19, _⟩ => ⟨S128x1024, .bf16⟩
  | .hbm, ⟨20, _⟩ => ⟨S_, .bf16⟩
  | .hbm, ⟨21, _⟩ => ⟨S64x1024, .bf16⟩
  | .hbm, ⟨22, _⟩ => ⟨S_, .bf16⟩
  | .hbm, ⟨23, _⟩ => ⟨S32x1024, .bf16⟩
  | .hbm, ⟨24, _⟩ => ⟨S_, .bf16⟩
  | .hbm, ⟨25, _⟩ => ⟨S64x1024, .bf16⟩
  | .hbm, ⟨26, _⟩ => ⟨S_, .bf16⟩
  | .hbm, ⟨27, _⟩ => ⟨S32x1024, .bf16⟩
  | .hbm, ⟨28, _⟩ => ⟨S128x1024, .bf16⟩
  | .hbm, ⟨29, _⟩ => ⟨S5376x1024, .bf16⟩
  | .hbm, ⟨30, _⟩ => ⟨S4096x5376, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S5376x1024, .bf16⟩
  | .local _ .vmem, ⟨4, _⟩ => ⟨S512x5376, .bf16⟩
  | .local _ .vmem, ⟨5, _⟩ => ⟨S512x5376, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InpRefIdeal.lean ====
abbrev S4096x1024 : Shape := ⟨2, ![4096, 1024]⟩
abbrev S1x3072 : Shape := ⟨2, ![1, 3072]⟩
abbrev S1024x5152 : Shape := ⟨2, ![1024, 5152]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5152 : Shape := ⟨2, ![4096, 5152]⟩
abbrev S4096x256 : Shape := ⟨2, ![4096, 256]⟩
abbrev S4096x128 : Shape := ⟨2, ![4096, 128]⟩
abbrev S4096x32 : Shape := ⟨2, ![4096, 32]⟩
abbrev S4096x512 : Shape := ⟨2, ![4096, 512]⟩
abbrev S4096x1664 : Shape := ⟨2, ![4096, 1664]⟩
abbrev S4096x16 : Shape := ⟨2, ![4096, 16]⟩
abbrev S4096x1536 : Shape := ⟨2, ![4096, 1536]⟩
abbrev S4096x64 : Shape := ⟨2, ![4096, 64]⟩
abbrev S4096x5376 : Shape := ⟨2, ![4096, 5376]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x3072, .f32⟩
  | .hbm, ⟨2, _⟩ => ⟨S1024x5152, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x5152, .f32⟩
  | .hbm, ⟨35, _⟩ => ⟨S4096x256, .f32⟩
  | .hbm, ⟨36, _⟩ => ⟨S4096x128, .f32⟩
  | .hbm, ⟨37, _⟩ => ⟨S4096x32, .f32⟩
  | .hbm, ⟨38, _⟩ => ⟨S4096x512, .f32⟩
  | .hbm, ⟨39, _⟩ => ⟨S4096x1664, .f32⟩
  | .hbm, ⟨40, _⟩ => ⟨S4096x512, .f32⟩
  | .hbm, ⟨41, _⟩ => ⟨S4096x1024, .f32⟩
  | .hbm, ⟨42, _⟩ => ⟨S4096x1024, .f32⟩
  | .hbm, ⟨43, _⟩ => ⟨S4096x16, .f32⟩
  | .hbm, ⟨44, _⟩ => ⟨S4096x16, .f32⟩
  | .hbm, ⟨45, _⟩ => ⟨S4096x1536, .f32⟩
  | .hbm, ⟨46, _⟩ => ⟨S4096x128, .f32⟩
  | .hbm, ⟨47, _⟩ => ⟨S_, .f32⟩
  | .hbm, ⟨48, _⟩ => ⟨S4096x64, .f32⟩
  | .hbm, ⟨49, _⟩ => ⟨S_, .f32⟩
  | .hbm, ⟨50, _⟩ => ⟨S4096x32, .f32⟩
  | .hbm, ⟨51, _⟩ => ⟨S_, .f32⟩
  | .hbm, ⟨52, _⟩ => ⟨S4096x64, .f32⟩
  | .hbm, ⟨53, _⟩ => ⟨S4096x16, .f32⟩
  | .hbm, ⟨54, _⟩ => ⟨S_, .f32⟩
  | .hbm, ⟨55, _⟩ => ⟨S4096x32, .f32⟩
  | .hbm, ⟨56, _⟩ => ⟨S4096x5376, .f32⟩
  | .hbm, ⟨57, _⟩ => ⟨S4096x5376, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== InBack.lean ====
abbrev S4096x1024 : Shape := ⟨2, ![4096, 1024]⟩
abbrev S1x1024 : Shape := ⟨2, ![1, 1024]⟩
abbrev S1024x5152 : Shape := ⟨2, ![1024, 5152]⟩
abbrev S4096 : Shape := ⟨1, ![4096]⟩
abbrev S4096x256 : Shape := ⟨2, ![4096, 256]⟩
abbrev S4096x128 : Shape := ⟨2, ![4096, 128]⟩
abbrev S4096x32 : Shape := ⟨2, ![4096, 32]⟩
abbrev S4096x512 : Shape := ⟨2, ![4096, 512]⟩
abbrev S4096x1664 : Shape := ⟨2, ![4096, 1664]⟩
abbrev S3x1024 : Shape := ⟨2, ![3, 1024]⟩
abbrev S5152x1024 : Shape := ⟨2, ![5152, 1024]⟩
abbrev S32x1024 : Shape := ⟨2, ![32, 1024]⟩
abbrev S16x1024 : Shape := ⟨2, ![16, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S_ : Shape := ⟨0, ![]⟩
abbrev S64x1024 : Shape := ⟨2, ![64, 1024]⟩
abbrev S5376x1024 : Shape := ⟨2, ![5376, 1024]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1024x4096 : Shape := ⟨2, ![1024, 4096]⟩
abbrev S8x4096x644 : Shape := ⟨3, ![8, 4096, 644]⟩
abbrev S256x512 : Shape := ⟨2, ![256, 512]⟩
abbrev S256x256 : Shape := ⟨2, ![256, 256]⟩
abbrev S256x128 : Shape := ⟨2, ![256, 128]⟩
abbrev S1024x256 : Shape := ⟨2, ![1024, 256]⟩
abbrev S8x256x644 : Shape := ⟨3, ![8, 256, 644]⟩
abbrev S256x5376 : Shape := ⟨2, ![256, 5376]⟩
abbrev S256 : Shape := ⟨1, ![256]⟩
abbrev S256x1 : Shape := ⟨2, ![256, 1]⟩
abbrev S256x32 : Shape := ⟨2, ![256, 32]⟩
abbrev S256x5152 : Shape := ⟨2, ![256, 5152]⟩
abbrev S256x644 : Shape := ⟨2, ![256, 644]⟩
abbrev S1x256x644 : Shape := ⟨3, ![1, 256, 644]⟩
abbrev S1024 : Shape := ⟨1, ![1024]⟩

abbrev nBuf : Space → Nat
  | .hbm => 142
  | .vmem => 39
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1024x5152, .f32⟩
  | 5 => ⟨S4096, .i32⟩
  | 6 => ⟨S4096x1024, .f32⟩
  | 7 => ⟨S4096x256, .f32⟩
  | 8 => ⟨S4096x128, .f32⟩
  | 9 => ⟨S4096x32, .f32⟩
  | 10 => ⟨S4096x512, .f32⟩
  | 11 => ⟨S4096x1664, .f32⟩
  | 12 => ⟨S4096x512, .f32⟩
  | 13 => ⟨S4096x1024, .f32⟩
  | 14 => ⟨S4096x1024, .f32⟩
  | 15 => ⟨S3x1024, .f32⟩
  | 16 => ⟨S5152x1024, .f32⟩
  | 17 => ⟨S5152x1024, .bf16⟩
  | 18 => ⟨S32x1024, .bf16⟩
  | 19 => ⟨S16x1024, .bf16⟩
  | 20 => ⟨S16x1024, .bf16⟩
  | 21 => ⟨S16x1024, .bf16⟩
  | 22 => ⟨S32x1024, .bf16⟩
  | 23 => ⟨S1024x1024, .bf16⟩
  | 24 => ⟨S1024x1024, .bf16⟩
  | 25 => ⟨S512x1024, .bf16⟩
  | 26 => ⟨S512x1024, .bf16⟩
  | 27 => ⟨S512x1024, .bf16⟩
  | 28 => ⟨S512x1024, .bf16⟩
  | 29 => ⟨S512x1024, .bf16⟩
  | 30 => ⟨S256x1024, .bf16⟩
  | 31 => ⟨S128x1024, .bf16⟩
  | 32 => ⟨S_, .bf16⟩
  | 33 => ⟨S64x1024, .bf16⟩
  | 34 => ⟨S_, .bf16⟩
  | 35 => ⟨S32x1024, .bf16⟩
  | 36 => ⟨S_, .bf16⟩
  | 37 => ⟨S64x1024, .bf16⟩
  | 38 => ⟨S_, .bf16⟩
  | 39 => ⟨S32x1024, .bf16⟩
  | 40 => ⟨S128x1024, .bf16⟩
  | 41 => ⟨S5376x1024, .bf16⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S4096, .f32⟩
  | 57 => ⟨S4096x1, .f32⟩
  | 58 => ⟨S1x16, .f32⟩
  | 59 => ⟨S4096x16, .f32⟩
  | 60 => ⟨S4096x16, .f32⟩
  | 61 => ⟨S4096x16, .f32⟩
  | 62 => ⟨S_, .f32⟩
  | 63 => ⟨S4096x64, .f32⟩
  | 64 => ⟨S_, .f32⟩
  | 65 => ⟨S4096x32, .f32⟩
  | 66 => ⟨S4096x16, .f32⟩
  | 67 => ⟨S4096x16, .f32⟩
  | 68 => ⟨S4096x32, .f32⟩
  | 69 => ⟨S4096x16, .f32⟩
  | 70 => ⟨S4096x16, .f32⟩
  | 71 => ⟨S4096x32, .f32⟩
  | 72 => ⟨S4096x32, .f32⟩
  | 73 => ⟨S4096x128, .f32⟩
  | 74 => ⟨S4096x32, .f32⟩
  | 75 => ⟨S4096x128, .f32⟩
  | 76 => ⟨S128, .i32⟩
  | 77 => ⟨S128x1, .i32⟩
  | 78 => ⟨S1x128, .i32⟩
  | 79 => ⟨S_, .i32⟩
  | 80 => ⟨S1x128, .i32⟩
  | 81 => ⟨S1x128, .i1⟩
  | 82 => ⟨S_, .i32⟩
  | 83 => ⟨S1x128, .i32⟩
  | 84 => ⟨S1x128, .i1⟩
  | 85 => ⟨S1x128, .i1⟩
  | 86 => ⟨S_, .i32⟩
  | 87 => ⟨S1x128, .i32⟩
  | 88 => ⟨S1x128, .i32⟩
  | 89 => ⟨S128x128, .i32⟩
  | 90 => ⟨S128x128, .i32⟩
  | 91 => ⟨S128x128, .i1⟩
  | 92 => ⟨S128x128, .i1⟩
  | 93 => ⟨S128x128, .i1⟩
  | 94 => ⟨S_, .f32⟩
  | 95 => ⟨S_, .f32⟩
  | 96 => ⟨S128x128, .f32⟩
  | 97 => ⟨S128x128, .f32⟩
  | 98 => ⟨S128x128, .f32⟩
  | 99 => ⟨S_, .i32⟩
  | 100 => ⟨S1x128, .i32⟩
  | 101 => ⟨S1x128, .i1⟩
  | 102 => ⟨S_, .i32⟩
  | 103 => ⟨S1x128, .i32⟩
  | 104 => ⟨S1x128, .i1⟩
  | 105 => ⟨S1x128, .i1⟩
  | 106 => ⟨S_, .i32⟩
  | 107 => ⟨S1x128, .i32⟩
  | 108 => ⟨S1x128, .i32⟩
  | 109 => ⟨S128x128, .i32⟩
  | 110 => ⟨S128x128, .i32⟩
  | 111 => ⟨S128x128, .i1⟩
  | 112 => ⟨S128x128, .i1⟩
  | 113 => ⟨S128x128, .i1⟩
  | 114 => ⟨S_, .f32⟩
  | 115 => ⟨S_, .f32⟩
  | 116 => ⟨S128x128, .f32⟩
  | 117 => ⟨S128x128, .f32⟩
  | 118 => ⟨S128x128, .f32⟩
  | 119 => ⟨S128x128, .f32⟩
  | 120 => ⟨S128x128, .bf16⟩
  | 121 => ⟨S4096x512, .f32⟩
  | 122 => ⟨S4096x512, .f32⟩
  | 123 => ⟨S4096x512, .f32⟩
  | 124 => ⟨S4096x128, .f32⟩
  | 125 => ⟨S4096x1024, .bf16⟩
  | 126 => ⟨S4096x1024, .bf16⟩
  | 127 => ⟨S4096x512, .bf16⟩
  | _ => ⟨S4096x1024, .f32⟩

abbrev hbmTy0_1 (i : Nat) : BufTy := match i % 128 with
  | 0 => ⟨S4096x512, .bf16⟩
  | 1 => ⟨S4096x512, .bf16⟩
  | 2 => ⟨S4096x512, .bf16⟩
  | 3 => ⟨S4096x512, .bf16⟩
  | 4 => ⟨S4096x256, .bf16⟩
  | 5 => ⟨S4096x128, .bf16⟩
  | 6 => ⟨S4096x128, .bf16⟩
  | 7 => ⟨S4096x128, .bf16⟩
  | 8 => ⟨S4096x128, .bf16⟩
  | 9 => ⟨S4096x1024, .f32⟩
  | 10 => ⟨S1024x4096, .bf16⟩
  | 11 => ⟨S8x4096x644, .bf16⟩
  | 12 => ⟨S1x1024, .f32⟩
  | 13 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x256, .bf16⟩
  | .local _ .vmem, ⟨19, _⟩ => ⟨S256x256, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x128, .bf16⟩
  | .local _ .vmem, ⟨27, _⟩ => ⟨S256x128, .bf16⟩
  | .local _ .vmem, ⟨28, _⟩ => ⟨S3x1024, .f32⟩
  | .local _ .vmem, ⟨29, _⟩ => ⟨S5376x1024, .bf16⟩
  | .local _ .vmem, ⟨30, _⟩ => ⟨S128x128, .bf16⟩
  | .local _ .vmem, ⟨31, _⟩ => ⟨S256x1024, .f32⟩
  | .local _ .vmem, ⟨32, _⟩ => ⟨S256x1024, .f32⟩
  | .local _ .vmem, ⟨33, _⟩ => ⟨S1024x256, .bf16⟩
  | .local _ .vmem, ⟨34, _⟩ => ⟨S1024x256, .bf16⟩
  | .local _ .vmem, ⟨35, _⟩ => ⟨S8x256x644, .bf16⟩
  | .local _ .vmem, ⟨36, _⟩ => ⟨S8x256x644, .bf16⟩
  | .local _ .vmem, ⟨37, _⟩ => ⟨S1x1024, .f32⟩
  | .local _ .vmem, ⟨38, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_cst_12 : Ref sig .tc := ⟨.hbm, 95, rfl⟩
abbrev main_call0_v0 : Ref sig .tc := ⟨.hbm, 96, rfl⟩
abbrev main_call0_v1 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_16 : Ref sig .tc := ⟨.hbm, 114, rfl⟩
abbrev main_cst_17 : Ref sig .tc := ⟨.hbm, 115, rfl⟩
abbrev main_call1_v0 : Ref sig .tc := ⟨.hbm, 116, rfl⟩
abbrev main_call1_v1 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98_0 : Ref sig .tc := ⟨.hbm, 137, rfl⟩
abbrev main_v98_1 : Ref sig .tc := ⟨.hbm, 138, rfl⟩
abbrev main_v98_2 : Ref sig .tc := ⟨.hbm, 139, rfl⟩
abbrev main_v98_3 : Ref sig .tc := ⟨.hbm, 140, rfl⟩
abbrev main_v98_4 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg21_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem21_0 : DmaSem sig := 38

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v144 : BitVec 32 := Scalar.extui v0
  let c0_i32_70 : BitVec 32 := 0#32
  let v145 : BitVec 1 := Scalar.cmpi .ne v144 c0_i32_70
  v145

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v146 : BitVec 1 := Scalar.xori v0 v_true
  let v147 : BitVec 32 := Scalar.extui v146
  let c0_i32_71 : BitVec 32 := 0#32
  let v148 : BitVec 1 := Scalar.cmpi .ne v147 c0_i32_71
  v148

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v149 : BitVec 32 := Scalar.extui v0
  let c0_i32_72 : BitVec 32 := 0#32
  let v150 : BitVec 1 := Scalar.cmpi .ne v149 c0_i32_72
  v150

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_73 : BitVec 1 := 1#1
  let v151 : BitVec 1 := Scalar.xori v0 true_73
  let v152 : BitVec 32 := Scalar.extui v151
  let c0_i32_74 : BitVec 32 := 0#32
  let v153 : BitVec 1 := Scalar.cmpi .ne v152 c0_i32_74
  v153

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5376x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x256x644 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== InBackRefIdeal.lean ====
abbrev S4096x1024 : Shape := ⟨2, ![4096, 1024]⟩
abbrev S1x1024 : Shape := ⟨2, ![1, 1024]⟩
abbrev S1024x5152 : Shape := ⟨2, ![1024, 5152]⟩
abbrev S4096 : Shape := ⟨1, ![4096]⟩
abbrev S4096x256 : Shape := ⟨2, ![4096, 256]⟩
abbrev S4096x128 : Shape := ⟨2, ![4096, 128]⟩
abbrev S4096x32 : Shape := ⟨2, ![4096, 32]⟩
abbrev S4096x512 : Shape := ⟨2, ![4096, 512]⟩
abbrev S4096x1664 : Shape := ⟨2, ![4096, 1664]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x5152 : Shape := ⟨2, ![4096, 5152]⟩
abbrev S1024 : Shape := ⟨1, ![1024]⟩
abbrev S4096x8x644 : Shape := ⟨3, ![4096, 8, 644]⟩
abbrev S8x4096x644 : Shape := ⟨3, ![8, 4096, 644]⟩
abbrev S1024x4096 : Shape := ⟨2, ![1024, 4096]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1024x5152, .f32⟩
  | 5 => ⟨S4096, .i32⟩
  | 6 => ⟨S4096x1024, .f32⟩
  | 7 => ⟨S4096x256, .f32⟩
  | 8 => ⟨S4096x128, .f32⟩
  | 9 => ⟨S4096x32, .f32⟩
  | 10 => ⟨S4096x512, .f32⟩
  | 11 => ⟨S4096x1664, .f32⟩
  | 12 => ⟨S4096x512, .f32⟩
  | 13 => ⟨S4096x1024, .f32⟩
  | 14 => ⟨S4096x1024, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S4096, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S_, .f32⟩
  | 63 => ⟨S1x1024, .f32⟩
  | 64 => ⟨S1x1024, .f32⟩
  | 65 => ⟨S4096x1024, .f32⟩
  | 66 => ⟨S4096x1024, .f32⟩
  | 67 => ⟨S4096x1024, .f32⟩
  | 68 => ⟨S4096x1024, .f32⟩
  | 69 => ⟨S4096x5152, .f32⟩
  | 70 => ⟨S4096x256, .f32⟩
  | 71 => ⟨S4096x128, .f32⟩
  | 72 => ⟨S4096x32, .f32⟩
  | 73 => ⟨S4096x512, .f32⟩
  | 74 => ⟨S4096x1664, .f32⟩
  | 75 => ⟨S4096x512, .f32⟩
  | 76 => ⟨S4096x1024, .f32⟩
  | 77 => ⟨S4096x1024, .f32⟩
  | 78 => ⟨S4096x16, .f32⟩
  | 79 => ⟨S4096x16, .f32⟩
  | 80 => ⟨S4096x16, .f32⟩
  | 81 => ⟨S4096x16, .f32⟩
  | 82 => ⟨S4096x16, .f32⟩
  | 83 => ⟨S4096x16, .f32⟩
  | 84 => ⟨S4096x16, .f32⟩
  | 85 => ⟨S4096x16, .f32⟩
  | 86 => ⟨S4096x32, .f32⟩
  | 87 => ⟨S4096x16, .f32⟩
  | 88 => ⟨S4096x16, .f32⟩
  | 89 => ⟨S4096x16, .f32⟩
  | 90 => ⟨S4096x16, .f32⟩
  | 91 => ⟨S4096x16, .f32⟩
  | 92 => ⟨S4096x16, .f32⟩
  | 93 => ⟨S4096x16, .f32⟩
  | 94 => ⟨S4096x16, .f32⟩
  | 95 => ⟨S4096x16, .f32⟩
  | 96 => ⟨S4096x32, .f32⟩
  | 97 => ⟨S4096x5152, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S4096x1024, .f32⟩
  | 108 => ⟨S4096x1024, .f32⟩
  | 109 => ⟨S_, .f32⟩
  | 110 => ⟨S4096, .f32⟩
  | 111 => ⟨S4096x1, .f32⟩
  | 112 => ⟨S4096x1024, .f32⟩
  | 113 => ⟨S4096x1024, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1024, .f32⟩
  | 7 => ⟨S4096x1024, .f32⟩
  | 8 => ⟨S4096x8x644, .f32⟩
  | 9 => ⟨S8x4096x644, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S1024x4096, .f32⟩
  | 18 => ⟨S1024x4096, .bf16⟩
  | 19 => ⟨S8x4096x644, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_18 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]
-- ==== Mla.lean ====
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S4096x8x96 : Shape := ⟨3, ![4096, 8, 96]⟩
abbrev S4096x8x64 : Shape := ⟨3, ![4096, 8, 64]⟩
abbrev S256x8x96 : Shape := ⟨3, ![256, 8, 96]⟩
abbrev S_ : Shape := ⟨0, ![]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S256x8x64 : Shape := ⟨3, ![256, 8, 64]⟩
abbrev S128x8x128 : Shape := ⟨3, ![128, 8, 128]⟩
abbrev S128x8x64 : Shape := ⟨3, ![128, 8, 64]⟩
abbrev S8 : Shape := ⟨1, ![8]⟩
abbrev S1x8x1 : Shape := ⟨3, ![1, 8, 1]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x384 : Shape := ⟨2, ![4096, 384]⟩
abbrev S4096x8x128 : Shape := ⟨3, ![4096, 8, 128]⟩
abbrev S4096x1024 : Shape := ⟨2, ![4096, 1024]⟩
abbrev S4096x8x32 : Shape := ⟨3, ![4096, 8, 32]⟩
abbrev S512x256 : Shape := ⟨2, ![512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S128 : Shape := ⟨1, ![128]⟩

abbrev nBuf : Space → Nat
  | .hbm => 222
  | .vmem => 34
  | .smem => 0
  | _ => 0

abbrev hbmTy0_0 (i : Nat) : BufTy := match i % 128 with
  | 0 => ⟨S4096x256, .f32⟩
  | 1 => ⟨S4096x128, .f32⟩
  | 2 => ⟨S4096x32, .f32⟩
  | 3 => ⟨S4096, .i32⟩
  | 4 => ⟨S1x256, .f32⟩
  | 5 => ⟨S256x768, .f32⟩
  | 6 => ⟨S1x128, .f32⟩
  | 7 => ⟨S128x1024, .f32⟩
  | 8 => ⟨S4096x8x96, .f32⟩
  | 9 => ⟨S4096x8x96, .f32⟩
  | 10 => ⟨S4096x8x64, .f32⟩
  | 11 => ⟨S256x768, .bf16⟩
  | 12 => ⟨S256x8x96, .bf16⟩
  | 13 => ⟨S_, .bf16⟩
  | 14 => ⟨S256x8x32, .bf16⟩
  | 15 => ⟨S256x8x128, .bf16⟩
  | 16 => ⟨S256x1024, .bf16⟩
  | 17 => ⟨S256x8x32, .bf16⟩
  | 18 => ⟨S256x8x16, .bf16⟩
  | 19 => ⟨S256x8x16, .bf16⟩
  | 20 => ⟨S256x8x16, .bf16⟩
  | 21 => ⟨S256x8x32, .bf16⟩
  | 22 => ⟨S_, .bf16⟩
  | 23 => ⟨S256x8x64, .bf16⟩
  | 24 => ⟨S256x8x128, .bf16⟩
  | 25 => ⟨S256x1024, .bf16⟩
  | 26 => ⟨S128x1024, .bf16⟩
  | 27 => ⟨S128x8x128, .bf16⟩
  | 28 => ⟨S_, .bf16⟩
  | 29 => ⟨S128x8x64, .bf16⟩
  | 30 => ⟨S128x8x64, .bf16⟩
  | 31 => ⟨S128x8x128, .bf16⟩
  | 32 => ⟨S128x1024, .bf16⟩
  | 33 => ⟨S128x8x64, .bf16⟩
  | 34 => ⟨S8, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S8, .i32⟩
  | 42 => ⟨S8, .i32⟩
  | 43 => ⟨S_, .i32⟩
  | 44 => ⟨S8, .i32⟩
  | 45 => ⟨S8, .i1⟩
  | 46 => ⟨S_, .i32⟩
  | 47 => ⟨S8, .i32⟩
  | 48 => ⟨S8, .i1⟩
  | 49 => ⟨S_, .i32⟩
  | 50 => ⟨S_, .i1⟩
  | 51 => ⟨S8, .i1⟩
  | 52 => ⟨S8, .i1⟩
  | 53 => ⟨S8, .i1⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S1x8x1, .i1⟩
  | 61 => ⟨S_, .i32⟩
  | 62 => ⟨S_, .bf16⟩
  | 63 => ⟨S128x8x64, .i1⟩
  | 64 => ⟨S128x8x64, .bf16⟩
  | 65 => ⟨S128x8x64, .bf16⟩
  | 66 => ⟨S_, .i32⟩
  | 67 => ⟨S_, .bf16⟩
  | 68 => ⟨S128x8x64, .i1⟩
  | 69 => ⟨S128x8x64, .bf16⟩
  | 70 => ⟨S128x8x64, .bf16⟩
  | 71 => ⟨S128x8x128, .bf16⟩
  | 72 => ⟨S128x1024, .bf16⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S4096, .f32⟩
  | 88 => ⟨S4096x1, .f32⟩
  | 89 => ⟨S1x16, .f32⟩
  | 90 => ⟨S4096x16, .f32⟩
  | 91 => ⟨S4096x16, .f32⟩
  | 92 => ⟨S4096x16, .f32⟩
  | 93 => ⟨S_, .f32⟩
  | 94 => ⟨S4096x64, .f32⟩
  | 95 => ⟨S_, .f32⟩
  | 96 => ⟨S4096x64, .f32⟩
  | 97 => ⟨S_, .f32⟩
  | 98 => ⟨S4096x32, .f32⟩
  | 99 => ⟨S4096x16, .f32⟩
  | 100 => ⟨S4096x16, .f32⟩
  | 101 => ⟨S4096x128, .f32⟩
  | 102 => ⟨S4096x16, .f32⟩
  | 103 => ⟨S4096x16, .f32⟩
  | 104 => ⟨S4096x128, .f32⟩
  | 105 => ⟨S4096x384, .f32⟩
  | 106 => ⟨S4096x384, .bf16⟩
  | 107 => ⟨S8, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S8, .i32⟩
  | 115 => ⟨S8, .i32⟩
  | 116 => ⟨S_, .i32⟩
  | 117 => ⟨S8, .i32⟩
  | 118 => ⟨S8, .i1⟩
  | 119 => ⟨S_, .i32⟩
  | 120 => ⟨S8, .i32⟩
  | 121 => ⟨S8, .i1⟩
  | 122 => ⟨S_, .i32⟩
  | 123 => ⟨S_, .i1⟩
  | 124 => ⟨S8, .i1⟩
  | 125 => ⟨S8, .i1⟩
  | 126 => ⟨S8, .i1⟩
  | 127 => ⟨S8, .i32⟩
  | _ => ⟨S4096x256, .f32⟩

abbrev hbmTy0_1 (i : Nat) : BufTy := match i % 128 with
  | 0 => ⟨S8, .i32⟩
  | 1 => ⟨S8, .i32⟩
  | 2 => ⟨S_, .i32⟩
  | 3 => ⟨S8, .i32⟩
  | 4 => ⟨S8, .i1⟩
  | 5 => ⟨S1x8x1, .i1⟩
  | 6 => ⟨S_, .i32⟩
  | 7 => ⟨S_, .f32⟩
  | 8 => ⟨S4096x8x64, .i1⟩
  | 9 => ⟨S4096x8x64, .f32⟩
  | 10 => ⟨S4096x8x64, .f32⟩
  | 11 => ⟨S_, .i32⟩
  | 12 => ⟨S_, .f32⟩
  | 13 => ⟨S4096x8x64, .i1⟩
  | 14 => ⟨S4096x8x64, .f32⟩
  | 15 => ⟨S4096x8x64, .f32⟩
  | 16 => ⟨S4096x8x128, .f32⟩
  | 17 => ⟨S4096x1024, .f32⟩
  | 18 => ⟨S_, .f32⟩
  | 19 => ⟨S4096x8x32, .f32⟩
  | 20 => ⟨S4096x8x128, .f32⟩
  | 21 => ⟨S4096x1024, .f32⟩
  | 22 => ⟨S_, .f32⟩
  | 23 => ⟨S4096x8x32, .f32⟩
  | 24 => ⟨S4096x8x128, .f32⟩
  | 25 => ⟨S4096x1024, .f32⟩
  | 26 => ⟨S4096x256, .bf16⟩
  | 27 => ⟨S4096x128, .bf16⟩
  | 28 => ⟨S4096x128, .bf16⟩
  | 29 => ⟨S4096x128, .bf16⟩
  | 30 => ⟨S256x1024, .f32⟩
  | 31 => ⟨S256x1024, .f32⟩
  | 32 => ⟨S128x1024, .f32⟩
  | 33 => ⟨S128x1024, .f32⟩
  | 34 => ⟨S1x256, .f32⟩
  | 35 => ⟨S1x128, .f32⟩
  | 36 => ⟨S4096x128, .f32⟩
  | 37 => ⟨S4096x128, .f32⟩
  | 38 => ⟨S4096x32, .f32⟩
  | 39 => ⟨S4096x16, .f32⟩
  | 40 => ⟨S4096x16, .f32⟩
  | 41 => ⟨S4096x16, .f32⟩
  | 42 => ⟨S4096x32, .f32⟩
  | 43 => ⟨S4096x32, .f32⟩
  | 44 => ⟨S4096x256, .f32⟩
  | 45 => ⟨S4096x128, .f32⟩
  | 46 => ⟨S256x8x128, .f32⟩
  | 47 => ⟨S256x8x128, .f32⟩
  | 48 => ⟨S256x8x32, .f32⟩
  | 49 => ⟨S256x8x32, .f32⟩
  | 50 => ⟨S256x8x16, .f32⟩
  | 51 => ⟨S256x8x16, .f32⟩
  | 52 => ⟨S256x8x16, .f32⟩
  | 53 => ⟨S256x8x32, .f32⟩
  | 54 => ⟨S256x8x32, .f32⟩
  | 55 => ⟨S256x8x64, .f32⟩
  | 56 => ⟨S256x8x96, .f32⟩
  | 57 => ⟨S256x768, .f32⟩
  | 58 => ⟨S128x8x128, .f32⟩
  | 59 => ⟨S128x8x64, .f32⟩
  | 60 => ⟨S128x8x128, .f32⟩
  | 61 => ⟨S8, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S8, .i32⟩
  | 69 => ⟨S8, .i32⟩
  | 70 => ⟨S_, .i32⟩
  | 71 => ⟨S8, .i32⟩
  | 72 => ⟨S8, .i1⟩
  | 73 => ⟨S_, .i32⟩
  | 74 => ⟨S8, .i32⟩
  | 75 => ⟨S8, .i1⟩
  | 76 => ⟨S_, .i32⟩
  | 77 => ⟨S_, .i1⟩
  | 78 => ⟨S8, .i1⟩
  | 79 => ⟨S8, .i1⟩
  | 80 => ⟨S8, .i1⟩
  | 81 => ⟨S8, .i32⟩
  | 82 => ⟨S8, .i32⟩
  | 83 => ⟨S8, .i32⟩
  | 84 => ⟨S_, .i32⟩
  | 85 => ⟨S8, .i32⟩
  | 86 => ⟨S8, .i1⟩
  | 87 => ⟨S1x8x1, .i1⟩
  | 88 => ⟨S128x8x64, .f32⟩
  | 89 => ⟨S128x8x64, .f32⟩
  | 90 => ⟨S128x8x64, .i1⟩
  | 91 => ⟨S128x8x64, .f32⟩
  | 92 => ⟨S128x8x128, .f32⟩
  | 93 => ⟨S128x1024, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x256, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S128x1024, .bf16⟩
  | .local _ .vmem, ⟨19, _⟩ => ⟨S128x1024, .bf16⟩
  | .local _ .vmem, ⟨20, _⟩ => ⟨S512x256, .bf16⟩
  | .local _ .vmem, ⟨21, _⟩ => ⟨S512x256, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S256x1024, .f32⟩
  | .local _ .vmem, ⟨29, _⟩ => ⟨S256x1024, .f32⟩
  | .local _ .vmem, ⟨30, _⟩ => ⟨S128x1024, .f32⟩
  | .local _ .vmem, ⟨31, _⟩ => ⟨S128x1024, .f32⟩
  | .local _ .vmem, ⟨32, _⟩ => ⟨S1x256, .f32⟩
  | .local _ .vmem, ⟨33, _⟩ => ⟨S1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v21 : Ref sig .tc := ⟨.hbm, 56, rfl⟩
abbrev main_c_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v25 : Ref sig .tc := ⟨.hbm, 65, rfl⟩
abbrev main_c_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_5 : Ref sig .tc := ⟨.hbm, 74, rfl⟩
abbrev main_v30 : Ref sig .tc := ⟨.hbm, 75, rfl⟩
abbrev main_v31 : Ref sig .tc := ⟨.hbm, 76, rfl⟩
abbrev main_cst_6 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_7 : Ref sig .tc := ⟨.hbm, 81, rfl⟩
abbrev main_v35 : Ref sig .tc := ⟨.hbm, 82, rfl⟩
abbrev main_v36 : Ref sig .tc := ⟨.hbm, 83, rfl⟩
abbrev main_cst_8 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_9 : Ref sig .tc := ⟨.hbm, 93, rfl⟩
abbrev main_v45 : Ref sig .tc := ⟨.hbm, 94, rfl⟩
abbrev main_cst_10 : Ref sig .tc := ⟨.hbm, 95, rfl⟩
abbrev main_v46 : Ref sig .tc := ⟨.hbm, 96, rfl⟩
abbrev main_cst_11 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_12 : Ref sig .tc := ⟨.hbm, 108, rfl⟩
abbrev main_call3_v0 : Ref sig .tc := ⟨.hbm, 109, rfl⟩
abbrev main_call3_c : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_c_1 : Ref sig .tc := ⟨.hbm, 116, rfl⟩
abbrev main_call3_v5 : Ref sig .tc := ⟨.hbm, 117, rfl⟩
abbrev main_call3_v6 : Ref sig .tc := ⟨.hbm, 118, rfl⟩
abbrev main_call3_c_2 : Ref sig .tc := ⟨.hbm, 119, rfl⟩
abbrev main_call3_v7 : Ref sig .tc := ⟨.hbm, 120, rfl⟩
abbrev main_call3_v8 : Ref sig .tc := ⟨.hbm, 121, rfl⟩
abbrev main_call3_c_3 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_v57 : Ref sig .tc := ⟨.hbm, 129, rfl⟩
abbrev main_c_13 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_c_14 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v61 : Ref sig .tc := ⟨.hbm, 138, rfl⟩
abbrev main_c_15 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_cst_16 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_cst_17 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71_0 : Ref sig .tc := ⟨.hbm, 154, rfl⟩
abbrev main_v71_1 : Ref sig .tc := ⟨.hbm, 155, rfl⟩
abbrev main_v71_2 : Ref sig .tc := ⟨.hbm, 156, rfl⟩
abbrev main_v71_3 : Ref sig .tc := ⟨.hbm, 157, rfl⟩
abbrev main_v71_4 : Ref sig .tc := ⟨.hbm, 158, rfl⟩
abbrev main_v71_5 : Ref sig .tc := ⟨.hbm, 159, rfl⟩
abbrev main_v71_6 : Ref sig .tc := ⟨.hbm, 160, rfl⟩
abbrev main_v71_7 : Ref sig .tc := ⟨.hbm, 161, rfl⟩
abbrev main_v71_8 : Ref sig .tc := ⟨.hbm, 162, rfl⟩
abbrev main_v71_9 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_c_18 : Ref sig .tc := ⟨.hbm, 190, rfl⟩
abbrev main_call6_v0 : Ref sig .tc := ⟨.hbm, 191, rfl⟩
abbrev main_call6_c : Ref sig .tc := ⟨.hbm, 192, rfl⟩
abbrev main_call6_v1 : Ref sig .tc := ⟨.hbm, 193, rfl⟩
abbrev main_call6_c_0 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_c_1 : Ref sig .tc := ⟨.hbm, 198, rfl⟩
abbrev main_call6_v5 : Ref sig .tc := ⟨.hbm, 199, rfl⟩
abbrev main_call6_v6 : Ref sig .tc := ⟨.hbm, 200, rfl⟩
abbrev main_call6_c_2 : Ref sig .tc := ⟨.hbm, 201, rfl⟩
abbrev main_call6_v7 : Ref sig .tc := ⟨.hbm, 202, rfl⟩
abbrev main_call6_v8 : Ref sig .tc := ⟨.hbm, 203, rfl⟩
abbrev main_call6_c_3 : Ref sig .tc := ⟨.hbm, 204, rfl⟩
abbrev main_call6_v9 : Ref sig .tc := ⟨.hbm, 205, rfl⟩
abbrev main_call6_v10 : Ref sig .tc := ⟨.hbm, 206, rfl⟩
abbrev main_call6_v11 : Ref sig .tc := ⟨.hbm, 207, rfl⟩
abbrev main_call6_v12 : Ref sig .tc := ⟨.hbm, 208, rfl⟩
abbrev main_call6_v13 : Ref sig .tc := ⟨.hbm, 209, rfl⟩
abbrev main_call6_v14 : Ref sig .tc := ⟨.hbm, 210, rfl⟩
abbrev main_v98 : Ref sig .tc := ⟨.hbm, 211, rfl⟩
abbrev main_c_19 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_call7_v0 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v138 : BitVec 32 := Scalar.extui v0
  let c0_i32_52 : BitVec 32 := 0#32
  let v139 : BitVec 1 := Scalar.cmpi .ne v138 c0_i32_52
  v139

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v140 : BitVec 1 := Scalar.xori v0 v_true
  let v141 : BitVec 32 := Scalar.extui v140
  let c0_i32_53 : BitVec 32 := 0#32
  let v142 : BitVec 1 := Scalar.cmpi .ne v141 c0_i32_53
  v142

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v143 : BitVec 32 := Scalar.extui v0
  let c0_i32_54 : BitVec 32 := 0#32
  let v144 : BitVec 1 := Scalar.cmpi .ne v143 c0_i32_54
  v144

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_55 : BitVec 1 := 1#1
  let v145 : BitVec 1 := Scalar.xori v0 true_55
  let v146 : BitVec 32 := Scalar.extui v145
  let c0_i32_56 : BitVec 32 := 0#32
  let v147 : BitVec 1 := Scalar.cmpi .ne v146 c0_i32_56
  v147

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v148 : BitVec 32 := Scalar.extui v0
  let c0_i32_57 : BitVec 32 := 0#32
  let v149 : BitVec 1 := Scalar.cmpi .ne v148 c0_i32_57
  v149

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_58 : BitVec 1 := 1#1
  let v150 : BitVec 1 := Scalar.xori v0 true_58
  let v151 : BitVec 32 := Scalar.extui v150
  let c0_i32_59 : BitVec 32 := 0#32
  let v152 : BitVec 1 := Scalar.cmpi .ne v151 c0_i32_59
  v152

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v153 : BitVec 32 := Scalar.extui v0
  let c0_i32_60 : BitVec 32 := 0#32
  let v154 : BitVec 1 := Scalar.cmpi .ne v153 c0_i32_60
  v154

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_61 : BitVec 1 := 1#1
  let v155 : BitVec 1 := Scalar.xori v0 true_61
  let v156 : BitVec 32 := Scalar.extui v155
  let c0_i32_62 : BitVec 32 := 0#32
  let v157 : BitVec 1 := Scalar.cmpi .ne v156 c0_i32_62
  v157

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v158 : BitVec 32 := Scalar.extui v0
  let c0_i32_63 : BitVec 32 := 0#32
  let v159 : BitVec 1 := Scalar.cmpi .ne v158 c0_i32_63
  v159

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_64 : BitVec 1 := 1#1
  let v160 : BitVec 1 := Scalar.xori v0 true_64
  let v161 : BitVec 32 := Scalar.extui v160
  let c0_i32_65 : BitVec 32 := 0#32
  let v162 : BitVec 1 := Scalar.cmpi .ne v161 c0_i32_65
  v162

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v163 : BitVec 32 := Scalar.extui v0
  let c0_i32_66 : BitVec 32 := 0#32
  let v164 : BitVec 1 := Scalar.cmpi .ne v163 c0_i32_66
  v164

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_67 : BitVec 1 := 1#1
  let v165 : BitVec 1 := Scalar.xori v0 true_67
  let v166 : BitVec 32 := Scalar.extui v165
  let c0_i32_68 : BitVec 32 := 0#32
  let v167 : BitVec 1 := Scalar.cmpi .ne v166 c0_i32_68
  v167

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MlaRefIdeal.lean ====
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S4096x8x96 : Shape := ⟨3, ![4096, 8, 96]⟩
abbrev S4096x8x64 : Shape := ⟨3, ![4096, 8, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x768 : Shape := ⟨2, ![4096, 768]⟩
abbrev S4096x1024 : Shape := ⟨2, ![4096, 1024]⟩
abbrev S4096x8x128 : Shape := ⟨3, ![4096, 8, 128]⟩
abbrev S4096x8x32 : Shape := ⟨3, ![4096, 8, 32]⟩
abbrev S4096x8x16 : Shape := ⟨3, ![4096, 8, 16]⟩
abbrev S4096x1x32 : Shape := ⟨3, ![4096, 1, 32]⟩
abbrev S1024x128 : Shape := ⟨2, ![1024, 128]⟩
abbrev S128 : Shape := ⟨1, ![128]⟩
abbrev S768x256 : Shape := ⟨2, ![768, 256]⟩
abbrev S256 : Shape := ⟨1, ![256]⟩

abbrev nBuf : Space → Nat
  | .hbm => 196
  | .vmem => 0
  | .smem => 0
  | _ => 0

abbrev hbmTy0_0 (i : Nat) : BufTy := match i % 128 with
  | 0 => ⟨S4096x256, .f32⟩
  | 1 => ⟨S4096x128, .f32⟩
  | 2 => ⟨S4096x32, .f32⟩
  | 3 => ⟨S4096, .i32⟩
  | 4 => ⟨S1x256, .f32⟩
  | 5 => ⟨S256x768, .f32⟩
  | 6 => ⟨S1x128, .f32⟩
  | 7 => ⟨S128x1024, .f32⟩
  | 8 => ⟨S4096x8x96, .f32⟩
  | 9 => ⟨S4096x8x96, .f32⟩
  | 10 => ⟨S4096x8x64, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4096, .f32⟩
  | 26 => ⟨S4096x1, .f32⟩
  | 27 => ⟨S1x16, .f32⟩
  | 28 => ⟨S4096x16, .f32⟩
  | 29 => ⟨S4096x16, .f32⟩
  | 30 => ⟨S4096x16, .f32⟩
  | 31 => ⟨S4096x16, .f32⟩
  | 32 => ⟨S4096x1x16, .f32⟩
  | 33 => ⟨S4096x16, .f32⟩
  | 34 => ⟨S4096x1x16, .f32⟩
  | 35 => ⟨S4096x256, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S4096x256, .f32⟩
  | 53 => ⟨S4096x256, .f32⟩
  | 54 => ⟨S4096x768, .f32⟩
  | 55 => ⟨S4096x8x96, .f32⟩
  | 56 => ⟨S4096x128, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x128, .f32⟩
  | 72 => ⟨S4096x128, .f32⟩
  | 73 => ⟨S4096x128, .f32⟩
  | 74 => ⟨S4096x128, .f32⟩
  | 75 => ⟨S4096x1024, .f32⟩
  | 76 => ⟨S4096x8x128, .f32⟩
  | 77 => ⟨S4096x8x64, .f32⟩
  | 78 => ⟨S4096x8x32, .f32⟩
  | 79 => ⟨S4096x8x64, .f32⟩
  | 80 => ⟨S4096x8x64, .f32⟩
  | 81 => ⟨S4096x8x16, .f32⟩
  | 82 => ⟨S4096x8x16, .f32⟩
  | 83 => ⟨S4096x8x16, .f32⟩
  | 84 => ⟨S4096x8x16, .f32⟩
  | 85 => ⟨S4096x8x16, .f32⟩
  | 86 => ⟨S4096x8x16, .f32⟩
  | 87 => ⟨S4096x8x16, .f32⟩
  | 88 => ⟨S4096x8x16, .f32⟩
  | 89 => ⟨S4096x8x16, .f32⟩
  | 90 => ⟨S4096x8x16, .f32⟩
  | 91 => ⟨S4096x8x16, .f32⟩
  | 92 => ⟨S4096x8x16, .f32⟩
  | 93 => ⟨S4096x8x32, .f32⟩
  | 94 => ⟨S4096x1x32, .f32⟩
  | 95 => ⟨S4096x1x16, .f32⟩
  | 96 => ⟨S4096x1x16, .f32⟩
  | 97 => ⟨S4096x1x16, .f32⟩
  | 98 => ⟨S4096x1x16, .f32⟩
  | 99 => ⟨S4096x1x16, .f32⟩
  | 100 => ⟨S4096x1x16, .f32⟩
  | 101 => ⟨S4096x1x16, .f32⟩
  | 102 => ⟨S4096x1x16, .f32⟩
  | 103 => ⟨S4096x1x32, .f32⟩
  | 104 => ⟨S4096x8x96, .f32⟩
  | 105 => ⟨S4096x8x32, .f32⟩
  | 106 => ⟨S4096x8x96, .f32⟩
  | 107 => ⟨S4096x8x64, .f32⟩
  | 108 => ⟨S4096x8x32, .f32⟩
  | 109 => ⟨S_, .f32⟩
  | 110 => ⟨S4096x32, .f32⟩
  | 111 => ⟨S4096x1x32, .f32⟩
  | 112 => ⟨S4096x8x64, .f32⟩
  | 113 => ⟨S4096x8x32, .f32⟩
  | 114 => ⟨S4096x1x16, .f32⟩
  | 115 => ⟨S4096x1x16, .f32⟩
  | 116 => ⟨S4096x1x16, .f32⟩
  | 117 => ⟨S4096x1x16, .f32⟩
  | 118 => ⟨S4096x1x16, .f32⟩
  | 119 => ⟨S4096x1x16, .f32⟩
  | 120 => ⟨S4096x1x16, .f32⟩
  | 121 => ⟨S4096x1x16, .f32⟩
  | 122 => ⟨S4096x1x16, .f32⟩
  | 123 => ⟨S4096x1x32, .f32⟩
  | 124 => ⟨S_, .f32⟩
  | 125 => ⟨S4096x32, .f32⟩
  | 126 => ⟨S4096x8x16, .f32⟩
  | 127 => ⟨S4096x8x16, .f32⟩
  | _ => ⟨S4096x256, .f32⟩

abbrev hbmTy0_1 (i : Nat) : BufTy := match i % 128 with
  | 0 => ⟨S4096x8x16, .f32⟩
  | 1 => ⟨S4096x8x16, .f32⟩
  | 2 => ⟨S4096x8x16, .f32⟩
  | 3 => ⟨S4096x8x16, .f32⟩
  | 4 => ⟨S4096x8x16, .f32⟩
  | 5 => ⟨S4096x8x16, .f32⟩
  | 6 => ⟨S4096x8x16, .f32⟩
  | 7 => ⟨S4096x8x16, .f32⟩
  | 8 => ⟨S4096x8x16, .f32⟩
  | 9 => ⟨S4096x8x16, .f32⟩
  | 10 => ⟨S4096x8x16, .f32⟩
  | 11 => ⟨S4096x8x32, .f32⟩
  | 12 => ⟨S4096x8x128, .f32⟩
  | 13 => ⟨S4096x8x96, .f32⟩
  | 14 => ⟨S4096x1024, .f32⟩
  | 15 => ⟨S1024x128, .f32⟩
  | 16 => ⟨S128x1024, .f32⟩
  | 17 => ⟨S4096x128, .f32⟩
  | 18 => ⟨S4096x128, .f32⟩
  | 19 => ⟨S_, .f32⟩
  | 20 => ⟨S128, .f32⟩
  | 21 => ⟨S1x128, .f32⟩
  | 22 => ⟨S4096x128, .f32⟩
  | 23 => ⟨S4096x128, .f32⟩
  | 24 => ⟨S4096x128, .f32⟩
  | 25 => ⟨S_, .f32⟩
  | 26 => ⟨S4096, .f32⟩
  | 27 => ⟨S4096x1, .f32⟩
  | 28 => ⟨S4096x128, .f32⟩
  | 29 => ⟨S4096x128, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x128, .f32⟩
  | 37 => ⟨S4096x128, .f32⟩
  | 38 => ⟨S4096x128, .f32⟩
  | 39 => ⟨S4096x128, .f32⟩
  | 40 => ⟨S4096x128, .f32⟩
  | 41 => ⟨S4096x768, .f32⟩
  | 42 => ⟨S768x256, .f32⟩
  | 43 => ⟨S256x768, .f32⟩
  | 44 => ⟨S4096x256, .f32⟩
  | 45 => ⟨S4096x256, .f32⟩
  | 46 => ⟨S_, .f32⟩
  | 47 => ⟨S256, .f32⟩
  | 48 => ⟨S1x256, .f32⟩
  | 49 => ⟨S4096x256, .f32⟩
  | 50 => ⟨S4096x256, .f32⟩
  | 51 => ⟨S4096x256, .f32⟩
  | 52 => ⟨S_, .f32⟩
  | 53 => ⟨S4096, .f32⟩
  | 54 => ⟨S4096x1, .f32⟩
  | 55 => ⟨S4096x256, .f32⟩
  | 56 => ⟨S4096x256, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_13 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_14 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_15 : Ref sig .tc := ⟨.hbm, 159, rfl⟩
abbrev main_v132 : Ref sig .tc := ⟨.hbm, 160, rfl⟩
abbrev main_v133 : Ref sig .tc := ⟨.hbm, 161, rfl⟩
abbrev main_cst_16 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_17 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_18 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_19 : Ref sig .tc := ⟨.hbm, 186, rfl⟩
abbrev main_v155 : Ref sig .tc := ⟨.hbm, 187, rfl⟩
abbrev main_v156 : Ref sig .tc := ⟨.hbm, 188, rfl⟩
abbrev main_cst_20 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩

abbrev nD : Nat := 1
abbrev τ : Topo := Topo.v7x

variable {F : FTy → Type} [FloatOps F]
-- ==== Proof.Ada.lean ====
/- The gradient of the modulation weight: the kernel's product of `silu(c)` transposed with the cotangent is the
   derivative of `w ↦ silu(c) @ w`, index by index, whatever the arguments hold. -/
module

public import proofs.«01_k».proof.Defs
public import proofs.«01_k».proof.Proof.Gen.Ada.Frame
public import proofs.«01_k».proof.Proof.Gen.AdaIdeal.Value
public import proofs.«01_k».proof.Proof.Gen.AdaRefIdeal.Run
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Ada.Mine

open Idealize.ShloMosaic Idealize.SL.Sem

/-- The reference's frame: its run, and no semaphore is declared. -/
theorem frame_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- Both programs leave `∑ b, silu(c[b, i]) * ct[b, j]`. -/
theorem value : Cert.algebraic_AdaIdeal_AdaRefIdeal := by
  intro m ρ m' ρ' _ hagree
  refine ⟨_, Cert.AdaIdeal.Value.run (F := Ideal) m ρ, ?_⟩
  refine (θ_run Cert.AdaRefIdeal.defs _ _).mono (fun _ h c => ⟨?_, (h c).2⟩) (Cert.AdaRefIdeal.Value.run (F := Ideal) m' ρ')
  rw [(h c).1]
  simp only [hagree c]
  funext i
  pointwise [Cert.AdaIdeal.Value.G2, Cert.AdaIdeal.Gen.k0_pay1]
  refine Finset.sum_congr rfl fun b _ => ?_
  rw [mul_comm, zero_sub]

end Cert.Ada.Mine

end
-- ==== Proof.Adw.lean ====
/- One optimiser step on the modulation weight: the kernel copies weight and moments in, updates and stores; the
   reference is the same step in plain array operations. -/
module

public import proofs.«01_k».proof.Defs
public import proofs.«01_k».proof.Proof.Gen.Adw.Frame
public import proofs.«01_k».proof.Proof.Gen.AdwIdeal.Value
public import proofs.«01_k».proof.Proof.Gen.AdwRefIdeal.Run
public import Idealize.ShloMosaic.Lib.Quiescent
public import Idealize.ShloMosaic.Lib.VecWindow
public import Idealize.ShloMosaic.Lib.Pointwise
public import Idealize.ShloMosaic.Lib.Claim
public import Idealize.ShloMosaic.Lib.Pipeline.ValueKit

@[expose] public section

noncomputable section

namespace Cert.Adw.Mine

open Idealize.ShloMosaic Idealize.SL.Sem

/-- The reference's frame: its run, and no semaphore is declared. -/
theorem frame_reference : Cert.quiescent_AdwRefIdeal := fun m ρ _ =>
  (θ_run Cert.AdwRefIdeal.defs _ _).mono (fun r h => ⟨fun c => (h c).2.2.2.2, sem_eq_zero_of_no_sems (by decide) r.2⟩)
    (Cert.AdwRefIdeal.Value.run (F := Ideal) m ρ)

open Cert.AdwIdeal Cert.AdwIdeal.Gen Idealize.ShloMosaic.TcCoe

/-- A scratch buffer filled by one whole copy and then loaded whole holds what was copied. -/
theorem staged (a : Memref sig .tc .vmem S1x1024x384 .f32) (w : S1x1024x384.Idx → Elt Ideal .f32) (inb) :
    a.view.readCov [(⟨Rect.whole S1x1024x384, w⟩ : View.Piece (Elt Ideal) S1x1024x384 .f32)] (Rect.unit ![0, 0, 0] ![1, 1024, 384] inb).toLoadRect = w :=
  View.readCov_full (s := S1x1024x384) a.view _ _ w []

section Body
variable (c : Dev nD) (arg0 : Memref sig .tc .vmem S1x1024x384 .f32) (harg0 : arg0.IsWhole)
  (arg4 : Memref sig .tc .vmem S1x1024x384 .f32) (harg4 : arg4.IsWhole)
  (arg5 : Memref sig .tc .vmem S1x1024x384 .f32) (harg5 : arg5.IsWhole)
  (arg6 : Memref sig .tc .vmem S1x1024x384 .f32) (harg6 : arg6.IsWhole)
  (arg7 : Memref sig .tc .vmem S1x1024x384 .f32) (harg7 : arg7.IsWhole)
  (arg8 : Memref sig .tc .vmem S1x1024x384 .f32) (harg8 : arg8.IsWhole)
  (arg9 : Memref sig .tc .vmem S1x1024x384 .f32) (harg9 : arg9.IsWhole)
  (arg10 : Memref sig .tc .vmem S1x1024x384 .f32) (harg10 : arg10.IsWhole)
  (x0 : Vec Ideal S1x1024x384 .f32) (fh0 : HbBuf0 (F := Ideal) c hbM0_0) (fh1 : HbBuf0 (F := Ideal) c hbM0_1) (fh2 : HbBuf0 (F := Ideal) c hbM0_2)

/-- The gradient's output, the update's, and the two moments': the body's own terms of the four arrays. -/
theorem out1 : out0_A_1 c arg0 harg0 arg4 harg4 arg5 harg5 arg6 harg6 arg7 harg7 arg8 harg8 arg9 harg9 arg10 harg10 x0 fh0 fh1 fh2 = k0_pay6 x0 := by
  frame_out
@[inherit_doc out1]
theorem out2 : out0_A_2 c arg0 harg0 arg4 harg4 arg5 harg5 arg6 harg6 arg7 harg7 arg8 harg8 arg9 harg9 arg10 harg10 x0 fh0 fh1 fh2 = k0_pay2 (F := Ideal) (k0_pay5 x0) (k0_pay7 fh0) (k0_pay8 fh2) (k0_pay9 x0 fh1) k0_pay10 := by
  frame_out
  rw [staged arg8, staged arg9, staged arg10]
  rfl
@[inherit_doc out1]
theorem out3 : out0_A_3 c arg0 harg0 arg4 harg4 arg5 harg5 arg6 harg6 arg7 harg7 arg8 harg8 arg9 harg9 arg10 harg10 x0 fh0 fh1 fh2 = k0_pay3 (F := Ideal) (k0_pay9 x0 fh1) := by
  frame_out
  rw [staged arg9]
  rfl
@[inherit_doc out1]
theorem out4 : out0_A_4 c arg0 harg0 arg4 harg4 arg5 harg5 arg6 harg6 arg7 harg7 arg8 harg8 arg9 harg9 arg10 harg10 x0 fh0 fh1 fh2 = k0_pay4 (F := Ideal) (k0_pay5 x0) (k0_pay8 fh2) k0_pay10 := by
  frame_out
  rw [staged arg10]
  rfl
end Body

variable (m : (ℓ : Loc nD τ sig) → Buf (Elt Ideal) ℓ) (c : Dev nD)

/-- The one block of the gradient is the whole array. -/
theorem iblk_eq (t : Fin cfg0.N) : iblk m c 0 t = m ((c : Thread nD τ).loc main_arg0) := by
  have ht : ∀ t : Fin cfg0.N, ∀ a, win0_0.index t a = 0 := by decide +kernel
  funext y
  show V m c main_arg0 _ = m ((c : Thread nD τ).loc main_arg0) y
  rw [V_main_arg0]
  refine congrArg (m ((c : Thread nD τ).loc main_arg0)) (funext fun a => Fin.ext ?_)
  refine (win0_0.rect_emb_val t y a).trans ?_
  rw [ht t a, Nat.zero_mul, Nat.zero_add]

/-- Every output's one block is its whole array. -/
theorem whole_out (t : Fin cfg0.N) (a : Fin 3) : win0_1.index t a = 0 ∧ win0_2.index t a = 0 ∧ win0_3.index t a = 0 ∧ win0_4.index t a = 0 :=
  (by decide +kernel : ∀ (t : Fin cfg0.N) (a : Fin 3), win0_1.index t a = 0 ∧ win0_2.index t a = 0 ∧ win0_3.index t a = 0 ∧ win0_4.index t a = 0) t a

/-- What the gradient's array holds after the run; -/
theorem final1 : (dats m 0 c).arrAt 1 cfg0.N = k0_pay6 (F := Ideal) (m ((c : Thread nD τ).loc main_arg0)) := by
  refine (dats m 0 c).arrAt_eq_of_covers 1 _ (by decide +kernel) fun t hf y => ?_
  blk_simp
  rw [after0_1]
  unfold outsAt0
  rw [out1, iblk_eq]
  refine congrArg _ (funext fun a => Fin.ext ?_)
  refine ((win0_1.rect_emb_val t y a).trans ?_).symm
  rw [(whole_out t a).1, Nat.zero_mul, Nat.zero_add]
/-- the update's; -/
theorem final2 : (dats m 0 c).arrAt 2 cfg0.N = k0_pay2 (F := Ideal) (k0_pay5 (m ((c : Thread nD τ).loc main_arg0))) (k0_pay7 (m ((c : Thread nD τ).loc main_arg1))) (k0_pay8 (m ((c : Thread nD τ).loc main_arg3))) (k0_pay9 (m ((c : Thread nD τ).loc main_arg0)) (m ((c : Thread nD τ).loc main_arg2))) k0_pay10 := by
  refine (dats m 0 c).arrAt_eq_of_covers 2 _ (by decide +kernel) fun t hf y => ?_
  blk_simp
  rw [after0_2]
  unfold outsAt0
  rw [out2, iblk_eq]
  refine congrArg _ (funext fun a => Fin.ext ?_)
  refine ((win0_2.rect_emb_val t y a).trans ?_).symm
  rw [(whole_out t a).2.1, Nat.zero_mul, Nat.zero_add]
/-- the first moment's; -/
theorem final3 : (dats m 0 c).arrAt 3 cfg0.N = k0_pay3 (F := Ideal) (k0_pay9 (m ((c : Thread nD τ).loc main_arg0)) (m ((c : Thread nD τ).loc main_arg2))) := by
  refine (dats m 0 c).arrAt_eq_of_covers 3 _ (by decide +kernel) fun t hf y => ?_
  blk_simp
  rw [after0_3]
  unfold outsAt0
  rw [out3, iblk_eq]
  refine congrArg _ (funext fun a => Fin.ext ?_)
  refine ((win0_3.rect_emb_val t y a).trans ?_).symm
  rw [(whole_out t a).2.2.1, Nat.zero_mul, Nat.zero_add]
/-- the second moment's. -/
theorem final4 : (dats m 0 c).arrAt 4 cfg0.N = k0_pay4 (F := Ideal) (k0_pay5 (m ((c : Thread nD τ).loc main_arg0))) (k0_pay8 (m ((c : Thread nD τ).loc main_arg3))) k0_pay10 := by
  refine (dats m 0 c).arrAt_eq_of_covers 4 _ (by decide +kernel) fun t hf y => ?_
  blk_simp
  rw [after0_4]
  unfold outsAt0
  rw [out4, iblk_eq]
  refine congrArg _ (funext fun a => Fin.ext ?_)
  refine ((win0_4.rect_emb_val t y a).trans ?_).symm
  rw [(whole_out t a).2.2.2, Nat.zero_mul, Nat.zero_add]

/-- Both programs leave the gradient, the update and the two moments. -/
theorem value : Cert.algebraic_AdwIdeal_AdwRefIdeal := by
  intro m ρ m' ρ' _ hagree
  refine ⟨_, _, _, _, Cert.AdwIdeal.Value.run_blocks (F := Ideal) m ρ, ?_⟩
  refine (θ_run Cert.AdwRefIdeal.defs _ _).mono (fun _ h c => ?_) (Cert.AdwRefIdeal.Value.run (F := Ideal) m' ρ')
  obtain ⟨h0, h1, h2, h3, h4⟩ := h c
  obtain ⟨a0, a1, a2, a3⟩ := hagree c
  refine ⟨h0.trans ?_, h1.trans ?_, h2.trans ?_, h3.trans ?_, h4⟩
  · rw [final1, a0]
    funext i
    pointwise [k0_pay6, k0_pay5]
  · rw [final2, a0, a1, a2, a3]
    funext i
    pointwise [k0_pay2, k0_pay1, k0_pay5, k0_pay7, k0_pay8, k0_pay9, k0_pay10]
  · rw [final3, a0, a2]
    funext i
    pointwise [k0_pay3, k0_pay5, k0_pay9]
  · rw [final4, a0, a3]
    funext i
    pointwise [k0_pay4, k0_pay1, k0_pay5, k0_pay8, k0_pay10]

end Cert.Adw.Mine

end
-- ==== Proof.AttnFrame.lean ====
module
public import proofs.«01_k».proof.Proof.Gen.Attn.Frame
public import proofs.«01_k».proof.Proof.Gen.Attn.Loops
public import Idealize.ShloMosaic.Lib.Claim
public import proofs.«01_k».proof.Defs
@[expose] public section
set_option maxRecDepth 16384
noncomputable section
/-!
The backward attention at the machine's floats: it ends, with its arguments as they were. What its three results hold
is not followed here, so the same run serves the grid points that clear the query gradient and those that add to it.
-/
namespace Cert.AttnFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.Attn.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option maxHeartbeats 4000000 in
/-- The body leaves its six inputs as they were, and its three outputs at something. -/
theorem body_runs (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x256 .f32) (harg10 : arg10.IsWhole)
    (x0 : Vec F S4096x256 .bf16) (x1 : Vec F S512x256 .bf16) (x2 : Vec F S512x256 .bf16) (x3 : Vec F S4096x128 .f32) (x4 : Vec F S4096x128 .f32) (x5 : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attention_backward i arg2 harg2 arg3 harg3 arg4 harg4 arg5 harg5 arg6 harg6 arg7 harg7 arg8 harg8 arg9 harg9 arg10 harg10) K := by
  simp only [cc0_attention_backward_eq_skeleton]; unfold cc0_attention_backward_skel
  simp only [k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  by_cases hc : (Scalar.cmpi .ne (Scalar.extui (Scalar.cmpi .eq (BitVec.ofNat 32 (i 1).val) 0#32)) 0#32) = 1#1
  all_goals
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The windows whose contents are not followed: the three gradients. -/
def loose : Fin 9 → Bool := fun w => decide (6 ≤ w.val)

/-- The pipeline's proof data: each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

/-- The pipeline's obligation, at every point. -/
theorem body_obligation (c : Dev nD) : BodyObligation (dats (F := F) m 0 c) (defs₀ (F := F)) Variants.none () Set.univ loose := fun t => by
  rw [bigSep_W0, bigSep_W0, defs₀_row]
  exact triple_restated (sound_body m c t) rfl .rfl fun _ => .rfl

/-- What the host lines after the kernel write. -/
def written : Finset (Ref sig .tc) := {main_call5_v0, main_v55, main_v56, main_v57, main_v58, main_v59, main_v60, main_v61, main_v62}
theorem tail_writes : ∀ ops ∈ ([hostOps1, hostOps1_1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.reshape_writes, Finset.mem_singleton] at hb; cases Proc.devRef_injective _ hb; decide
  · simp only [hostOps1_1, List.mem_cons, List.mem_nil_iff, or_false] at hop
    rcases hop with rfl | rfl
    all_goals intro b hb; simp only [StableHlo.nullary_writes, StableHlo.unary_writes, StableHlo.binary_writes, StableHlo.ternary_writes, StableHlo.reshape_writes, Finset.mem_singleton] at hb; cases Proc.devRef_injective _ hb; decide

set_option backward.isDefEq.respectTransparency.types false in
set_option maxHeartbeats 800000 in
/-- The run. -/
theorem run_ends : θ_run defs (onTc (τ := τ) (main (F := F))) (s₀ m ρ)
    (fun r => (Pipeline.RDat.FramePostR (cfgs 0) (fun c => (dats m 0 c).toRForget loose) written (V m)) r ∧ r.2.sem = fun _ => 0) :=
  Pipeline.θ_run_frame_around_T_forget (Q' := _) cfgs (dats m) (0 : Fin 1) launch0 defs₀ Variants.none loose written m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps) (hT := tail_writes)
    (hmain := hmain m Variants.none) (hA := A_eq m) (hΦ := fun _ _ => rfl)

/-- The call ends with its arguments unchanged and every counter at zero. -/
theorem frame_bits : Cert.quiescent_Attn := fun m ρ _ =>
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (Pipeline.RDat.FramePostR.arr_in h.1 c 4 rfl).trans ((A_eq m c 4).trans (V_main_arg3 m c))⟩, h.2⟩) (run_ends m ρ)
end Cert.AttnFrame
end
-- ==== Proof.AttnTile.lean ====
module
public import proofs.«01_k».proof.Proof.Gen.AttnIdeal.Loops
public import Idealize.ShloMosaic.Lib.Pointwise
@[expose] public section
set_option maxRecDepth 16384
noncomputable section
/-!
What one 512 by 512 tile of the attention's backward pass holds, read entry by entry: the probabilities
`tp`, the gradient of the scores `tds`, and the four sums of products a tile adds to the results.
-/
namespace Cert.Attn.Mine
open Idealize.ShloMosaic Idealize.ShloMosaic.TcCoe Idealize.SL.Sem
open Cert.AttnIdeal Cert.AttnIdeal.Gen

/-- A 512 by 128 block of floats. -/
abbrev T := FVec Ideal S512x128 .f32
/-- The same block held in bfloat16: over the reals no different. -/
abbrev Tb := FVec Ideal S512x128 .bf16
/-- The lane numbers the kernel compares with. -/
abbrev lanes : IVec S512x128 32 := iota .tc S512x128 32 [1] iota_S512x128_d1_w32

/-- The lane of the log-sum block where head `h` of the pair keeps its value. -/
def lane (h : Fin 2) : Fin 128 := if h = 0 then 0 else 64
/-- One on the lanes of head `h`, zero on the other head's. -/
def hm (h : Fin 2) (x : Fin 128) : EReal := if (x.val < 64 ↔ h = 0) then 1 else 0

/-- The probability of key `kk` of key tile `jk` for row `r` of row tile `ir`; zero where the key is not visible. -/
def tp (jk ir : ℕ) (h : Fin 2) (q k l : S512x128.Idx → EReal) (r kk : Fin 512) : EReal :=
  if (512 * jk + kk.val) / 64 ≤ (512 * ir + r.val) / 64 then
    Ideal.exp2 (∑ d : Fin 128, q (ix2 r d) * k (ix2 kk d) - l (ix2 r (lane h))) else 0
/-- The gradient of the score of the same pair. -/
def tds (jk ir : ℕ) (h : Fin 2) (q k v dO o l : S512x128.Idx → EReal) (r kk : Fin 512) : EReal :=
  tp jk ir h q k l r kk *
    (∑ x : Fin 128, dO (ix2 r x) * v (ix2 kk x) - ∑ x : Fin 128, dO (ix2 r x) * o (ix2 r x) * hm h x)

/-- The block number of an integer row: the kernel's quotient by 64, rounded down by hand. -/
def fdiv64 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32))) 1#32)
      (IntOp.cmpi .ne (IntOp.remsi .vector x 64#32) 0#32))
    (IntOp.subi (IntOp.divsi .vector x 64#32) 1#32) (IntOp.divsi .vector x 64#32)

theorem fdiv64_ofNat : ∀ n : Fin 4096, fdiv64 (BitVec.ofNat 32 n.val) = BitVec.ofNat 32 (n.val / 64) := by
  decide +kernel

theorem sle_ofNat : ∀ a b : Fin 64, IntOp.cmpi .sle (BitVec.ofNat 32 a.val) (BitVec.ofNat 32 b.val) = if a.val ≤ b.val then 1#1 else 0#1 := by
  decide +kernel

theorem row_ofNat (j : Fin 8) (y : Fin 512) : IntOp.addi (Scalar.muli (BitVec.ofNat 32 j.val) 512#32) (BitVec.ofNat 32 y.val) = BitVec.ofNat 32 (512 * j.val + y.val) := by
  apply BitVec.eq_of_toNat_eq
  simp [IntOp.addi, Scalar.muli, IntOp.muli]
  omega

/-- The kernel's visibility test of the tile on the diagonal. -/
theorem vis (j : Fin 8) (r kk : Fin 512) (x : EReal) :
    Scalar.select (α := EReal) (IntOp.cmpi .sle (fdiv64 (IntOp.addi (Scalar.muli (BitVec.ofNat 32 j.val) 512#32) (BitVec.ofNat 32 kk.val)))
      (fdiv64 (IntOp.addi (Scalar.muli (BitVec.ofNat 32 j.val) 512#32) (BitVec.ofNat 32 r.val)))) x 0
    = if (512 * j.val + kk.val) / 64 ≤ (512 * j.val + r.val) / 64 then x else 0 := by
  have hk : 512 * j.val + kk.val < 4096 := by omega
  have hr : 512 * j.val + r.val < 4096 := by omega
  rw [row_ofNat, row_ofNat, fdiv64_ofNat ⟨_, hk⟩, fdiv64_ofNat ⟨_, hr⟩,
    sle_ofNat ⟨(512 * j.val + kk.val) / 64, by omega⟩ ⟨(512 * j.val + r.val) / 64, by omega⟩]
  by_cases h : (512 * j.val + kk.val) / 64 ≤ (512 * j.val + r.val) / 64 <;> simp [h, Scalar.select]

theorem lane_pick (h : Fin 2) (w : BitVec 32) (hw : ∀ x : Fin 128, IntOp.cmpi .eq (BitVec.ofNat 32 x.val) w = if x = lane h then 1#1 else 0#1)
    (l : Fin 128 → EReal) : ∑ x : Fin 128, Scalar.select (IntOp.cmpi .eq (BitVec.ofNat 32 x.val) w) (l x) 0 = l (lane h) := by
  rw [Finset.sum_eq_single (lane h)]
  · rw [hw]; simp [Scalar.select]
  · intro x _ hx; rw [hw]; simp [Scalar.select, hx]
  · simp

theorem lane0 : ∀ x : Fin 128, IntOp.cmpi .eq (BitVec.ofNat 32 x.val) 0#32 = if x = lane 0 then 1#1 else 0#1 := by decide +kernel
theorem lane1 : ∀ x : Fin 128, IntOp.cmpi .eq (BitVec.ofNat 32 x.val) 64#32 = if x = lane 1 then 1#1 else 0#1 := by decide +kernel

theorem bit0 : ∀ x : Fin 128, BitVec.setWidth 32 (IntOp.cmpi .slt (BitVec.ofNat 32 x.val) 64#32) = if (x.val < 64 ↔ (0 : Fin 2) = 0) then 1#32 else 0#32 := by decide +kernel
theorem bit1 : ∀ x : Fin 128, BitVec.setWidth 32 (IntOp.cmpi .sge (BitVec.ofNat 32 x.val) 64#32) = if (x.val < 64 ↔ (1 : Fin 2) = 0) then 1#32 else 0#32 := by decide +kernel

theorem mask0 (x : Fin 128) : FloatOps.sitofp (F := Ideal) .f32 (BitVec.setWidth 32 (IntOp.cmpi .slt (BitVec.ofNat 32 x.val) 64#32)) = hm 0 x := by
  rw [bit0]; unfold hm; split
  · exact (show ((((1#32 : BitVec 32).toInt : ℤ) : ℝ) : EReal) = 1 by norm_num)
  · exact (show ((((0#32 : BitVec 32).toInt : ℤ) : ℝ) : EReal) = 0 by norm_num)
theorem mask1 (x : Fin 128) : FloatOps.sitofp (F := Ideal) .f32 (BitVec.setWidth 32 (IntOp.cmpi .sge (BitVec.ofNat 32 x.val) 64#32)) = hm 1 x := by
  rw [bit1]; unfold hm; split
  · exact (show ((((1#32 : BitVec 32).toInt : ℤ) : ℝ) : EReal) = 1 by norm_num)
  · exact (show ((((0#32 : BitVec 32).toInt : ℤ) : ℝ) : EReal) = 0 by norm_num)

section Trip
variable (k v q : Tb) (dO o l : T) {jk ir : ℕ} (hlt : jk < ir) (r kk : Fin 512)
include hlt

theorem visible (h : Fin 2) (q k l : S512x128.Idx → EReal) (r kk : Fin 512) :
    tp jk ir h q k l r kk = Ideal.exp2 (∑ d : Fin 128, q (ix2 r d) * k (ix2 kk d) - l (ix2 r (lane h))) := by
  unfold tp; rw [if_pos]; omega

theorem pay8_eq : k0_pay8 (F := Ideal) lanes k q l (ix2 r kk) = tp jk ir 0 q k l r kk := by
  rw [visible hlt]
  pointwise [k0_pay8, k0_pay2, k0_pay5]
  rw [lane_pick 0 _ lane0 (fun x => l (ix2 r x))]
  rfl

theorem pay9_eq : k0_pay9 (F := Ideal) lanes k v k0_pay43 q dO o l (ix2 r kk) = tds jk ir 0 q k v dO o l r kk := by
  unfold tds
  rw [← pay8_eq k q l hlt r kk]
  pointwise [k0_pay9, k0_pay43, k0_pay4, k0_pay51]
  simp only [mask0]

theorem pay12_eq : k0_pay12 (F := Ideal) (k0_pay5 l) (k0_pay6 k q) (k0_pay11 lanes) (ix2 r kk) = tp jk ir 1 q k l r kk := by
  rw [visible hlt]
  pointwise [k0_pay12, k0_pay3, k0_pay5, k0_pay6, k0_pay11]
  rw [lane_pick 1 _ lane1 (fun x => l (ix2 r x))]
  rfl

theorem pay13_eq : k0_pay13 (F := Ideal) (k0_pay5 l) (k0_pay6 k q) (k0_pay7 v dO) (k0_pay10 k0_pay44 dO o) (k0_pay11 lanes) (ix2 r kk)
    = tds jk ir 1 q k v dO o l r kk := by
  unfold tds
  rw [← pay12_eq k q l hlt r kk]
  pointwise [k0_pay13, k0_pay44, k0_pay7, k0_pay10, k0_pay4]
  simp only [mask1]
end Trip

section Diag
variable (k v q : Tb) (dO o l : T) (j : Fin 8) (r kk : Fin 512)

theorem pay62_eq : k0_pay62 (F := Ideal) (k0_pay57 lanes k q l) (k0_pay58 (BitVec.ofNat 32 j.val)) (k0_pay59 (BitVec.ofNat 32 j.val)) 64#32
    (k0_pay60 (BitVec.ofNat 32 j.val)) (k0_pay61 (BitVec.ofNat 32 j.val)) 1#32 (ix2 r kk) = tp j.val j.val 0 q k l r kk := by
  unfold tp
  rw [← vis]
  pointwise [k0_pay62, k0_pay57, k0_pay49, k0_pay52, k0_pay58, k0_pay59, k0_pay60, k0_pay61]
  rw [lane_pick 0 _ lane0 (fun x => l (ix2 r x))]
  rfl

theorem pay63_eq : k0_pay63 (F := Ideal) (k0_pay54 v dO) (k0_pay56 k0_pay43 dO o) (k0_pay57 lanes k q l) (k0_pay58 (BitVec.ofNat 32 j.val)) (k0_pay59 (BitVec.ofNat 32 j.val)) 64#32
    (k0_pay60 (BitVec.ofNat 32 j.val)) (k0_pay61 (BitVec.ofNat 32 j.val)) 1#32 (ix2 r kk) = tds j.val j.val 0 q k v dO o l r kk := by
  unfold tds
  rw [← pay62_eq k q l j r kk]
  pointwise [k0_pay63, k0_pay54, k0_pay56, k0_pay43, k0_pay4, k0_pay51]
  simp only [mask0]

theorem pay69_eq : k0_pay69 (F := Ideal) (k0_pay65 lanes (k0_pay52 l) (k0_pay53 k q)) (Scalar.muli (BitVec.ofNat 32 j.val) 512#32) (k0_pay66 (BitVec.ofNat 32 j.val)) 64#32
    (k0_pay67 (BitVec.ofNat 32 j.val)) (k0_pay68 (BitVec.ofNat 32 j.val)) 1#32 0#32 (ix2 r kk) = tp j.val j.val 1 q k l r kk := by
  unfold tp
  rw [← vis]
  pointwise [k0_pay69, k0_pay50, k0_pay65, k0_pay52, k0_pay53, k0_pay66, k0_pay67, k0_pay68]
  rw [lane_pick 1 _ lane1 (fun x => l (ix2 r x))]
  rfl

theorem pay70_eq : k0_pay70 (F := Ideal) (k0_pay55 v dO) (k0_pay64 k0_pay44 (k0_pay51 dO o)) (k0_pay65 lanes (k0_pay52 l) (k0_pay53 k q))
    (Scalar.muli (BitVec.ofNat 32 j.val) 512#32) (k0_pay66 (BitVec.ofNat 32 j.val)) 64#32
    (k0_pay67 (BitVec.ofNat 32 j.val)) (k0_pay68 (BitVec.ofNat 32 j.val)) 1#32 0#32 (ix2 r kk) = tds j.val j.val 1 q k v dO o l r kk := by
  unfold tds
  rw [← pay69_eq k q l j r kk]
  pointwise [k0_pay70, k0_pay55, k0_pay64, k0_pay51, k0_pay44]
  simp only [mask1]
end Diag

end Cert.Attn.Mine
-- ==== Proof.AttnTrip.lean ====
module
public import proofs.«01_k».proof.Proof.AttnTile
public import Idealize.ShloMosaic.Lib.VecWindow
@[expose] public section
set_option maxRecDepth 16384
noncomputable section
/-!
One trip of the kernel's loop over row tiles, as plain functions of the blocks it reads: what it adds to the four
carried sums, and what it adds to the rows of the query gradient.
-/
namespace Cert.Attn.Mine
open Idealize.ShloMosaic Idealize.ShloMosaic.TcCoe Idealize.SL.Sem
open Cert.AttnIdeal Cert.AttnIdeal.Gen

/-- The blocks a grid point reads: queries, keys and values of a pair of heads, output, its cotangent, log-sums. -/
structure Blk where
  q : S4096x256.Idx → EReal
  k : S512x256.Idx → EReal
  v : S512x256.Idx → EReal
  o : S4096x128.Idx → EReal
  dO : S4096x128.Idx → EReal
  l : S4096x128.Idx → EReal

/-- Row `r` of row tile `ir`. -/
def rowI (ir : ℕ) (r : Fin 512) : Fin 4096 := Fin.ofNat 4096 (512 * ir + r.val)
/-- Lane `d` of head `h` of the pair. -/
def colI (h : Fin 2) (d : Fin 128) : Fin 256 := ⟨128 * h.val + d.val, by omega⟩
/-- The queries of head `h` in row tile `ir`. -/
def q2 (x : S4096x256.Idx → EReal) (ir : ℕ) (h : Fin 2) : S512x128.Idx → EReal := fun y => x (ix2 (rowI ir (y 0)) (colI h (y 1)))
/-- The keys, or values, of head `h` in the key tile. -/
def k2 (x : S512x256.Idx → EReal) (h : Fin 2) : S512x128.Idx → EReal := fun y => x (ix2 (n0 := 512) (n1 := 256) (y 0) (colI h (y 1)))
/-- Row tile `ir` of a block both heads share. -/
def r1 (x : S4096x128.Idx → EReal) (ir : ℕ) : S512x128.Idx → EReal := fun y => x (ix2 (n1 := 128) (rowI ir (y 0)) (y 1))

/-- The probability of key `kk` for row `r` of tile `ir`. -/
def P (B : Blk) (j ir : ℕ) (h : Fin 2) (r kk : Fin 512) : EReal := tp j ir h (q2 B.q ir h) (k2 B.k h) (r1 B.l ir) r kk
/-- The gradient of the score of the same pair. -/
def DS (B : Blk) (j ir : ℕ) (h : Fin 2) (r kk : Fin 512) : EReal :=
  tds j ir h (q2 B.q ir h) (k2 B.k h) (k2 B.v h) (r1 B.dO ir) (r1 B.o ir) (r1 B.l ir) r kk
/-- What row tile `ir` adds to the key gradient. -/
def dkTerm (B : Blk) (j : ℕ) (h : Fin 2) (y : S512x128.Idx) (ir : ℕ) : EReal := ∑ r : Fin 512, DS B j ir h r (y 0) * q2 B.q ir h (ix2 (n1 := 128) r (y 1))
/-- What row tile `ir` adds to the value gradient. -/
def dvTerm (B : Blk) (j : ℕ) (h : Fin 2) (y : S512x128.Idx) (ir : ℕ) : EReal := ∑ r : Fin 512, P B j ir h r (y 0) * r1 B.dO ir (ix2 (n1 := 128) r (y 1))
/-- The scale of the scores, as the kernel holds it. -/
def sc : EReal := Named.named (F := Ideal) κ "attn_scale" (φ := .f32) 1037108716#32
/-- What the key tile adds to the query gradient. -/
def dqTerm (B : Blk) (j ir : ℕ) (h : Fin 2) (y : S512x128.Idx) : EReal := (∑ kk : Fin 512, DS B j ir h (y 0) kk * k2 B.k h (ix2 (n1 := 128) kk (y 1))) * sc
/-- The same at an entry of the whole block. -/
def dqAdd (B : Blk) (j : ℕ) (y : S4096x256.Idx) : EReal :=
  dqTerm B j ((y 0).val / 512) (⟨(y 1).val / 128, by have : (y 1).val < 256 := (y 1).isLt; omega⟩)
    (ix2 ⟨(y 0).val % 512, Nat.mod_lt _ (by norm_num)⟩ ⟨(y 1).val % 128, Nat.mod_lt _ (by norm_num)⟩)

theorem rowI_val {ir : ℕ} (hir : ir < 8) (r : Fin 512) : (rowI ir r).val = 512 * ir + r.val := by
  show (512 * ir + r.val) % 4096 = _
  omega

theorem window_q2 (x : S4096x256.Idx → EReal) {ir : ℕ} (hir : ir < 8) (h : Fin 2) (inb) :
    VecWindow.window (s := S4096x256) x ![512 * ir, 128 * h.val] S512x128.size inb = q2 x ir h := by
  funext y
  refine congrArg x (funext fun a => Fin.ext ?_)
  have := rowI_val hir (y 0)
  fin_cases a
  · show 512 * ir + 1 * (y 0).val = (rowI ir (y 0)).val
    omega
  · show 128 * h.val + 1 * (y 1).val = 128 * h.val + (y 1).val
    omega

theorem window_r1 (x : S4096x128.Idx → EReal) {ir : ℕ} (hir : ir < 8) (inb) :
    VecWindow.window (s := S4096x128) x ![512 * ir, 0] S512x128.size inb = r1 x ir := by
  funext y
  refine congrArg x (funext fun a => Fin.ext ?_)
  have := rowI_val hir (y 0)
  fin_cases a
  · show 512 * ir + 1 * (y 0).val = (rowI ir (y 0)).val
    omega
  · show 0 + 1 * (y 1).val = (y 1).val
    omega

theorem window_k2 (x : S512x256.Idx → EReal) (h : Fin 2) (inb) :
    VecWindow.window (s := S512x256) x ![0, 128 * h.val] S512x128.size inb = k2 x h := by
  funext y
  refine congrArg x (funext fun a => Fin.ext ?_)
  fin_cases a
  · show 0 + 1 * (y 0).val = (y 0).val
    omega
  · show 128 * h.val + 1 * (y 1).val = 128 * h.val + (y 1).val
    omega

/-- Two stores side by side over a row tile, each adding its part: the rows of the tile have theirs added. -/
theorem put_pair (g : S4096x256.Idx → EReal) (B : Blk) (j : ℕ) {ir : ℕ} (hir : ir < 8) (w0 w1 : S512x128.Idx → EReal)
    (h0 : ∀ y, w0 y = q2 g ir 0 y + dqTerm B j ir 0 y) (h1 : ∀ y, w1 y = q2 g ir 1 y + dqTerm B j ir 1 y) :
    VecWindow.put (s := S4096x256) (VecWindow.put (s := S4096x256) g ![512 * ir, 0] S512x128.size w0) ![512 * ir, 128] S512x128.size w1
      = fun y => if (y 0).val / 512 = ir then g y + dqAdd B j y else g y := by
  funext y
  have hy0 : (y 0).val < 4096 := (y 0).isLt
  have hy1 : (y 1).val < 256 := (y 1).isLt
  have key : ∀ (h : Fin 2) (z : S512x128.Idx), (z 0).val = (y 0).val % 512 → (z 1).val = (y 1).val % 128 → (y 0).val / 512 = ir → (y 1).val / 128 = h.val →
      q2 g ir h z + dqTerm B j ir h z = g y + dqAdd B j y := by
    intro h z hz0 hz1 hr hc
    have e : z = ix2 ⟨(y 0).val % 512, Nat.mod_lt _ (by norm_num)⟩ ⟨(y 1).val % 128, Nat.mod_lt _ (by norm_num)⟩ := by
      funext a; fin_cases a
      · exact Fin.ext hz0
      · exact Fin.ext hz1
    have e2 : q2 g ir h z = g y := by
      refine congrArg g (funext fun a => Fin.ext ?_)
      have := rowI_val hir (z 0)
      fin_cases a
      · show (rowI ir (z 0)).val = (y 0).val
        omega
      · show 128 * h.val + (z 1).val = (y 1).val
        omega
    rw [e2]
    unfold dqAdd
    have : (⟨(y 1).val / 128, by omega⟩ : Fin 2) = h := Fin.ext hc
    rw [hr, this, ← e]
  by_cases hr : (y 0).val / 512 = ir
  · rw [if_pos hr]
    by_cases hc : 128 ≤ (y 1).val
    · unfold VecWindow.put
      rw [dif_pos (by
        intro a; fin_cases a
        · show 512 * ir ≤ (y 0).val ∧ (y 0).val < 512 * ir + 512
          omega
        · show 128 ≤ (y 1).val ∧ (y 1).val < 128 + 128
          omega), h1]
      refine key 1 _ ?_ ?_ hr (by show _ = 1; omega)
      · show (y 0).val - 512 * ir = _
        omega
      · show (y 1).val - 128 = _
        omega
    · unfold VecWindow.put
      rw [dif_neg (fun h => by have := (h 1).1; exact hc this), dif_pos (by
        intro a; fin_cases a
        · show 512 * ir ≤ (y 0).val ∧ (y 0).val < 512 * ir + 512
          omega
        · show 0 ≤ (y 1).val ∧ (y 1).val < 0 + 128
          omega), h0]
      refine key 0 _ ?_ ?_ hr (by show _ = 0; omega)
      · show (y 0).val - 512 * ir = _
        omega
      · show (y 1).val - 0 = _
        omega
  · rw [if_neg hr]
    have hn : ∀ (o : ℕ), ¬ ∀ a : Fin 2, (![512 * ir, o] : Fin 2 → ℕ) a ≤ (y a).val ∧ (y a).val < (![512 * ir, o] : Fin 2 → ℕ) a + S512x128.size a := by
      intro o h
      have h0 : 512 * ir ≤ (y 0).val ∧ (y 0).val < 512 * ir + 512 := h 0
      omega
    unfold VecWindow.put
    rw [dif_neg (hn 128), dif_neg (hn 0)]

theorem off4_eq : ∀ (i : grid0.Coords) (k : Fin (k0_t1_loop i).trips), k0_off4 i k = ![512 * ((i 1).val + 1 + k.val), 128 * (0 : Fin 2).val] := by decide +kernel
theorem off5_eq : ∀ (i : grid0.Coords) (k : Fin (k0_t1_loop i).trips), k0_off5 i k = ![512 * ((i 1).val + 1 + k.val), 128 * (1 : Fin 2).val] := by decide +kernel
theorem off6_eq : ∀ (i : grid0.Coords) (k : Fin (k0_t1_loop i).trips), k0_off6 i k = ![512 * ((i 1).val + 1 + k.val), 0] := by decide +kernel
theorem off1_eq : ∀ (i : grid0.Coords), k0_off1 i = ![512 * (i 1).val, 128 * (0 : Fin 2).val] := by decide +kernel
theorem off2_eq : ∀ (i : grid0.Coords), k0_off2 i = ![512 * (i 1).val, 128 * (1 : Fin 2).val] := by decide +kernel
theorem off3_eq : ∀ (i : grid0.Coords), k0_off3 i = ![512 * (i 1).val, 0] := by decide +kernel
theorem trips1_eq : ∀ (i : grid0.Coords), (k0_t1_loop i).trips = 7 - (i 1).val := by decide +kernel
theorem trips2_eq : ∀ (i : grid0.Coords), (k0_t2_loop i).trips = 0 := by decide +kernel

section Trip
variable (c : Dev nD) (bd : Option Variants.none.V) (i : grid0.Coords) (arg2 : Memref sig .tc .vmem S4096x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x256 .f32) (harg10 : arg10.IsWhole)
  (v20 : FVec Ideal S512x128 .f32) (v21 : FVec Ideal S512x128 .f32) (v22 : FVec Ideal S512x128 .f32) (v23 : FVec Ideal S512x128 .f32) (v41 : BitVec 32) (v44 : BitVec 32) (v47 : FVec Ideal S512x128 .bf16) (v50 : FVec Ideal S512x128 .bf16) (v139 : FVec Ideal S512x512 .f32) (v213 : FVec Ideal S512x512 .f32) (v216 : FVec Ideal S512x128 .f32) (v217 : FVec Ideal S512x512 .bf16) (v218 : FVec Ideal S512x128 .bf16) (v248 : BitVec 32)
  (B : Blk)

/-- A load of the rows a trip works on. -/
abbrev ld4 (k : Fin (k0_t1_loop i).trips) {e : EltTy} (arg : Memref sig .tc .vmem S4096x256 e) (X : BufTy.Contents (Elt Ideal) arg.view.ty) :=
  arg.view.readAt (Elt Ideal) (Rect.unit (s := S4096x256) (k0_off4 i k) S512x128.size (k0_off4_inb i k)).toLoadRect X
@[inherit_doc ld4] abbrev ld5 (k : Fin (k0_t1_loop i).trips) {e : EltTy} (arg : Memref sig .tc .vmem S4096x256 e) (X : BufTy.Contents (Elt Ideal) arg.view.ty) :=
  arg.view.readAt (Elt Ideal) (Rect.unit (s := S4096x256) (k0_off5 i k) S512x128.size (k0_off5_inb i k)).toLoadRect X
@[inherit_doc ld4] abbrev ld6 (k : Fin (k0_t1_loop i).trips) {e : EltTy} (arg : Memref sig .tc .vmem S4096x128 e) (X : BufTy.Contents (Elt Ideal) arg.view.ty) :=
  arg.view.readAt (Elt Ideal) (Rect.unit (s := S4096x128) (k0_off6 i k) S512x128.size (k0_off6_inb i k)).toLoadRect X

theorem rg4 (k : Fin (k0_t1_loop i).trips) (arg : Memref sig .tc .vmem S4096x256 .f32) (f : BufTy.Contents (Elt Ideal) arg.view.ty) :
    ld4 i k arg f = q2 (arg.view.read (Elt Ideal) f) ((i 1).val + 1 + k.val) 0 := by
  have hk : k.val < 7 - (i 1).val := trips1_eq i ▸ k.isLt
  unfold ld4; rw [View.readAt_unit arg.view _ (k0_off4_inb i k) (off4_eq i k) (off4_eq i k ▸ k0_off4_inb i k)]
  exact window_q2 (arg.view.read (Elt Ideal) f) (by omega) 0 _
theorem rg5 (k : Fin (k0_t1_loop i).trips) (arg : Memref sig .tc .vmem S4096x256 .f32) (f : BufTy.Contents (Elt Ideal) arg.view.ty) :
    ld5 i k arg f = q2 (arg.view.read (Elt Ideal) f) ((i 1).val + 1 + k.val) 1 := by
  have hk : k.val < 7 - (i 1).val := trips1_eq i ▸ k.isLt
  unfold ld5; rw [View.readAt_unit arg.view _ (k0_off5_inb i k) (off5_eq i k) (off5_eq i k ▸ k0_off5_inb i k)]
  exact window_q2 (arg.view.read (Elt Ideal) f) (by omega) 1 _
theorem rd4 (k : Fin (k0_t1_loop i).trips) : ld4 i k arg2 (harg2.unread B.q) = q2 B.q ((i 1).val + 1 + k.val) 0 := by
  have hk : k.val < 7 - (i 1).val := trips1_eq i ▸ k.isLt
  unfold ld4; rw [View.readAt_unit arg2.view _ (k0_off4_inb i k) (off4_eq i k) (off4_eq i k ▸ k0_off4_inb i k), harg2.read_unread, window_q2 B.q (by omega)]
theorem rd5 (k : Fin (k0_t1_loop i).trips) : ld5 i k arg2 (harg2.unread B.q) = q2 B.q ((i 1).val + 1 + k.val) 1 := by
  have hk : k.val < 7 - (i 1).val := trips1_eq i ▸ k.isLt
  unfold ld5; rw [View.readAt_unit arg2.view _ (k0_off5_inb i k) (off5_eq i k) (off5_eq i k ▸ k0_off5_inb i k), harg2.read_unread, window_q2 B.q (by omega)]
theorem rd6 (arg : Memref sig .tc .vmem S4096x128 .f32) (harg : arg.IsWhole) (x : S4096x128.Idx → EReal) (k : Fin (k0_t1_loop i).trips) :
    ld6 i k arg (harg.unread x) = r1 x ((i 1).val + 1 + k.val) := by
  have hk : k.val < 7 - (i 1).val := trips1_eq i ▸ k.isLt
  unfold ld6; rw [View.readAt_unit arg.view _ (k0_off6_inb i k) (off6_eq i k) (off6_eq i k ▸ k0_off6_inb i k), harg.read_unread, window_r1 x (by omega)]

theorem pay16_eq (acc : T) (q : Tb) (S : FVec Ideal S512x512 .f32) (y : S512x128.Idx) :
    k0_pay16 acc (k0_pay2 q) S y = acc y + ∑ r : Fin 512, S (ix2 (n1 := 512) r (y 0)) * q (ix2 (n1 := 128) r (y 1)) := by
  pointwise [k0_pay16, k0_pay2]
theorem pay17_eq (acc dO : T) (S : FVec Ideal S512x512 .f32) (y : S512x128.Idx) :
    k0_pay17 acc dO S y = acc y + ∑ r : Fin 512, S (ix2 (n1 := 512) r (y 0)) * dO (ix2 (n1 := 128) r (y 1)) := by
  pointwise [k0_pay17]

/-- What a trip yields. -/
theorem tripR_eq (k : Fin (k0_t1_loop i).trips) (acc : T × T × T × T) (f : BufTy.Contents (Elt Ideal) arg8.view.ty) :
    tripR_k0_t1 (F := Ideal) .none c bd i arg2 harg2 arg3 harg3 arg4 harg4 arg5 harg5 arg6 harg6 arg7 harg7 arg8 harg8 arg9 harg9 arg10 harg10 lanes (k2 B.k 0) (k2 B.k 1) (k2 B.v 0) (k2 B.v 1) k0_pay43 k0_pay44 v20 v21 v22 v23 v41 v44 v47 v50 v139 v213 v216 v217 v218 v248
        (harg2.unread B.q) (harg5.unread B.o) (harg6.unread B.dO) (harg7.unread B.l) k acc f
      = (fun y => acc.1 y + dkTerm B (i 1).val 0 y ((i 1).val + 1 + k.val), fun y => acc.2.1 y + dvTerm B (i 1).val 0 y ((i 1).val + 1 + k.val),
         fun y => acc.2.2.1 y + dkTerm B (i 1).val 1 y ((i 1).val + 1 + k.val), fun y => acc.2.2.2 y + dvTerm B (i 1).val 1 y ((i 1).val + 1 + k.val)) := by
  have hk : k.val < 7 - (i 1).val := trips1_eq i ▸ k.isLt
  have hlt : (i 1).val < (i 1).val + 1 + k.val := by omega
  unfold tripR_k0_t1 trip_k0_t1
  dsimp only
  refine Prod.ext (funext fun y => ?_) (Prod.ext (funext fun y => ?_) (Prod.ext (funext fun y => ?_) (funext fun y => ?_)))
  · refine (show _ = k0_pay16 acc.1 (k0_pay2 (ld4 i k arg2 (harg2.unread B.q)))
      (k0_pay9 lanes (k2 B.k 0) (k2 B.v 0) k0_pay43 (ld4 i k arg2 (harg2.unread B.q))
        (ld6 i k arg6 (harg6.unread B.dO))
        (ld6 i k arg5 (harg5.unread B.o))
        (ld6 i k arg7 (harg7.unread B.l))) y from rfl).trans ?_
    rw [rd4, rd6, rd6, rd6, pay16_eq]
    exact congrArg (_ + ·) (Finset.sum_congr rfl fun r _ => congrArg (· * _) (pay9_eq _ _ _ _ _ _ hlt r (y 0)))
  · refine (show _ = k0_pay17 acc.2.1 (ld6 i k arg6 (harg6.unread B.dO))
      (k0_pay8 lanes (k2 B.k 0) (ld4 i k arg2 (harg2.unread B.q))
        (ld6 i k arg7 (harg7.unread B.l))) y from rfl).trans ?_
    rw [rd4, rd6, rd6, pay17_eq]
    exact congrArg (_ + ·) (Finset.sum_congr rfl fun r _ => congrArg (· * _) (pay8_eq _ _ _ hlt r (y 0)))
  · refine (show _ = k0_pay16 acc.2.2.1 (k0_pay2 (ld5 i k arg2 (harg2.unread B.q)))
      (k0_pay13 (k0_pay5 (ld6 i k arg7 (harg7.unread B.l)))
        (k0_pay6 (k2 B.k 1) (ld5 i k arg2 (harg2.unread B.q)))
        (k0_pay7 (k2 B.v 1) (ld6 i k arg6 (harg6.unread B.dO)))
        (k0_pay10 k0_pay44 (ld6 i k arg6 (harg6.unread B.dO))
          (ld6 i k arg5 (harg5.unread B.o)))
        (k0_pay11 lanes)) y from rfl).trans ?_
    rw [rd5, rd6, rd6, rd6, pay16_eq]
    exact congrArg (_ + ·) (Finset.sum_congr rfl fun r _ => congrArg (· * _) (pay13_eq _ _ _ _ _ _ hlt r (y 0)))
  · refine (show _ = k0_pay17 acc.2.2.2 (ld6 i k arg6 (harg6.unread B.dO))
      (k0_pay12 (k0_pay5 (ld6 i k arg7 (harg7.unread B.l)))
        (k0_pay6 (k2 B.k 1) (ld5 i k arg2 (harg2.unread B.q)))
        (k0_pay11 lanes)) y from rfl).trans ?_
    rw [rd5, rd6, rd6, pay17_eq]
    exact congrArg (_ + ·) (Finset.sum_congr rfl fun r _ => congrArg (· * _) (pay12_eq _ _ _ hlt r (y 0)))

theorem pay14_eq (k : Tb) (S : FVec Ideal S512x512 .f32) (g : T) (y : S512x128.Idx) :
    k0_pay14 k S g y = g y + (∑ kk : Fin 512, S (ix2 (n1 := 512) (y 0) kk) * k (ix2 (n1 := 128) kk (y 1))) * sc := by
  pointwise [k0_pay14]
  rfl
theorem pay15_eq (k v q : Tb) (dO o l g : T) (y : S512x128.Idx) :
    k0_pay15 k (k0_pay5 l) (k0_pay6 k q) (k0_pay7 v dO) (k0_pay10 k0_pay44 dO o) (k0_pay11 lanes) g y
      = g y + (∑ kk : Fin 512, k0_pay13 (k0_pay5 l) (k0_pay6 k q) (k0_pay7 v dO) (k0_pay10 k0_pay44 dO o) (k0_pay11 lanes) (ix2 (n1 := 512) (y 0) kk) * k (ix2 (n1 := 128) kk (y 1))) * sc := by
  pointwise [k0_pay15]
  rfl

/-- What a trip leaves in the query gradient. -/
theorem tripL_eq (k : Fin (k0_t1_loop i).trips) (acc : T × T × T × T) (f : BufTy.Contents (Elt Ideal) arg8.view.ty) :
    arg8.view.read (Elt Ideal) (arg8.view.writes (Elt Ideal) f (tripL_k0_t1 (F := Ideal) .none c bd i arg2 harg2 arg3 harg3 arg4 harg4 arg5 harg5 arg6 harg6 arg7 harg7 arg8 harg8 arg9 harg9 arg10 harg10 lanes (k2 B.k 0) (k2 B.k 1) (k2 B.v 0) (k2 B.v 1) k0_pay43 k0_pay44 v20 v21 v22 v23 v41 v44 v47 v50 v139 v213 v216 v217 v218 v248
        (harg2.unread B.q) (harg5.unread B.o) (harg6.unread B.dO) (harg7.unread B.l) k acc f))
      = fun y => if (y 0).val / 512 = (i 1).val + 1 + k.val then arg8.view.read (Elt Ideal) f y + dqAdd B (i 1).val y else arg8.view.read (Elt Ideal) f y := by
  have hk : k.val < 7 - (i 1).val := trips1_eq i ▸ k.isLt
  have hlt : (i 1).val < (i 1).val + 1 + k.val := by omega
  have hir : (i 1).val + 1 + k.val < 8 := by omega
  unfold tripL_k0_t1 trip_k0_t1
  dsimp only
  rw [View.read_writes_cons_put arg8.view f _ _ _ (off5_eq i k), View.read_writes_cons_put arg8.view f _ _ _ (off4_eq i k), View.writes_nil]
  refine put_pair (arg8.view.read (Elt Ideal) f) B (i 1).val hir _ _ (fun y => ?_) (fun y => ?_)
  · refine (show _ = k0_pay14 (k2 B.k 0) (k0_pay9 lanes (k2 B.k 0) (k2 B.v 0) k0_pay43 (ld4 i k arg2 (harg2.unread B.q))
        (ld6 i k arg6 (harg6.unread B.dO))
        (ld6 i k arg5 (harg5.unread B.o))
        (ld6 i k arg7 (harg7.unread B.l)))
      (ld4 i k arg8 f) y from rfl).trans ?_
    rw [rd4, rd6, rd6, rd6, pay14_eq, rg4]
    exact congrArg (fun x => _ + x * sc) (Finset.sum_congr rfl fun kk _ => congrArg (· * _) (pay9_eq _ _ _ _ _ _ hlt (y 0) kk))
  · refine (show _ = k0_pay15 (k2 B.k 1) (k0_pay5 (ld6 i k arg7 (harg7.unread B.l)))
        (k0_pay6 (k2 B.k 1) (ld5 i k arg2 (harg2.unread B.q)))
        (k0_pay7 (k2 B.v 1) (ld6 i k arg6 (harg6.unread B.dO)))
        (k0_pay10 k0_pay44 (ld6 i k arg6 (harg6.unread B.dO))
          (ld6 i k arg5 (harg5.unread B.o)))
        (k0_pay11 lanes) (ld5 i k arg8 f) y from rfl).trans ?_
    rw [rd5, rd6, rd6, rd6, pay15_eq, rg5]
    exact congrArg (fun x => _ + x * sc) (Finset.sum_congr rfl fun kk _ => congrArg (· * _) (pay13_eq _ _ _ _ _ _ hlt (y 0) kk))

/-- What the trips before `k` leave: each carried sum with a term per row tile, each of their row tiles with its part added. -/
theorem st_eq (G : BufTy.Contents (Elt Ideal) arg8.view.ty) (init : T × T × T × T) : ∀ k ≤ (k0_t1_loop i).trips,
    (st_k0_t1 (F := Ideal) .none c bd i arg2 harg2 arg3 harg3 arg4 harg4 arg5 harg5 arg6 harg6 arg7 harg7 arg8 harg8 arg9 harg9 arg10 harg10 lanes (k2 B.k 0) (k2 B.k 1) (k2 B.v 0) (k2 B.v 1) k0_pay43 k0_pay44 v20 v21 v22 v23 v41 v44 v47 v50 v139 v213 v216 v217 v218 v248
        (harg2.unread B.q) (harg5.unread B.o) (harg6.unread B.dO) (harg7.unread B.l) G init k).1
      = (fun y => init.1 y + ∑ n ∈ Finset.range k, dkTerm B (i 1).val 0 y ((i 1).val + 1 + n), fun y => init.2.1 y + ∑ n ∈ Finset.range k, dvTerm B (i 1).val 0 y ((i 1).val + 1 + n),
         fun y => init.2.2.1 y + ∑ n ∈ Finset.range k, dkTerm B (i 1).val 1 y ((i 1).val + 1 + n), fun y => init.2.2.2 y + ∑ n ∈ Finset.range k, dvTerm B (i 1).val 1 y ((i 1).val + 1 + n))
    ∧ arg8.view.read (Elt Ideal) (arg8.view.writes (Elt Ideal) G (st_k0_t1 (F := Ideal) .none c bd i arg2 harg2 arg3 harg3 arg4 harg4 arg5 harg5 arg6 harg6 arg7 harg7 arg8 harg8 arg9 harg9 arg10 harg10 lanes (k2 B.k 0) (k2 B.k 1) (k2 B.v 0) (k2 B.v 1) k0_pay43 k0_pay44 v20 v21 v22 v23 v41 v44 v47 v50 v139 v213 v216 v217 v218 v248
        (harg2.unread B.q) (harg5.unread B.o) (harg6.unread B.dO) (harg7.unread B.l) G init k).2)
      = fun y => if (i 1).val + 1 ≤ (y 0).val / 512 ∧ (y 0).val / 512 < (i 1).val + 1 + k then arg8.view.read (Elt Ideal) G y + dqAdd B (i 1).val y else arg8.view.read (Elt Ideal) G y := by
  intro k
  induction k with
  | zero =>
    intro _
    refine ⟨(st_k0_t1_zero ..).trans ?_, ?_⟩
    · simp
    · funext y
      rw [if_neg (by omega)]
      rfl
  | succ k ih =>
    intro hk
    obtain ⟨h1, h2⟩ := ih (by omega)
    rw [st_k0_t1_succ (F := Ideal) .none c bd i arg2 harg2 arg3 harg3 arg4 harg4 arg5 harg5 arg6 harg6 arg7 harg7 arg8 harg8 arg9 harg9 arg10 harg10 lanes (k2 B.k 0) (k2 B.k 1) (k2 B.v 0) (k2 B.v 1) k0_pay43 k0_pay44 v20 v21 v22 v23 v41 v44 v47 v50 v139 v213 v216 v217 v218 v248
        (harg2.unread B.q) (harg5.unread B.o) (harg6.unread B.dO) (harg7.unread B.l) G init ⟨k, hk⟩]
    refine ⟨?_, ?_⟩
    · refine (tripR_eq c bd i arg2 harg2 arg3 harg3 arg4 harg4 arg5 harg5 arg6 harg6 arg7 harg7 arg8 harg8 arg9 harg9 arg10 harg10 v20 v21 v22 v23 v41 v44 v47 v50 v139 v213 v216 v217 v218 v248 B ⟨k, hk⟩ _ _).trans ?_
      dsimp only
      rw [h1]
      simp only [Finset.sum_range_succ, add_assoc]
    · dsimp only
      rw [View.writes_append, tripL_eq c bd i arg2 harg2 arg3 harg3 arg4 harg4 arg5 harg5 arg6 harg6 arg7 harg7 arg8 harg8 arg9 harg9 arg10 harg10 v20 v21 v22 v23 v41 v44 v47 v50 v139 v213 v216 v217 v218 v248 B ⟨k, hk⟩ _ _]
      funext y
      dsimp only
      rw [h2]
      dsimp only
      by_cases h : (y 0).val / 512 = (i 1).val + 1 + k
      · rw [if_pos h, if_neg (by omega), if_pos (by omega)]
      · rw [if_neg h]
        by_cases h' : (i 1).val + 1 ≤ (y 0).val / 512 ∧ (y 0).val / 512 < (i 1).val + 1 + k
        · rw [if_pos h', if_pos (by omega)]
        · rw [if_neg h', if_neg (by omega)]

end Trip
end Cert.Attn.Mine
-- ==== Proof.AttnDiag.lean ====
module
public import proofs.«01_k».proof.Proof.AttnTrip
public import proofs.«01_k».proof.Proof.Gen.AttnIdeal.Frame
@[expose] public section
set_option maxRecDepth 16384
noncomputable section
/-!
The row tile on the diagonal, worked before the loop, and both together: what a grid point computes.
-/
namespace Cert.Attn.Mine
open Idealize.ShloMosaic Idealize.ShloMosaic.TcCoe Idealize.SL.Sem
open Cert.AttnIdeal Cert.AttnIdeal.Gen

/-- A row tile above the key tile sees none of its keys. -/
theorem P_hidden (B : Blk) {j ir : ℕ} (h : ir < j) (hd : Fin 2) (r kk : Fin 512) : P B j ir hd r kk = 0 := by
  unfold P tp; rw [if_neg]; omega
theorem DS_hidden (B : Blk) {j ir : ℕ} (h : ir < j) (hd : Fin 2) (r kk : Fin 512) : DS B j ir hd r kk = 0 := by
  unfold DS tds; rw [show tp j ir hd _ _ _ r kk = 0 from P_hidden B h hd r kk, zero_mul]
theorem dkTerm_hidden (B : Blk) {j ir : ℕ} (h : ir < j) (hd : Fin 2) (y : S512x128.Idx) : dkTerm B j hd y ir = 0 :=
  Finset.sum_eq_zero fun r _ => (congrArg (· * _) (DS_hidden B h hd r (y 0))).trans (zero_mul _)
theorem dvTerm_hidden (B : Blk) {j ir : ℕ} (h : ir < j) (hd : Fin 2) (y : S512x128.Idx) : dvTerm B j hd y ir = 0 :=
  Finset.sum_eq_zero fun r _ => (congrArg (· * _) (P_hidden B h hd r (y 0))).trans (zero_mul _)
theorem dqAdd_hidden (B : Blk) {j : ℕ} (y : S4096x256.Idx) (h : (y 0).val / 512 < j) : dqAdd B j y = 0 := by
  unfold dqAdd dqTerm
  exact (congrArg (· * sc) (Finset.sum_eq_zero fun kk _ => (congrArg (· * _) (DS_hidden B h _ _ kk)).trans (zero_mul _))).trans (zero_mul _)

/-- The diagonal's term and those of the loop are the terms of all row tiles. -/
theorem sum_tiles (f : ℕ → EReal) {j : ℕ} (hj : j < 8) (h0 : ∀ ir < j, f ir = 0) : f j + ∑ n ∈ Finset.range (7 - j), f (j + 1 + n) = ∑ ir ∈ Finset.range 8, f ir := by
  rw [show (8 : ℕ) = j + (1 + (7 - j)) by omega, Finset.sum_range_add, Finset.sum_eq_zero fun ir hir => h0 ir (Finset.mem_range.mp hir), zero_add,
    Finset.sum_range_add, Finset.sum_range_one, add_zero]
  simp only [add_assoc]

/-- The condition under which the body clears the query gradient: it is at the first key tile. -/
abbrev first (i : grid0.Coords) : Prop := (Scalar.cmpi .ne (Scalar.extui (Scalar.cmpi .eq (BitVec.ofNat 32 (i 1).val) 0#32)) 0#32) = 1#1
theorem first_iff : ∀ i : grid0.Coords, first i ↔ (i 1).val = 0 := by decide +kernel

section Loops
variable (c : Dev nD) (bd : Option Variants.none.V) (i : grid0.Coords) (arg2 : Memref sig .tc .vmem S4096x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x256 .f32) (harg10 : arg10.IsWhole)
  (v20 : FVec Ideal S512x128 .f32) (v21 : FVec Ideal S512x128 .f32) (v22 : FVec Ideal S512x128 .f32) (v23 : FVec Ideal S512x128 .f32) (v41 : BitVec 32) (v44 : BitVec 32) (v47 : FVec Ideal S512x128 .bf16) (v50 : FVec Ideal S512x128 .bf16) (v139 : FVec Ideal S512x512 .f32) (v213 : FVec Ideal S512x512 .f32) (v216 : FVec Ideal S512x128 .f32) (v217 : FVec Ideal S512x512 .bf16) (v218 : FVec Ideal S512x128 .bf16) (v248 v253 : BitVec 32)
  (B : Blk)

/-- The second loop, before any trip, has stored nothing. -/
theorem second_none (v5 v7 v9 v11 : Tb) (G : BufTy.Contents (Elt Ideal) arg8.view.ty) (init : T × T × T × T) :
    (st_k0_t2 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v253
        (harg2.unread B.q) (harg5.unread B.o) (harg6.unread B.dO) (harg7.unread B.l) G init 0).2 = [] := rfl

/-- After the diagonal and both loops (the second has no trips): all four sums, and the query gradient. -/
theorem loops_eq {v5 v7 v9 v11 : Tb} (h5 : v5 = k2 B.k 0) (h7 : v7 = k2 B.k 1) (h9 : v9 = k2 B.v 0) (h11 : v11 = k2 B.v 1)
    (G : BufTy.Contents (Elt Ideal) arg8.view.ty) (L : List (View.Piece (Elt Ideal) S4096x256 .f32)) (g : S4096x256.Idx → EReal) {n1 n2 : ℕ}
    (hn1 : n1 = (k0_t1_loop i).trips) (hn2 : n2 = (k0_t2_loop i).trips)
    (hL : arg8.view.read (Elt Ideal) (arg8.view.writes (Elt Ideal) G L) = fun y => if (y 0).val / 512 = (i 1).val then g y + dqAdd B (i 1).val y else g y)
    (init : T × T × T × T) (hi : ∀ y, init.1 y = dkTerm B (i 1).val 0 y (i 1).val ∧ init.2.1 y = dvTerm B (i 1).val 0 y (i 1).val
      ∧ init.2.2.1 y = dkTerm B (i 1).val 1 y (i 1).val ∧ init.2.2.2 y = dvTerm B (i 1).val 1 y (i 1).val) :
    (st_k0_t2 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v253
        (harg2.unread B.q) (harg5.unread B.o) (harg6.unread B.dO) (harg7.unread B.l) (arg8.view.writes (Elt Ideal) G ((st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).2 ++ L)) ((st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.1, (st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.2.1, (st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.2.2.1, (st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.2.2.2) n2).1
      = (fun y => ∑ ir ∈ Finset.range 8, dkTerm B (i 1).val 0 y ir, fun y => ∑ ir ∈ Finset.range 8, dvTerm B (i 1).val 0 y ir,
         fun y => ∑ ir ∈ Finset.range 8, dkTerm B (i 1).val 1 y ir, fun y => ∑ ir ∈ Finset.range 8, dvTerm B (i 1).val 1 y ir)
    ∧ arg8.view.read (Elt Ideal) (arg8.view.writes (Elt Ideal) G ((st_k0_t2 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v253
        (harg2.unread B.q) (harg5.unread B.o) (harg6.unread B.dO) (harg7.unread B.l) (arg8.view.writes (Elt Ideal) G ((st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).2 ++ L)) ((st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.1, (st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.2.1, (st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.2.2.1, (st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).1.2.2.2) n2).2 ++ ((st_k0_t1 (F := Ideal) .none c bd i arg2 harg2 arg3 harg3 arg4 harg4 arg5 harg5 arg6 harg6 arg7 harg7 arg8 harg8 arg9 harg9 arg10 harg10 lanes v5 v7 v9 v11 k0_pay43 k0_pay44 v20 v21 v22 v23 v41 v44 v47 v50 v139 v213 v216 v217 v218 v248
        (harg2.unread B.q) (harg5.unread B.o) (harg6.unread B.dO) (harg7.unread B.l) (arg8.view.writes (Elt Ideal) G L) init n1).2 ++ L)))
      = fun y => g y + dqAdd B (i 1).val y := by
  subst h5 h7 h9 h11 hn1
  rw [trips2_eq] at hn2
  subst hn2
  have hj : (i 1).val < 8 := (i 1).isLt
  obtain ⟨e1, e2⟩ := st_eq c bd i arg2 harg2 arg3 harg3 arg4 harg4 arg5 harg5 arg6 harg6 arg7 harg7 arg8 harg8 arg9 harg9 arg10 harg10 v20 v21 v22 v23 v41 v44 v47 v50 v139 v213 v216 v217 v218 v248 B (arg8.view.writes (Elt Ideal) G L) init _ le_rfl
  refine ⟨?_, ?_⟩
  · rw [st_k0_t2_zero, e1]
    dsimp only
    rw [trips1_eq]
    refine Prod.ext ?_ (Prod.ext ?_ (Prod.ext ?_ ?_)) <;> funext y <;> dsimp only
    · rw [(hi y).1, sum_tiles (dkTerm B _ 0 y) hj fun ir h => dkTerm_hidden B h 0 y]
    · rw [(hi y).2.1, sum_tiles (dvTerm B _ 0 y) hj fun ir h => dvTerm_hidden B h 0 y]
    · rw [(hi y).2.2.1, sum_tiles (dkTerm B _ 1 y) hj fun ir h => dkTerm_hidden B h 1 y]
    · rw [(hi y).2.2.2, sum_tiles (dvTerm B _ 1 y) hj fun ir h => dvTerm_hidden B h 1 y]
  · rw [second_none, List.nil_append, View.writes_append, e2, hL]
    funext y
    rw [trips1_eq]
    have hy : (y 0).val < 4096 := (y 0).isLt
    dsimp only
    rcases lt_trichotomy ((y 0).val / 512) (i 1).val with h | h | h
    · rw [if_neg (by omega), if_neg (by omega), dqAdd_hidden B y h, add_zero]
    · rw [if_neg (by omega), if_pos h]
    · rw [if_pos (by omega), if_neg (by omega)]

/-- The two stores of the diagonal. -/
theorem diag_store (f : BufTy.Contents (Elt Ideal) arg8.view.ty) (L : List (View.Piece (Elt Ideal) S4096x256 .f32)) {v5 v7 : Tb} (h5 : v5 = k2 B.k 0) (h7 : v7 = k2 B.k 1)
    {S0 S1 : FVec Ideal S512x512 .f32} (hS0 : ∀ r kk, S0 (ix2 (n1 := 512) r kk) = DS B (i 1).val (i 1).val 0 r kk) (hS1 : ∀ r kk, S1 (ix2 (n1 := 512) r kk) = DS B (i 1).val (i 1).val 1 r kk)
    {w0 w1 : T} (hw0 : w0 = q2 (arg8.view.read (Elt Ideal) (arg8.view.writes (Elt Ideal) f L)) (i 1).val 0) (hw1 : w1 = q2 (arg8.view.read (Elt Ideal) (arg8.view.writes (Elt Ideal) f L)) (i 1).val 1) :
    arg8.view.read (Elt Ideal) (arg8.view.writes (Elt Ideal) f (⟨Rect.unit (s := S4096x256) (k0_off2 i) S512x128.size (k0_off2_inb i), k0_pay75 v7 S1 w1⟩ :: ⟨Rect.unit (s := S4096x256) (k0_off1 i) S512x128.size (k0_off1_inb i), k0_pay74 v5 S0 w0⟩ :: L))
      = fun y => if (y 0).val / 512 = (i 1).val then arg8.view.read (Elt Ideal) (arg8.view.writes (Elt Ideal) f L) y + dqAdd B (i 1).val y else arg8.view.read (Elt Ideal) (arg8.view.writes (Elt Ideal) f L) y := by
  subst h5 h7 hw0 hw1
  rw [View.read_writes_cons_put arg8.view f _ _ _ (off2_eq i), View.read_writes_cons_put arg8.view f _ _ _ (off1_eq i)]
  refine put_pair _ B (i 1).val (i 1).isLt _ _ (fun y => ?_) (fun y => ?_)
  · refine (show k0_pay74 (k2 B.k 0) S0 _ y = _ + (∑ kk : Fin 512, S0 (ix2 (n1 := 512) (y 0) kk) * k2 B.k 0 (ix2 (n1 := 128) kk (y 1))) * sc by pointwise [k0_pay74]; rfl).trans ?_
    exact congrArg (fun x => _ + x * sc) (Finset.sum_congr rfl fun kk _ => congrArg (· * _) (hS0 (y 0) kk))
  · refine (show k0_pay75 (k2 B.k 1) S1 _ y = _ + (∑ kk : Fin 512, S1 (ix2 (n1 := 512) (y 0) kk) * k2 B.k 1 (ix2 (n1 := 128) kk (y 1))) * sc by pointwise [k0_pay75]; rfl).trans ?_
    exact congrArg (fun x => _ + x * sc) (Finset.sum_congr rfl fun kk _ => congrArg (· * _) (hS1 (y 0) kk))

/-- The four sums as the diagonal starts them. -/
theorem diag_init {q0 q1 : Tb} (hq0 : q0 = q2 B.q (i 1).val 0) (hq1 : q1 = q2 B.q (i 1).val 1) {d : T} (hd : d = r1 B.dO (i 1).val)
    {S0 S1 Q0 Q1 : FVec Ideal S512x512 .f32} (hS0 : ∀ r kk, S0 (ix2 (n1 := 512) r kk) = DS B (i 1).val (i 1).val 0 r kk) (hS1 : ∀ r kk, S1 (ix2 (n1 := 512) r kk) = DS B (i 1).val (i 1).val 1 r kk)
    (hQ0 : ∀ r kk, Q0 (ix2 (n1 := 512) r kk) = P B (i 1).val (i 1).val 0 r kk) (hQ1 : ∀ r kk, Q1 (ix2 (n1 := 512) r kk) = P B (i 1).val (i 1).val 1 r kk) (y : S512x128.Idx) :
    k0_pay76 k0_pay45 (k0_pay49 q0) S0 y = dkTerm B (i 1).val 0 y (i 1).val ∧ k0_pay77 k0_pay46 (k0_pay71 d Q0) y = dvTerm B (i 1).val 0 y (i 1).val
      ∧ k0_pay78 k0_pay47 (k0_pay50 q1) S1 y = dkTerm B (i 1).val 1 y (i 1).val
      ∧ k0_pay79 k0_pay48 (truncf .bf16 Q1 bitsLt_bf16_f32) (k0_pay73 d) y = dvTerm B (i 1).val 1 y (i 1).val := by
  subst hq0 hq1 hd
  refine ⟨?_, ?_, ?_, ?_⟩
  · refine (show _ = ∑ r : Fin 512, S0 (ix2 (n1 := 512) r (y 0)) * q2 B.q (i 1).val 0 (ix2 (n1 := 128) r (y 1)) by pointwise [k0_pay76, k0_pay45, k0_pay49]).trans ?_
    exact Finset.sum_congr rfl fun r _ => congrArg (· * _) (hS0 r (y 0))
  · refine (show _ = ∑ r : Fin 512, Q0 (ix2 (n1 := 512) r (y 0)) * r1 B.dO (i 1).val (ix2 (n1 := 128) r (y 1)) by pointwise [k0_pay77, k0_pay46, k0_pay71]).trans ?_
    exact Finset.sum_congr rfl fun r _ => congrArg (· * _) (hQ0 r (y 0))
  · refine (show _ = ∑ r : Fin 512, S1 (ix2 (n1 := 512) r (y 0)) * q2 B.q (i 1).val 1 (ix2 (n1 := 128) r (y 1)) by pointwise [k0_pay78, k0_pay47, k0_pay50]).trans ?_
    exact Finset.sum_congr rfl fun r _ => congrArg (· * _) (hS1 r (y 0))
  · refine (show _ = ∑ r : Fin 512, Q1 (ix2 (n1 := 512) r (y 0)) * r1 B.dO (i 1).val (ix2 (n1 := 128) r (y 1)) by pointwise [k0_pay79, k0_pay48, k0_pay73]).trans ?_
    exact Finset.sum_congr rfl fun r _ => congrArg (· * _) (hQ1 r (y 0))
end Loops

/-! ## The loads of the diagonal -/
section Loads
variable (i : grid0.Coords) (B : Blk)
/-- A load of the rows of the diagonal. -/
abbrev ld1 {e : EltTy} (arg : Memref sig .tc .vmem S4096x256 e) (X : BufTy.Contents (Elt Ideal) arg.view.ty) :=
  View.readAt (Elt Ideal) arg.view (Rect.unit (s := S4096x256) (k0_off1 i) S512x128.size (k0_off1_inb i)).toLoadRect X
@[inherit_doc ld1] abbrev ld2 {e : EltTy} (arg : Memref sig .tc .vmem S4096x256 e) (X : BufTy.Contents (Elt Ideal) arg.view.ty) :=
  View.readAt (Elt Ideal) arg.view (Rect.unit (s := S4096x256) (k0_off2 i) S512x128.size (k0_off2_inb i)).toLoadRect X
@[inherit_doc ld1] abbrev ld3 {e : EltTy} (arg : Memref sig .tc .vmem S4096x128 e) (X : BufTy.Contents (Elt Ideal) arg.view.ty) :=
  View.readAt (Elt Ideal) arg.view (Rect.unit (s := S4096x128) (k0_off3 i) S512x128.size (k0_off3_inb i)).toLoadRect X

theorem rg1 (arg : Memref sig .tc .vmem S4096x256 .f32) (f : BufTy.Contents (Elt Ideal) arg.view.ty) : ld1 i arg f = q2 (arg.view.read (Elt Ideal) f) (i 1).val 0 := by
  unfold ld1; rw [View.readAt_unit arg.view _ (k0_off1_inb i) (off1_eq i) (off1_eq i ▸ k0_off1_inb i)]
  exact window_q2 (arg.view.read (Elt Ideal) f) (i 1).isLt 0 _
theorem rg2 (arg : Memref sig .tc .vmem S4096x256 .f32) (f : BufTy.Contents (Elt Ideal) arg.view.ty) : ld2 i arg f = q2 (arg.view.read (Elt Ideal) f) (i 1).val 1 := by
  unfold ld2; rw [View.readAt_unit arg.view _ (k0_off2_inb i) (off2_eq i) (off2_eq i ▸ k0_off2_inb i)]
  exact window_q2 (arg.view.read (Elt Ideal) f) (i 1).isLt 1 _
theorem rd1 {arg : Memref sig .tc .vmem S4096x256 .bf16} (harg : arg.IsWhole) (x : S4096x256.Idx → EReal) : ld1 i arg (harg.unread x) = q2 x (i 1).val 0 := by
  unfold ld1; rw [View.readAt_unit arg.view _ (k0_off1_inb i) (off1_eq i) (off1_eq i ▸ k0_off1_inb i), harg.read_unread]
  exact window_q2 x (i 1).isLt 0 _
theorem rd2 {arg : Memref sig .tc .vmem S4096x256 .bf16} (harg : arg.IsWhole) (x : S4096x256.Idx → EReal) : ld2 i arg (harg.unread x) = q2 x (i 1).val 1 := by
  unfold ld2; rw [View.readAt_unit arg.view _ (k0_off2_inb i) (off2_eq i) (off2_eq i ▸ k0_off2_inb i), harg.read_unread]
  exact window_q2 x (i 1).isLt 1 _
theorem rd3 {arg : Memref sig .tc .vmem S4096x128 .f32} (harg : arg.IsWhole) (x : S4096x128.Idx → EReal) : ld3 i arg (harg.unread x) = r1 x (i 1).val := by
  unfold ld3; rw [View.readAt_unit arg.view _ (k0_off3_inb i) (off3_eq i) (off3_eq i ▸ k0_off3_inb i), harg.read_unread]
  exact window_r1 x (i 1).isLt _
/-- A head's half of the key tile, or of the value tile. -/
theorem rdk {arg : Memref sig .tc .vmem S512x256 .bf16} (harg : arg.IsWhole) (x : S512x256.Idx → EReal) (h : Fin 2) {off : Fin 2 → ℕ} (inb) (ho : off = ![0, 128 * h.val]) :
    View.readAt (Elt Ideal) arg.view (Rect.unit (s := S512x256) off S512x128.size inb).toLoadRect (harg.unread x) = k2 x h := by
  rw [View.readAt_unit arg.view _ inb ho (ho ▸ inb), harg.read_unread]
  exact window_k2 x h _
theorem cast39 (v : Tb) : k0_pay39 v = v := by funext y; pointwise [k0_pay39]
theorem cast40 (v : Tb) : k0_pay40 v = v := by funext y; pointwise [k0_pay40]
theorem cast41 (v : Tb) : k0_pay41 v = v := by funext y; pointwise [k0_pay41]
theorem cast42 (v : Tb) : k0_pay42 v = v := by funext y; pointwise [k0_pay42]

/-- The probabilities and the gradients of the scores on the diagonal, from whatever the body holds. -/
theorem diag_P0 {k q : Tb} {l : T} (hk : k = k2 B.k 0) (hq : q = q2 B.q (i 1).val 0) (hl : l = r1 B.l (i 1).val) {w u : BitVec 32} (hw : w = BitVec.ofNat 32 (i 1).val) (hu : u = 1#32) (r kk : Fin 512) :
    k0_pay62 (k0_pay57 lanes k q l) (k0_pay58 w) (k0_pay59 (BitVec.ofNat 32 (i 1).val)) 64#32 (k0_pay60 (BitVec.ofNat 32 (i 1).val)) (k0_pay61 (BitVec.ofNat 32 (i 1).val)) u (ix2 r kk)
      = P B (i 1).val (i 1).val 0 r kk := by
  subst hk hq hl hw hu; exact pay62_eq _ _ _ (i 1) r kk
theorem diag_S0 {k v q : Tb} {dO o l : T} (hk : k = k2 B.k 0) (hv : v = k2 B.v 0) (hq : q = q2 B.q (i 1).val 0) (hd : dO = r1 B.dO (i 1).val) (ho : o = r1 B.o (i 1).val) (hl : l = r1 B.l (i 1).val)
    {w u : BitVec 32} (hw : w = BitVec.ofNat 32 (i 1).val) (hu : u = 1#32) (r kk : Fin 512) :
    k0_pay63 (k0_pay54 v dO) (k0_pay56 k0_pay43 dO o) (k0_pay57 lanes k q l) (k0_pay58 w) (k0_pay59 (BitVec.ofNat 32 (i 1).val)) 64#32 (k0_pay60 (BitVec.ofNat 32 (i 1).val)) (k0_pay61 (BitVec.ofNat 32 (i 1).val)) u (ix2 r kk)
      = DS B (i 1).val (i 1).val 0 r kk := by
  subst hk hv hq hd ho hl hw hu; exact pay63_eq _ _ _ _ _ _ (i 1) r kk
theorem diag_P1 {k q : Tb} {l : T} (hk : k = k2 B.k 1) (hq : q = q2 B.q (i 1).val 1) (hl : l = r1 B.l (i 1).val) {w a b : BitVec 32} (hw : w = BitVec.ofNat 32 (i 1).val) (ha : a = 1#32) (hb : b = 0#32) (r kk : Fin 512) :
    k0_pay69 (k0_pay65 lanes (k0_pay52 l) (k0_pay53 k q)) (Scalar.muli (BitVec.ofNat 32 (i 1).val) 512#32) (k0_pay66 w) 64#32 (k0_pay67 w) (k0_pay68 w) a b (ix2 r kk)
      = P B (i 1).val (i 1).val 1 r kk := by
  subst hk hq hl hw ha hb; exact pay69_eq _ _ _ (i 1) r kk
theorem diag_S1 {k v q : Tb} {dO o l : T} (hk : k = k2 B.k 1) (hv : v = k2 B.v 1) (hq : q = q2 B.q (i 1).val 1) (hd : dO = r1 B.dO (i 1).val) (ho : o = r1 B.o (i 1).val) (hl : l = r1 B.l (i 1).val)
    {w a b : BitVec 32} (hw : w = BitVec.ofNat 32 (i 1).val) (ha : a = 1#32) (hb : b = 0#32) (r kk : Fin 512) :
    k0_pay70 (k0_pay55 v dO) (k0_pay64 k0_pay44 (k0_pay51 dO o)) (k0_pay65 lanes (k0_pay52 l) (k0_pay53 k q)) (Scalar.muli (BitVec.ofNat 32 (i 1).val) 512#32) (k0_pay66 w) 64#32 (k0_pay67 w) (k0_pay68 w) a b (ix2 r kk)
      = DS B (i 1).val (i 1).val 1 r kk := by
  subst hk hv hq hd ho hl hw ha hb; exact pay70_eq _ _ _ _ _ _ (i 1) r kk
end Loads

end Cert.Attn.Mine
-- ==== Proof.AttnPoint.lean ====
module
public import proofs.«01_k».proof.Proof.AttnDiag
@[expose] public section
set_option maxRecDepth 16384
noncomputable section
/-!
What a grid point computes, from the blocks it loads: the four sums over the row tiles, and the query gradient.
-/
namespace Cert.Attn.Mine
open Idealize.ShloMosaic Idealize.ShloMosaic.TcCoe Idealize.SL.Sem
open Cert.AttnIdeal Cert.AttnIdeal.Gen

/-- A value of the pair of heads, head by head side by side, at an entry of the block of both. -/
def beside (f : Fin 2 → S512x128.Idx → EReal) (y : S512x256.Idx) : EReal :=
  f ⟨(y 1).val / 128, by have : (y 1).val < 256 := (y 1).isLt; omega⟩ (ix2 (n1 := 128) (y 0) ⟨(y 1).val % 128, Nat.mod_lt _ (by norm_num)⟩)
/-- The kernel's natural logarithm of two. -/
def ln2 : EReal := Named.named (F := Ideal) κ "ln_2" (φ := .f32) 1060205080#32
/-- The key gradient of a key tile. -/
def dkOut (B : Blk) (j : ℕ) : S512x256.Idx → EReal := beside fun h y => (∑ ir ∈ Finset.range 8, dkTerm B j h y ir) * ln2
/-- The value gradient of a key tile. -/
def dvOut (B : Blk) (j : ℕ) : S512x256.Idx → EReal := beside fun h y => ∑ ir ∈ Finset.range 8, dvTerm B j h y ir
/-- The query gradient after a key tile: cleared at the first, then added to. -/
def dqOut (B : Blk) (j : ℕ) (x : S4096x256.Idx → EReal) : S4096x256.Idx → EReal := fun y => (if j = 0 then 0 else x y) + dqAdd B j y

/-- Two stores side by side fill a block. -/
theorem pair_out (arg : Memref sig .tc .vmem S512x256 .f32) (f : BufTy.Contents (Elt Ideal) arg.view.ty) (i0 i1) (w0 w1 : S512x128.Idx → EReal) (g : Fin 2 → S512x128.Idx → EReal)
    (h0 : ∀ y, w0 y = g 0 y) (h1 : ∀ y, w1 y = g 1 y) :
    arg.view.read (Elt Ideal) (arg.view.writes (Elt Ideal) f [⟨Rect.unit (s := S512x256) ![0, 128] ![512, 128] i1, w1⟩, ⟨Rect.unit (s := S512x256) ![0, 0] ![512, 128] i0, w0⟩]) = beside g := by
  rw [View.read_writes_cons_put arg.view f _ _ _ rfl, View.read_writes_cons_put arg.view f _ _ _ rfl]
  funext y
  have hy0 : (y 0).val < 512 := (y 0).isLt
  have hy1 : (y 1).val < 256 := (y 1).isLt
  have key : ∀ (h : Fin 2) (z : S512x128.Idx), (z 0).val = (y 0).val → (z 1).val = (y 1).val % 128 → (y 1).val / 128 = h.val → g h z = beside g y := by
    intro h z hz0 hz1 hc
    unfold beside
    have e : z = ix2 (n1 := 128) (y 0) ⟨(y 1).val % 128, Nat.mod_lt _ (by norm_num)⟩ := by
      funext a; fin_cases a
      · exact Fin.ext hz0
      · exact Fin.ext hz1
    have : (⟨(y 1).val / 128, by omega⟩ : Fin 2) = h := Fin.ext hc
    rw [this]; exact congrArg (g h) e
  unfold VecWindow.put
  by_cases hc : 128 ≤ (y 1).val
  · rw [dif_pos (by intro a; fin_cases a <;> [exact ⟨Nat.zero_le _, by show (y 0).val < 0 + 512; omega⟩; exact ⟨hc, by show (y 1).val < 128 + 128; omega⟩])]
    refine (h1 _).trans (key 1 _ ?_ ?_ ?_)
    · show (y 0).val - 0 = _; omega
    · show (y 1).val - 128 = _; omega
    · show _ = 1; omega
  · rw [dif_neg (fun h => hc (h 1).1), dif_pos (by intro a; fin_cases a <;> [exact ⟨Nat.zero_le _, by show (y 0).val < 0 + 512; omega⟩; exact ⟨Nat.zero_le _, by show (y 1).val < 0 + 128; omega⟩])]
    refine (h0 _).trans (key 0 _ ?_ ?_ ?_)
    · show (y 0).val - 0 = _; omega
    · show (y 1).val - 0 = _; omega
    · show _ = 0; omega

/-- The second head's rows are as they were before the first head's store. -/
theorem rg2_put (i : grid0.Coords) (arg : Memref sig .tc .vmem S4096x256 .f32) (f : BufTy.Contents (Elt Ideal) arg.view.ty) (L : List (View.Piece (Elt Ideal) S4096x256 .f32)) (w : T) :
    ld2 i arg (arg.view.writes (Elt Ideal) f (⟨Rect.unit (s := S4096x256) (k0_off1 i) S512x128.size (k0_off1_inb i), w⟩ :: L)) = q2 (arg.view.read (Elt Ideal) (arg.view.writes (Elt Ideal) f L)) (i 1).val 1 := by
  unfold ld2
  rw [View.readAt_unit arg.view _ (k0_off2_inb i) (off2_eq i) (off2_eq i ▸ k0_off2_inb i), View.read_writes_cons_put arg.view f _ _ _ (off1_eq i),
    VecWindow.window_put_of_disjoint _ _ _ _ _ _ _ 1 (Or.inr (by show 128 * 0 + 128 ≤ 128 * 1; omega))]
  exact window_q2 _ (i 1).isLt 1 _

theorem point_eq (c : Dev nD) (bd : Option Variants.none.V) (i : grid0.Coords) (arg2 : Memref sig .tc .vmem S4096x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x256 .f32) (harg10 : arg10.IsWhole) (B : Blk)
    {K0 K1 V0 V1 q0 q1 : Tb} {d o l : T} {w a b u : BitVec 32} (hK0 : K0 = k2 B.k 0) (hK1 : K1 = k2 B.k 1) (hV0 : V0 = k2 B.v 0) (hV1 : V1 = k2 B.v 1)
    (hq0 : q0 = q2 B.q (i 1).val 0) (hq1 : q1 = q2 B.q (i 1).val 1) (hd : d = r1 B.dO (i 1).val) (ho : o = r1 B.o (i 1).val) (hl : l = r1 B.l (i 1).val)
    (hw : w = BitVec.ofNat 32 (i 1).val) (hu : u = 1#32) (ha : a = 1#32) (hb : b = 0#32) (v41 v44 v248 v253 : BitVec 32)
    (G : BufTy.Contents (Elt Ideal) arg8.view.ty) (L0 : List (View.Piece (Elt Ideal) S4096x256 .f32)) {n1 n2 : ℕ} {w0 w1 : T}
    (hn1 : n1 = (k0_t1_loop i).trips) (hn2 : n2 = (k0_t2_loop i).trips)
    (hw0 : w0 = q2 (arg8.view.read (Elt Ideal) (arg8.view.writes (Elt Ideal) G L0)) (i 1).val 0) (hw1 : w1 = q2 (arg8.view.read (Elt Ideal) (arg8.view.writes (Elt Ideal) G L0)) (i 1).val 1) :
    (st_k0_t2 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v253
        (harg2.unread B.q) (harg5.unread B.o) (harg6.unread B.dO) (harg7.unread B.l) (arg8.view.writes (Elt Ideal) G ((st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).2 ++ (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0))) ((st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.1, (st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.2.1, (st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.2.2.1, (st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.2.2.2) n2).1
      = (fun y => ∑ ir ∈ Finset.range 8, dkTerm B (i 1).val 0 y ir, fun y => ∑ ir ∈ Finset.range 8, dvTerm B (i 1).val 0 y ir,
         fun y => ∑ ir ∈ Finset.range 8, dkTerm B (i 1).val 1 y ir, fun y => ∑ ir ∈ Finset.range 8, dvTerm B (i 1).val 1 y ir)
    ∧ arg8.view.read (Elt Ideal) (arg8.view.writes (Elt Ideal) G ((st_k0_t2 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v253
        (harg2.unread B.q) (harg5.unread B.o) (harg6.unread B.dO) (harg7.unread B.l) (arg8.view.writes (Elt Ideal) G ((st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).2 ++ (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0))) ((st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.1, (st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.2.1, (st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.2.2.1, (st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).1.2.2.2) n2).2 ++ ((st_k0_t1 (F := Ideal) .none c bd i arg2 harg2 arg3 harg3 arg4 harg4 arg5 harg5 arg6 harg6 arg7 harg7 arg8 harg8 arg9 harg9 arg10 harg10 lanes (k0_pay39 K0) (k0_pay40 K1) (k0_pay41 V0) (k0_pay42 V1) k0_pay43 k0_pay44 k0_pay45 k0_pay46 k0_pay47 k0_pay48 v41 v44 (k0_pay49 q0) (k0_pay50 q1) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)) (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d) v248
        (harg2.unread B.q) (harg5.unread B.o) (harg6.unread B.dO) (harg7.unread B.l) (arg8.view.writes (Elt Ideal) G (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0)) (k0_pay76 k0_pay45 (k0_pay49 q0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u), k0_pay77 k0_pay46 (k0_pay71 d (k0_pay62 (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u)), k0_pay78 k0_pay47 (k0_pay50 q1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b), k0_pay79 k0_pay48 (k0_pay72 (k0_pay65 lanes (k0_pay52 l) (k0_pay53 (k0_pay40 K1) q1)) (Scalar.muli (BitVec.ofNat 32 (i 1).val) 512#32) (k0_pay66 w) 64#32 (k0_pay67 w) (k0_pay68 w) a b) (k0_pay73 d)) n1).2 ++ (⟨Rect.unit (s := S4096x256) (k0_off2 i) S512x128.size (k0_off2_inb i), k0_pay75 (F := Ideal) (k0_pay40 K1) (k0_pay70 (k0_pay55 (k0_pay42 V1) d) (k0_pay64 k0_pay44 (k0_pay51 d o)) (k0_pay65 lanes (k0_pay52 l) (k0_pay53 (k0_pay40 K1) q1)) (Scalar.muli (BitVec.ofNat 32 (i 1).val) 512#32) (k0_pay66 w) 64#32 (k0_pay67 w) (k0_pay68 w) a b) w1⟩ :: ⟨Rect.unit (s := S4096x256) (k0_off1 i) S512x128.size (k0_off1_inb i), k0_pay74 (F := Ideal) (k0_pay39 K0) (k0_pay63 (k0_pay54 (k0_pay41 V0) d) (k0_pay56 k0_pay43 d o) (k0_pay57 lanes (k0_pay39 K0) q0 l) (k0_pay58 w) (k0_pay59 (BitVec.ofNat 32 (i 1).val)) 64#32 (k0_pay60 (BitVec.ofNat 32 (i 1).val)) (k0_pay61 (BitVec.ofNat 32 (i 1).val)) u) w0⟩ :: L0))))
      = fun y => arg8.view.read (Elt Ideal) (arg8.view.writes (Elt Ideal) G L0) y + dqAdd B (i 1).val y := by
  have k0 := (cast39 K0).trans hK0
  have k1 := (cast40 K1).trans hK1
  have v0 := (cast41 V0).trans hV0
  have v1 := (cast42 V1).trans hV1
  have hS0 := diag_S0 i B k0 v0 hq0 hd ho hl hw hu
  have hS1 := diag_S1 i B k1 v1 hq1 hd ho hl hw ha hb
  refine loops_eq c bd i arg2 harg2 arg3 harg3 arg4 harg4 arg5 harg5 arg6 harg6 arg7 harg7 arg8 harg8 arg9 harg9 arg10 harg10 _ _ _ _ _ _ _ _ _ _ _ _ _ _ _ B k0 k1 v0 v1 G _ _ hn1 hn2 (diag_store i arg8 B G L0 k0 k1 hS0 hS1 hw0 hw1) _ ?_
  exact fun y => diag_init i B hq0 hq1 hd hS0 hS1 (diag_P0 i B k0 hq0 hl hw hu) (diag_P1 i B k1 hq1 hl hw ha hb) y

end Cert.Attn.Mine
-- ==== Proof.AttnReal.lean ====
module
public import Idealize.ShloMosaic.Lib.Pointwise
@[expose] public section
noncomputable section
/-!
Chunked causal attention and its gradient over the real numbers: scores, the softmax of the visible ones, the products
with the values, and the gradient of the scores.
-/
namespace Cert.AttnVal
open Idealize.ShloMosaic

/-- The real numbers the call is given: queries, keys, values, and the cotangent of the output. -/
structure Args where
  q : Fin 4096 → Fin 8 → Fin 96 → ℝ
  k : Fin 4096 → Fin 8 → Fin 96 → ℝ
  v : Fin 4096 → Fin 8 → Fin 64 → ℝ
  g : Fin 4096 → Fin 512 → ℝ

/-- Row `x` sees key `y`: the key's chunk is not a later one. -/
def sees (x y : Fin 4096) : Prop := y.val / 64 ≤ x.val / 64
instance (x y : Fin 4096) : Decidable (sees x y) := inferInstanceAs (Decidable (_ ≤ _))

/-- Column `d` of head `h` of the output. -/
def oc (h : Fin 8) (d : Fin 64) : Fin 512 := ⟨64 * h.val + d.val, by omega⟩

variable (I : Args)

def score (h : Fin 8) (x y : Fin 4096) : ℝ := (∑ d, I.q x h d * I.k y h d) * (1 / Real.sqrt 96)
def wgt (h : Fin 8) (x y : Fin 4096) : ℝ := if sees x y then Real.exp (score I h x y) else 0
def total (h : Fin 8) (x : Fin 4096) : ℝ := ∑ y, wgt I h x y
def prob (h : Fin 8) (x y : Fin 4096) : ℝ := wgt I h x y * (1 / total I h x)
def outR (x : Fin 4096) (h : Fin 8) (d : Fin 64) : ℝ := ∑ y, I.v y h d * prob I h x y
def dP (h : Fin 8) (x y : Fin 4096) : ℝ := ∑ d, I.g x (oc h d) * I.v y h d
def delta (h : Fin 8) (x : Fin 4096) : ℝ := ∑ d, I.g x (oc h d) * outR I x h d
def dS (h : Fin 8) (x y : Fin 4096) : ℝ := prob I h x y * (dP I h x y - delta I h x)

theorem wgt_nonneg (h x y) : 0 ≤ wgt I h x y := by
  unfold wgt; split
  · exact (Real.exp_pos _).le
  · exact le_rfl
theorem total_pos (h x) : 0 < total I h x := by
  have hx : wgt I h x x = Real.exp (score I h x x) := if_pos (le_refl _)
  exact lt_of_lt_of_le (hx ▸ Real.exp_pos _) (Finset.single_le_sum (f := fun y => wgt I h x y) (fun y _ => wgt_nonneg I h x y) (Finset.mem_univ x))

/-- The sum of the cotangent times the output is the mean of the products with the values. -/
theorem delta_eq (h x) : delta I h x = ∑ y, prob I h x y * dP I h x y := by
  unfold delta outR dP
  simp only [Finset.mul_sum]
  rw [Finset.sum_comm]
  exact Finset.sum_congr rfl fun y _ => Finset.sum_congr rfl fun d _ => by ring

/-- The exponential of a visible score less any number. -/
def shifted (M : ℝ) (h : Fin 8) (x y : Fin 4096) : ℝ := if sees x y then Real.exp (score I h x y - M) else 0
theorem shifted_eq (M h x y) : shifted I M h x y = wgt I h x y * Real.exp (-M) := by
  unfold shifted wgt; split
  · rw [← Real.exp_add]; rfl
  · rw [zero_mul]
theorem sum_shifted (M h x) : ∑ y, shifted I M h x y = total I h x * Real.exp (-M) := by
  unfold total; rw [Finset.sum_mul]; exact Finset.sum_congr rfl fun y _ => shifted_eq I M h x y
theorem sum_shifted_pos (M h x) : 0 < ∑ y, shifted I M h x y := by
  rw [sum_shifted]; exact mul_pos (total_pos I h x) (Real.exp_pos _)
theorem shifted_div (M h x y) : shifted I M h x y * (1 / ∑ y', shifted I M h x y') = prob I h x y := by
  rw [sum_shifted, shifted_eq]; unfold prob
  have h1 := (total_pos I h x).ne'
  have h2 := (Real.exp_pos (-M)).ne'
  field_simp
theorem lse_eq (M h x) : M + Real.log (∑ y, shifted I M h x y) = Real.log (total I h x) := by
  rw [sum_shifted, Real.log_mul (total_pos I h x).ne' (Real.exp_pos _).ne', Real.log_exp]; ring
/-- Two to the score less the logarithm of the sum, both in base two. -/
theorem rpow_eq (h x y) (hs : sees x y) : Real.rpow 2 ((score I h x y) * (1 / Real.log 2) - Real.log (total I h x) * (1 / Real.log 2)) = prob I h x y := by
  have h2 : Real.log 2 ≠ 0 := (Real.log_pos (by norm_num)).ne'
  rw [Real.rpow_eq_pow]
  rw [Real.rpow_def_of_pos (by norm_num)]
  have : Real.log 2 * (score I h x y * (1 / Real.log 2) - Real.log (total I h x) * (1 / Real.log 2)) = score I h x y - Real.log (total I h x) := by
    field_simp
  rw [this, Real.exp_sub, Real.exp_log (total_pos I h x)]
  unfold prob wgt
  rw [if_pos hs, div_eq_mul_one_div]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of scores of which one at least is visible is a real number. -/
theorem fold_max {n : ℕ} (s : Fin n → ℝ) (vis : Fin n → Prop) [DecidablePred vis] (y0 : Fin n) (h0 : vis y0) :
    ∃ M : ℝ, Finset.univ.fold max (⊥ : EReal) (fun y => if vis y then (s y : EReal) else ⊥) = (M : EReal) := by
  have hb : ((s y0 : ℝ) : EReal) ≤ Finset.univ.fold max (⊥ : EReal) (fun y => if vis y then (s y : EReal) else ⊥) :=
    (Finset.le_fold_max _).mpr (.inr ⟨y0, Finset.mem_univ _, by rw [if_pos h0]⟩)
  have ht : Finset.univ.fold max (⊥ : EReal) (fun y => if vis y then (s y : EReal) else ⊥) < ⊤ :=
    (Finset.fold_max_lt _).mpr ⟨bot_lt_top, fun y _ => by split <;> [exact EReal.coe_lt_top _; exact bot_lt_top]⟩
  exact ⟨_, (EReal.coe_toReal ht.ne (fun e => by rw [e] at hb; exact absurd (le_bot_iff.mp hb) (EReal.coe_ne_bot _))).symm⟩

/-- A sum whose terms end early. -/
theorem sum_lt {n r : ℕ} (f : Fin n → ℝ) : ∑ d : Fin (n + r), (if hd : d.val < n then f ⟨d.val, hd⟩ else 0) = ∑ d, f d := by
  rw [Fin.sum_univ_add, Finset.sum_eq_zero (s := Finset.univ) (f := fun i : Fin r => _) (fun i _ => dif_neg (by simp)), add_zero]
  exact Finset.sum_congr rfl fun d _ => by rw [dif_pos (show (Fin.castAdd r d).val < n from d.isLt)]; rfl

/-- A sum whose terms begin late. -/
theorem sum_ge {n r : ℕ} (f : Fin n → ℝ) : ∑ d : Fin (r + n), (if hd : r ≤ d.val then f ⟨d.val - r, by omega⟩ else 0) = ∑ d, f d := by
  rw [Fin.sum_univ_add, Finset.sum_eq_zero (s := Finset.univ) (f := fun i : Fin r => _) (fun i _ => dif_neg (by simp)), zero_add]
  exact Finset.sum_congr rfl fun d _ => by
    rw [dif_pos (show r ≤ (Fin.natAdd r d).val by simp)]
    exact congrArg f (Fin.ext (by simp))

/-- A sum over eight tiles of 512 rows is the sum over the rows. -/
theorem sum_rows {M : Type} [AddCommMonoid M] (f : Fin 4096 → M) :
    ∑ t ∈ Finset.range 8, ∑ r : Fin 512, f (Fin.ofNat 4096 (512 * t + r.val)) = ∑ x, f x := by
  rw [Finset.sum_range, ← Fintype.sum_prod_type']
  refine Fintype.sum_equiv (finProdFinEquiv (m := 8) (n := 512)) _ _ fun ⟨t, r⟩ => congrArg f (Fin.ext ?_)
  show (512 * t.val + r.val) % 4096 = r.val + 512 * t.val
  omega
end Cert.AttnVal
end
-- ==== Proof.AttnSums.lean ====
module
public import proofs.«01_k».proof.Proof.AttnPoint
public import proofs.«01_k».proof.Proof.AttnReal
@[expose] public section
set_option maxRecDepth 16384
noncomputable section
/-!
What the kernel's blocks add up to over the real numbers: probabilities, score gradients, and the three gradients of a
pair of heads.
-/
namespace Cert.AttnVal
open Idealize.ShloMosaic Idealize.ShloMosaic.TcCoe Idealize.SL.Sem
open Cert.AttnIdeal Cert.AttnIdeal.Gen Cert.Attn.Mine

/-- Lane `d` of the half of a block that belongs to head `h` of the pair. -/
def lh (h : Fin 2) (d : Fin 64) : Fin 128 := ⟨64 * h.val + d.val, by omega⟩
/-- Lane `d` of a head's 96, among the 128. -/
def lq (d : Fin 96) : Fin 128 := ⟨d.val, by omega⟩
/-- Head `h` of pair `p`. -/
def hp (p : Fin 4) (h : Fin 2) : Fin 8 := ⟨2 * p.val + h.val, by omega⟩

theorem sum_half {M : Type} [AddCommMonoid M] (h : Fin 2) (F : Fin 128 → M) (hz : ∀ x, ¬ (x.val < 64 ↔ h = 0) → F x = 0) : ∑ x, F x = ∑ d, F (lh h d) := by
  have e := Fin.sum_univ_add (a := 64) (b := 64) F
  refine e.trans ?_
  rcases Fin.exists_fin_two.mp ⟨h, rfl⟩ with rfl | rfl
  · rw [Finset.sum_eq_zero (s := Finset.univ) (f := fun i : Fin 64 => F (Fin.natAdd 64 i)) (fun i _ => hz _ (by
      intro hh; have := hh.mpr rfl; simp only [Fin.val_natAdd] at this; omega)), add_zero]
    exact Finset.sum_congr rfl fun d _ => congrArg F (Fin.ext (by show d.val = 64 * 0 + d.val; omega))
  · rw [Finset.sum_eq_zero (s := Finset.univ) (f := fun i : Fin 64 => F (Fin.castAdd 64 i)) (fun i _ => hz _ (by
      intro hh; exact absurd (hh.mp (by simp only [Fin.val_castAdd]; omega)) (by decide))), zero_add]
    exact Finset.sum_congr rfl fun d _ => congrArg F (Fin.ext (by show 64 + d.val = 64 * 1 + d.val; omega))

theorem sum_front {M : Type} [AddCommMonoid M] (F : Fin 128 → M) (hz : ∀ x, 96 ≤ x.val → F x = 0) : ∑ x, F x = ∑ d, F (lq d) := by
  have e := Fin.sum_univ_add (a := 96) (b := 32) F
  refine e.trans ?_
  rw [Finset.sum_eq_zero (s := Finset.univ) (f := fun i : Fin 32 => F (Fin.natAdd 96 i)) (fun i _ => hz _ (by simp)), add_zero]
  exact Finset.sum_congr rfl fun d _ => congrArg F (Fin.ext rfl)

variable (I : Args)
/-- The blocks of pair `p` and key tile `j` hold the reals of `I`. -/
structure Holds (B : Blk) (p : Fin 4) (j : ℕ) : Prop where
  q_in : ∀ x h d, B.q (ix2 (n0 := 4096) (n1 := 256) x (colI h (lq d))) = ((I.q x (hp p h) d * (1 / Real.sqrt 96 * (1 / Real.log 2)) : ℝ) : EReal)
  q_out : ∀ x h (d : Fin 128), 96 ≤ d.val → B.q (ix2 (n0 := 4096) (n1 := 256) x (colI h d)) = 0
  k_in : ∀ y h d, B.k (ix2 (n0 := 512) (n1 := 256) y (colI h (lq d))) = ((I.k (rowI j y) (hp p h) d : ℝ) : EReal)
  v_in : ∀ y h d, B.v (ix2 (n0 := 512) (n1 := 256) y (colI h (lh h d))) = ((I.v (rowI j y) (hp p h) d : ℝ) : EReal)
  v_out : ∀ y h (d : Fin 128), ¬ (d.val < 64 ↔ h = 0) → B.v (ix2 (n0 := 512) (n1 := 256) y (colI h d)) = 0
  o_in : ∀ x h d, B.o (ix2 (n0 := 4096) (n1 := 128) x (lh h d)) = ((outR I x (hp p h) d : ℝ) : EReal)
  g_in : ∀ x h d, B.dO (ix2 (n0 := 4096) (n1 := 128) x (lh h d)) = ((I.g x (oc (hp p h) d) : ℝ) : EReal)
  l_in : ∀ x h d, B.l (ix2 (n0 := 4096) (n1 := 128) x (lh h d)) = ((Real.log (total I (hp p h) x) * (1 / Real.log 2) : ℝ) : EReal)

/-- The query gradient. -/
def dqR (x : Fin 4096) (h : Fin 8) (d : Fin 96) : ℝ := (∑ y, dS I h x y * I.k y h d) * (1 / Real.sqrt 96)
/-- The key gradient. -/
def dkR (y : Fin 4096) (h : Fin 8) (d : Fin 96) : ℝ := (∑ x, dS I h x y * I.q x h d) * (1 / Real.sqrt 96)
/-- The value gradient. -/
def dvR (y : Fin 4096) (h : Fin 8) (d : Fin 64) : ℝ := ∑ x, prob I h x y * I.g x (oc h d)

theorem sc_eq : sc = ((1 / Real.sqrt 96 : ℝ) : EReal) := by
  rw [one_div]
  exact IdealRules.named_const.ideal_named_scalar _ _ _ _ rfl
theorem ln2_eq : ln2 = ((Real.log 2 : ℝ) : EReal) := IdealRules.named_const.ideal_named_scalar _ _ _ _ rfl

variable {I} {B : Blk} {p : Fin 4} {j : ℕ} (H : Holds I B p j) (hj : j < 8)
include H hj

theorem P_real {ir : ℕ} (hir : ir < 8) (h : Fin 2) (r kk : Fin 512) : P B j ir h r kk = ((prob I (hp p h) (rowI ir r) (rowI j kk) : ℝ) : EReal) := by
  unfold P tp
  have e : (sees (rowI ir r) (rowI j kk)) = ((512 * j + kk.val) / 64 ≤ (512 * ir + r.val) / 64) := by
    unfold sees; rw [rowI_val hir, rowI_val hj]
  by_cases hv : (512 * j + kk.val) / 64 ≤ (512 * ir + r.val) / 64
  · rw [if_pos hv, ← rpow_eq I (hp p h) (rowI ir r) (rowI j kk) (e ▸ hv)]
    have hl : r1 B.l ir (ix2 r (lane h)) = ((Real.log (total I (hp p h) (rowI ir r)) * (1 / Real.log 2) : ℝ) : EReal) := by
      rw [← H.l_in (rowI ir r) h 0]
      refine congrArg (fun x => B.l (ix2 (n0 := 4096) (n1 := 128) (rowI ir r) x)) ?_
      exact (by decide : ∀ h : Fin 2, lane h = lh h 0) h
    have hs : (∑ d : Fin 128, q2 B.q ir h (ix2 r d) * k2 B.k h (ix2 kk d)) = ((score I (hp p h) (rowI ir r) (rowI j kk) * (1 / Real.log 2) : ℝ) : EReal) := by
      rw [sum_front _ (fun x hx => by
        show B.q (ix2 (n0 := 4096) (n1 := 256) (rowI ir r) (colI h x)) * _ = 0
        rw [H.q_out _ h x hx, zero_mul])]
      unfold score
      rw [Finset.sum_mul, Finset.sum_mul, coe_sum]
      refine Finset.sum_congr rfl fun d _ => ?_
      show B.q (ix2 (n0 := 4096) (n1 := 256) (rowI ir r) (colI h (lq d))) * B.k (ix2 (n0 := 512) (n1 := 256) kk (colI h (lq d))) = _
      rw [H.q_in, H.k_in, ← EReal.coe_mul]
      exact congrArg _ (by ring)
    rw [hl, hs, ← EReal.coe_sub, Ideal.exp2_coe]
  · rw [if_neg hv]
    unfold prob wgt
    rw [if_neg (by rw [e]; exact hv), zero_mul, EReal.coe_zero]

theorem DS_real {ir : ℕ} (hir : ir < 8) (h : Fin 2) (r kk : Fin 512) : DS B j ir h r kk = ((dS I (hp p h) (rowI ir r) (rowI j kk) : ℝ) : EReal) := by
  have hP := P_real H hj hir h r kk
  unfold P at hP
  unfold DS tds
  rw [hP]
  have h1 : (∑ x : Fin 128, r1 B.dO ir (ix2 r x) * k2 B.v h (ix2 kk x)) = ((dP I (hp p h) (rowI ir r) (rowI j kk) : ℝ) : EReal) := by
    rw [sum_half h _ (fun x hx => by
      show _ * B.v (ix2 (n0 := 512) (n1 := 256) kk (colI h x)) = 0
      rw [H.v_out _ h x hx, mul_zero])]
    unfold dP
    rw [coe_sum]
    refine Finset.sum_congr rfl fun d _ => ?_
    show B.dO (ix2 (n0 := 4096) (n1 := 128) (rowI ir r) (lh h d)) * B.v (ix2 (n0 := 512) (n1 := 256) kk (colI h (lh h d))) = _
    rw [H.g_in, H.v_in, ← EReal.coe_mul]
  have h2 : (∑ x : Fin 128, r1 B.dO ir (ix2 r x) * r1 B.o ir (ix2 r x) * hm h x) = ((delta I (hp p h) (rowI ir r) : ℝ) : EReal) := by
    rw [sum_half h _ (fun x hx => by unfold hm; rw [if_neg hx, mul_zero])]
    unfold delta
    rw [coe_sum]
    refine Finset.sum_congr rfl fun d _ => ?_
    have hh : hm h (lh h d) = 1 := by
      unfold hm; refine if_pos ?_
      unfold lh
      have := d.isLt
      rcases Fin.exists_fin_two.mp ⟨h, rfl⟩ with rfl | rfl
      · simp
      · simp
    show B.dO (ix2 (n0 := 4096) (n1 := 128) (rowI ir r) (lh h d)) * B.o (ix2 (n0 := 4096) (n1 := 128) (rowI ir r) (lh h d)) * _ = _
    rw [H.g_in, H.o_in, hh, mul_one, ← EReal.coe_mul]
  rw [h1, h2, ← EReal.coe_sub, ← EReal.coe_mul]; rfl

theorem dk_real (h : Fin 2) (kk : Fin 512) (d : Fin 96) :
    (∑ ir ∈ Finset.range 8, dkTerm B j h (ix2 kk (lq d)) ir) * ln2 = ((dkR I (rowI j kk) (hp p h) d : ℝ) : EReal) := by
  have e : (∑ ir ∈ Finset.range 8, dkTerm B j h (ix2 kk (lq d)) ir)
      = ((∑ x, dS I (hp p h) x (rowI j kk) * (I.q x (hp p h) d * (1 / Real.sqrt 96 * (1 / Real.log 2))) : ℝ) : EReal) := by
    rw [coe_sum, ← sum_rows]
    refine Finset.sum_congr rfl fun ir hir => Finset.sum_congr rfl fun r _ => ?_
    refine (congrArg₂ (fun a b : EReal => a * b) (DS_real H hj (Finset.mem_range.mp hir) h r kk) (H.q_in (rowI ir r) h d)).trans ?_
    rw [← EReal.coe_mul]; rfl
  rw [e, ln2_eq, ← EReal.coe_mul]
  refine congrArg _ ?_
  unfold dkR
  rw [Finset.sum_mul, Finset.sum_mul]
  refine Finset.sum_congr rfl fun x _ => ?_
  have h2 : Real.log 2 ≠ 0 := (Real.log_pos (by norm_num)).ne'
  field_simp

theorem dv_real (h : Fin 2) (kk : Fin 512) (d : Fin 64) :
    (∑ ir ∈ Finset.range 8, dvTerm B j h (ix2 kk (lh h d)) ir) = ((dvR I (rowI j kk) (hp p h) d : ℝ) : EReal) := by
  unfold dvR
  rw [coe_sum, ← sum_rows]
  refine Finset.sum_congr rfl fun ir hir => Finset.sum_congr rfl fun r _ => ?_
  refine (congrArg₂ (fun a b : EReal => a * b) (P_real H hj (Finset.mem_range.mp hir) h r kk) (H.g_in (rowI ir r) h d)).trans ?_
  rw [← EReal.coe_mul]; rfl

omit hj H in
theorem dq_real (Bs : ℕ → Blk) (Hs : ∀ j < 8, Holds I (Bs j) p j) (x : Fin 4096) (h : Fin 2) (d : Fin 96) :
    (∑ j ∈ Finset.range 8, dqAdd (Bs j) j (ix2 x (colI h (lq d)))) = ((dqR I x (hp p h) d : ℝ) : EReal) := by
  have hx : rowI (x.val / 512) ⟨x.val % 512, Nat.mod_lt _ (by norm_num)⟩ = x := by
    refine Fin.ext ?_
    rw [rowI_val (by omega)]
    show 512 * (x.val / 512) + x.val % 512 = x.val
    omega
  have hc1 : (colI h (lq d)).val / 128 = h.val := by show (128 * h.val + d.val) / 128 = _; omega
  have hc2 : (colI h (lq d)).val % 128 = d.val := by show (128 * h.val + d.val) % 128 = _; omega
  have e : ∀ j ∈ Finset.range 8, dqAdd (Bs j) j (ix2 x (colI h (lq d))) = (((∑ kk : Fin 512, dS I (hp p h) x (rowI j kk) * I.k (rowI j kk) (hp p h) d) * (1 / Real.sqrt 96) : ℝ) : EReal) := by
    intro j hj
    have hj := Finset.mem_range.mp hj
    unfold dqAdd dqTerm
    rw [sc_eq, EReal.coe_mul, coe_sum]
    refine congrArg (fun a : EReal => a * _) (Finset.sum_congr rfl fun kk _ => ?_)
    have a1 := DS_real (Hs j hj) hj (ir := x.val / 512) (by omega) h ⟨x.val % 512, Nat.mod_lt _ (by norm_num)⟩ kk
    rw [hx] at a1
    have a2 := (Hs j hj).k_in kk h d
    rw [EReal.coe_mul, ← a1, ← a2]
    have f1 : (⟨(colI h (lq d)).val / 128, by omega⟩ : Fin 2) = h := Fin.ext hc1
    have f2 : (⟨(colI h (lq d)).val % 128, by omega⟩ : Fin 128) = lq d := Fin.ext hc2
    exact congrArg₂ (fun (a : Fin 2) (b : Fin 128) => DS (Bs j) j (x.val / 512) a ⟨x.val % 512, Nat.mod_lt _ (by norm_num)⟩ kk * (Bs j).k (ix2 (n0 := 512) (n1 := 256) kk (colI a b))) f1 f2
  rw [Finset.sum_congr rfl e, ← coe_sum, ← Finset.sum_mul]
  unfold dqR
  rw [← sum_rows]
  rfl
end Cert.AttnVal
end
-- ==== Proof.AttnHost.lean ====
module
public import proofs.«01_k».proof.Proof.AttnTile
public import proofs.«01_k».proof.Proof.AttnReal
public import Idealize.ShloMosaic.Lib.Pointwise
@[expose] public section
set_option maxRecDepth 16384
noncomputable section
/-!
The host lines before the kernel, stage by stage: the mask, the masked scores, their maximum, the exponentials, their sum,
the probabilities, the output, and the log-sums in base two.
-/
namespace Cert.AttnVal
open Idealize.ShloMosaic Idealize.ShloMosaic.TcCoe Idealize.SL.Sem
open Cert.AttnIdeal Cert.AttnIdeal.Gen Cert.Attn.Mine

/-- The number of the 64-row chunk of each row. -/
def chunk : IVec S4096 32 :=
  select (andi (cmpi CmpIPredicate.ne (signi (iotaInDim S4096 32 0)) (broadcastInDim S4096 ![] bcast_S_S4096 (signi (id (constantI S_ 32 64#32))))) (cmpi CmpIPredicate.ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The mask, the same for every head. -/
def mask : IVec S8x4096x4096 1 :=
  broadcastInDim S8x4096x4096 ![1, 2] bcast_S4096x4096_S8x4096x4096_1_2 (cmpi CmpIPredicate.sle (broadcastInDim S4096x4096 ![0, 1] bcast_S1x4096_S4096x4096_0_1 (broadcastInDim S1x4096 ![1] bcast_S4096_S1x4096_1 chunk)) (broadcastInDim S4096x4096 ![0, 1] bcast_S4096x1_S4096x4096_0_1 (broadcastInDim S4096x1 ![0] bcast_S4096_S4096x1_0 chunk)))
/-- One over the square root of 96. -/
def scaleH : FVec Ideal S_ .f32 := Host.divf (constant S_ FTy.f32 1065353216#32) (Host.sqrt (constant S_ FTy.f32 1119879168#32))
/-- The products of queries and keys. -/
def dotH (q k : FVec Ideal S4096x8x96 .f32) : FVec Ideal S8x4096x4096 .f32 := Host.dotGeneral dot_S4096x8x96_S4096x8x96_S8x4096x4096_2_2_0_0_1_1 none q k
/-- Scores with minus infinity where the key is not visible. -/
def maskedH (s : FVec Ideal S8x4096x4096 .f32) : FVec Ideal S8x4096x4096 .f32 :=
  select mask s (broadcastInDim S8x4096x4096 ![] bcast_S_S8x4096x4096 (id (constant S_ FTy.f32 4286578688#32)))
/-- The largest score of each row. -/
def maxH (s : FVec Ideal S8x4096x4096 .f32) : FVec Ideal S8x4096 .f32 :=
  Host.reduce FloatOps.maximumf (maskedH s) (constant S_ FTy.f32 4286578688#32) reducesTo_S8x4096x4096_S8x4096_d2 h_S_
/-- A value of a row, at each key. -/
def acrossH (x : FVec Ideal S8x4096x1 .f32) : FVec Ideal S8x4096x4096 .f32 := broadcastInDim S8x4096x4096 ![0, 1, 2] bcast_S8x4096x1_S8x4096x4096_0_1_2 x
def colH (x : FVec Ideal S8x4096 .f32) : FVec Ideal S8x4096x1 .f32 := broadcastInDim S8x4096x1 ![0, 1] bcast_S8x4096_S8x4096x1_0_1 x
def expH (s : FVec Ideal S8x4096x4096 .f32) (mx : FVec Ideal S8x4096 .f32) : FVec Ideal S8x4096x4096 .f32 := Host.exp (subf (maskedH s) (acrossH (colH mx)))
def sumH (e : FVec Ideal S8x4096x4096 .f32) : FVec Ideal S8x4096 .f32 := Host.reduceAdd e (constant S_ FTy.f32 0#32) reducesTo_S8x4096x4096_S8x4096_d2 h_S_
def probH (e : FVec Ideal S8x4096x4096 .f32) : FVec Ideal S8x4096x4096 .f32 := Host.divf e (acrossH (colH (sumH e)))
def outH (v : FVec Ideal S4096x8x64 .f32) (p : FVec Ideal S8x4096x4096 .f32) : FVec Ideal S4096x512 .f32 :=
  shapeCast S4096x512 (transpose S4096x8x64 [2, 0, 1] (Host.dotGeneral dot_S4096x8x64_S8x4096x4096_S8x64x4096_0_2_2_1_1_0 none v p) transposes_S8x64x4096_S4096x8x64_2_0_1) shapeCasts_S4096x8x64_S4096x512
def lseH (mx : FVec Ideal S8x4096 .f32) (l : FVec Ideal S8x4096 .f32) : FVec Ideal S4096x512 .f32 :=
  shapeCast S4096x512 (broadcastInDim S4096x8x64 ![0, 1, 2] bcast_S4096x8x1_S4096x8x64_0_1_2 (transpose S4096x8x1 [1, 0, 2] (Host.divf (addf (colH mx) (Host.log (colH l))) (broadcastInDim S8x4096x1 ![] bcast_S_S8x4096x1 (Host.log (constant S_ FTy.f32 1073741824#32)))) transposes_S8x4096x1_S4096x8x1_1_0_2)) shapeCasts_S4096x8x64_S4096x512

/-- The host's quotient by 64, rounded down by hand. -/
theorem chunk_word : ∀ x : Fin 4096, Scalar.select
        (IntOp.andi
          (IntOp.cmpi CmpIPredicate.ne
            (if BitVec.ofNat 32 x.val = 0 then 0 else if (BitVec.ofNat 32 x.val).msb = true then -1 else 1)
            (if (64#32 : BitVec 32) = 0 then 0 else if (64#32).msb = true then -1 else (1 : BitVec 32)))
          (IntOp.cmpi CmpIPredicate.ne (IntOp.remsi ArithUnit.host (BitVec.ofNat 32 x.val) 64#32) 0#32))
        (IntOp.subi (IntOp.divsi ArithUnit.host (BitVec.ofNat 32 x.val) 64#32) 1#32)
        (IntOp.divsi ArithUnit.host (BitVec.ofNat 32 x.val) 64#32) = BitVec.ofNat 32 (x.val / 64) := by decide +kernel

theorem mask_at (h : Fin 8) (x y : Fin 4096) : mask (ix3 (n0 := 8) (n1 := 4096) (n2 := 4096) h x y) = if sees x y then 1#1 else 0#1 := by
  pointwise [mask, chunk]
  refine (congrArg₂ (IntOp.cmpi CmpIPredicate.sle) (chunk_word y) (chunk_word x)).trans ?_
  exact sle_ofNat ⟨y.val / 64, by omega⟩ ⟨x.val / 64, by omega⟩

theorem word_1 : Ideal.ofBits .f32 1065353216#32 = ((1 : ℝ) : EReal) := by simp [Ideal.ofBits, Ideal.ieee, -EReal.coe_mul]; norm_num
theorem word_96 : Ideal.ofBits .f32 1119879168#32 = ((96 : ℝ) : EReal) := by simp [Ideal.ofBits, Ideal.ieee, -EReal.coe_mul]; norm_num
theorem word_2 : Ideal.ofBits .f32 1073741824#32 = ((2 : ℝ) : EReal) := by simp [Ideal.ofBits, Ideal.ieee, -EReal.coe_mul]; norm_num
theorem word_bot : Ideal.ofBits .f32 4286578688#32 = ⊥ := by simp [Ideal.ofBits, Ideal.ieee]

theorem sqrt96 : Ideal.sqrt ((96 : ℝ) : EReal) = ((Real.sqrt 96 : ℝ) : EReal) := by rw [Ideal.sqrt_coe, if_neg (by norm_num)]
theorem sqrt96_ne : Real.sqrt 96 ≠ 0 := (Real.sqrt_pos.mpr (by norm_num)).ne'
theorem log2 : Ideal.log ((2 : ℝ) : EReal) = ((Real.log 2 : ℝ) : EReal) := by rw [Ideal.log_coe, if_neg (by norm_num)]
theorem log2_ne : Real.log 2 ≠ 0 := (Real.log_pos (by norm_num)).ne'

theorem scaleH_at : scaleH ix0 = ((1 / Real.sqrt 96 : ℝ) : EReal) := by
  pointwise [scaleH]
  rw [word_96, sqrt96, Ideal.div_coe sqrt96_ne, one_mul]

variable (I : Args)
/-- The arguments as arrays. -/
def qE : FVec Ideal S4096x8x96 .f32 := fun i => ((I.q (i 0) (i 1) (i 2) : ℝ) : EReal)
def kE : FVec Ideal S4096x8x96 .f32 := fun i => ((I.k (i 0) (i 1) (i 2) : ℝ) : EReal)
def vE : FVec Ideal S4096x8x64 .f32 := fun i => ((I.v (i 0) (i 1) (i 2) : ℝ) : EReal)
def gE : FVec Ideal S4096x512 .f32 := fun i => ((I.g (i 0) (i 1) : ℝ) : EReal)
/-- Scores that are the reals `score`. -/
def IsScore (s : FVec Ideal S8x4096x4096 .f32) : Prop := ∀ h x y, s (ix3 (n0 := 8) (n1 := 4096) (n2 := 4096) h x y) = ((score I h x y : ℝ) : EReal)

theorem dot_at (h : Fin 8) (x y : Fin 4096) : dotH (qE I) (kE I) (ix3 (n0 := 8) (n1 := 4096) (n2 := 4096) h x y) = ((∑ d, I.q x h d * I.k y h d : ℝ) : EReal) := by
  pointwise [dotH]
  rw [coe_sum]
  exact Finset.sum_congr rfl fun d _ => (EReal.coe_mul _ _).symm

/-- The kernel's host lines: the products times the scale. -/
theorem score_mul : IsScore I (mulf (dotH (qE I) (kE I)) (broadcastInDim S8x4096x4096 ![] bcast_S_S8x4096x4096 scaleH)) := by
  intro h x y
  pointwise []
  rw [dot_at, scaleH_at, ← EReal.coe_mul]; rfl

theorem lseH_at (mx l : FVec Ideal S8x4096 .f32) (x : Fin 4096) (h : Fin 8) (d : Fin 64) : lseH mx l (ix2 (n0 := 4096) (n1 := 512) x ⟨64 * h.val + d.val, by omega⟩)
    = Ideal.div (mx (ix2 (n0 := 8) (n1 := 4096) h x) + Ideal.log (l (ix2 (n0 := 8) (n1 := 4096) h x))) (Ideal.log (Ideal.ofBits .f32 1073741824#32)) := by
  pointwise [lseH, colH]
theorem outH_at (v : FVec Ideal S4096x8x64 .f32) (p : FVec Ideal S8x4096x4096 .f32) (x : Fin 4096) (h : Fin 8) (d : Fin 64) : outH v p (ix2 (n0 := 4096) (n1 := 512) x ⟨64 * h.val + d.val, by omega⟩)
    = ∑ y : Fin 4096, v (ix3 (n0 := 4096) (n1 := 8) (n2 := 64) y h d) * p (ix3 (n0 := 8) (n1 := 4096) (n2 := 4096) h x y) := by
  pointwise [outH]
theorem probH_at (e : FVec Ideal S8x4096x4096 .f32) (h : Fin 8) (x y : Fin 4096) : probH e (ix3 (n0 := 8) (n1 := 4096) (n2 := 4096) h x y)
    = Ideal.div (e (ix3 (n0 := 8) (n1 := 4096) (n2 := 4096) h x y)) (sumH e (ix2 (n0 := 8) (n1 := 4096) h x)) := by
  pointwise [probH, acrossH, colH]
theorem sumH_at (e : FVec Ideal S8x4096x4096 .f32) (h : Fin 8) (x : Fin 4096) : sumH e (ix2 (n0 := 8) (n1 := 4096) h x) = ∑ y : Fin 4096, e (ix3 (n0 := 8) (n1 := 4096) (n2 := 4096) h x y) := by
  pointwise [sumH]

variable {I} {s : FVec Ideal S8x4096x4096 .f32} (hs : IsScore I s)
include hs

theorem masked_at (h : Fin 8) (x y : Fin 4096) : maskedH s (ix3 (n0 := 8) (n1 := 4096) (n2 := 4096) h x y) = if sees x y then ((score I h x y : ℝ) : EReal) else ⊥ := by
  pointwise [maskedH]
  rw [mask_at, hs]
  by_cases hv : sees x y
  · rw [if_pos hv, if_pos hv]; rfl
  · rw [if_neg hv, if_neg hv]; exact word_bot

theorem max_at (h : Fin 8) (x : Fin 4096) : ∃ M : ℝ, maxH s (ix2 (n0 := 8) (n1 := 4096) h x) = (M : EReal) := by
  obtain ⟨M, hM⟩ := fold_max (fun y => score I h x y) (fun y => sees x y) x (le_refl _)
  refine ⟨M, ?_⟩
  rw [← hM]
  pointwise [maxH]
  rw [word_bot]
  exact congrArg (fun f => Finset.fold max (⊥ : EReal) f Finset.univ) (funext fun y => masked_at hs h x y)

theorem exp_at {mx : FVec Ideal S8x4096 .f32} {M : ℝ} (h : Fin 8) (x y : Fin 4096) (hM : mx (ix2 (n0 := 8) (n1 := 4096) h x) = (M : EReal)) :
    expH s mx (ix3 (n0 := 8) (n1 := 4096) (n2 := 4096) h x y) = ((shifted I M h x y : ℝ) : EReal) := by
  pointwise [expH, acrossH, colH]
  rw [masked_at hs, hM]; unfold shifted
  by_cases hv : sees x y
  · rw [if_pos hv, if_pos hv, ← EReal.coe_sub, Ideal.exp_coe]
  · rw [if_neg hv, if_neg hv, EReal.bot_sub, Ideal.exp_bot, EReal.coe_zero]

theorem sum_at {mx : FVec Ideal S8x4096 .f32} {M : ℝ} (h : Fin 8) (x : Fin 4096) (hM : mx (ix2 (n0 := 8) (n1 := 4096) h x) = (M : EReal)) :
    sumH (expH s mx) (ix2 (n0 := 8) (n1 := 4096) h x) = ((∑ y, shifted I M h x y : ℝ) : EReal) := by
  rw [coe_sum, sumH_at]
  exact Finset.sum_congr rfl fun y _ => exp_at hs h x y hM

theorem prob_at {mx : FVec Ideal S8x4096 .f32} {M : ℝ} (h : Fin 8) (x y : Fin 4096) (hM : mx (ix2 (n0 := 8) (n1 := 4096) h x) = (M : EReal)) :
    probH (expH s mx) (ix3 (n0 := 8) (n1 := 4096) (n2 := 4096) h x y) = ((prob I h x y : ℝ) : EReal) := by
  rw [probH_at, exp_at hs h x y hM, sum_at hs h x hM, Ideal.div_coe (sum_shifted_pos I M h x).ne', ← EReal.coe_mul, shifted_div]

/-- The output of the forward lines. -/
theorem out_at (x : Fin 4096) (h : Fin 8) (d : Fin 64) : outH (vE I) (probH (expH s (maxH s))) (ix2 (n0 := 4096) (n1 := 512) x (oc h d)) = ((outR I x h d : ℝ) : EReal) := by
  obtain ⟨M, hM⟩ := max_at hs h x
  unfold oc outR
  rw [coe_sum, outH_at]
  exact Finset.sum_congr rfl fun y _ => (congrArg₂ (fun a b : EReal => a * b) rfl (prob_at hs h x y hM)).trans (EReal.coe_mul _ _).symm

/-- The log-sums of the forward lines, in base two. -/
theorem lse_at (x : Fin 4096) (h : Fin 8) (d : Fin 64) :
    lseH (maxH s) (sumH (expH s (maxH s))) (ix2 (n0 := 4096) (n1 := 512) x (oc h d)) = ((Real.log (total I h x) * (1 / Real.log 2) : ℝ) : EReal) := by
  obtain ⟨M, hM⟩ := max_at hs h x
  unfold oc
  rw [lseH_at, word_2, log2, Ideal.div_coe log2_ne, hM, sum_at hs h x hM, Ideal.log_coe, if_neg (not_le.mpr (sum_shifted_pos I M h x)), ← EReal.coe_add, ← EReal.coe_mul, lse_eq]
end Cert.AttnVal
end
-- ==== Proof.AttnEntry.lean ====
module
public import proofs.«01_k».proof.Proof.AttnSums
public import proofs.«01_k».proof.Proof.AttnHost
public import proofs.«01_k».proof.Proof.Gen.AttnIdeal.Frame
public import Idealize.ShloMosaic.Lib.Claim
@[expose] public section
set_option maxRecDepth 16384
noncomputable section
/-!
The arrays the kernel is called with, as the host lines prepare them, at their entries.
-/
namespace Cert.AttnVal
open Idealize.ShloMosaic Idealize.ShloMosaic.TcCoe Idealize.SL.Sem
open Cert.AttnIdeal Cert.AttnIdeal.Gen Cert.Attn.Mine

/-- Queries or keys with 32 zero lanes behind each head's 96, the heads side by side. -/
def padH (x : FVec Ideal S4096x8x96 .f32) : FVec Ideal S4096x1024 .f32 :=
  shapeCast S4096x1024 (concatenate S4096x8x128 2 [⟨S4096x8x96, x⟩, ⟨S4096x8x32, broadcastInDim S4096x8x32 ![] bcast_S_S4096x8x32 (constant (F := Ideal) S_ .f32 0#32)⟩] concatenates_S4096x8x96_S4096x8x32_S4096x8x128_d2) shapeCasts_S4096x8x128_S4096x1024
/-- The scale over the logarithm of two. -/
def qscale : FVec Ideal S_ .f32 := Host.divf scaleH (Host.log (constant S_ FTy.f32 1073741824#32))
/-- The remainder of each head's number by two. -/
def remH : IVec S8 32 := Host.remsi (iotaInDim S8 32 0) (broadcastInDim S8 ![] bcast_S_S8 (select (cmpi CmpIPredicate.eq (id (constantI S_ 32 2#32)) (constantI S_ 32 0#32)) (constantI S_ 32 1#32) (id (constantI S_ 32 2#32))))
/-- The odd heads. -/
def oddH : IVec S1x8x1 1 := broadcastInDim S1x8x1 ![1] bcast_S8_S1x8x1_1 (cmpi CmpIPredicate.eq
  (select (andi (cmpi CmpIPredicate.ne (cmpi CmpIPredicate.slt remH (broadcastInDim S8 ![] bcast_S_S8 (constantI S_ 32 0#32))) (broadcastInDim S8 ![] bcast_S_S8 (cmpi CmpIPredicate.slt (select (cmpi CmpIPredicate.eq (id (constantI S_ 32 2#32)) (constantI S_ 32 0#32)) (constantI S_ 32 1#32) (id (constantI S_ 32 2#32))) (constantI S_ 32 0#32))))
    (cmpi CmpIPredicate.ne remH (broadcastInDim S8 ![] bcast_S_S8 (constantI S_ 32 0#32))))
    (addi remH (broadcastInDim S8 ![] bcast_S_S8 (select (cmpi CmpIPredicate.eq (id (constantI S_ 32 2#32)) (constantI S_ 32 0#32)) (constantI S_ 32 1#32) (id (constantI S_ 32 2#32))))) remH)
  (broadcastInDim S8 ![] bcast_S_S8 (constantI S_ 32 1#32)))
def oddB : IVec S4096x8x64 1 := broadcastInDim S4096x8x64 ![0, 1, 2] bcast_S1x8x1_S4096x8x64_0_1_2 oddH
def zeroB : FVec Ideal S4096x8x64 .f32 := broadcastInDim S4096x8x64 ![] bcast_S_S4096x8x64 (sitofp FTy.f32 (constantI S_ 32 0#32))
/-- Values in the half of a head's 128 lanes that its parity gives, zeros in the other half. -/
def vPad (v : FVec Ideal S4096x8x64 .f32) : FVec Ideal S4096x1024 .f32 :=
  shapeCast S4096x1024 (concatenate S4096x8x128 2 [⟨S4096x8x64, select oddB zeroB v⟩, ⟨S4096x8x64, select oddB v zeroB⟩] concatenates_S4096x8x64_S4096x8x64_S4096x8x128_d2) shapeCasts_S4096x8x128_S4096x1024
/-- The host's scores. -/
def sHost (q k : FVec Ideal S4096x8x96 .f32) : FVec Ideal S8x4096x4096 .f32 := mulf (dotH q k) (broadcastInDim S8x4096x4096 ![] bcast_S_S8x4096x4096 scaleH)

variable (m : (ℓ : Loc nD τ sig) → Buf (Elt Ideal) ℓ) (c : Dev nD)
def kq : FVec Ideal S4096x8x96 .f32 := m ((c.tc : Thread nD τ).loc main_arg0)
def kk : FVec Ideal S4096x8x96 .f32 := m ((c.tc : Thread nD τ).loc main_arg1)
def kv : FVec Ideal S4096x8x64 .f32 := m ((c.tc : Thread nD τ).loc main_arg2)
def kg : FVec Ideal S4096x512 .f32 := m ((c.tc : Thread nD τ).loc main_arg3)

theorem V_v18 : V m c main_v18 = truncf .bf16 (mulf (padH (kq m c)) (broadcastInDim S4096x1024 ![] bcast_S_S4096x1024 qscale)) bitsLt_bf16_f32 := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_v23 : V m c main_v23 = truncf .bf16 (vPad (kv m c)) bitsLt_bf16_f32 := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_v22 : V m c main_v22 = truncf .bf16 (padH (kk m c)) bitsLt_bf16_f32 := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_v46 : V m c main_v46 = outH (kv m c) (probH (expH (sHost (kq m c) (kk m c)) (maxH (sHost (kq m c) (kk m c))))) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_arg3 : V m c main_arg3 = kg m c := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_v53 : V m c main_v53 = lseH (maxH (sHost (kq m c) (kk m c))) (sumH (expH (sHost (kq m c) (kk m c)) (maxH (sHost (kq m c) (kk m c))))) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_v7 : V m c main_v7 = oddH := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
end Cert.AttnVal
-- ==== Proof.AttnBody.lean ====
module
public import proofs.«01_k».proof.Proof.AttnPoint
public import proofs.«01_k».proof.Proof.Gen.AttnIdeal.Frame
@[expose] public section
set_option maxRecDepth 16384
noncomputable section
/-!
The kernel's body at one grid point, as a triple that names what the three outputs hold afterwards.
-/
namespace Cert.Attn.Mine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen

/-- The row tile the body calls the diagonal. -/
theorem diag_word : ∀ i : grid0.Coords, Scalar.addi (Scalar.select (Scalar.andi (Scalar.cmpi .ne (Scalar.subi (Scalar.extui (Scalar.cmpi .sgt (Scalar.muli (BitVec.ofNat 32 (i 1).val) 512#32) 0#32)) (Scalar.extui (Scalar.cmpi .slt (Scalar.muli (BitVec.ofNat 32 (i 1).val) 512#32) 0#32))) (Scalar.subi (Scalar.extui (Scalar.cmpi .sgt 512#32 0#32)) (Scalar.extui (Scalar.cmpi .slt 512#32 0#32)))) (Scalar.cmpi .ne (Scalar.remsi (Scalar.muli (BitVec.ofNat 32 (i 1).val) 512#32) 512#32) 0#32)) (Scalar.subi (Scalar.divsi (Scalar.muli (BitVec.ofNat 32 (i 1).val) 512#32) 512#32) 1#32) (Scalar.divsi (Scalar.muli (BitVec.ofNat 32 (i 1).val) 512#32) 512#32)) 0#32 = BitVec.ofNat 32 (i 1).val := by decide +kernel
theorem zero38 {y : S4096x256.Idx} : k0_pay38 (F := Ideal) y = 0 := by pointwise [k0_pay38]

local notation "𝕄" => MT nD τ sig Unit (Elt Ideal) ℕ (UR sig nD τ) ℕ

attribute [local irreducible] Scf.trips

set_option maxHeartbeats 4000000 in
/-- The body at a grid point: from its blocks, and the query gradient as the point before left it, to the three outputs. -/
theorem body_run (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S512x256 .f32) (harg9 : arg9.IsWhole) (arg10 : Memref sig .tc .vmem S512x256 .f32) (harg10 : arg10.IsWhole)
    (B : Blk) (x6 : S4096x256.Idx → EReal) (E : Set ℕ) (K : PUnit → sProp 𝕄) :
    iprop(owns (c : Thread nD τ) arg2 fullShare B.q ∗ owns (c : Thread nD τ) arg3 fullShare B.k ∗ owns (c : Thread nD τ) arg4 fullShare B.v ∗ owns (c : Thread nD τ) arg5 fullShare B.o ∗ owns (c : Thread nD τ) arg6 fullShare B.dO ∗ owns (c : Thread nD τ) arg7 fullShare B.l ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare B.q ∗ owns (c : Thread nD τ) arg3 fullShare B.k ∗ owns (c : Thread nD τ) arg4 fullShare B.v ∗ owns (c : Thread nD τ) arg5 fullShare B.o ∗ owns (c : Thread nD τ) arg6 fullShare B.dO ∗ owns (c : Thread nD τ) arg7 fullShare B.l ∗ owns (c : Thread nD τ) arg8 fullShare (dqOut B (i 1).val x6) ∗ owns (c : Thread nD τ) arg9 fullShare (dkOut B (i 1).val) ∗ owns (c : Thread nD τ) arg10 fullShare (dvOut B (i 1).val)) -∗ K ⟨⟩))
      ⊢ wp frame (wpE (defs₀ (F := Ideal)) Variants.none c none) E (cc0_attention_backward i arg2 harg2 arg3 harg3 arg4 harg4 arg5 harg5 arg6 harg6 arg7 harg7 arg8 harg8 arg9 harg9 arg10 harg10) K := by
  have k0 := (cast39 _).trans (rdk harg3 B.k 0 inb_S512x256_S512x128_0_0 rfl)
  have k1 := (cast40 _).trans (rdk harg3 B.k 1 inb_S512x256_S512x128_0_128 rfl)
  have v0 := (cast41 _).trans (rdk harg4 B.v 0 inb_S512x256_S512x128_0_0 rfl)
  have v1 := (cast42 _).trans (rdk harg4 B.v 1 inb_S512x256_S512x128_0_128 rfl)
  have S0 := diag_S0 i B k0 v0 (rd1 i harg2 B.q) (rd3 i harg6 B.dO) (rd3 i harg5 B.o) (rd3 i harg7 B.l) (diag_word i) (rfl : 1#32 = 1#32)
  have S1 := diag_S1 i B k1 v1 (rd2 i harg2 B.q) (rd3 i harg6 B.dO) (rd3 i harg5 B.o) (rd3 i harg7 B.l) (diag_word i) (rfl : 1#32 = 1#32) (rfl : 0#32 = 0#32)
  have P0 := diag_P0 i B k0 (rd1 i harg2 B.q) (rd3 i harg7 B.l) (diag_word i) (rfl : 1#32 = 1#32)
  have P1 := diag_P1 i B k1 (rd2 i harg2 B.q) (rd3 i harg7 B.l) (diag_word i) (rfl : 1#32 = 1#32) (rfl : 0#32 = 0#32)
  by_cases hc0 : first i
  all_goals
    simp only [cc0_attention_backward_eq_skeleton]; unfold cc0_attention_backward_skel
    simp only [k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (loops_eq c none i arg2 harg2 arg3 harg3 arg4 harg4 arg5 harg5 arg6 harg6 arg7 harg7 arg8 harg8 arg9 harg9 arg10 harg10 _ _ _ _ _ _ _ _ _ _ _ _ _ _ _ B ?_ ?_ ?_ ?_ _ _ ?_ rfl rfl ?_ _ ?_).2.trans ?_
      on_goal 6 => refine diag_store i arg8 B _ _ k0 k1 S0 S1 (rg1 i arg8 _) ?_
      on_goal 5 => first
        | exact rg2_put i arg8 _ _ _
        | exact rg2 i arg8 f6
      · exact k0
      · exact k1
      · exact v0
      · exact v1
      · exact fun y => diag_init i B (rd1 i harg2 B.q) (rd2 i harg2 B.q) (rd3 i harg6 B.dO) S0 S1 P0 P1 y
      first
        | subst hf6
          funext y
          unfold dqOut
          rw [if_neg fun h => hc0 ((first_iff i).mpr h)]
          rfl
        | funext y
          unfold dqOut
          rw [if_pos ((first_iff i).mp hc0)]
          exact congrArg (· + _) ((congrFun (View.read_writes_full arg8.view _ _ _ _) y).trans zero38)
    isplitl [H7]
    · iexists _; isplitr; swap; · iexact H7
      ipureintro
      refine pair_out arg9 _ _ _ _ _ _ (fun y => ?_) (fun y => ?_)
      · refine congrArg (fun s : T × T × T × T => s.1 y * ln2) (loops_eq c none i arg2 harg2 arg3 harg3 arg4 harg4 arg5 harg5 arg6 harg6 arg7 harg7 arg8 harg8 arg9 harg9 arg10 harg10 _ _ _ _ _ _ _ _ _ _ _ _ _ _ _ B ?_ ?_ ?_ ?_ _ _ ?_ rfl rfl ?_ _ ?_).1
        on_goal 6 => refine diag_store i arg8 B _ _ k0 k1 S0 S1 (rg1 i arg8 _) ?_
        on_goal 5 => first
          | exact rg2_put i arg8 _ _ _
          | exact rg2 i arg8 f6
        · exact k0
        · exact k1
        · exact v0
        · exact v1
        · exact fun y => diag_init i B (rd1 i harg2 B.q) (rd2 i harg2 B.q) (rd3 i harg6 B.dO) S0 S1 P0 P1 y
      · refine congrArg (fun s : T × T × T × T => s.2.2.1 y * ln2) (loops_eq c none i arg2 harg2 arg3 harg3 arg4 harg4 arg5 harg5 arg6 harg6 arg7 harg7 arg8 harg8 arg9 harg9 arg10 harg10 _ _ _ _ _ _ _ _ _ _ _ _ _ _ _ B ?_ ?_ ?_ ?_ _ _ ?_ rfl rfl ?_ _ ?_).1
        on_goal 6 => refine diag_store i arg8 B _ _ k0 k1 S0 S1 (rg1 i arg8 _) ?_
        on_goal 5 => first
          | exact rg2_put i arg8 _ _ _
          | exact rg2 i arg8 f6
        · exact k0
        · exact k1
        · exact v0
        · exact v1
        · exact fun y => diag_init i B (rd1 i harg2 B.q) (rd2 i harg2 B.q) (rd3 i harg6 B.dO) S0 S1 P0 P1 y
    iexists _; isplitr; swap; · iexact H8
    ipureintro
    refine pair_out arg10 _ _ _ _ _ _ (fun y => ?_) (fun y => ?_)
    · refine congrArg (fun s : T × T × T × T => s.2.1 y) (loops_eq c none i arg2 harg2 arg3 harg3 arg4 harg4 arg5 harg5 arg6 harg6 arg7 harg7 arg8 harg8 arg9 harg9 arg10 harg10 _ _ _ _ _ _ _ _ _ _ _ _ _ _ _ B ?_ ?_ ?_ ?_ _ _ ?_ rfl rfl ?_ _ ?_).1
      on_goal 6 => refine diag_store i arg8 B _ _ k0 k1 S0 S1 (rg1 i arg8 _) ?_
      on_goal 5 => first
        | exact rg2_put i arg8 _ _ _
        | exact rg2 i arg8 f6
      · exact k0
      · exact k1
      · exact v0
      · exact v1
      · exact fun y => diag_init i B (rd1 i harg2 B.q) (rd2 i harg2 B.q) (rd3 i harg6 B.dO) S0 S1 P0 P1 y
    · refine congrArg (fun s : T × T × T × T => s.2.2.2 y) (loops_eq c none i arg2 harg2 arg3 harg3 arg4 harg4 arg5 harg5 arg6 harg6 arg7 harg7 arg8 harg8 arg9 harg9 arg10 harg10 _ _ _ _ _ _ _ _ _ _ _ _ _ _ _ B ?_ ?_ ?_ ?_ _ _ ?_ rfl rfl ?_ _ ?_).1
      on_goal 6 => refine diag_store i arg8 B _ _ k0 k1 S0 S1 (rg1 i arg8 _) ?_
      on_goal 5 => first
        | exact rg2_put i arg8 _ _ _
        | exact rg2 i arg8 f6
      · exact k0
      · exact k1
      · exact v0
      · exact v1
      · exact fun y => diag_init i B (rd1 i harg2 B.q) (rd2 i harg2 B.q) (rd3 i harg6 B.dO) S0 S1 P0 P1 y

end Cert.Attn.Mine
-- ==== Proof.AttnRun.lean ====
module
public import proofs.«01_k».proof.Proof.AttnBody
public import Idealize.ShloMosaic.Lib.Claim
public import proofs.«01_k».proof.Defs
@[expose] public section
set_option maxRecDepth 16384
noncomputable section
/-!
The kernel's run with its three results named.
-/
namespace Cert.AttnVal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen Cert.Attn.Mine

local notation "𝕄" => MT nD τ sig Unit (Elt Ideal) ℕ (UR sig nD τ) ℕ

variable (m : (ℓ : Loc nD τ sig) → Buf (Elt Ideal) ℓ) (ρ : Dev nD → PrngReg)

theorem coord1 : ∀ t : Fin cfg0.N, (grid0.coords t 1).val = t.val % 8 := (by decide +kernel : ∀ t : Fin grid0.N, (grid0.coords t 1).val = t.val % 8)

/-- The blocks of grid point `t`. -/
def blk (c : Dev nD) (t : Fin cfg0.N) : Blk where
  q := iblk m c 0 t
  k := iblk m c 1 t
  v := iblk m c 2 t
  o := iblk m c 3 t
  dO := iblk m c 4 t
  l := iblk m c 5 t

/-- Grid point `n`. -/
def pt (n : ℕ) : Fin cfg0.N := ⟨n % 32, lt_of_lt_of_eq (Nat.mod_lt _ (by norm_num)) N_0.symm⟩

/-- The query gradient of a pair of heads after a grid point: the key tiles so far. -/
def dqSum (c : Dev nD) (t : Fin cfg0.N) : S4096x256.Idx → EReal :=
  fun y => ∑ j ∈ Finset.range (t.val % 8 + 1), dqAdd (blk m c (pt (8 * (t.val / 8) + j))) j y

theorem pt_self (t : Fin cfg0.N) : pt (8 * (t.val / 8) + t.val % 8) = t := by
  have h : t.val < 32 := lt_of_lt_of_eq t.isLt N_0
  refine Fin.ext ?_
  show (8 * (t.val / 8) + t.val % 8) % 32 = t.val
  omega

theorem dqSum_first (c : Dev nD) (t : Fin cfg0.N) (x) (h : t.val % 8 = 0) : dqOut (blk m c t) (t.val % 8) x = dqSum m c t := by
  funext y
  unfold dqOut dqSum
  rw [if_pos h, Finset.sum_range_succ, pt_self, h, Finset.range_zero, Finset.sum_empty]

theorem dqSum_next (c : Dev nD) (t s : Fin cfg0.N) (hs : s.val = t.val - 1) (h : t.val % 8 ≠ 0) :
    dqOut (blk m c t) (t.val % 8) (dqSum m c s) = dqSum m c t := by
  funext y
  unfold dqOut dqSum
  have e1 : s.val % 8 + 1 = t.val % 8 := by omega
  have e2 : s.val / 8 = t.val / 8 := by omega
  rw [if_neg h, Finset.sum_range_succ _ (t.val % 8), pt_self, e1, e2]

/-- The pipeline's proof data: each input's buffer at its block, the three outputs at what the body leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqSum m c t
    | ⟨7, _⟩ => dkOut (blk m c t) (t.val % 8)
    | ⟨8, _⟩ => dvOut (blk m c t) (t.val % 8)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqSum m c t := by dsimp only [dats]
theorem after_7 (c : Dev nD) (t : Fin cfg0.N) : (dats m 0 c).after 7 t = dkOut (blk m c t) (t.val % 8) := by dsimp only [dats]
theorem after_8 (c : Dev nD) (t : Fin cfg0.N) : (dats m 0 c).after 8 t = dvOut (blk m c t) (t.val % 8) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The query gradient's buffer, updated with a key tile, is the sum with that tile. -/
theorem step_6 (c : Dev nD) (t : Fin cfg0.N) (d) : dqOut (blk m c t) (t.val % 8) ((dats m 0 c).before 6 t d) = dqSum m c t := by
  by_cases h : t.val % 8 = 0
  · exact dqSum_first m c t _ h
  · have ht : t.val ≠ 0 := fun e => h (by rw [e])
    rw [(dats m 0 c).before_out_kept 6 rfl t ht (by
      rw [Bool.eq_false_iff]; intro hf
      have := (flush0_6 _).mp hf
      simp only at this
      omega) (fun _ => rfl) (fun _ _ => rfl) d, after_6]
    exact dqSum_next m c t _ rfl h

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← step_6 m c t d6, ← coord1 t]
  iapply (body_run c (grid0.coords t) _ _ _ _ _ _ _ _ _ _ _ _ _ _ _ _ _ _ (blk m c t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := Ideal) .tc cfg0.body (cfg0.bodyArgs t (cfg0.slots t)) = bodyAt0 t := by
  unfold defs₀; rw [Defs.onTc_tc]

/-- The pipeline's obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every buffer at its value, every counter at zero. -/
theorem run_named : θ_run defs (onTc (τ := τ) (main (F := Ideal))) (s₀ m ρ)
    (fun r => Pipeline.FramePost cfgs (dats m) 0 (Pipeline.afterTail₀ cfgs (dats m) 0 (V0 m) [hostOps1, hostOps1_1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)
    (Q' := fun r => Pipeline.FramePost cfgs (dats m) 0 (Pipeline.afterTail₀ cfgs (dats m) 0 (V0 m) [hostOps1, hostOps1_1]) r ∧ r.2.sem = fun _ => 0)

/-- The arguments end as they began, and every counter at zero. -/
theorem frame_ideal : Cert.quiescent_AttnIdeal := fun m ρ _ =>
  θ_run_and (frame_of m ρ (dats m) (A_eq m) ((θ_run defs _ _).mono (fun _ h => h.1) (run_named m ρ)))
    ((θ_run defs _ _).mono (fun _ h => h.2) (run_named m ρ))

end Cert.AttnVal
end
-- ==== Proof.AttnBlock.lean ====
module
public import proofs.«01_k».proof.Proof.AttnEntry
public import proofs.«01_k».proof.Proof.AttnRun
public import Idealize.ShloMosaic.Lib.Pipeline.ValueKit
@[expose] public section
set_option maxRecDepth 16384
noncomputable section
/-!
The blocks of a grid point hold the reals of the arguments.
-/
namespace Cert.AttnVal
open Idealize.ShloMosaic Idealize.ShloMosaic.TcCoe Idealize.SL.Sem
open Cert.AttnIdeal Cert.AttnIdeal.Gen Cert.Attn.Mine

theorem padH_in (x : FVec Ideal S4096x8x96 .f32) (r : Fin 4096) (h : Fin 8) (d : Fin 96) :
    padH x (ix2 (n0 := 4096) (n1 := 1024) r ⟨128 * h.val + d.val, by omega⟩) = x (ix3 (n0 := 4096) (n1 := 8) (n2 := 96) r h d) := by
  pointwise [padH]
  have e : (128 * h.val + d.val) % 128 = d.val := by omega
  rw [dif_pos (by omega)]
  exact congrArg (fun z => x (ix3 (n0 := 4096) (n1 := 8) (n2 := 96) r h z)) (Fin.ext e)
theorem padH_out (x : FVec Ideal S4096x8x96 .f32) (r : Fin 4096) (h : Fin 8) (d : Fin 32) :
    padH x (ix2 (n0 := 4096) (n1 := 1024) r ⟨128 * h.val + (96 + d.val), by omega⟩) = 0 := by
  pointwise [padH]
  rw [dif_neg (by omega)]
theorem odd_word (r : Fin 4096) (h : Fin 8) (d : Fin 64) : oddB (ix3 (n0 := 4096) (n1 := 8) (n2 := 64) r h d) = if h.val % 2 = 1 then 1#1 else 0#1 := by
  pointwise [oddB, oddH, remH]
  revert h
  decide +kernel
theorem zeroB_at (i) : zeroB i = 0 := by
  pointwise [zeroB]
  show ((((0#32 : BitVec 32).toInt : ℤ) : ℝ) : EReal) = 0
  simp
theorem vPad_lo (v : FVec Ideal S4096x8x64 .f32) (r : Fin 4096) (h : Fin 8) (d : Fin 64) :
    vPad v (ix2 (n0 := 4096) (n1 := 1024) r ⟨128 * h.val + d.val, by omega⟩) = select oddB zeroB v (ix3 (n0 := 4096) (n1 := 8) (n2 := 64) r h d) := by
  pointwise [vPad]
  rw [dif_pos (by omega)]
  have e : (⟨(128 * h.val + d.val) % 128, by omega⟩ : Fin 64) = d := Fin.ext (by show (128 * h.val + d.val) % 128 = d.val; omega)
  exact congrArg (fun z => Scalar.select (oddB (ix3 (n0 := 4096) (n1 := 8) (n2 := 64) r h z)) (zeroB (ix3 (n0 := 4096) (n1 := 8) (n2 := 64) r h z)) (v (ix3 (n0 := 4096) (n1 := 8) (n2 := 64) r h z))) e
theorem vPad_hi (v : FVec Ideal S4096x8x64 .f32) (r : Fin 4096) (h : Fin 8) (d : Fin 64) :
    vPad v (ix2 (n0 := 4096) (n1 := 1024) r ⟨128 * h.val + (64 + d.val), by omega⟩) = select oddB v zeroB (ix3 (n0 := 4096) (n1 := 8) (n2 := 64) r h d) := by
  pointwise [vPad]
  rw [dif_neg (by omega)]
  have e : (⟨(128 * h.val + (64 + d.val)) % 128 - 64, by omega⟩ : Fin 64) = d := Fin.ext (by show (128 * h.val + (64 + d.val)) % 128 - 64 = d.val; omega)
  exact congrArg (fun z => Scalar.select (oddB (ix3 (n0 := 4096) (n1 := 8) (n2 := 64) r h z)) (v (ix3 (n0 := 4096) (n1 := 8) (n2 := 64) r h z)) (zeroB (ix3 (n0 := 4096) (n1 := 8) (n2 := 64) r h z))) e
theorem qscale_at : qscale ix0 = ((1 / Real.sqrt 96 * (1 / Real.log 2) : ℝ) : EReal) := by
  pointwise [qscale]
  rw [scaleH_at, word_2, log2, Ideal.div_coe log2_ne, ← EReal.coe_mul]

variable (m : (ℓ : Loc nD τ sig) → Buf (Elt Ideal) ℓ) (c : Dev nD)

theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![0, t.val / 8] ∧ win0_5.index t = ![0, t.val / 8]
    ∧ win0_6.index t = ![0, t.val / 8] ∧ win0_7.index t = ![t.val % 8, t.val / 8] ∧ win0_8.index t = ![t.val % 8, t.val / 8] :=
  (by decide +kernel : ∀ t : Fin grid0.N, _)
theorem blk_q (t : Fin cfg0.N) (x : Fin 4096) (z : Fin 256) (w : Fin 1024) (hw : w.val = 256 * (t.val / 8) + z.val) :
    iblk m c 0 t (ix2 (n0 := 4096) (n1 := 256) x z) = V m c main_v18 (ix2 (n0 := 4096) (n1 := 1024) x w) := by
  unfold iblk
  generalize V m c = W
  show W main_v18 _ = _
  refine congrArg (W main_v18) (funext fun a => Fin.ext ?_)
  fin_cases a
  · refine (win0_0.rect_emb_val t _ 0).trans ?_
    rw [(idx t).1]
    show 0 * 4096 + x.val = x.val
    omega
  · refine (win0_0.rect_emb_val t _ 1).trans ?_
    rw [(idx t).1]
    show (t.val / 8) * 256 + z.val = w.val
    omega
theorem blk_k (t : Fin cfg0.N) (x : Fin 512) (r : Fin 4096) (hr : r.val = 512 * (t.val % 8) + x.val) (z : Fin 256) (w : Fin 1024) (hw : w.val = 256 * (t.val / 8) + z.val) :
    iblk m c 1 t (ix2 (n0 := 512) (n1 := 256) x z) = V m c main_v22 (ix2 (n0 := 4096) (n1 := 1024) r w) := by
  unfold iblk
  generalize V m c = W
  show W main_v22 _ = _
  refine congrArg (W main_v22) (funext fun a => Fin.ext ?_)
  fin_cases a
  · refine (win0_1.rect_emb_val t _ 0).trans ?_
    rw [(idx t).2.1]
    show (t.val % 8) * 512 + x.val = r.val
    omega
  · refine (win0_1.rect_emb_val t _ 1).trans ?_
    rw [(idx t).2.1]
    show (t.val / 8) * 256 + z.val = w.val
    omega
theorem blk_v (t : Fin cfg0.N) (x : Fin 512) (r : Fin 4096) (hr : r.val = 512 * (t.val % 8) + x.val) (z : Fin 256) (w : Fin 1024) (hw : w.val = 256 * (t.val / 8) + z.val) :
    iblk m c 2 t (ix2 (n0 := 512) (n1 := 256) x z) = V m c main_v23 (ix2 (n0 := 4096) (n1 := 1024) r w) := by
  unfold iblk
  generalize V m c = W
  show W main_v23 _ = _
  refine congrArg (W main_v23) (funext fun a => Fin.ext ?_)
  fin_cases a
  · refine (win0_2.rect_emb_val t _ 0).trans ?_
    rw [(idx t).2.2.1]
    show (t.val % 8) * 512 + x.val = r.val
    omega
  · refine (win0_2.rect_emb_val t _ 1).trans ?_
    rw [(idx t).2.2.1]
    show (t.val / 8) * 256 + z.val = w.val
    omega
theorem blk_o (t : Fin cfg0.N) (x : Fin 4096) (z : Fin 128) (w : Fin 512) (hw : w.val = 128 * (t.val / 8) + z.val) :
    iblk m c 3 t (ix2 (n0 := 4096) (n1 := 128) x z) = V m c main_v46 (ix2 (n0 := 4096) (n1 := 512) x w) := by
  unfold iblk
  generalize V m c = W
  show W main_v46 _ = _
  refine congrArg (W main_v46) (funext fun a => Fin.ext ?_)
  fin_cases a
  · refine (win0_3.rect_emb_val t _ 0).trans ?_
    rw [(idx t).2.2.2.1]
    show 0 * 4096 + x.val = x.val
    omega
  · refine (win0_3.rect_emb_val t _ 1).trans ?_
    rw [(idx t).2.2.2.1]
    show (t.val / 8) * 128 + z.val = w.val
    omega
theorem blk_g (t : Fin cfg0.N) (x : Fin 4096) (z : Fin 128) (w : Fin 512) (hw : w.val = 128 * (t.val / 8) + z.val) :
    iblk m c 4 t (ix2 (n0 := 4096) (n1 := 128) x z) = V m c main_arg3 (ix2 (n0 := 4096) (n1 := 512) x w) := by
  unfold iblk
  generalize V m c = W
  show W main_arg3 _ = _
  refine congrArg (W main_arg3) (funext fun a => Fin.ext ?_)
  fin_cases a
  · refine (win0_4.rect_emb_val t _ 0).trans ?_
    rw [(idx t).2.2.2.2.1]
    show 0 * 4096 + x.val = x.val
    omega
  · refine (win0_4.rect_emb_val t _ 1).trans ?_
    rw [(idx t).2.2.2.2.1]
    show (t.val / 8) * 128 + z.val = w.val
    omega
theorem blk_l (t : Fin cfg0.N) (x : Fin 4096) (z : Fin 128) (w : Fin 512) (hw : w.val = 128 * (t.val / 8) + z.val) :
    iblk m c 5 t (ix2 (n0 := 4096) (n1 := 128) x z) = V m c main_v53 (ix2 (n0 := 4096) (n1 := 512) x w) := by
  unfold iblk
  generalize V m c = W
  show W main_v53 _ = _
  refine congrArg (W main_v53) (funext fun a => Fin.ext ?_)
  fin_cases a
  · refine (win0_5.rect_emb_val t _ 0).trans ?_
    rw [(idx t).2.2.2.2.2.1]
    show 0 * 4096 + x.val = x.val
    omega
  · refine (win0_5.rect_emb_val t _ 1).trans ?_
    rw [(idx t).2.2.2.2.2.1]
    show (t.val / 8) * 128 + z.val = w.val
    omega

variable {m c} {I : Args} (hq : kq m c = qE I) (hk : kk m c = kE I) (hv : kv m c = vE I) (hg : kg m c = gE I)
include hq hk hv hg

theorem score_host : IsScore I (sHost (kq m c) (kk m c)) := by
  rw [hq, hk]
  exact score_mul I

variable (t : Fin cfg0.N) (p : Fin 4) (j : ℕ) (htp : t.val / 8 = p.val) (htj : t.val % 8 = j)
include htp htj
theorem holds_q_in (x : Fin 4096) (h : Fin 2) (d : Fin 96) : (blk m c t).q (ix2 (n0 := 4096) (n1 := 256) x (colI h (lq d))) = ((I.q x (hp p h) d * (1 / Real.sqrt 96 * (1 / Real.log 2)) : ℝ) : EReal) := by
  refine (blk_q m c t x (colI h (lq d)) ⟨128 * (hp p h).val + d.val, by omega⟩ (by show 128 * (2 * p.val + h.val) + d.val = 256 * _ + (128 * h.val + d.val); omega)).trans ?_
  rw [V_v18, hq]
  show padH (qE I) (ix2 (n0 := 4096) (n1 := 1024) x ⟨128 * (hp p h).val + d.val, _⟩) * qscale ix0 = _
  rw [padH_in, qscale_at]
  exact (EReal.coe_mul _ _).symm
theorem holds_q_out (x : Fin 4096) (h : Fin 2) (d : Fin 128) (hd : 96 ≤ d.val) : (blk m c t).q (ix2 (n0 := 4096) (n1 := 256) x (colI h d)) = 0 := by
  refine (blk_q m c t x (colI h d) ⟨128 * (hp p h).val + (96 + (⟨d.val - 96, by omega⟩ : Fin 32).val), by show 128 * _ + (96 + (d.val - 96)) < 1024; omega⟩
    (by show 128 * (2 * p.val + h.val) + (96 + (d.val - 96)) = 256 * _ + (128 * h.val + d.val); omega)).trans ?_
  rw [V_v18, hq]
  show padH (qE I) (ix2 (n0 := 4096) (n1 := 1024) x ⟨128 * (hp p h).val + (96 + (⟨d.val - 96, _⟩ : Fin 32).val), _⟩) * qscale ix0 = _
  rw [padH_out, zero_mul]
theorem holds_k_in (y : Fin 512) (h : Fin 2) (d : Fin 96) : (blk m c t).k (ix2 (n0 := 512) (n1 := 256) y (colI h (lq d))) = ((I.k (rowI j y) (hp p h) d : ℝ) : EReal) := by
  refine (blk_k m c t y (rowI j y) (by rw [rowI_val (by omega), htj]) (colI h (lq d)) ⟨128 * (hp p h).val + d.val, by omega⟩ (by show 128 * (2 * p.val + h.val) + d.val = 256 * _ + (128 * h.val + d.val); omega)).trans ?_
  rw [V_v22, hk]
  show padH (kE I) (ix2 (n0 := 4096) (n1 := 1024) (rowI j y) ⟨128 * (hp p h).val + d.val, _⟩) = _
  rw [padH_in]; rfl
theorem holds_v_in (y : Fin 512) (h : Fin 2) (d : Fin 64) : (blk m c t).v (ix2 (n0 := 512) (n1 := 256) y (colI h (lh h d))) = ((I.v (rowI j y) (hp p h) d : ℝ) : EReal) := by
  refine (blk_v m c t y (rowI j y) (by rw [rowI_val (by omega), htj]) (colI h (lh h d)) ⟨128 * (hp p h).val + (64 * h.val + d.val), by omega⟩
    (by show 128 * (2 * p.val + h.val) + _ = 256 * _ + (128 * h.val + (64 * h.val + d.val)); omega)).trans ?_
  rw [V_v23, hv]
  show vPad (vE I) (ix2 (n0 := 4096) (n1 := 1024) (rowI j y) ⟨128 * (hp p h).val + (64 * h.val + d.val), _⟩) = _
  have ho := odd_word (rowI j y) (hp p h) d
  rcases Fin.exists_fin_two.mp ⟨h, rfl⟩ with rfl | rfl
  · rw [if_neg (by show ¬ (2 * p.val + 0) % 2 = 1; omega)] at ho
    refine (congrArg (vPad (vE I)) (congrArg (ix2 (n0 := 4096) (n1 := 1024) (rowI j y)) (Fin.ext (by show _ + (64 * 0 + d.val) = 128 * (hp p 0).val + d.val; omega)))).trans ((vPad_lo (vE I) (rowI j y) (hp p 0) d).trans ?_)
    show Scalar.select (oddB _) _ _ = _
    rw [ho]; rfl
  · rw [if_pos (by show (2 * p.val + 1) % 2 = 1; omega)] at ho
    refine (congrArg (vPad (vE I)) (congrArg (ix2 (n0 := 4096) (n1 := 1024) (rowI j y)) (Fin.ext (by show _ + (64 * 1 + d.val) = 128 * (hp p 1).val + (64 + d.val); omega)))).trans ((vPad_hi (vE I) (rowI j y) (hp p 1) d).trans ?_)
    show Scalar.select (oddB _) _ _ = _
    rw [ho]; rfl
theorem holds_v_out (y : Fin 512) (h : Fin 2) (d : Fin 128) (hd : ¬ (d.val < 64 ↔ h = 0)) : (blk m c t).v (ix2 (n0 := 512) (n1 := 256) y (colI h d)) = 0 := by
  refine (blk_v m c t y (rowI j y) (by rw [rowI_val (by omega), htj]) (colI h d) ⟨128 * (hp p h).val + d.val, by omega⟩
    (by show 128 * (2 * p.val + h.val) + _ = 256 * _ + (128 * h.val + d.val); omega)).trans ?_
  rw [V_v23, hv]
  show vPad (vE I) (ix2 (n0 := 4096) (n1 := 1024) (rowI j y) ⟨128 * (hp p h).val + d.val, _⟩) = _
  rcases Fin.exists_fin_two.mp ⟨h, rfl⟩ with rfl | rfl
  · have hd2 : 64 ≤ d.val := not_lt.mp fun hlt => hd ⟨fun _ => rfl, fun _ => hlt⟩
    have ho := odd_word (rowI j y) (hp p 0) ⟨d.val - 64, by omega⟩
    rw [if_neg (by show ¬ (2 * p.val + 0) % 2 = 1; omega)] at ho
    refine (congrArg (vPad (vE I)) (congrArg (ix2 (n0 := 4096) (n1 := 1024) (rowI j y)) (Fin.ext (by show _ + d.val = 128 * (hp p 0).val + (64 + (d.val - 64)); omega)))).trans ((vPad_hi (vE I) (rowI j y) (hp p 0) ⟨d.val - 64, by omega⟩).trans ?_)
    show Scalar.select (oddB _) _ (zeroB _) = _
    rw [ho, zeroB_at]; rfl
  · have hd2 : d.val < 64 := not_le.mp fun hle => hd ⟨fun hlt => absurd hlt (not_lt.mpr hle), fun e => absurd e (by decide)⟩
    have ho := odd_word (rowI j y) (hp p 1) ⟨d.val, hd2⟩
    rw [if_pos (by show (2 * p.val + 1) % 2 = 1; omega)] at ho
    refine ((vPad_lo (vE I) (rowI j y) (hp p 1) ⟨d.val, hd2⟩)).trans ?_
    show Scalar.select (oddB _) (zeroB _) _ = _
    rw [ho, zeroB_at]; rfl
theorem holds_o_in (x : Fin 4096) (h : Fin 2) (d : Fin 64) : (blk m c t).o (ix2 (n0 := 4096) (n1 := 128) x (lh h d)) = ((outR I x (hp p h) d : ℝ) : EReal) := by
  refine (blk_o m c t x (lh h d) (oc (hp p h) d) (by show 64 * (2 * p.val + h.val) + d.val = 128 * _ + (64 * h.val + d.val); omega)).trans ?_
  rw [V_v46, hv]
  exact out_at (score_host hq hk hv hg) x (hp p h) d
theorem holds_g_in (x : Fin 4096) (h : Fin 2) (d : Fin 64) : (blk m c t).dO (ix2 (n0 := 4096) (n1 := 128) x (lh h d)) = ((I.g x (oc (hp p h) d) : ℝ) : EReal) := by
  refine (blk_g m c t x (lh h d) (oc (hp p h) d) (by show 64 * (2 * p.val + h.val) + d.val = 128 * _ + (64 * h.val + d.val); omega)).trans ?_
  rw [V_arg3, hg]
  rfl
theorem holds_l_in (x : Fin 4096) (h : Fin 2) (d : Fin 64) : (blk m c t).l (ix2 (n0 := 4096) (n1 := 128) x (lh h d)) = ((Real.log (total I (hp p h) x) * (1 / Real.log 2) : ℝ) : EReal) := by
  refine (blk_l m c t x (lh h d) (oc (hp p h) d) (by show 64 * (2 * p.val + h.val) + d.val = 128 * _ + (64 * h.val + d.val); omega)).trans ?_
  rw [V_v53]
  exact lse_at (score_host hq hk hv hg) x (hp p h) d
theorem holds : Holds I (blk m c t) p j where
  q_in := holds_q_in hq hk hv hg t p j htp htj
  q_out := holds_q_out hq hk hv hg t p j htp htj
  k_in := holds_k_in hq hk hv hg t p j htp htj
  v_in := holds_v_in hq hk hv hg t p j htp htj
  v_out := holds_v_out hq hk hv hg t p j htp htj
  o_in := holds_o_in hq hk hv hg t p j htp htj
  g_in := holds_g_in hq hk hv hg t p j htp htj
  l_in := holds_l_in hq hk hv hg t p j htp htj
end Cert.AttnVal
-- ==== Proof.AttnFinal.lean ====
module
public import proofs.«01_k».proof.Proof.AttnBlock
@[expose] public section
set_option maxRecDepth 16384
noncomputable section
/-!
The arrays the kernel leaves, at the lanes its caller keeps.
-/
namespace Cert.AttnVal
open Idealize.ShloMosaic Idealize.ShloMosaic.TcCoe Idealize.SL.Sem
open Cert.AttnIdeal Cert.AttnIdeal.Gen Cert.Attn.Mine

/-- The head and the pair of a column. -/
theorem pair_of (H : Fin 8) : hp ⟨H.val / 2, by omega⟩ ⟨H.val % 2, by omega⟩ = H := Fin.ext (by show 2 * (H.val / 2) + H.val % 2 = H.val; omega)

variable {m : (ℓ : Loc nD τ sig) → Buf (Elt Ideal) ℓ} {c : Dev nD} {I : Args} (hq : kq m c = qE I) (hk : kk m c = kE I) (hv : kv m c = vE I) (hg : kg m c = gE I)
include hq hk hv hg

theorem point_dq (t : Fin cfg0.N) (ht : t.val % 8 = 7) (p : Fin 4) (hp' : t.val / 8 = p.val) (x : Fin 4096) (h : Fin 2) (d : Fin 96) :
    dqSum m c t (ix2 (n0 := 4096) (n1 := 256) x (colI h (lq d))) = ((dqR I x (hp p h) d : ℝ) : EReal) := by
  unfold dqSum
  rw [ht]
  refine dq_real (fun j => blk m c (pt (8 * (t.val / 8) + j))) (fun j hj => holds hq hk hv hg _ p j ?_ ?_) x h d
  · show (8 * (t.val / 8) + j) % 32 / 8 = p.val
    omega
  · show (8 * (t.val / 8) + j) % 32 % 8 = j
    omega

theorem point_dk (t : Fin cfg0.N) (p : Fin 4) (hp' : t.val / 8 = p.val) (y : Fin 512) (h : Fin 2) (d : Fin 96) :
    dkOut (blk m c t) (t.val % 8) (ix2 (n0 := 512) (n1 := 256) y (colI h (lq d))) = ((dkR I (rowI (t.val % 8) y) (hp p h) d : ℝ) : EReal) := by
  rw [← dk_real (holds hq hk hv hg t p _ hp' rfl) (by omega) h y d]
  have f1 : (⟨(colI h (lq d)).val / 128, by omega⟩ : Fin 2) = h := Fin.ext (by show (128 * h.val + d.val) / 128 = _; omega)
  have f2 : (⟨(colI h (lq d)).val % 128, by omega⟩ : Fin 128) = lq d := Fin.ext (by show (128 * h.val + d.val) % 128 = d.val; omega)
  exact congrArg₂ (fun (a : Fin 2) (b : Fin 128) => (∑ ir ∈ Finset.range 8, dkTerm (blk m c t) (t.val % 8) a (ix2 (n0 := 512) y b) ir) * ln2) f1 f2

theorem point_dv (t : Fin cfg0.N) (p : Fin 4) (hp' : t.val / 8 = p.val) (y : Fin 512) (h : Fin 2) (d : Fin 64) :
    dvOut (blk m c t) (t.val % 8) (ix2 (n0 := 512) (n1 := 256) y (colI h (lh h d))) = ((dvR I (rowI (t.val % 8) y) (hp p h) d : ℝ) : EReal) := by
  rw [← dv_real (holds hq hk hv hg t p _ hp' rfl) (by omega) h y d]
  have f1 : (⟨(colI h (lh h d)).val / 128, by omega⟩ : Fin 2) = h := Fin.ext (by show (128 * h.val + (64 * h.val + d.val)) / 128 = _; omega)
  have f2 : (⟨(colI h (lh h d)).val % 128, by omega⟩ : Fin 128) = lh h d := Fin.ext (by show (128 * h.val + (64 * h.val + d.val)) % 128 = 64 * h.val + d.val; omega)
  exact congrArg₂ (fun (a : Fin 2) (b : Fin 128) => ∑ ir ∈ Finset.range 8, dvTerm (blk m c t) (t.val % 8) a (ix2 (n0 := 512) y b) ir) f1 f2

theorem final_dq (x : Fin 4096) (H : Fin 8) (d : Fin 96) :
    (dats m 0 c).arrAt 6 cfg0.N (ix2 (n0 := 4096) (n1 := 1024) x ⟨128 * H.val + d.val, by omega⟩) = ((dqR I x H d : ℝ) : EReal) := by
  refine (dats m 0 c).arrAt_forall_of_covers 6 (fun i v => ∀ (x : Fin 4096) (H : Fin 8) (d : Fin 96), (i 0).val = x.val → (i 1).val = 128 * H.val + d.val → v = ((dqR I x H d : ℝ) : EReal)) (by decide +kernel) (fun t hf y x H d h0 h1 => ?_) _ (Memref.isWhole_whole _) x H d rfl rfl
  blk_simp
  rw [after_6]
  have a0 := (win0_6.rect_emb_val t y 0).symm.trans h0
  have a1 := (win0_6.rect_emb_val t y 1).symm.trans h1
  rw [(idx t).2.2.2.2.2.2.1] at a0 a1
  have b0 : 0 * 4096 + (y 0).val = x.val := a0
  have b1 : (t.val / 8) * 256 + (y 1).val = 128 * H.val + d.val := a1
  have hy0 : (y 0).val < 4096 := (y 0).isLt
  have hy1 : (y 1).val < 256 := (y 1).isLt
  have ht : t.val < 32 := lt_of_lt_of_eq t.isLt N_0
  have ey : y = ix2 (n0 := 4096) (n1 := 256) x (colI ⟨H.val % 2, by omega⟩ (lq d)) := by
    funext a
    refine Fin.ext ?_
    fin_cases a
    · show (y 0).val = x.val
      omega
    · show (y 1).val = 128 * (H.val % 2) + d.val
      omega
  rw [ey]
  refine (point_dq hq hk hv hg t ((flush0_6 t).mp hf) ⟨H.val / 2, by omega⟩ (by show t.val / 8 = H.val / 2; omega) x ⟨H.val % 2, by omega⟩ d).trans ?_
  rw [pair_of]
theorem final_dk (x : Fin 4096) (H : Fin 8) (d : Fin 96) :
    (dats m 0 c).arrAt 7 cfg0.N (ix2 (n0 := 4096) (n1 := 1024) x ⟨128 * H.val + d.val, by omega⟩) = ((dkR I x H d : ℝ) : EReal) := by
  refine (dats m 0 c).arrAt_forall_of_covers 7 (fun i v => ∀ (x : Fin 4096) (H : Fin 8) (d : Fin 96), (i 0).val = x.val → (i 1).val = 128 * H.val + d.val → v = ((dkR I x H d : ℝ) : EReal)) (by decide +kernel) (fun t hf y x H d h0 h1 => ?_) _ (Memref.isWhole_whole _) x H d rfl rfl
  blk_simp
  rw [after_7]
  have a0 := (win0_7.rect_emb_val t y 0).symm.trans h0
  have a1 := (win0_7.rect_emb_val t y 1).symm.trans h1
  rw [(idx t).2.2.2.2.2.2.2.1] at a0 a1
  have b0 : (t.val % 8) * 512 + (y 0).val = x.val := a0
  have b1 : (t.val / 8) * 256 + (y 1).val = 128 * H.val + d.val := a1
  have hy0 : (y 0).val < 512 := (y 0).isLt
  have hy1 : (y 1).val < 256 := (y 1).isLt
  have ht : t.val < 32 := lt_of_lt_of_eq t.isLt N_0
  have ey : y = ix2 (n0 := 512) (n1 := 256) (⟨(y 0).val, hy0⟩ : Fin 512) (colI ⟨H.val % 2, by omega⟩ (lq d)) := by
    funext a
    refine Fin.ext ?_
    fin_cases a
    · show (y 0).val = (y 0).val
      omega
    · show (y 1).val = 128 * (H.val % 2) + d.val
      omega
  rw [ey]
  refine (point_dk hq hk hv hg t ⟨H.val / 2, by omega⟩ (by show t.val / 8 = H.val / 2; omega) (⟨(y 0).val, hy0⟩ : Fin 512) ⟨H.val % 2, by omega⟩ d).trans ?_
  rw [pair_of]
  have er : rowI (t.val % 8) (⟨(y 0).val, hy0⟩ : Fin 512) = x := Fin.ext (by rw [rowI_val (by omega)]; show 512 * (t.val % 8) + (y 0).val = x.val; omega)
  rw [er]
theorem final_dv (x : Fin 4096) (H : Fin 8) (d : Fin 64) :
    (dats m 0 c).arrAt 8 cfg0.N (ix2 (n0 := 4096) (n1 := 1024) x ⟨128 * H.val + (64 * (H.val % 2) + d.val), by omega⟩) = ((dvR I x H d : ℝ) : EReal) := by
  refine (dats m 0 c).arrAt_forall_of_covers 8 (fun i v => ∀ (x : Fin 4096) (H : Fin 8) (d : Fin 64), (i 0).val = x.val → (i 1).val = 128 * H.val + (64 * (H.val % 2) + d.val) → v = ((dvR I x H d : ℝ) : EReal)) (by decide +kernel) (fun t hf y x H d h0 h1 => ?_) _ (Memref.isWhole_whole _) x H d rfl rfl
  blk_simp
  rw [after_8]
  have a0 := (win0_8.rect_emb_val t y 0).symm.trans h0
  have a1 := (win0_8.rect_emb_val t y 1).symm.trans h1
  rw [(idx t).2.2.2.2.2.2.2.2] at a0 a1
  have b0 : (t.val % 8) * 512 + (y 0).val = x.val := a0
  have b1 : (t.val / 8) * 256 + (y 1).val = 128 * H.val + (64 * (H.val % 2) + d.val) := a1
  have hy0 : (y 0).val < 512 := (y 0).isLt
  have hy1 : (y 1).val < 256 := (y 1).isLt
  have ht : t.val < 32 := lt_of_lt_of_eq t.isLt N_0
  have ey : y = ix2 (n0 := 512) (n1 := 256) (⟨(y 0).val, hy0⟩ : Fin 512) (colI ⟨H.val % 2, by omega⟩ (lh ⟨H.val % 2, by omega⟩ d)) := by
    funext a
    refine Fin.ext ?_
    fin_cases a
    · show (y 0).val = (y 0).val
      omega
    · show (y 1).val = 128 * (H.val % 2) + (64 * (H.val % 2) + d.val)
      omega
  rw [ey]
  refine (point_dv hq hk hv hg t ⟨H.val / 2, by omega⟩ (by show t.val / 8 = H.val / 2; omega) (⟨(y 0).val, hy0⟩ : Fin 512) ⟨H.val % 2, by omega⟩ d).trans ?_
  rw [pair_of]
  have er : rowI (t.val % 8) (⟨(y 0).val, hy0⟩ : Fin 512) = x := Fin.ext (by rw [rowI_val (by omega)]; show 512 * (t.val % 8) + (y 0).val = x.val; omega)
  rw [er]
end Cert.AttnVal
-- ==== Proof.AttnTail.lean ====
module
public import proofs.«01_k».proof.Proof.AttnEntry
public import proofs.«01_k».proof.Proof.AttnRun
@[expose] public section
set_option maxRecDepth 16384
noncomputable section
/-!
The host lines after the kernel: the lanes its caller keeps.
-/
namespace Cert.AttnVal
open Idealize.ShloMosaic Idealize.ShloMosaic.TcCoe Idealize.SL.Sem
open Cert.AttnIdeal Cert.AttnIdeal.Gen Cert.Attn.Mine

/-- The heads side by side, taken apart. -/
def apart (x : FVec Ideal S4096x1024 .f32) : FVec Ideal S4096x8x128 .f32 := shapeCast S4096x8x128 x shapeCasts_S4096x1024_S4096x8x128
/-- The first 96 lanes of each head. -/
def front (x : FVec Ideal S4096x1024 .f32) : FVec Ideal S4096x8x96 .f32 := extractStridedSlice S4096x8x96 ![0, 0, 0] (apart x) slices_S4096x8x128_S4096x8x96_0_0_0
/-- The half of each head's lanes that its parity gives. -/
def half (x : FVec Ideal S4096x1024 .f32) : FVec Ideal S4096x8x64 .f32 :=
  select oddB (extractStridedSlice S4096x8x64 ![0, 0, 64] (apart x) slices_S4096x8x128_S4096x8x64_0_0_64) (extractStridedSlice S4096x8x64 ![0, 0, 0] (apart x) slices_S4096x8x128_S4096x8x64_0_0_0)

theorem front_at (x : FVec Ideal S4096x1024 .f32) (r : Fin 4096) (h : Fin 8) (d : Fin 96) :
    front x (ix3 (n0 := 4096) (n1 := 8) (n2 := 96) r h d) = x (ix2 (n0 := 4096) (n1 := 1024) r ⟨h.val * 128 + d.val, by omega⟩) := by
  pointwise [front, apart]
theorem half_at (x : FVec Ideal S4096x1024 .f32) (r : Fin 4096) (h : Fin 8) (d : Fin 64) :
    half x (ix3 (n0 := 4096) (n1 := 8) (n2 := 64) r h d) = Scalar.select (oddB (ix3 (n0 := 4096) (n1 := 8) (n2 := 64) r h d))
      (x (ix2 (n0 := 4096) (n1 := 1024) r ⟨h.val * 128 + (64 + d.val), by omega⟩)) (x (ix2 (n0 := 4096) (n1 := 1024) r ⟨h.val * 128 + d.val, by omega⟩)) := by
  pointwise [half, apart]

variable (m : (ℓ : Loc nD τ sig) → Buf (Elt Ideal) ℓ) (c : Dev nD)
theorem inj0 : Function.Injective (Pipeline.arrRef spec0) := by decide

theorem tail_v57 : Pipeline.afterTail₀ cfgs (dats m) 0 (V0 m) [hostOps1, hostOps1_1] c main_v57 = front ((dats m 0 c).arrAt 6 cfg0.N) := by
  unfold Pipeline.afterTail₀
  have e := Pipeline.withArrays_arr (cfgs 0).spec inj0 c (V0 m c) (fun w => (dats m 0 c).arrAt w (cfgs 0).N) 6
  generalize Pipeline.withArrays (cfgs 0).spec c (V0 m c) (fun w => (dats m 0 c).arrAt w (cfgs 0).N) = W at e ⊢
  rw [show (dats m 0 c).arrAt 6 cfg0.N = W (Proc.devRef .tc main_v54_0) from e.symm]
  clear e
  simp only [hostOps1, hostOps1_1, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem tail_v59 : Pipeline.afterTail₀ cfgs (dats m) 0 (V0 m) [hostOps1, hostOps1_1] c main_v59 = front ((dats m 0 c).arrAt 7 cfg0.N) := by
  unfold Pipeline.afterTail₀
  have e := Pipeline.withArrays_arr (cfgs 0).spec inj0 c (V0 m c) (fun w => (dats m 0 c).arrAt w (cfgs 0).N) 7
  generalize Pipeline.withArrays (cfgs 0).spec c (V0 m c) (fun w => (dats m 0 c).arrAt w (cfgs 0).N) = W at e ⊢
  rw [show (dats m 0 c).arrAt 7 cfg0.N = W (Proc.devRef .tc main_v54_1) from e.symm]
  clear e
  simp only [hostOps1, hostOps1_1, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem tail_v62 : Pipeline.afterTail₀ cfgs (dats m) 0 (V0 m) [hostOps1, hostOps1_1] c main_v62 = half ((dats m 0 c).arrAt 8 cfg0.N) := by
  unfold Pipeline.afterTail₀
  have e := Pipeline.withArrays_arr (cfgs 0).spec inj0 c (V0 m c) (fun w => (dats m 0 c).arrAt w (cfgs 0).N) 8
  have e7 := Pipeline.withArrays_of_ne (cfgs 0).spec c (V0 m c) (fun w => (dats m 0 c).arrAt w (cfgs 0).N) main_v7 (by decide)
  have e7' := e7.trans (V_v7 m c)
  clear e7
  generalize Pipeline.withArrays (cfgs 0).spec c (V0 m c) (fun w => (dats m 0 c).arrAt w (cfgs 0).N) = W at e e7' ⊢
  rw [show (dats m 0 c).arrAt 8 cfg0.N = W (Proc.devRef .tc main_v54_2) from e.symm]
  clear e
  unfold half oddB
  rw [← e7']
  simp only [hostOps1, hostOps1_1, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
end Cert.AttnVal
-- ==== Proof.AttnRef.lean ====
module
public import proofs.«01_k».proof.Proof.AttnSums
public import proofs.«01_k».proof.Proof.AttnHost
public import proofs.«01_k».proof.Proof.Gen.AttnRefIdeal.Run
@[expose] public section
set_option maxRecDepth 16384
noncomputable section
/-!
The reference's three results over the real numbers.
-/
namespace Cert.AttnVal
open Idealize.ShloMosaic Idealize.ShloMosaic.TcCoe Idealize.SL.Sem
open Cert.AttnIdeal Cert.AttnIdeal.Gen Cert.Attn.Mine

/-- The reference's scores: the products over the square root of 96. -/
def sRef (q k : FVec Ideal S4096x8x96 .f32) : FVec Ideal S8x4096x4096 .f32 :=
  Host.divf (dotH q k) (broadcastInDim S8x4096x4096 ![] bcast_S_S8x4096x4096 (Host.sqrt (constant S_ FTy.f32 0x42C00000#32)))
def mRef (s : FVec Ideal S8x4096x4096 .f32) : FVec Ideal S8x4096 .f32 :=
  maximumf (broadcastInDim S8x4096 ![] Cert.AttnRefIdeal.Gen.bcast_S_S8x4096 (constant S_ .f32 0xFF800000#32)) (maxH s)
def gT (g : FVec Ideal S4096x512 .f32) : FVec Ideal S8x64x4096 .f32 :=
  transpose S8x64x4096 [1, 2, 0] (shapeCast S4096x8x64 g Cert.AttnRefIdeal.Gen.shapeCasts_S4096x512_S4096x8x64) Cert.AttnRefIdeal.Gen.transposes_S4096x8x64_S8x64x4096_1_2_0
/-- The value gradient from the probabilities. -/
def dvRef (g : FVec Ideal S4096x512 .f32) (p : FVec Ideal S8x4096x4096 .f32) : FVec Ideal S4096x8x64 .f32 :=
  transpose S4096x8x64 [2, 0, 1] (Host.dotGeneral Cert.AttnRefIdeal.dot_S8x64x4096_S8x4096x4096_S8x64x4096_2_1_1_2_0_0 none (gT g) p) transposes_S8x64x4096_S4096x8x64_2_0_1
/-- The products of the cotangent with the values. -/
def dpRef (g : FVec Ideal S4096x512 .f32) (v : FVec Ideal S4096x8x64 .f32) : FVec Ideal S8x4096x4096 .f32 :=
  Host.dotGeneral Cert.AttnRefIdeal.dot_S8x64x4096_S4096x8x64_S8x4096x4096_1_2_2_0_0_1 none (gT g) v
/-- Minus the row sums of the products times the exponentials over the squared sum. -/
def corrRef (dp e : FVec Ideal S8x4096x4096 .f32) (l : FVec Ideal S8x4096 .f32) : FVec Ideal S8x4096 .f32 :=
  Host.reduceAdd (Host.negf (shapeCast S8x4096x1 (Host.reduceAdd (mulf (mulf dp (acrossH (Host.divf (broadcastInDim S8x4096x1 ![] bcast_S_S8x4096x1 (constant S_ .f32 0x3F800000#32)) (mulf (colH l) (colH l))))) e) (constant S_ .f32 0x00000000#32) reducesTo_S8x4096x4096_S8x4096_d2 h_S_) Cert.AttnRefIdeal.Gen.shapeCasts_S8x4096_S8x4096x1)) (constant S_ .f32 0x00000000#32) Cert.AttnRefIdeal.Gen.reducesTo_S8x4096x1_S8x4096_d2 h_S_
/-- The gradient of the scaled scores, over the square root of 96. -/
def dsRef (dp e : FVec Ideal S8x4096x4096 .f32) (l cr : FVec Ideal S8x4096 .f32) : FVec Ideal S8x4096x4096 .f32 :=
  Host.divf (select mask (mulf (addf (Host.divf dp (acrossH (colH l))) (broadcastInDim S8x4096x4096 ![0, 1] Cert.AttnRefIdeal.Gen.bcast_S8x4096_S8x4096x4096_0_1 cr)) e) (broadcastInDim S8x4096x4096 ![] bcast_S_S8x4096x4096 (constant S_ .f32 0x00000000#32))) (broadcastInDim S8x4096x4096 ![] bcast_S_S8x4096x4096 (Host.sqrt (constant S_ .f32 0x42C00000#32)))
def dqRef (ds : FVec Ideal S8x4096x4096 .f32) (k : FVec Ideal S4096x8x96 .f32) : FVec Ideal S4096x8x96 .f32 :=
  transpose S4096x8x96 [1, 0, 2] (Host.dotGeneral Cert.AttnRefIdeal.dot_S8x4096x4096_S4096x8x96_S8x4096x96_2_0_1_2_0_1 none ds k) Cert.AttnRefIdeal.Gen.transposes_S8x4096x96_S4096x8x96_1_0_2
def dkRef (ds : FVec Ideal S8x4096x4096 .f32) (q : FVec Ideal S4096x8x96 .f32) : FVec Ideal S4096x8x96 .f32 :=
  transpose S4096x8x96 [1, 0, 2] (Host.dotGeneral Cert.AttnRefIdeal.dot_S8x4096x4096_S4096x8x96_S8x4096x96_1_0_2_2_0_1 none ds q) Cert.AttnRefIdeal.Gen.transposes_S8x4096x96_S4096x8x96_1_0_2

/-- The exponentials of the reference. -/
def eRef (q k : FVec Ideal S4096x8x96 .f32) : FVec Ideal S8x4096x4096 .f32 := expH (sRef q k) (mRef (sRef q k))
/-- All of the gradient of the scores. -/
def dsAll (q k : FVec Ideal S4096x8x96 .f32) (v : FVec Ideal S4096x8x64 .f32) (g : FVec Ideal S4096x512 .f32) : FVec Ideal S8x4096x4096 .f32 :=
  dsRef (dpRef g v) (eRef q k) (sumH (eRef q k)) (corrRef (dpRef g v) (eRef q k) (sumH (eRef q k)))

variable (m : (ℓ : Loc Cert.AttnRefIdeal.nD Cert.AttnRefIdeal.τ Cert.AttnRefIdeal.sig) → Buf (Elt Ideal) ℓ) (c : Dev Cert.AttnRefIdeal.nD)
def aq : FVec Ideal S4096x8x96 .f32 := m ((c.tc : Thread Cert.AttnRefIdeal.nD Cert.AttnRefIdeal.τ).loc Cert.AttnRefIdeal.main_arg0)
def ak : FVec Ideal S4096x8x96 .f32 := m ((c.tc : Thread Cert.AttnRefIdeal.nD Cert.AttnRefIdeal.τ).loc Cert.AttnRefIdeal.main_arg1)
def av : FVec Ideal S4096x8x64 .f32 := m ((c.tc : Thread Cert.AttnRefIdeal.nD Cert.AttnRefIdeal.τ).loc Cert.AttnRefIdeal.main_arg2)
def ag : FVec Ideal S4096x512 .f32 := m ((c.tc : Thread Cert.AttnRefIdeal.nD Cert.AttnRefIdeal.τ).loc Cert.AttnRefIdeal.main_arg3)
theorem res_dv : Cert.AttnRefIdeal.Value.res_main_v47 m c = dvRef (ag m c) (probH (eRef (aq m c) (ak m c))) := rfl
theorem res_dq : Cert.AttnRefIdeal.Value.res_main_v66 m c = dqRef (dsAll (aq m c) (ak m c) (av m c) (ag m c)) (ak m c) := rfl
theorem res_dk : Cert.AttnRefIdeal.Value.res_main_v64 m c = dkRef (dsAll (aq m c) (ak m c) (av m c) (ag m c)) (aq m c) := rfl

theorem oc_eq (h : Fin 8) (d : Fin 64) : (⟨h.val * 64 + d.val, by omega⟩ : Fin 512) = oc h d := Fin.ext (by show h.val * 64 + d.val = 64 * h.val + d.val; omega)
theorem gT_at (g : FVec Ideal S4096x512 .f32) (h : Fin 8) (d : Fin 64) (x : Fin 4096) : gT g (ix3 (n0 := 8) (n1 := 64) (n2 := 4096) h d x) = g (ix2 (n0 := 4096) (n1 := 512) x (oc h d)) := by
  pointwise [gT]
  exact congrArg (fun z => g (ix2 (n0 := 4096) (n1 := 512) x z)) (oc_eq h d)
theorem dvRef_at (g : FVec Ideal S4096x512 .f32) (p : FVec Ideal S8x4096x4096 .f32) (y : Fin 4096) (h : Fin 8) (d : Fin 64) :
    dvRef g p (ix3 (n0 := 4096) (n1 := 8) (n2 := 64) y h d) = ∑ x : Fin 4096, g (ix2 (n0 := 4096) (n1 := 512) x (oc h d)) * p (ix3 (n0 := 8) (n1 := 4096) (n2 := 4096) h x y) := by
  pointwise [dvRef, gT]
  exact Finset.sum_congr rfl fun x _ => congrArg (fun z => g (ix2 (n0 := 4096) (n1 := 512) x z) * _) (oc_eq h d)
theorem dpRef_at (g : FVec Ideal S4096x512 .f32) (v : FVec Ideal S4096x8x64 .f32) (h : Fin 8) (x y : Fin 4096) :
    dpRef g v (ix3 (n0 := 8) (n1 := 4096) (n2 := 4096) h x y) = ∑ d : Fin 64, g (ix2 (n0 := 4096) (n1 := 512) x (oc h d)) * v (ix3 (n0 := 4096) (n1 := 8) (n2 := 64) y h d) := by
  pointwise [dpRef, gT]
  exact Finset.sum_congr rfl fun d _ => congrArg (fun z => g (ix2 (n0 := 4096) (n1 := 512) x z) * _) (oc_eq h d)
theorem corrRef_at (dp e : FVec Ideal S8x4096x4096 .f32) (l : FVec Ideal S8x4096 .f32) (h : Fin 8) (x : Fin 4096) :
    corrRef dp e l (ix2 (n0 := 8) (n1 := 4096) h x) = -(∑ y : Fin 4096, dp (ix3 (n0 := 8) (n1 := 4096) (n2 := 4096) h x y)
      * Ideal.div 1 (l (ix2 (n0 := 8) (n1 := 4096) h x) * l (ix2 (n0 := 8) (n1 := 4096) h x)) * e (ix3 (n0 := 8) (n1 := 4096) (n2 := 4096) h x y)) := by
  pointwise [corrRef, acrossH, colH]
  exact Fin.sum_univ_one _
theorem dsRef_at (dp e : FVec Ideal S8x4096x4096 .f32) (l cr : FVec Ideal S8x4096 .f32) (h : Fin 8) (x y : Fin 4096) :
    dsRef dp e l cr (ix3 (n0 := 8) (n1 := 4096) (n2 := 4096) h x y) = Ideal.div (if sees x y then
      (Ideal.div (dp (ix3 (n0 := 8) (n1 := 4096) (n2 := 4096) h x y)) (l (ix2 (n0 := 8) (n1 := 4096) h x)) + cr (ix2 (n0 := 8) (n1 := 4096) h x)) * e (ix3 (n0 := 8) (n1 := 4096) (n2 := 4096) h x y)
        else 0) (Ideal.sqrt (Ideal.ofBits .f32 1119879168#32)) := by
  pointwise [dsRef, acrossH, colH]
  rw [mask_at]
  by_cases hv : sees x y
  · rw [if_pos hv, if_pos hv]; rfl
  · rw [if_neg hv, if_neg hv]; rfl
theorem dqRef_at (ds : FVec Ideal S8x4096x4096 .f32) (k : FVec Ideal S4096x8x96 .f32) (x : Fin 4096) (h : Fin 8) (d : Fin 96) :
    dqRef ds k (ix3 (n0 := 4096) (n1 := 8) (n2 := 96) x h d) = ∑ y : Fin 4096, ds (ix3 (n0 := 8) (n1 := 4096) (n2 := 4096) h x y) * k (ix3 (n0 := 4096) (n1 := 8) (n2 := 96) y h d) := by
  pointwise [dqRef]
theorem dkRef_at (ds : FVec Ideal S8x4096x4096 .f32) (q : FVec Ideal S4096x8x96 .f32) (y : Fin 4096) (h : Fin 8) (d : Fin 96) :
    dkRef ds q (ix3 (n0 := 4096) (n1 := 8) (n2 := 96) y h d) = ∑ x : Fin 4096, ds (ix3 (n0 := 8) (n1 := 4096) (n2 := 4096) h x y) * q (ix3 (n0 := 4096) (n1 := 8) (n2 := 96) x h d) := by
  pointwise [dkRef]

variable (I : Args)
theorem sRef_is : IsScore I (sRef (qE I) (kE I)) := by
  intro h x y
  pointwise [sRef]
  rw [dot_at, word_96, sqrt96, Ideal.div_coe sqrt96_ne, ← EReal.coe_mul]; rfl

theorem mRef_at {s : FVec Ideal S8x4096x4096 .f32} (hs : IsScore I s) (h : Fin 8) (x : Fin 4096) : ∃ M : ℝ, mRef s (ix2 (n0 := 8) (n1 := 4096) h x) = (M : EReal) := by
  obtain ⟨M, hM⟩ := max_at hs h x
  refine ⟨M, ?_⟩
  have e : ∀ z : FVec Ideal S8x4096 .f32, maximumf (broadcastInDim S8x4096 ![] Cert.AttnRefIdeal.Gen.bcast_S_S8x4096 (constant S_ .f32 0xFF800000#32)) z (ix2 (n0 := 8) (n1 := 4096) h x)
      = max (Ideal.ofBits .f32 4286578688#32) (z (ix2 (n0 := 8) (n1 := 4096) h x)) := fun z => by pointwise []
  unfold mRef
  rw [e, hM, word_bot, max_eq_right bot_le]

/-- The gradient of the scores, over the square root of 96. -/
theorem dsAll_at (h : Fin 8) (x y : Fin 4096) : dsAll (qE I) (kE I) (vE I) (gE I) (ix3 (n0 := 8) (n1 := 4096) (n2 := 4096) h x y) = ((dS I h x y * (1 / Real.sqrt 96) : ℝ) : EReal) := by
  obtain ⟨M, hM⟩ := mRef_at I (sRef_is I) h x
  have he := fun y => exp_at (sRef_is I) h x y hM
  have hl := sum_at (sRef_is I) h x hM
  have hL := (sum_shifted_pos I M h x).ne'
  have hdp : ∀ y, dpRef (gE I) (vE I) (ix3 (n0 := 8) (n1 := 4096) (n2 := 4096) h x y) = ((dP I h x y : ℝ) : EReal) := fun y => by
    rw [dpRef_at]; unfold dP; rw [coe_sum]
    exact Finset.sum_congr rfl fun d _ => (EReal.coe_mul _ _).symm
  have hc : corrRef (dpRef (gE I) (vE I)) (eRef (qE I) (kE I)) (sumH (eRef (qE I) (kE I))) (ix2 (n0 := 8) (n1 := 4096) h x)
      = ((-(delta I h x * (1 / ∑ y', shifted I M h x y')) : ℝ) : EReal) := by
    rw [corrRef_at, EReal.coe_neg, delta_eq, Finset.sum_mul, coe_sum]
    refine congrArg (fun a : EReal => -a) (Finset.sum_congr rfl fun y _ => ?_)
    unfold eRef
    rw [hdp, he, hl, ← EReal.coe_mul, Ideal.div_coe (mul_ne_zero hL hL), one_mul, ← EReal.coe_mul, ← EReal.coe_mul]
    refine congrArg _ ?_
    rw [← shifted_div I M h x y]
    field_simp
  unfold dsAll
  rw [dsRef_at, hc]
  unfold eRef
  rw [hdp, he, hl, word_96, sqrt96, Ideal.div_coe sqrt96_ne, Ideal.div_coe hL, ← EReal.coe_mul, ← EReal.coe_add, ← EReal.coe_mul]
  by_cases hv : sees x y
  · rw [if_pos hv, ← EReal.coe_mul]
    refine congrArg _ ?_
    unfold dS
    rw [← shifted_div I M h x y]
    ring
  · rw [if_neg hv, zero_mul]
    unfold dS prob wgt
    rw [if_neg hv, zero_mul, zero_mul, zero_mul, EReal.coe_zero]

theorem dq_ref (x : Fin 4096) (h : Fin 8) (d : Fin 96) : dqRef (dsAll (qE I) (kE I) (vE I) (gE I)) (kE I) (ix3 (n0 := 4096) (n1 := 8) (n2 := 96) x h d) = ((dqR I x h d : ℝ) : EReal) := by
  rw [dqRef_at]; unfold dqR; rw [Finset.sum_mul, coe_sum]
  refine Finset.sum_congr rfl fun y _ => ?_
  rw [dsAll_at]
  refine (EReal.coe_mul _ _).symm.trans (congrArg _ ?_)
  show _ * I.k y h d = _
  ring
theorem dk_ref (y : Fin 4096) (h : Fin 8) (d : Fin 96) : dkRef (dsAll (qE I) (kE I) (vE I) (gE I)) (qE I) (ix3 (n0 := 4096) (n1 := 8) (n2 := 96) y h d) = ((dkR I y h d : ℝ) : EReal) := by
  rw [dkRef_at]; unfold dkR; rw [Finset.sum_mul, coe_sum]
  refine Finset.sum_congr rfl fun x _ => ?_
  rw [dsAll_at]
  refine (EReal.coe_mul _ _).symm.trans (congrArg _ ?_)
  show _ * I.q x h d = _
  ring
theorem dv_ref (y : Fin 4096) (h : Fin 8) (d : Fin 64) : dvRef (gE I) (probH (eRef (qE I) (kE I))) (ix3 (n0 := 4096) (n1 := 8) (n2 := 64) y h d) = ((dvR I y h d : ℝ) : EReal) := by
  rw [dvRef_at]; unfold dvR; rw [coe_sum]
  refine Finset.sum_congr rfl fun x _ => ?_
  obtain ⟨M, hM⟩ := mRef_at I (sRef_is I) h x
  unfold eRef
  rw [prob_at (sRef_is I) h x y hM]
  refine (EReal.coe_mul _ _).symm.trans (congrArg _ ?_)
  show I.g x (oc h d) * _ = _
  ring
end Cert.AttnVal
end
-- ==== Proof.AttnValue.lean ====
module
public import proofs.«01_k».proof.Defs
public import proofs.«01_k».proof.Proof.Gen.Pre_finite_attn
public import proofs.«01_k».proof.Proof.AttnFinal
public import proofs.«01_k».proof.Proof.AttnTail
public import proofs.«01_k».proof.Proof.AttnRef
public import Idealize.ShloMosaic.Lib.Quiescent
@[expose] public section
set_option maxRecDepth 16384
noncomputable section
/-!
The backward attention's kernel and its derivative leave the same three gradients.
-/
namespace Cert.AttnVal
open Idealize.ShloMosaic Idealize.ShloMosaic.TcCoe Idealize.SL.Sem
open Cert.AttnIdeal Cert.AttnIdeal.Gen Cert.Attn.Mine

theorem word_inf : (FloatOps.ofBits (F := Ideal) .f32 0x7F800000#32 : EReal) = ⊤ := by
  show Ideal.ofBits .f32 0x7F800000#32 = _
  simp [Ideal.ofBits, Ideal.ieee]
/-- An entry of magnitude below infinity is a real. -/
theorem real_of_lt {x : EReal} (h : max x (-x) < ⊤) : ((x.toReal : ℝ) : EReal) = x := by
  refine EReal.coe_toReal ?_ ?_
  · rintro rfl; simp at h
  · rintro rfl; simp at h
theorem real_of_word {x : Ideal .f32} (h : FloatOps.cmpf .olt (FloatOps.absf x) (FloatOps.ofBits (F := Ideal) .f32 0x7F800000#32) = 1#1) : ((EReal.toReal x : ℝ) : EReal) = x := by
  refine real_of_lt ?_
  rw [word_inf] at h
  by_contra hn
  have : FloatOps.cmpf (F := Ideal) (φ := .f32) .olt (FloatOps.absf x) (⊤ : EReal) = 0#1 := by
    show BitVec.ofBool (decide (max x (-x) < (⊤ : EReal))) = _
    rw [decide_eq_false hn]; rfl
  rw [this] at h
  exact absurd h (by decide)

variable (a0 a1 : FVec Ideal S4096x8x96 .f32) (a2 : FVec Ideal S4096x8x64 .f32) (a3 : FVec Ideal S4096x512 .f32)
/-- The arrays' entries as reals. -/
def argsOf : Args where
  q x h d := EReal.toReal (a0 (ix3 (n0 := 4096) (n1 := 8) (n2 := 96) x h d))
  k x h d := EReal.toReal (a1 (ix3 (n0 := 4096) (n1 := 8) (n2 := 96) x h d))
  v x h d := EReal.toReal (a2 (ix3 (n0 := 4096) (n1 := 8) (n2 := 64) x h d))
  g x d := EReal.toReal (a3 (ix2 (n0 := 4096) (n1 := 512) x d))

variable (h : (Cert.Pre_finite_attn.fn (F := Ideal) a0 a1 a2 a3).1 = (fun _ => 1#1) ∧ (Cert.Pre_finite_attn.fn (F := Ideal) a0 a1 a2 a3).2.1 = (fun _ => 1#1)
  ∧ (Cert.Pre_finite_attn.fn (F := Ideal) a0 a1 a2 a3).2.2.1 = (fun _ => 1#1) ∧ (Cert.Pre_finite_attn.fn (F := Ideal) a0 a1 a2 a3).2.2.2 = (fun _ => 1#1))
include h
theorem fin_q : a0 = qE (argsOf a0 a1 a2 a3) := by
  funext i
  obtain ⟨x, hh, d, rfl⟩ : ∃ (x : Fin 4096) (hh : Fin 8) (d : Fin 96), i = ix3 (n0 := 4096) (n1 := 8) (n2 := 96) x hh d := ⟨i 0, i 1, i 2, (eq_ix3 i)⟩
  exact (real_of_word (congrFun h.1 _)).symm
theorem fin_k : a1 = kE (argsOf a0 a1 a2 a3) := by
  funext i
  obtain ⟨x, hh, d, rfl⟩ : ∃ (x : Fin 4096) (hh : Fin 8) (d : Fin 96), i = ix3 (n0 := 4096) (n1 := 8) (n2 := 96) x hh d := ⟨i 0, i 1, i 2, (eq_ix3 i)⟩
  exact (real_of_word (congrFun h.2.1 _)).symm
theorem fin_v : a2 = vE (argsOf a0 a1 a2 a3) := by
  funext i
  obtain ⟨x, hh, d, rfl⟩ : ∃ (x : Fin 4096) (hh : Fin 8) (d : Fin 64), i = ix3 (n0 := 4096) (n1 := 8) (n2 := 64) x hh d := ⟨i 0, i 1, i 2, (eq_ix3 i)⟩
  exact (real_of_word (congrFun h.2.2.1 _)).symm
theorem fin_g : a3 = gE (argsOf a0 a1 a2 a3) := by
  funext i
  obtain ⟨x, d, rfl⟩ : ∃ (x : Fin 4096) (d : Fin 512), i = ix2 (n0 := 4096) (n1 := 512) x d := ⟨i 0, i 1, (eq_ix2 i)⟩
  exact (real_of_word (congrFun h.2.2.2 _)).symm
omit h

variable {m : (ℓ : Loc nD τ sig) → Buf (Elt Ideal) ℓ} {c : Dev nD} {I : Args}
/-- What the kernel leaves, in terms of the reference's stages. -/
theorem out_dq (hq : kq m c = qE I) (hk : kk m c = kE I) (hv : kv m c = vE I) (hg : kg m c = gE I) :
    front ((dats m 0 c).arrAt 6 cfg0.N) = dqRef (dsAll (qE I) (kE I) (vE I) (gE I)) (kE I) := by
  funext i
  obtain ⟨x, hh, d, rfl⟩ : ∃ (x : Fin 4096) (hh : Fin 8) (d : Fin 96), i = ix3 (n0 := 4096) (n1 := 8) (n2 := 96) x hh d := ⟨i 0, i 1, i 2, (eq_ix3 i)⟩
  rw [front_at, dq_ref I x hh d, ← final_dq hq hk hv hg x hh d]
  exact congrArg (fun n : Fin 1024 => (dats m 0 c).arrAt 6 cfg0.N (ix2 (n0 := 4096) (n1 := 1024) x n)) (Fin.ext (by show hh.val * 128 + d.val = 128 * hh.val + d.val; omega))
theorem out_dk (hq : kq m c = qE I) (hk : kk m c = kE I) (hv : kv m c = vE I) (hg : kg m c = gE I) :
    front ((dats m 0 c).arrAt 7 cfg0.N) = dkRef (dsAll (qE I) (kE I) (vE I) (gE I)) (qE I) := by
  funext i
  obtain ⟨x, hh, d, rfl⟩ : ∃ (x : Fin 4096) (hh : Fin 8) (d : Fin 96), i = ix3 (n0 := 4096) (n1 := 8) (n2 := 96) x hh d := ⟨i 0, i 1, i 2, (eq_ix3 i)⟩
  rw [front_at, dk_ref I x hh d, ← final_dk hq hk hv hg x hh d]
  exact congrArg (fun n : Fin 1024 => (dats m 0 c).arrAt 7 cfg0.N (ix2 (n0 := 4096) (n1 := 1024) x n)) (Fin.ext (by show hh.val * 128 + d.val = 128 * hh.val + d.val; omega))
theorem out_dv (hq : kq m c = qE I) (hk : kk m c = kE I) (hv : kv m c = vE I) (hg : kg m c = gE I) :
    half ((dats m 0 c).arrAt 8 cfg0.N) = dvRef (gE I) (probH (eRef (qE I) (kE I))) := by
  funext i
  obtain ⟨x, hh, d, rfl⟩ : ∃ (x : Fin 4096) (hh : Fin 8) (d : Fin 64), i = ix3 (n0 := 4096) (n1 := 8) (n2 := 64) x hh d := ⟨i 0, i 1, i 2, (eq_ix3 i)⟩
  rw [half_at, odd_word, dv_ref I x hh d, ← final_dv hq hk hv hg x hh d]
  by_cases hp : hh.val % 2 = 1
  · rw [if_pos hp]
    exact congrArg (fun n : Fin 1024 => (dats m 0 c).arrAt 8 cfg0.N (ix2 (n0 := 4096) (n1 := 1024) x n)) (Fin.ext (by show hh.val * 128 + (64 + d.val) = 128 * hh.val + (64 * (hh.val % 2) + d.val); omega))
  · rw [if_neg hp]
    exact congrArg (fun n : Fin 1024 => (dats m 0 c).arrAt 8 cfg0.N (ix2 (n0 := 4096) (n1 := 1024) x n)) (Fin.ext (by show hh.val * 128 + d.val = 128 * hh.val + (64 * (hh.val % 2) + d.val); omega))

theorem rest57 (m : (ℓ : Loc nD τ sig) → Buf (Elt Ideal) ℓ) {V r} (hF : Pipeline.FramePost cfgs (dats m) 0 V r) (c : Dev nD) : r.2.mem ((c.tc : Thread nD τ).loc main_v57) = V c main_v57 :=
  Pipeline.FramePost.rest_eq hF c main_v57 (Pipeline.mem_restRefs_of main_v57 (by decide) (by decide))
theorem rest59 (m : (ℓ : Loc nD τ sig) → Buf (Elt Ideal) ℓ) {V r} (hF : Pipeline.FramePost cfgs (dats m) 0 V r) (c : Dev nD) : r.2.mem ((c.tc : Thread nD τ).loc main_v59) = V c main_v59 :=
  Pipeline.FramePost.rest_eq hF c main_v59 (Pipeline.mem_restRefs_of main_v59 (by decide) (by decide))
theorem rest62 (m : (ℓ : Loc nD τ sig) → Buf (Elt Ideal) ℓ) {V r} (hF : Pipeline.FramePost cfgs (dats m) 0 V r) (c : Dev nD) : r.2.mem ((c.tc : Thread nD τ).loc main_v62) = V c main_v62 :=
  Pipeline.FramePost.rest_eq hF c main_v62 (Pipeline.mem_restRefs_of main_v62 (by decide) (by decide))

/-- The derivative runs and leaves its arguments alone. -/
theorem frame_reference : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- Equal gradients of finite arguments. -/
theorem value : Cert.algebraic_AttnIdeal_AttnRefIdeal_pre_finite_attn := by
  intro m ρ m' ρ' hpre hagree
  refine ⟨fun c => Cert.AttnRefIdeal.Value.res_main_v66 m' c, fun c => Cert.AttnRefIdeal.Value.res_main_v64 m' c, fun c => Cert.AttnRefIdeal.Value.res_main_v47 m' c, ?_, Cert.AttnRefIdeal.Value.run (F := Ideal) m' ρ'⟩
  refine (θ_run defs _ _).mono (fun r h c => ?_) (θ_run_and (frame_ideal m ρ trivial) (run_named m ρ))
  have hq := fin_q _ _ _ _ (hpre c)
  have hk := fin_k _ _ _ _ (hpre c)
  have hv := fin_v _ _ _ _ (hpre c)
  have hg := fin_g _ _ _ _ (hpre c)
  have eq0 : aq m' c = kq m c := (hagree c).1
  have eq1 : ak m' c = kk m c := (hagree c).2.1
  have eq2 : av m' c = kv m c := (hagree c).2.2.1
  have eq3 : ag m' c = kg m c := (hagree c).2.2.2
  refine ⟨?_, ?_, ?_, h.1.1 c⟩
  · refine (rest57 m h.2.1 c).trans ((tail_v57 m c).trans ((out_dq hq hk hv hg).trans ?_))
    refine Eq.trans ?_ (res_dq m' c).symm
    rw [eq0, eq1, eq2, eq3]
    exact (congr (congrArg dqRef (congr (congr (congr (congrArg dsAll hq) hk) hv) hg)) hk).symm
  · refine (rest59 m h.2.1 c).trans ((tail_v59 m c).trans ((out_dk hq hk hv hg).trans ?_))
    refine Eq.trans ?_ (res_dk m' c).symm
    rw [eq0, eq1, eq2, eq3]
    exact (congr (congrArg dkRef (congr (congr (congr (congrArg dsAll hq) hk) hv) hg)) hq).symm
  · refine (rest62 m h.2.1 c).trans ((tail_v62 m c).trans ((out_dv hq hk hv hg).trans ?_))
    refine Eq.trans ?_ (res_dv m' c).symm
    rw [eq0, eq1, eq3]
    exact (congr (congrArg dvRef hg) (congrArg probH (congr (congrArg eRef hq) hk))).symm
end Cert.AttnVal
-- ==== Proof.FwdOnline.lean ====
module
public import proofs.«01_k».proof.Proof.AttnReal
public import Idealize.ShloMosaic.Lib.Pointwise
@[expose] public section
noncomputable section
/-!
The running softmax: a row's maximum, its sum of powers of two and its weighted sum of values, taken block of keys by
block of keys, are those of all the keys seen so far, up to the power of the maximum.
-/
namespace Cert.FwdVal
open Idealize.ShloMosaic
open Cert.AttnVal (coe_sum)

/-- What a row carries: its maximum, its sum, its weighted sums. -/
structure Row where
  m : EReal
  l : EReal
  a : Fin 128 → EReal

@[ext] theorem Row.ext' {x y : Row} (hm : x.m = y.m) (hl : x.l = y.l) (ha : ∀ d, x.a d = y.a d) : x = y := by
  cases x; cases y; cases hm; cases hl; cases (funext ha : _ = _); rfl

/-- The maximum after a block. -/
def top (s : Fin 1024 → EReal) (z : Row) : EReal := max z.m (Finset.univ.fold max ⊥ s)
/-- One block of keys. -/
def step (s : Fin 1024 → EReal) (v : Fin 1024 → Fin 128 → EReal) (z : Row) : Row where
  m := top s z
  l := Ideal.exp2 (z.m - top s z) * z.l + ∑ j, Ideal.exp2 (s j - top s z)
  a d := Ideal.exp2 (z.m - top s z) * z.a d + ∑ j, Ideal.exp2 (s j - top s z) * v j d
/-- What a row carries before the first block. -/
def start : Row := ⟨⊥, 0, fun _ => 0⟩

/-- The row holds the sums over the keys of `S`. -/
def Sums (sc : Fin 4096 → ℝ) (w : Fin 4096 → Fin 128 → ℝ) (S : Finset (Fin 4096)) (z : Row) : Prop :=
  (S = ∅ ∧ z = start) ∨
    ∃ M : ℝ, z.m = (M : EReal) ∧ z.l = ((∑ k ∈ S, Real.rpow 2 (sc k - M) : ℝ) : EReal)
      ∧ ∀ d, z.a d = ((∑ k ∈ S, Real.rpow 2 (sc k - M) * w k d : ℝ) : EReal)

theorem pow_shift (x M N : ℝ) : Real.rpow 2 (M - N) * Real.rpow 2 (x - M) = Real.rpow 2 (x - N) := by
  simp only [Real.rpow_eq_pow]
  rw [← Real.rpow_add (by norm_num)]
  congr 1; ring

variable {sc : Fin 4096 → ℝ} {w : Fin 4096 → Fin 128 → ℝ}

theorem top_real {S : Finset (Fin 4096)} {z : Row} (hz : Sums sc w S z) (e : Fin 1024 → Fin 4096) (T : Fin 1024 → Prop) [DecidablePred T]
    (j0 : Fin 1024) (h0 : T j0) : ∃ N : ℝ, top (fun j => if T j then (sc (e j) : EReal) else ⊥) z = (N : EReal) := by
  obtain ⟨B, hB⟩ := Cert.AttnVal.fold_max (fun j => sc (e j)) T j0 h0
  unfold top
  rw [hB]
  rcases hz with ⟨_, rfl⟩ | ⟨M, hM, _⟩
  · exact ⟨B, max_eq_right bot_le⟩
  · exact ⟨max M B, by rw [hM]; exact (EReal.coe_strictMono.monotone.map_max).symm⟩

theorem sum_vis {e : Fin 1024 → Fin 4096} (he : Function.Injective e) (T : Fin 1024 → Prop) [DecidablePred T] (f : Fin 4096 → ℝ) :
    ∑ j, (if T j then (f (e j) : EReal) else 0) = ((∑ k ∈ (Finset.univ.filter T).image e, f k : ℝ) : EReal) := by
  rw [Finset.sum_image (fun a _ b _ h => he h), Finset.sum_filter, coe_sum]
  exact Finset.sum_congr rfl fun j _ => by split <;> rfl

/-- A block with a visible key adds that block's visible keys. -/
theorem step_sums {S : Finset (Fin 4096)} {z : Row} (hz : Sums sc w S z) {e : Fin 1024 → Fin 4096} (he : Function.Injective e)
    (T : Fin 1024 → Prop) [DecidablePred T] (j0 : Fin 1024) (h0 : T j0) (hd : Disjoint S ((Finset.univ.filter T).image e))
    {s : Fin 1024 → EReal} {v : Fin 1024 → Fin 128 → EReal}
    (hs : ∀ j, s j = if T j then (sc (e j) : EReal) else ⊥) (hv : ∀ j d, v j d = (w (e j) d : EReal)) :
    Sums sc w (S ∪ (Finset.univ.filter T).image e) (step s v z) := by
  obtain rfl : s = fun j => if T j then (sc (e j) : EReal) else ⊥ := funext hs
  obtain ⟨N, hN⟩ := top_real hz e T j0 h0
  have hb : ∀ j, Ideal.exp2 ((if T j then (sc (e j) : EReal) else ⊥) - (N : EReal)) = if T j then ((Real.rpow 2 (sc (e j) - N) : ℝ) : EReal) else 0 := by
    intro j; split
    · rw [← EReal.coe_sub, Ideal.exp2_coe]
    · rw [EReal.bot_sub, Ideal.exp2_bot]
  have hl : ∑ j, Ideal.exp2 ((if T j then (sc (e j) : EReal) else ⊥) - (N : EReal)) = ((∑ k ∈ (Finset.univ.filter T).image e, Real.rpow 2 (sc k - N) : ℝ) : EReal) :=
    (Finset.sum_congr rfl fun j _ => hb j).trans (sum_vis he T fun k => Real.rpow 2 (sc k - N))
  have ha : ∀ d, ∑ j, Ideal.exp2 ((if T j then (sc (e j) : EReal) else ⊥) - (N : EReal)) * v j d = ((∑ k ∈ (Finset.univ.filter T).image e, Real.rpow 2 (sc k - N) * w k d : ℝ) : EReal) := fun d =>
    (Finset.sum_congr rfl fun j _ => by
      rw [hb, hv]; split
      · exact (EReal.coe_mul _ _).symm
      · exact zero_mul _).trans (sum_vis he T fun k => Real.rpow 2 (sc k - N) * w k d)
  refine .inr ⟨N, hN, ?_, fun d => ?_⟩
  · show Ideal.exp2 (z.m - top _ z) * z.l + ∑ j, Ideal.exp2 (_ - top _ z) = _
    rw [hN, hl, Finset.sum_union hd, EReal.coe_add]
    refine congrArg (· + _) ?_
    rcases hz with ⟨rfl, rfl⟩ | ⟨M, hM, hL, _⟩
    · rw [Finset.sum_empty]; exact mul_zero _
    · rw [hM, hL, ← EReal.coe_sub, Ideal.exp2_coe, ← EReal.coe_mul, Finset.mul_sum]
      exact congrArg _ (Finset.sum_congr rfl fun k _ => pow_shift _ _ _)
  · show Ideal.exp2 (z.m - top _ z) * z.a d + ∑ j, Ideal.exp2 (_ - top _ z) * v j d = _
    rw [hN, ha, Finset.sum_union hd, EReal.coe_add]
    refine congrArg (· + _) ?_
    rcases hz with ⟨rfl, rfl⟩ | ⟨M, hM, _, hA⟩
    · rw [Finset.sum_empty]; exact mul_zero _
    · rw [hM, hA, ← EReal.coe_sub, Ideal.exp2_coe, ← EReal.coe_mul, Finset.mul_sum]
      refine congrArg _ (Finset.sum_congr rfl fun k _ => ?_)
      rw [← mul_assoc]; exact congrArg (· * _) (pow_shift _ _ _)

/-- The keys before block `n`. -/
def before (n : ℕ) : Finset (Fin 4096) := Finset.univ.filter fun k => k.val < 1024 * n
/-- Key `j` of block `n`. -/
def key (n : Fin 4) (j : Fin 1024) : Fin 4096 := ⟨1024 * n.val + j.val, by omega⟩
theorem key_inj (n : Fin 4) : Function.Injective (key n) := fun a b h => Fin.ext (by have := congrArg Fin.val h; unfold key at this; simp only at this; omega)

/-- A block of which every key is visible. -/
theorem step_full (n : Fin 4) {z : Row} (hz : Sums sc w (before n.val) z) {s : Fin 1024 → EReal} {v : Fin 1024 → Fin 128 → EReal}
    (hs : ∀ j, s j = (sc (key n j) : EReal)) (hv : ∀ j d, v j d = (w (key n j) d : EReal)) :
    Sums sc w (before (n.val + 1)) (step s v z) := by
  have h := step_sums hz (key_inj n) (fun _ => True) 0 trivial (by
    rw [Finset.disjoint_left]; intro k hk hk'
    obtain ⟨j, -, rfl⟩ := Finset.mem_image.mp hk'
    have := (Finset.mem_filter.mp hk).2
    unfold key at this; simp only at this; omega) (s := s) (v := v) (fun j => by rw [if_pos trivial]; exact hs j) hv
  convert h using 1
  ext k
  simp only [before, Finset.mem_filter, Finset.mem_univ, true_and, Finset.mem_union, Finset.mem_image, Finset.filter_true]
  constructor
  · intro hk
    by_cases h1 : k.val < 1024 * n.val
    · exact .inl h1
    · exact .inr ⟨⟨k.val - 1024 * n.val, by omega⟩, Fin.ext (by show 1024 * n.val + (k.val - 1024 * n.val) = k.val; omega)⟩
  · rintro (hk | ⟨j, rfl⟩)
    · omega
    · show 1024 * n.val + j.val < _
      omega

/-- The block in which a row's own chunk lies. -/
theorem step_last (n : Fin 4) (x : Fin 4096) (hx : x.val / 1024 = n.val) {z : Row} (hz : Sums sc w (before n.val) z) {s : Fin 1024 → EReal} {v : Fin 1024 → Fin 128 → EReal}
    (hs : ∀ j, s j = if (key n j).val / 64 ≤ x.val / 64 then (sc (key n j) : EReal) else ⊥) (hv : ∀ j d, v j d = (w (key n j) d : EReal)) :
    Sums sc w (Finset.univ.filter fun k => k.val / 64 ≤ x.val / 64) (step s v z) := by
  have h := step_sums hz (key_inj n) (fun j => (key n j).val / 64 ≤ x.val / 64) ⟨x.val - 1024 * n.val, by omega⟩
    (by show (1024 * n.val + (x.val - 1024 * n.val)) / 64 ≤ _; omega) (by
    rw [Finset.disjoint_left]; intro k hk hk'
    obtain ⟨j, -, rfl⟩ := Finset.mem_image.mp hk'
    have := (Finset.mem_filter.mp hk).2
    unfold key at this; simp only at this; omega) hs hv
  convert h using 1
  ext k
  simp only [before, Finset.mem_filter, Finset.mem_univ, true_and, Finset.mem_union, Finset.mem_image]
  constructor
  · intro hk
    by_cases h1 : k.val < 1024 * n.val
    · exact .inl h1
    · have e : key n ⟨k.val - 1024 * n.val, by omega⟩ = k := Fin.ext (by show 1024 * n.val + (k.val - 1024 * n.val) = k.val; omega)
      exact .inr ⟨⟨k.val - 1024 * n.val, by omega⟩, by rw [e]; exact hk, e⟩
  · rintro (hk | ⟨j, hj, rfl⟩)
    · omega
    · exact hj

/-- The result of a row: the weighted sums over the sum. -/
theorem sums_div {S : Finset (Fin 4096)} {z : Row} (hz : Sums sc w S z) (x : Fin 4096) (hx : x ∈ S) (d : Fin 128) :
    Ideal.div (z.a d) z.l = (((∑ k ∈ S, Real.rpow 2 (sc k) * w k d) * (1 / ∑ k ∈ S, Real.rpow 2 (sc k)) : ℝ) : EReal) := by
  rcases hz with ⟨rfl, _⟩ | ⟨M, _, hL, hA⟩
  · exact absurd hx (Finset.notMem_empty _)
  have hsh : ∀ k, Real.rpow 2 (sc k - M) = Real.rpow 2 (sc k) * Real.rpow 2 (-M) := fun k => by
    simp only [Real.rpow_eq_pow]; rw [← Real.rpow_add (by norm_num)]; rfl
  have hp : ∀ y : ℝ, 0 < Real.rpow 2 y := fun y => Real.rpow_pos_of_pos (by norm_num) y
  have hs : 0 < ∑ k ∈ S, Real.rpow 2 (sc k) := Finset.sum_pos (fun k _ => hp _) ⟨x, hx⟩
  have hne : ∑ k ∈ S, Real.rpow 2 (sc k - M) ≠ 0 := (Finset.sum_pos (fun k _ => hp _) ⟨x, hx⟩).ne'
  rw [hA, hL, Ideal.div_coe hne, ← EReal.coe_mul]
  refine congrArg _ ?_
  have e1 : ∑ k ∈ S, Real.rpow 2 (sc k - M) = (∑ k ∈ S, Real.rpow 2 (sc k)) * Real.rpow 2 (-M) := by
    rw [Finset.sum_mul]; exact Finset.sum_congr rfl fun k _ => hsh k
  have e2 : ∑ k ∈ S, Real.rpow 2 (sc k - M) * w k d = (∑ k ∈ S, Real.rpow 2 (sc k) * w k d) * Real.rpow 2 (-M) := by
    rw [Finset.sum_mul]; exact Finset.sum_congr rfl fun k _ => by rw [hsh]; ring
  rw [e1, e2]
  have := (hp (-M)).ne'
  have := hs.ne'
  field_simp

/-- The log-sum of a row, in base two. -/
theorem sums_log {S : Finset (Fin 4096)} {z : Row} (hz : Sums sc w S z) (x : Fin 4096) (hx : x ∈ S) :
    z.m + Ideal.log z.l * (((Real.log 2)⁻¹ : ℝ) : EReal) = ((Real.log (∑ k ∈ S, Real.rpow 2 (sc k)) * (1 / Real.log 2) : ℝ) : EReal) := by
  rcases hz with ⟨rfl, _⟩ | ⟨M, hM, hL, _⟩
  · exact absurd hx (Finset.notMem_empty _)
  have hp : ∀ y : ℝ, 0 < Real.rpow 2 y := fun y => Real.rpow_pos_of_pos (by norm_num) y
  have hs : 0 < ∑ k ∈ S, Real.rpow 2 (sc k) := Finset.sum_pos (fun k _ => hp _) ⟨x, hx⟩
  have hs' : 0 < ∑ k ∈ S, Real.rpow 2 (sc k - M) := Finset.sum_pos (fun k _ => hp _) ⟨x, hx⟩
  have e1 : ∑ k ∈ S, Real.rpow 2 (sc k - M) = (∑ k ∈ S, Real.rpow 2 (sc k)) * Real.rpow 2 (-M) := by
    rw [Finset.sum_mul]; exact Finset.sum_congr rfl fun k _ => by
      simp only [Real.rpow_eq_pow]; rw [← Real.rpow_add (by norm_num)]; rfl
  have h2 : Real.log 2 ≠ 0 := (Real.log_pos (by norm_num)).ne'
  rw [hM, hL, Ideal.log_coe, if_neg (not_le.mpr hs'), ← EReal.coe_mul, ← EReal.coe_add, e1, Real.log_mul hs.ne' (hp _).ne']
  refine congrArg _ ?_
  have : Real.log (Real.rpow 2 (-M)) = -M * Real.log 2 := by
    simp only [Real.rpow_eq_pow]; exact Real.log_rpow (by norm_num) _
  rw [this]; field_simp; ring
end Cert.FwdVal
end
-- ==== Proof.FwdTile.lean ====
module
public import proofs.«01_k».proof.Proof.FwdOnline
public import proofs.«01_k».proof.Proof.Gen.FwdIdeal.Skeleton
@[expose] public section
set_option maxRecDepth 16384
noncomputable section
/-!
One block of keys of the forward kernel, read row by row: each head's row takes a step of the running softmax.
-/
namespace Cert.FwdVal
open Idealize.ShloMosaic Idealize.ShloMosaic.TcCoe Idealize.SL.Sem
open Cert.FwdIdeal Cert.FwdIdeal.Gen

abbrev C1 := FVec Ideal S512x1 .f32
abbrev Ac := FVec Ideal S512x128 .f32
abbrev Qb := FVec Ideal S512x128 .bf16
abbrev Kb := Vec Ideal S1024x128 .bf16

/-- What row `r` carries. -/
def rowOf (m l : C1) (a : Ac) (r : Fin 512) : Row := ⟨m (ix2 (n0 := 512) (n1 := 1) r 0), l (ix2 (n0 := 512) (n1 := 1) r 0), fun d => a (ix2 (n0 := 512) (n1 := 128) r d)⟩
/-- The scores of row `r` with a block of keys. -/
def sco (q : Qb) (k : Kb) (r : Fin 512) (j : Fin 1024) : EReal := ∑ d : Fin 128, q (ix2 (n0 := 512) (n1 := 128) r d) * k (ix2 (n0 := 1024) (n1 := 128) j d)
/-- A block of values. -/
def vals (v : Kb) (j : Fin 1024) (d : Fin 128) : EReal := v (ix2 (n0 := 1024) (n1 := 128) j d)

theorem word_bot : Ideal.ofBits .f32 4286578688#32 = ⊥ := by simp [Ideal.ofBits, Ideal.ieee]

/-- The maximum after a block, head 0 and head 1. -/
theorem max0 (q : Qb) (m : C1) (k : Kb) (r : Fin 512) : k0_pay6 q m k (ix2 (n0 := 512) (n1 := 1) r 0) = max (m (ix2 (n0 := 512) (n1 := 1) r 0)) (Finset.univ.fold max ⊥ (sco q k r)) := by
  pointwise [k0_pay6, k0_pay4]
  rw [word_bot]; rfl
theorem max1 (q : Qb) (m : C1) (k : Kb) (r : Fin 512) : k0_pay10 q m k (ix2 (n0 := 512) (n1 := 1) r 0) = max (m (ix2 (n0 := 512) (n1 := 1) r 0)) (Finset.univ.fold max ⊥ (sco q k r)) := by
  pointwise [k0_pay10, k0_pay5]
  rw [word_bot]; rfl
/-- A block of visible keys, head 0. -/
theorem full0 (q : Qb) (m l : C1) (a : Ac) (k v : Kb) (r : Fin 512) :
    rowOf (k0_pay6 q m k) (k0_pay9 q m l k) (k0_pay38 (k0_pay14 q m k v) (k0_pay16 q m a k)) r = step (sco q k r) (vals v) (rowOf m l a r) := by
  refine Row.ext' (max0 q m k r) ?_ fun d => ?_
  · show k0_pay9 q m l k (ix2 (n0 := 512) (n1 := 1) r 0) = _
    pointwise [k0_pay9, k0_pay8, k0_pay7, k0_pay4]
    rw [max0]; rfl
  · show k0_pay38 (k0_pay14 q m k v) (k0_pay16 q m a k) (ix2 (n0 := 512) (n1 := 128) r d) = _
    pointwise [k0_pay38, k0_pay14, k0_pay16, k0_pay8, k0_pay7, k0_pay4]
    rw [max0]; rfl
/-- A block of visible keys, head 1. -/
theorem full1 (q : Qb) (m l : C1) (a : Ac) (k v : Kb) (r : Fin 512) :
    rowOf (k0_pay10 q m k) (k0_pay13 q m l k) (k0_pay39 a (k0_pay12 q m k) (k0_pay15 q m k v)) r = step (sco q k r) (vals v) (rowOf m l a r) := by
  refine Row.ext' (max1 q m k r) ?_ fun d => ?_
  · show k0_pay13 q m l k (ix2 (n0 := 512) (n1 := 1) r 0) = _
    pointwise [k0_pay13, k0_pay12, k0_pay11, k0_pay5]
    rw [max1]; rfl
  · show k0_pay39 a (k0_pay12 q m k) (k0_pay15 q m k v) (ix2 (n0 := 512) (n1 := 128) r d) = _
    pointwise [k0_pay39, k0_pay12, k0_pay15, k0_pay11, k0_pay5]
    rw [max1]; rfl

theorem lane_half : ∀ x : Fin 128, IntOp.cmpi .sge (BitVec.ofNat 32 x.val) 64#32 = if x.val < 64 then 0#1 else 1#1 := by decide +kernel
/-- What the last block sees of a score. -/
def mk (w77 w74 w79 : IVec S512x1024 32) (c64 c0 : BitVec 32) (s : FVec Ideal S512x1024 .f32) (r : Fin 512) (j : Fin 1024) : EReal :=
  Scalar.select (α := EReal) (k0_pay47 w74 w77 c64 w79 c0 (ix2 (n0 := 512) (n1 := 1024) r j)) (s (ix2 (n0 := 512) (n1 := 1024) r j)) ⊥

variable (s0 s1 : FVec Ideal S512x1024 .f32) (w74 w77 w79 : IVec S512x1024 32) (c64 c0 : BitVec 32)
theorem lmax0 (m : C1) (r : Fin 512) : k0_pay50 m s0 w74 w77 c64 w79 c0 (ix2 (n0 := 512) (n1 := 1) r 0) = max (m (ix2 (n0 := 512) (n1 := 1) r 0)) (Finset.univ.fold max ⊥ (mk w77 w74 w79 c64 c0 s0 r)) := by
  pointwise [k0_pay50, k0_pay48]
  rw [word_bot]; rfl
theorem lmax1 (m : C1) (r : Fin 512) : k0_pay54 m s1 w74 w77 c64 w79 c0 (ix2 (n0 := 512) (n1 := 1) r 0) = max (m (ix2 (n0 := 512) (n1 := 1) r 0)) (Finset.univ.fold max ⊥ (mk w77 w74 w79 c64 c0 s1 r)) := by
  pointwise [k0_pay54, k0_pay49]
  rw [word_bot]; rfl
theorem lsum0 (m l : C1) (a : Ac) (v : Kb) (r : Fin 512) : k0_pay53 m l s0 w74 w77 c64 w79 c0 (ix2 (n0 := 512) (n1 := 1) r 0) = (step (mk w77 w74 w79 c64 c0 s0 r) (vals v) (rowOf m l a r)).l := by
  pointwise [k0_pay53, k0_pay52, k0_pay51, k0_pay48]
  rw [lmax0, word_bot]; rfl
theorem lsum1 (m l : C1) (a : Ac) (v : Kb) (r : Fin 512) : k0_pay1 (k0_pay57 m l s1 w74 w77 c64 w79 c0) (k0_pay58 m s1 w74 w77 c64 w79 c0) (ix2 (n0 := 512) (n1 := 1) r 0) = (step (mk w77 w74 w79 c64 c0 s1 r) (vals v) (rowOf m l a r)).l := by
  pointwise [k0_pay1, k0_pay57, k0_pay58, k0_pay56, k0_pay55, k0_pay49]
  rw [lmax1, word_bot]; rfl
/-- The two heads' results, added. -/
theorem out_row (m0 l0 : C1) (a0 : Ac) (m1 l1 : C1) (a1 : Ac) (v0 v1 : Kb) (r : Fin 512) (d : Fin 128) :
    k0_pay2 a0 a1 (k0_pay51 m0 s0 w74 w77 c64 w79 c0) (k0_pay52 m0 s0 w74 w77 c64 w79 c0) (k0_pay53 m0 l0 s0 w74 w77 c64 w79 c0)
      (k0_pay55 m1 s1 w74 w77 c64 w79 c0) (k0_pay56 m1 s1 w74 w77 c64 w79 c0) (k0_pay57 m1 l1 s1 w74 w77 c64 w79 c0) (k0_pay58 m1 s1 w74 w77 c64 w79 c0) v0 v1 (ix2 (n0 := 512) (n1 := 128) r d)
    = Ideal.div ((step (mk w77 w74 w79 c64 c0 s0 r) (vals v0) (rowOf m0 l0 a0 r)).a d) (step (mk w77 w74 w79 c64 c0 s0 r) (vals v0) (rowOf m0 l0 a0 r)).l
      + Ideal.div ((step (mk w77 w74 w79 c64 c0 s1 r) (vals v1) (rowOf m1 l1 a1 r)).a d) (step (mk w77 w74 w79 c64 c0 s1 r) (vals v1) (rowOf m1 l1 a1 r)).l := by
  rw [← lsum0 s0 w74 w77 w79 c64 c0 m0 l0 a0 v0 r, ← lsum1 s1 w74 w77 w79 c64 c0 m1 l1 a1 v1 r]
  pointwise [k0_pay2, k0_pay51, k0_pay52, k0_pay55, k0_pay56, k0_pay48, k0_pay49]
  rw [lmax0, lmax1, word_bot]; rfl
/-- The two heads' log-sums, side by side. -/
theorem lse_row (m0 l0 : C1) (a0 : Ac) (m1 l1 : C1) (a1 : Ac) (v0 v1 : Kb) (r : Fin 512) (d : Fin 128) :
    k0_pay3 (iota .tc S512x128 32 [1] iota_S512x128_d1_w32) (k0_pay50 m0 s0 w74 w77 c64 w79 c0) (k0_pay53 m0 l0 s0 w74 w77 c64 w79 c0)
      (k0_pay54 m1 s1 w74 w77 c64 w79 c0) (k0_pay57 m1 l1 s1 w74 w77 c64 w79 c0) (k0_pay58 m1 s1 w74 w77 c64 w79 c0) (ix2 (n0 := 512) (n1 := 128) r d)
    = if d.val < 64 then (step (mk w77 w74 w79 c64 c0 s0 r) (vals v0) (rowOf m0 l0 a0 r)).m + Ideal.log (step (mk w77 w74 w79 c64 c0 s0 r) (vals v0) (rowOf m0 l0 a0 r)).l * (((Real.log 2)⁻¹ : ℝ) : EReal)
      else (step (mk w77 w74 w79 c64 c0 s1 r) (vals v1) (rowOf m1 l1 a1 r)).m + Ideal.log (step (mk w77 w74 w79 c64 c0 s1 r) (vals v1) (rowOf m1 l1 a1 r)).l * (((Real.log 2)⁻¹ : ℝ) : EReal) := by
  rw [← lsum0 s0 w74 w77 w79 c64 c0 m0 l0 a0 v0 r, ← lsum1 s1 w74 w77 w79 c64 c0 m1 l1 a1 v1 r]
  pointwise [k0_pay3]
  rw [lmax0, lmax1, show Named.named (F := Ideal) (φ := FTy.f32) κ "log2_e" 1069066811#32 = (((Real.log 2)⁻¹ : ℝ) : EReal) from IdealRules.named_const.ideal_named_scalar _ _ _ _ rfl, lane_half d]
  by_cases h : d.val < 64 <;> simp only [h, Scalar.select, if_true, if_false] <;> rfl

/-- The block number of an integer row: the kernel's quotient by 64, rounded down by hand. -/
def fdiv64 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32))) 1#32)
      (IntOp.cmpi .ne (IntOp.remsi .vector x 64#32) 0#32))
    (IntOp.subi (IntOp.divsi .vector x 64#32) 1#32) (IntOp.divsi .vector x 64#32)
theorem fdiv64_ofNat : ∀ n : Fin 4096, fdiv64 (BitVec.ofNat 32 n.val) = BitVec.ofNat 32 (n.val / 64) := by decide +kernel
theorem sle_ofNat : ∀ a b : Fin 64, IntOp.cmpi .sle (BitVec.ofNat 32 a.val) (BitVec.ofNat 32 b.val) = if a.val ≤ b.val then 1#1 else 0#1 := by decide +kernel
theorem pos_ofNat (j : ℕ) (w : BitVec 32) (n y : ℕ) (hw : w.toNat = n) (h : n * j + y < 4096) (hj : j < 4096) (hn : n < 4096) (hy : y < 4096) :
    IntOp.addi (Scalar.muli (BitVec.ofNat 32 j) w) (BitVec.ofNat 32 y) = BitVec.ofNat 32 (n * j + y) := by
  apply BitVec.eq_of_toNat_eq
  simp [IntOp.addi, Scalar.muli, IntOp.muli, hw]
  rw [Nat.mul_comm j n]

/-- The kernel's mask of the last block of a row tile. -/
theorem mk_eq (i : Fin 8) (s : FVec Ideal S512x1024 .f32) (r : Fin 512) (j : Fin 1024) :
    mk (k0_pay45 (BitVec.ofNat 32 (i.val / 2))) (k0_pay44 (BitVec.ofNat 32 i.val)) (k0_pay46 (BitVec.ofNat 32 (i.val / 2))) 64#32 0#32 s r j
    = if (1024 * (i.val / 2) + j.val) / 64 ≤ (512 * i.val + r.val) / 64 then s (ix2 (n0 := 512) (n1 := 1024) r j) else ⊥ := by
  unfold mk
  have h : k0_pay47 (k0_pay44 (BitVec.ofNat 32 i.val)) (k0_pay45 (BitVec.ofNat 32 (i.val / 2))) 64#32 (k0_pay46 (BitVec.ofNat 32 (i.val / 2))) 0#32 (ix2 (n0 := 512) (n1 := 1024) r j)
      = IntOp.cmpi .sle (fdiv64 (IntOp.addi (Scalar.muli (BitVec.ofNat 32 (i.val / 2)) 1024#32) (BitVec.ofNat 32 j.val)))
        (fdiv64 (IntOp.addi (Scalar.muli (BitVec.ofNat 32 i.val) 512#32) (BitVec.ofNat 32 r.val))) := by
    pointwise [k0_pay47, k0_pay44, k0_pay45, k0_pay46]
    rfl
  rw [h, pos_ofNat (i.val / 2) 1024#32 1024 j.val rfl (by omega) (by omega) (by omega) (by omega),
    pos_ofNat i.val 512#32 512 r.val rfl (by omega) (by omega) (by omega) (by omega),
    fdiv64_ofNat ⟨1024 * (i.val / 2) + j.val, by omega⟩, fdiv64_ofNat ⟨512 * i.val + r.val, by omega⟩,
    sle_ofNat ⟨(1024 * (i.val / 2) + j.val) / 64, by omega⟩ ⟨(512 * i.val + r.val) / 64, by omega⟩]
  by_cases h : (1024 * (i.val / 2) + j.val) / 64 ≤ (512 * i.val + r.val) / 64 <;> simp [h, Scalar.select]
/-- The two heads' scores of the last block. -/
theorem score0 (q : Qb) (k : Kb) (r : Fin 512) (j : Fin 1024) : k0_pay42 q k (ix2 (n0 := 512) (n1 := 1024) r j) = sco q k r j := by
  pointwise [k0_pay42]; rfl
theorem score1 (q : Qb) (k : Kb) (r : Fin 512) (j : Fin 1024) : k0_pay43 q k (ix2 (n0 := 512) (n1 := 1024) r j) = sco q k r j := by
  pointwise [k0_pay43]; rfl
/-- Before the first block. -/
theorem start0 (r : Fin 512) : rowOf k0_pay32 k0_pay33 k0_pay34 r = start := by
  refine Row.ext' ?_ ?_ fun d => ?_
  · show k0_pay32 (F := Ideal) (ix2 (n0 := 512) (n1 := 1) r 0) = _
    pointwise [k0_pay32]; rw [word_bot]; rfl
  · show k0_pay33 (F := Ideal) (ix2 (n0 := 512) (n1 := 1) r 0) = _
    pointwise [k0_pay33]; try rfl
  · show k0_pay34 (F := Ideal) (ix2 (n0 := 512) (n1 := 128) r d) = _
    pointwise [k0_pay34]; try rfl
theorem start1 (r : Fin 512) : rowOf k0_pay35 k0_pay36 k0_pay37 r = start := by
  refine Row.ext' ?_ ?_ fun d => ?_
  · show k0_pay35 (F := Ideal) (ix2 (n0 := 512) (n1 := 1) r 0) = _
    pointwise [k0_pay35]; rw [word_bot]; rfl
  · show k0_pay36 (F := Ideal) (ix2 (n0 := 512) (n1 := 1) r 0) = _
    pointwise [k0_pay36]; try rfl
  · show k0_pay37 (F := Ideal) (ix2 (n0 := 512) (n1 := 128) r d) = _
    pointwise [k0_pay37]; try rfl
end Cert.FwdVal
end
-- ==== Proof.FwdPoint.lean ====
module
public import proofs.«01_k».proof.Proof.FwdTile
public import proofs.«01_k».proof.Proof.Gen.FwdIdeal.Value
public import Idealize.ShloMosaic.Lib.Pipeline.ValueKit
public import Idealize.ShloMosaic.Lib.Claim
public import Idealize.ShloMosaic.Lib.VecWindow
@[expose] public section
set_option maxRecDepth 16384
noncomputable section
/-!
One grid step of the forward kernel: the loop over the full blocks and the masked last block leave in every row the
sums over the keys the row sees.
-/
open Idealize.ShloMosaic Idealize.ShloMosaic.TcCoe Idealize.SL.Sem
namespace Cert.FwdVal
open Cert.FwdIdeal Cert.FwdIdeal.Gen

/-- Lane `d` of head `h` of a pair. -/
def col (h : Fin 2) (d : Fin 128) : Fin 256 := ⟨128 * h.val + d.val, by omega⟩
/-- Head `h` of a tile of queries. -/
def qb (x : Vec Ideal S512x256 .bf16) (h : Fin 2) : Qb := fun y => x (ix2 (n0 := 512) (n1 := 256) (y 0) (col h (y 1)))
/-- Head `h` of block `n` of the keys or values. -/
def kb (x : Vec Ideal S4096x256 .bf16) (n : Fin 4) (h : Fin 2) : Kb := fun y => x (ix2 (n0 := 4096) (n1 := 256) (key n (y 0)) (col h (y 1)))

theorem ld_q (x : Vec Ideal S512x256 .bf16) (h : Fin 2) (inb) : View.ld x (Rect.unit ![0, 128 * h.val] ![512, 128] inb) = qb x h := by
  funext y
  refine congrArg x (funext fun a => Fin.ext ?_)
  fin_cases a
  · show 0 + 1 * (y 0).val = (y 0).val
    omega
  · show 128 * h.val + 1 * (y 1).val = 128 * h.val + (y 1).val
    omega
theorem window_k (x : Vec Ideal S4096x256 .bf16) (n : Fin 4) (h : Fin 2) (inb) :
    VecWindow.window (s := S4096x256) x ![1024 * n.val, 128 * h.val] S1024x128.size inb = kb x n h := by
  funext y
  refine congrArg x (funext fun a => Fin.ext ?_)
  fin_cases a
  · show 1024 * n.val + 1 * (y 0).val = 1024 * n.val + (y 0).val
    omega
  · show 128 * h.val + 1 * (y 1).val = 128 * h.val + (y 1).val
    omega
theorem pay30_eq (v : Qb) : k0_pay30 (F := Ideal) v = v := by
  funext y; pointwise [k0_pay30]
theorem pay31_eq (v : Qb) : k0_pay31 (F := Ideal) v = v := by
  funext y; pointwise [k0_pay31]

theorem trips1 : ∀ i : grid0.Coords, (k0_t1_loop i).trips = (i 1).val / 2 := by decide +kernel
theorem trips2 : ∀ i : grid0.Coords, (k0_t2_loop i).trips = 0 := by decide +kernel
theorem off1 : ∀ (i : grid0.Coords) (k : Fin (k0_t1_loop i).trips), k0_off1 i k = ![1024 * k.val, 128 * (0 : Fin 2).val] := by decide +kernel
theorem off2 : ∀ (i : grid0.Coords) (k : Fin (k0_t1_loop i).trips), k0_off2 i k = ![1024 * k.val, 128 * (1 : Fin 2).val] := by decide +kernel
theorem off5 : ∀ i : grid0.Coords, k0_off5 i = ![1024 * ((i 1).val / 2), 128 * (0 : Fin 2).val] := by decide +kernel
theorem off6 : ∀ i : grid0.Coords, k0_off6 i = ![1024 * ((i 1).val / 2), 128 * (1 : Fin 2).val] := by decide +kernel

/-- The number of the last block, as the kernel computes it. -/
def w28 (i : grid0.Coords) : BitVec 32 :=
  let v11 : BitVec 32 := Scalar.muli (BitVec.ofNat 32 (i 1).val) 512#32
  Scalar.select (Scalar.andi (Scalar.cmpi .ne (Scalar.subi (Scalar.extui (Scalar.cmpi .sgt v11 0#32)) (Scalar.extui (Scalar.cmpi .slt v11 0#32)))
      (Scalar.subi (Scalar.extui (Scalar.cmpi .sgt 1024#32 0#32)) (Scalar.extui (Scalar.cmpi .slt 1024#32 0#32))))
    (Scalar.cmpi .ne (Scalar.remsi v11 1024#32) 0#32)) (Scalar.subi (Scalar.divsi v11 1024#32) 1#32) (Scalar.divsi v11 1024#32)
theorem w28_eq : ∀ i : grid0.Coords, w28 i = BitVec.ofNat 32 ((i 1).val / 2) := by decide +kernel

/-- What the loop carries: maximum, sum and weighted sums of either head. -/
abbrev St := C1 × C1 × Ac × C1 × C1 × Ac
/-- Row `r` of head `h`. -/
def rowS (s : St) (h : Fin 2) (r : Fin 512) : Row := if h = 0 then rowOf s.1 s.2.1 s.2.2.1 r else rowOf s.2.2.2.1 s.2.2.2.2.1 s.2.2.2.2.2 r
/-- What one block of visible keys makes of it. -/
def next (q0 q1 : Qb) (k0 k1 v0 v1 : Kb) (s : St) : St :=
  (k0_pay6 q0 s.1 k0, k0_pay9 q0 s.1 s.2.1 k0, k0_pay38 (k0_pay14 q0 s.1 k0 v0) (k0_pay16 q0 s.1 s.2.2.1 k0),
   k0_pay10 q1 s.2.2.2.1 k1, k0_pay13 q1 s.2.2.2.1 s.2.2.2.2.1 k1, k0_pay39 s.2.2.2.2.2 (k0_pay12 q1 s.2.2.2.1 k1) (k0_pay15 q1 s.2.2.2.1 k1 v1))
theorem next_row (q : Fin 2 → Qb) (k v : Fin 2 → Kb) (s : St) (h : Fin 2) (r : Fin 512) :
    rowS (next (q 0) (q 1) (k 0) (k 1) (v 0) (v 1) s) h r = step (sco (q h) (k h) r) (vals (v h)) (rowS s h r) := by
  fin_cases h
  · exact full0 (q 0) s.1 s.2.1 s.2.2.1 (k 0) (v 0) r
  · exact full1 (q 1) s.2.2.2.1 s.2.2.2.2.1 s.2.2.2.2.2 (k 1) (v 1) r

section Step
variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x128 .f32) (harg5 : arg5.IsWhole) (arg6 : Memref sig .tc .vmem S512x128 .f32) (harg6 : arg6.IsWhole)
  (x0 : Vec Ideal S512x256 .bf16) (x1 x2 : Vec Ideal S4096x256 .bf16)

/-- A load of the keys or values a trip works on, and of the last block. -/
abbrev ld1 (k : Fin (k0_t1_loop i).trips) (arg : Memref sig .tc .vmem S4096x256 .bf16) (X : BufTy.Contents (Elt Ideal) arg.view.ty) :=
  arg.view.readAt (Elt Ideal) (Rect.unit (s := S4096x256) (k0_off1 i k) S1024x128.size (k0_off1_inb i k)).toLoadRect X
@[inherit_doc ld1] abbrev ld2 (k : Fin (k0_t1_loop i).trips) (arg : Memref sig .tc .vmem S4096x256 .bf16) (X : BufTy.Contents (Elt Ideal) arg.view.ty) :=
  arg.view.readAt (Elt Ideal) (Rect.unit (s := S4096x256) (k0_off2 i k) S1024x128.size (k0_off2_inb i k)).toLoadRect X
theorem rd1 (k : Fin (k0_t1_loop i).trips) (n : Fin 4) (hn : n.val = k.val) (arg : Memref sig .tc .vmem S4096x256 .bf16) (harg : arg.IsWhole) (x : Vec Ideal S4096x256 .bf16) :
    ld1 i k arg (harg.unread x) = kb x n 0 := by
  have e : k0_off1 i k = ![1024 * n.val, 128 * (0 : Fin 2).val] := by rw [hn]; exact off1 i k
  unfold ld1; rw [View.readAt_unit arg.view _ (k0_off1_inb i k) e (e ▸ k0_off1_inb i k), harg.read_unread, window_k]
theorem rd2 (k : Fin (k0_t1_loop i).trips) (n : Fin 4) (hn : n.val = k.val) (arg : Memref sig .tc .vmem S4096x256 .bf16) (harg : arg.IsWhole) (x : Vec Ideal S4096x256 .bf16) :
    ld2 i k arg (harg.unread x) = kb x n 1 := by
  have e : k0_off2 i k = ![1024 * n.val, 128 * (1 : Fin 2).val] := by rw [hn]; exact off2 i k
  unfold ld2; rw [View.readAt_unit arg.view _ (k0_off2_inb i k) e (e ▸ k0_off2_inb i k), harg.read_unread, window_k]

/-- What a trip yields. -/
theorem trip_eq (q0 q1 : Qb) (k : Fin (k0_t1_loop i).trips) (n : Fin 4) (hn : n.val = k.val) (acc : St) :
    tripR_k0_t1 (F := Ideal) .none c none i arg2 harg2 arg3 harg3 arg4 harg4 arg5 harg5 arg6 harg6 q0 q1 (harg3.unread x1) (harg4.unread x2) k acc
      = next q0 q1 (kb x1 n 0) (kb x1 n 1) (kb x2 n 0) (kb x2 n 1) acc := by
  unfold tripR_k0_t1 trip_k0_t1
  refine (show _ = next (k0_pay30 q0) (k0_pay31 q1) (ld1 i k arg3 (harg3.unread x1)) (ld2 i k arg3 (harg3.unread x1)) (ld1 i k arg4 (harg4.unread x2)) (ld2 i k arg4 (harg4.unread x2)) acc from rfl).trans ?_
  rw [rd1 i k n hn, rd2 i k n hn, rd1 i k n hn, rd2 i k n hn, pay30_eq, pay31_eq]

/-- What the loop carries after `n` trips. -/
def stA (n : ℕ) : St :=
  st_k0_t1 (F := Ideal) .none c none i arg2 harg2 arg3 harg3 arg4 harg4 arg5 harg5 arg6 harg6 (qb x0 0) (qb x0 1) (harg3.unread x1) (harg4.unread x2)
    (k0_pay32, k0_pay33, k0_pay34, k0_pay35, k0_pay36, k0_pay37) n

variable (r : Fin 512) (sc : Fin 2 → Fin 4096 → ℝ) (w : Fin 2 → Fin 4096 → Fin 128 → ℝ)
  (hS : ∀ h k, ∑ d : Fin 128, x0 (ix2 (n0 := 512) (n1 := 256) r (col h d)) * x1 (ix2 (n0 := 4096) (n1 := 256) k (col h d)) = ((sc h k : ℝ) : EReal))
  (hW : ∀ h k d, x2 (ix2 (n0 := 4096) (n1 := 256) k (col h d)) = ((w h k d : ℝ) : EReal))

include hS hW in
/-- After `n` trips every row holds the sums over the first `n` blocks. -/
theorem stA_sums (h : Fin 2) : ∀ n : ℕ, n ≤ (i 1).val / 2 →
    Sums (sc h) (w h) (before n) (rowS (stA c i arg2 harg2 arg3 harg3 arg4 harg4 arg5 harg5 arg6 harg6 x0 x1 x2 n) h r)
  | 0, _ => .inl ⟨by unfold before; ext k; simp, by fin_cases h; exacts [start0 r, start1 r]⟩
  | n + 1, hn => by
    have hi : (i 1).val < 8 := (i 1).isLt
    have ih := stA_sums h n (by omega)
    have hk : n < (k0_t1_loop i).trips := by rw [trips1]; omega
    have e : stA c i arg2 harg2 arg3 harg3 arg4 harg4 arg5 harg5 arg6 harg6 x0 x1 x2 (n + 1) = next (qb x0 0) (qb x0 1) (kb x1 ⟨n, by omega⟩ 0) (kb x1 ⟨n, by omega⟩ 1) (kb x2 ⟨n, by omega⟩ 0) (kb x2 ⟨n, by omega⟩ 1) (stA c i arg2 harg2 arg3 harg3 arg4 harg4 arg5 harg5 arg6 harg6 x0 x1 x2 n) :=
      (st_k0_t1_succ (F := Ideal) .none c none i arg2 harg2 arg3 harg3 arg4 harg4 arg5 harg5 arg6 harg6 _ _ _ _ _ ⟨n, hk⟩).trans (trip_eq c i arg2 harg2 arg3 harg3 arg4 harg4 arg5 harg5 arg6 harg6 x1 x2 _ _ ⟨n, hk⟩ ⟨n, by omega⟩ rfl _)
    rw [e, next_row (qb x0) (kb x1 ⟨n, by omega⟩) (kb x2 ⟨n, by omega⟩)]
    exact step_full ⟨n, by omega⟩ ih (fun j => hS h _) (fun j d => hW h _ d)

/-- The block a row tile ends in. -/
def lastN : Fin 4 := ⟨(i 1).val / 2, by have : (i 1).val < 8 := (i 1).isLt; omega⟩
/-- The scores of the last block, masked. -/
def lastS (h : Fin 2) : Fin 1024 → EReal :=
  mk (k0_pay45 (w28 i)) (k0_pay44 (BitVec.ofNat 32 (i 1).val)) (k0_pay46 (w28 i)) 64#32 0#32
    (if h = 0 then k0_pay42 (qb x0 0) (kb x1 (lastN i) 0) else k0_pay43 (qb x0 1) (kb x1 (lastN i) 1)) r
/-- What a row holds at the end. -/
def lastR (h : Fin 2) : Row := step (lastS i x0 x1 r h) (vals (kb x2 (lastN i) h)) (rowS (stA c i arg2 harg2 arg3 harg3 arg4 harg4 arg5 harg5 arg6 harg6 x0 x1 x2 ((i 1).val / 2)) h r)

/-- The keys row `r` of the tile sees. -/
def seen : Finset (Fin 4096) := Finset.univ.filter fun k => k.val / 64 ≤ (512 * (i 1).val + r.val) / 64

include hS hW in
theorem lastR_sums (h : Fin 2) : Sums (sc h) (w h) (seen i r) (lastR c i arg2 harg2 arg3 harg3 arg4 harg4 arg5 harg5 arg6 harg6 x0 x1 x2 r h) := by
  have hi : (i 1).val < 8 := (i 1).isLt
  refine step_last (lastN i) ⟨512 * (i 1).val + r.val, by omega⟩ (by show (512 * (i 1).val + r.val) / 1024 = (i 1).val / 2; omega)
    (stA_sums c i arg2 harg2 arg3 harg3 arg4 harg4 arg5 harg5 arg6 harg6 x0 x1 x2 r sc w hS hW h _ le_rfl) (fun j => ?_) (fun j d => hW h _ d)
  unfold lastS
  rw [w28_eq]
  refine (mk_eq ⟨(i 1).val, hi⟩ _ r j).trans ?_
  refine if_congr Iff.rfl ?_ rfl
  fin_cases h
  · exact (score0 _ _ r j).trans (hS 0 _)
  · exact (score1 _ _ r j).trans (hS 1 _)

theorem seen_self : (⟨512 * (i 1).val + r.val, by have : (i 1).val < 8 := (i 1).isLt; omega⟩ : Fin 4096) ∈ seen i r :=
  Finset.mem_filter.mpr ⟨Finset.mem_univ _, le_rfl⟩

theorem st2_zero (v33 : BitVec 32) (X3 X4) (s : St) (n : ℕ) (hn : n = 0) :
    st_k0_t2 (F := Ideal) .none c none i arg2 harg2 arg3 harg3 arg4 harg4 arg5 harg5 arg6 harg6 (qb x0 0) (qb x0 1) v33 X3 X4 s n = s := by subst hn; rfl

/-- The number the two loops' bounds come from. -/
def w33 (i : grid0.Coords) : BitVec 32 := Scalar.addi 0#32 (Scalar.muli (Scalar.divsi (Scalar.subi (w28 i) 0#32) 1#32) 1#32)
/-- A load of the last block. -/
abbrev ld5 (arg : Memref sig .tc .vmem S4096x256 .bf16) (X : BufTy.Contents (Elt Ideal) arg.view.ty) :=
  arg.view.readAt (Elt Ideal) (Rect.unit (s := S4096x256) (k0_off5 i) S1024x128.size (k0_off5_inb i)).toLoadRect X
@[inherit_doc ld5] abbrev ld6 (arg : Memref sig .tc .vmem S4096x256 .bf16) (X : BufTy.Contents (Elt Ideal) arg.view.ty) :=
  arg.view.readAt (Elt Ideal) (Rect.unit (s := S4096x256) (k0_off6 i) S1024x128.size (k0_off6_inb i)).toLoadRect X
theorem rd5 (arg : Memref sig .tc .vmem S4096x256 .bf16) (harg : arg.IsWhole) (x : Vec Ideal S4096x256 .bf16) :
    ld5 i arg (harg.unread x) = kb x (lastN i) 0 := by
  have e : k0_off5 i = ![1024 * (lastN i).val, 128 * (0 : Fin 2).val] := off5 i
  unfold ld5; rw [View.readAt_unit arg.view _ (k0_off5_inb i) e (e ▸ k0_off5_inb i), harg.read_unread, window_k]
theorem rd6 (arg : Memref sig .tc .vmem S4096x256 .bf16) (harg : arg.IsWhole) (x : Vec Ideal S4096x256 .bf16) :
    ld6 i arg (harg.unread x) = kb x (lastN i) 1 := by
  have e : k0_off6 i = ![1024 * (lastN i).val, 128 * (1 : Fin 2).val] := off6 i
  unfold ld6; rw [View.readAt_unit arg.view _ (k0_off6_inb i) e (e ▸ k0_off6_inb i), harg.read_unread, window_k]

/-- The carried value at the loops' end, with the loads as they stand. -/
def stEnd (q0 q1 : Qb) : St :=
  st_k0_t2 (F := Ideal) .none c none i arg2 harg2 arg3 harg3 arg4 harg4 arg5 harg5 arg6 harg6 q0 q1 (w33 i) (harg3.unread x1) (harg4.unread x2)
    (st_k0_t1 (F := Ideal) .none c none i arg2 harg2 arg3 harg3 arg4 harg4 arg5 harg5 arg6 harg6 q0 q1 (harg3.unread x1) (harg4.unread x2)
      (k0_pay32, k0_pay33, k0_pay34, k0_pay35, k0_pay36, k0_pay37) (k0_t1_loop i).trips) (k0_t2_loop i).trips
theorem stEnd_eq : stEnd c i arg2 harg2 arg3 harg3 arg4 harg4 arg5 harg5 arg6 harg6 x1 x2 (qb x0 0) (qb x0 1) = stA c i arg2 harg2 arg3 harg3 arg4 harg4 arg5 harg5 arg6 harg6 x0 x1 x2 ((i 1).val / 2) := by
  unfold stEnd stA
  rw [st2_zero (hn := trips2 i), trips1]

/-- The two results of a step from the carried value, the last scores and the last values. -/
def fin3 (s : St) (s0 s1 : FVec Ideal S512x1024 .f32) (v0 v1 : Kb) : Ac :=
  k0_pay2 s.2.2.1 s.2.2.2.2.2
    (k0_pay51 s.1 s0 (k0_pay44 (BitVec.ofNat 32 (i 1).val)) (k0_pay45 (w28 i)) 64#32 (k0_pay46 (w28 i)) 0#32)
    (k0_pay52 s.1 s0 (k0_pay44 (BitVec.ofNat 32 (i 1).val)) (k0_pay45 (w28 i)) 64#32 (k0_pay46 (w28 i)) 0#32)
    (k0_pay53 s.1 s.2.1 s0 (k0_pay44 (BitVec.ofNat 32 (i 1).val)) (k0_pay45 (w28 i)) 64#32 (k0_pay46 (w28 i)) 0#32)
    (k0_pay55 s.2.2.2.1 s1 (k0_pay44 (BitVec.ofNat 32 (i 1).val)) (k0_pay45 (w28 i)) 64#32 (k0_pay46 (w28 i)) 0#32)
    (k0_pay56 s.2.2.2.1 s1 (k0_pay44 (BitVec.ofNat 32 (i 1).val)) (k0_pay45 (w28 i)) 64#32 (k0_pay46 (w28 i)) 0#32)
    (k0_pay57 s.2.2.2.1 s.2.2.2.2.1 s1 (k0_pay44 (BitVec.ofNat 32 (i 1).val)) (k0_pay45 (w28 i)) 64#32 (k0_pay46 (w28 i)) 0#32)
    (k0_pay58 s.2.2.2.1 s1 (k0_pay44 (BitVec.ofNat 32 (i 1).val)) (k0_pay45 (w28 i)) 64#32 (k0_pay46 (w28 i)) 0#32) v0 v1
@[inherit_doc fin3] def fin4 (s : St) (s0 s1 : FVec Ideal S512x1024 .f32) : Ac :=
  k0_pay3 (iota .tc S512x128 32 [1] iota_S512x128_d1_w32)
    (k0_pay50 s.1 s0 (k0_pay44 (BitVec.ofNat 32 (i 1).val)) (k0_pay45 (w28 i)) 64#32 (k0_pay46 (w28 i)) 0#32)
    (k0_pay53 s.1 s.2.1 s0 (k0_pay44 (BitVec.ofNat 32 (i 1).val)) (k0_pay45 (w28 i)) 64#32 (k0_pay46 (w28 i)) 0#32)
    (k0_pay54 s.2.2.2.1 s1 (k0_pay44 (BitVec.ofNat 32 (i 1).val)) (k0_pay45 (w28 i)) 64#32 (k0_pay46 (w28 i)) 0#32)
    (k0_pay57 s.2.2.2.1 s.2.2.2.2.1 s1 (k0_pay44 (BitVec.ofNat 32 (i 1).val)) (k0_pay45 (w28 i)) 64#32 (k0_pay46 (w28 i)) 0#32)
    (k0_pay58 s.2.2.2.1 s1 (k0_pay44 (BitVec.ofNat 32 (i 1).val)) (k0_pay45 (w28 i)) 64#32 (k0_pay46 (w28 i)) 0#32)

theorem out3_eq : out0_A_3 c i arg2 harg2 arg3 harg3 arg4 harg4 arg5 harg5 arg6 harg6 x0 x1 x2
    = fin3 i (stA c i arg2 harg2 arg3 harg3 arg4 harg4 arg5 harg5 arg6 harg6 x0 x1 x2 ((i 1).val / 2)) (k0_pay42 (qb x0 0) (kb x1 (lastN i) 0)) (k0_pay43 (qb x0 1) (kb x1 (lastN i) 1)) (kb x2 (lastN i) 0) (kb x2 (lastN i) 1) := by
  rw [← stEnd_eq, ← rd5 i arg3 harg3 x1, ← rd6 i arg3 harg3 x1, ← rd5 i arg4 harg4 x2, ← rd6 i arg4 harg4 x2]
  refine Eq.trans (b := fin3 i (stEnd c i arg2 harg2 arg3 harg3 arg4 harg4 arg5 harg5 arg6 harg6 x1 x2 (View.ld x0 (Rect.unit ![0, 0] ![512, 128] inb_S512x256_S512x128_0_0)) (View.ld x0 (Rect.unit ![0, 128] ![512, 128] inb_S512x256_S512x128_0_128)))
      (k0_pay42 (k0_pay30 (View.ld x0 (Rect.unit ![0, 0] ![512, 128] inb_S512x256_S512x128_0_0))) (ld5 i arg3 (harg3.unread x1)))
      (k0_pay43 (k0_pay31 (View.ld x0 (Rect.unit ![0, 128] ![512, 128] inb_S512x256_S512x128_0_128))) (ld6 i arg3 (harg3.unread x1)))
      (ld5 i arg4 (harg4.unread x2)) (ld6 i arg4 (harg4.unread x2))) ?_ ?_
  · frame_out
    sl_kernel_rfl
  · rw [pay30_eq, pay31_eq]
    rw [show View.ld x0 (Rect.unit ![0, 0] ![512, 128] inb_S512x256_S512x128_0_0) = qb x0 0 from ld_q x0 0 _,
      show View.ld x0 (Rect.unit ![0, 128] ![512, 128] inb_S512x256_S512x128_0_128) = qb x0 1 from ld_q x0 1 _]
theorem out4_eq : out0_A_4 c i arg2 harg2 arg3 harg3 arg4 harg4 arg5 harg5 arg6 harg6 x0 x1 x2
    = fin4 i (stA c i arg2 harg2 arg3 harg3 arg4 harg4 arg5 harg5 arg6 harg6 x0 x1 x2 ((i 1).val / 2)) (k0_pay42 (qb x0 0) (kb x1 (lastN i) 0)) (k0_pay43 (qb x0 1) (kb x1 (lastN i) 1)) := by
  rw [← stEnd_eq, ← rd5 i arg3 harg3 x1, ← rd6 i arg3 harg3 x1]
  refine Eq.trans (b := fin4 i (stEnd c i arg2 harg2 arg3 harg3 arg4 harg4 arg5 harg5 arg6 harg6 x1 x2 (View.ld x0 (Rect.unit ![0, 0] ![512, 128] inb_S512x256_S512x128_0_0)) (View.ld x0 (Rect.unit ![0, 128] ![512, 128] inb_S512x256_S512x128_0_128)))
      (k0_pay42 (k0_pay30 (View.ld x0 (Rect.unit ![0, 0] ![512, 128] inb_S512x256_S512x128_0_0))) (ld5 i arg3 (harg3.unread x1)))
      (k0_pay43 (k0_pay31 (View.ld x0 (Rect.unit ![0, 128] ![512, 128] inb_S512x256_S512x128_0_128))) (ld6 i arg3 (harg3.unread x1)))) ?_ ?_
  · frame_out
    sl_kernel_rfl
  · rw [pay30_eq, pay31_eq]
    rw [show View.ld x0 (Rect.unit ![0, 0] ![512, 128] inb_S512x256_S512x128_0_0) = qb x0 0 from ld_q x0 0 _,
      show View.ld x0 (Rect.unit ![0, 128] ![512, 128] inb_S512x256_S512x128_0_128) = qb x0 1 from ld_q x0 1 _]

include hS hW in
/-- The result's block: both heads' weighted means. -/
theorem out3_row (d : Fin 128) : out0_A_3 c i arg2 harg2 arg3 harg3 arg4 harg4 arg5 harg5 arg6 harg6 x0 x1 x2 (ix2 (n0 := 512) (n1 := 128) r d)
    = (((∑ k ∈ seen i r, Real.rpow 2 (sc 0 k) * w 0 k d) * (1 / ∑ k ∈ seen i r, Real.rpow 2 (sc 0 k)) : ℝ) : EReal)
      + (((∑ k ∈ seen i r, Real.rpow 2 (sc 1 k) * w 1 k d) * (1 / ∑ k ∈ seen i r, Real.rpow 2 (sc 1 k)) : ℝ) : EReal) := by
  rw [out3_eq, ← sums_div (lastR_sums c i arg2 harg2 arg3 harg3 arg4 harg4 arg5 harg5 arg6 harg6 x0 x1 x2 r sc w hS hW 0) _ (seen_self i r) d, ← sums_div (lastR_sums c i arg2 harg2 arg3 harg3 arg4 harg4 arg5 harg5 arg6 harg6 x0 x1 x2 r sc w hS hW 1) _ (seen_self i r) d]
  exact out_row _ _ _ _ _ _ _ _ _ _ _ _ _ _ _ r d
include hS hW in
/-- The log-sums' block: one head's on the lower lanes, the other's on the upper. -/
theorem out4_row (d : Fin 128) : out0_A_4 c i arg2 harg2 arg3 harg3 arg4 harg4 arg5 harg5 arg6 harg6 x0 x1 x2 (ix2 (n0 := 512) (n1 := 128) r d)
    = if d.val < 64 then ((Real.log (∑ k ∈ seen i r, Real.rpow 2 (sc 0 k)) * (1 / Real.log 2) : ℝ) : EReal)
      else ((Real.log (∑ k ∈ seen i r, Real.rpow 2 (sc 1 k)) * (1 / Real.log 2) : ℝ) : EReal) := by
  rw [out4_eq, ← sums_log (lastR_sums c i arg2 harg2 arg3 harg3 arg4 harg4 arg5 harg5 arg6 harg6 x0 x1 x2 r sc w hS hW 0) _ (seen_self i r), ← sums_log (lastR_sums c i arg2 harg2 arg3 harg3 arg4 harg4 arg5 harg5 arg6 harg6 x0 x1 x2 r sc w hS hW 1) _ (seen_self i r)]
  exact lse_row _ _ _ _ _ _ _ _ _ _ _ _ _ (kb x2 (lastN i) 0) (kb x2 (lastN i) 1) r d

end Step
end Cert.FwdVal
end
-- ==== Proof.FwdFinal.lean ====
module
public import proofs.«01_k».proof.Proof.FwdPoint
public import proofs.«01_k».proof.Proof.AttnFinal
@[expose] public section
set_option maxRecDepth 16384
noncomputable section
/-!
The two arrays the forward kernel leaves: each head's output, and its log-sums in base two, over the reals of the arguments.
-/
open Idealize.ShloMosaic Idealize.ShloMosaic.TcCoe Idealize.SL.Sem
namespace Cert.FwdVal
open Cert.FwdIdeal Cert.FwdIdeal.Gen
open Cert.AttnVal (padH qscale vPad padH_in padH_out qscale_at vPad_lo vPad_hi odd_word zeroB_at oddB zeroB qE kE vE Args score wgt total prob outR sees oc hp lh lq pair_of total_pos sum_lt)

variable (m : (ℓ : Loc nD τ sig) → Buf (Elt Ideal) ℓ) (c : Dev nD)
def kq : FVec Ideal S4096x8x96 .f32 := m ((c.tc : Thread nD τ).loc main_arg0)
def kk : FVec Ideal S4096x8x96 .f32 := m ((c.tc : Thread nD τ).loc main_arg1)
def kv : FVec Ideal S4096x8x64 .f32 := m ((c.tc : Thread nD τ).loc main_arg2)

theorem V_q : V m c main_v18 = truncf .bf16 (mulf (padH (kq m c)) (broadcastInDim S4096x1024 ![] bcast_S_S4096x1024 qscale)) bitsLt_bf16_f32 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_k : V m c main_v22 = truncf .bf16 (padH (kk m c)) bitsLt_bf16_f32 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl
theorem V_v : V m c main_v23 = truncf .bf16 (vPad (kv m c)) bitsLt_bf16_f32 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  try after_results_loop
  rfl

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] :=
  (by decide +kernel : ∀ t : Fin grid0.N, _)
theorem row_of : ∀ t : Fin cfg0.N, (grid0.coords t 1).val = t.val % 8 := (by decide +kernel : ∀ t : Fin grid0.N, _)
theorem N_32 : cfg0.N = 32 := by decide +kernel

/-- A step's blocks. -/
def xq (t : Fin cfg0.N) : Vec Ideal S512x256 .bf16 := iblk m c 0 t
def xk (t : Fin cfg0.N) : Vec Ideal S4096x256 .bf16 := iblk m c 1 t
def xv (t : Fin cfg0.N) : Vec Ideal S4096x256 .bf16 := iblk m c 2 t
theorem blk_q (t : Fin cfg0.N) (x : Fin 512) (r : Fin 4096) (hr : r.val = 512 * (t.val % 8) + x.val) (z : Fin 256) (w : Fin 1024) (hw : w.val = 256 * (t.val / 8) + z.val) :
    xq m c t (ix2 (n0 := 512) (n1 := 256) x z) = V m c main_v18 (ix2 (n0 := 4096) (n1 := 1024) r w) := by
  unfold xq iblk
  generalize V m c = W
  show W main_v18 _ = _
  refine congrArg (W main_v18) (funext fun a => Fin.ext ?_)
  fin_cases a
  · refine (win0_0.rect_emb_val t _ 0).trans ?_
    rw [(idx t).1]
    show (t.val % 8) * 512 + x.val = r.val
    omega
  · refine (win0_0.rect_emb_val t _ 1).trans ?_
    rw [(idx t).1]
    show (t.val / 8) * 256 + z.val = w.val
    omega
theorem blk_k (t : Fin cfg0.N) (x : Fin 4096) (z : Fin 256) (w : Fin 1024) (hw : w.val = 256 * (t.val / 8) + z.val) :
    xk m c t (ix2 (n0 := 4096) (n1 := 256) x z) = V m c main_v22 (ix2 (n0 := 4096) (n1 := 1024) x w) := by
  unfold xk iblk
  generalize V m c = W
  show W main_v22 _ = _
  refine congrArg (W main_v22) (funext fun a => Fin.ext ?_)
  fin_cases a
  · refine (win0_1.rect_emb_val t _ 0).trans ?_
    rw [(idx t).2.1]
    show 0 * 4096 + x.val = x.val
    omega
  · refine (win0_1.rect_emb_val t _ 1).trans ?_
    rw [(idx t).2.1]
    show (t.val / 8) * 256 + z.val = w.val
    omega
theorem blk_v (t : Fin cfg0.N) (x : Fin 4096) (z : Fin 256) (w : Fin 1024) (hw : w.val = 256 * (t.val / 8) + z.val) :
    xv m c t (ix2 (n0 := 4096) (n1 := 256) x z) = V m c main_v23 (ix2 (n0 := 4096) (n1 := 1024) x w) := by
  unfold xv iblk
  generalize V m c = W
  show W main_v23 _ = _
  refine congrArg (W main_v23) (funext fun a => Fin.ext ?_)
  fin_cases a
  · refine (win0_2.rect_emb_val t _ 0).trans ?_
    rw [(idx t).2.2.1]
    show 0 * 4096 + x.val = x.val
    omega
  · refine (win0_2.rect_emb_val t _ 1).trans ?_
    rw [(idx t).2.2.1]
    show (t.val / 8) * 256 + z.val = w.val
    omega

/-- The values of a head in its half of 128 lanes. -/
def vLane (I : Args) (p : Fin 4) (h : Fin 2) (k : Fin 4096) (d : Fin 128) : ℝ :=
  if hd : 64 * h.val ≤ d.val ∧ d.val < 64 * h.val + 64 then I.v k (hp p h) ⟨d.val - 64 * h.val, by omega⟩ else 0
theorem vLane_own (I : Args) (p : Fin 4) (h : Fin 2) (k : Fin 4096) (d : Fin 64) : vLane I p h k (lh h d) = I.v k (hp p h) d := by
  unfold vLane
  rw [dif_pos ⟨by show 64 * h.val ≤ 64 * h.val + d.val; omega, by show 64 * h.val + d.val < _; omega⟩]
  exact congrArg (I.v k (hp p h)) (Fin.ext (by show 64 * h.val + d.val - 64 * h.val = d.val; omega))
theorem vLane_other (I : Args) (p : Fin 4) (h h' : Fin 2) (hh : h ≠ h') (k : Fin 4096) (d : Fin 64) : vLane I p h k (lh h' d) = 0 := by
  unfold vLane
  refine dif_neg fun e => hh (Fin.ext ?_)
  have h0 : 64 * h.val ≤ 64 * h'.val + d.val := e.1
  have h1 : 64 * h'.val + d.val < 64 * h.val + 64 := e.2
  omega
/-- The score in base two. -/
def sc2 (I : Args) (H : Fin 8) (x k : Fin 4096) : ℝ := score I H x k * (1 / Real.log 2)
theorem rpow_sc2 (I : Args) (H : Fin 8) (x k : Fin 4096) : Real.rpow 2 (sc2 I H x k) = Real.exp (score I H x k) := by
  have h2 : Real.log 2 ≠ 0 := (Real.log_pos (by norm_num)).ne'
  rw [Real.rpow_eq_pow, Real.rpow_def_of_pos (by norm_num)]
  unfold sc2
  congr 1
  field_simp
/-- A product of zero-padded rows of 128 lanes is the product of their 96. -/
theorem dot_pad (I : Args) (H : Fin 8) (x k : Fin 4096) : (∑ d : Fin 128, (if hd : d.val < 96 then I.q x H ⟨d.val, hd⟩ * (1 / Real.sqrt 96 * (1 / Real.log 2)) * I.k k H ⟨d.val, hd⟩ else 0)) = sc2 I H x k := by
  refine (sum_lt (n := 96) (r := 32) fun d => I.q x H d * (1 / Real.sqrt 96 * (1 / Real.log 2)) * I.k k H d).trans ?_
  unfold sc2 score
  rw [Finset.sum_mul, Finset.sum_mul]
  exact Finset.sum_congr rfl fun d _ => by ring

theorem mul_word (x : FVec Ideal S4096x1024 .f32) (s : FVec Ideal S_ .f32) (r : Fin 4096) (w : Fin 1024) :
    truncf .bf16 (mulf x (broadcastInDim S4096x1024 ![] bcast_S_S4096x1024 s)) bitsLt_bf16_f32 (ix2 (n0 := 4096) (n1 := 1024) r w) = x (ix2 (n0 := 4096) (n1 := 1024) r w) * s ix0 := by
  pointwise []

variable {I : Args}
/-- The sum over the keys a row sees is the sum of the weights. -/
theorem seen_total (i : grid0.Coords) (x : Fin 512) (r : Fin 4096) (hr : r.val = 512 * (i 1).val + x.val) (H : Fin 8) (f : Fin 4096 → ℝ) :
    ∑ k ∈ seen i x, Real.rpow 2 (sc2 I H r k) * f k = ∑ k, wgt I H r k * f k := by
  unfold seen
  rw [Finset.sum_filter]
  refine Finset.sum_congr rfl fun k _ => ?_
  rw [rpow_sc2, ← hr]
  unfold wgt
  by_cases hs : sees r k
  · rw [if_pos hs]; exact if_pos hs
  · rw [if_neg hs, zero_mul]; exact if_neg hs
theorem seen_sum (i : grid0.Coords) (x : Fin 512) (r : Fin 4096) (hr : r.val = 512 * (i 1).val + x.val) (H : Fin 8) :
    ∑ k ∈ seen i x, Real.rpow 2 (sc2 I H r k) = total I H r := by
  have := seen_total (I := I) i x r hr H fun _ => 1
  simp only [mul_one] at this
  exact this

/-- A grid step's rows, from its blocks of queries, keys and values. -/
theorem row_o (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x128 .f32) (harg5 : arg5.IsWhole) (arg6 : Memref sig .tc .vmem S512x128 .f32) (harg6 : arg6.IsWhole)
    (x0 : Vec Ideal S512x256 .bf16) (x1 x2 : Vec Ideal S4096x256 .bf16) (p : Fin 4) (x : Fin 512) (r : Fin 4096) (hr : r.val = 512 * (i 1).val + x.val)
    (hS : ∀ h k, ∑ d : Fin 128, x0 (ix2 (n0 := 512) (n1 := 256) x (col h d)) * x1 (ix2 (n0 := 4096) (n1 := 256) k (col h d)) = ((sc2 I (hp p h) r k : ℝ) : EReal))
    (hW : ∀ h k d, x2 (ix2 (n0 := 4096) (n1 := 256) k (col h d)) = ((vLane I p h k d : ℝ) : EReal)) (h : Fin 2) (d : Fin 64) :
    out0_A_3 c i arg2 harg2 arg3 harg3 arg4 harg4 arg5 harg5 arg6 harg6 x0 x1 x2 (ix2 (n0 := 512) (n1 := 128) x (lh h d)) = ((outR I r (hp p h) d : ℝ) : EReal)
    ∧ out0_A_4 c i arg2 harg2 arg3 harg3 arg4 harg4 arg5 harg5 arg6 harg6 x0 x1 x2 (ix2 (n0 := 512) (n1 := 128) x (lh h d)) = ((Real.log (total I (hp p h) r) * (1 / Real.log 2) : ℝ) : EReal) := by
  rw [out3_row c i arg2 harg2 arg3 harg3 arg4 harg4 arg5 harg5 arg6 harg6 x0 x1 x2 x (fun h k => sc2 I (hp p h) r k) (vLane I p) hS hW (lh h d),
    out4_row c i arg2 harg2 arg3 harg3 arg4 harg4 arg5 harg5 arg6 harg6 x0 x1 x2 x (fun h k => sc2 I (hp p h) r k) (vLane I p) hS hW (lh h d)]
  rw [seen_sum i x r hr, seen_sum i x r hr, seen_total i x r hr, seen_total i x r hr]
  have own : ∀ h, (∑ k, wgt I (hp p h) r k * vLane I p h k (lh h d)) * (1 / total I (hp p h) r) = outR I r (hp p h) d := fun h => by
    unfold outR prob
    rw [Finset.sum_mul]
    exact Finset.sum_congr rfl fun k _ => by rw [vLane_own]; ring
  have other : ∀ h h', h ≠ h' → (∑ k, wgt I (hp p h) r k * vLane I p h k (lh h' d)) * (1 / total I (hp p h) r) = 0 := fun h h' hh => by
    rw [Finset.sum_eq_zero fun k _ => by rw [vLane_other I p h h' hh, mul_zero], zero_mul]
  rcases Fin.exists_fin_two.mp ⟨h, rfl⟩ with rfl | rfl
  · refine ⟨?_, if_pos (by show 64 * 0 + d.val < 64; omega)⟩
    rw [own 0, other 1 0 (by decide), EReal.coe_zero, add_zero]
  · refine ⟨?_, if_neg (by show ¬ 64 * 1 + d.val < 64; omega)⟩
    rw [own 1, other 0 1 (by decide), EReal.coe_zero, zero_add]

theorem outs_o (t : Fin cfg0.N) : (outsAt0 m c t).1 = out0_A_3 c (grid0.coords t) (ms0_0 t) (hs0_0 t) (ms0_1 t) (hs0_1 t) (ms0_2 t) (hs0_2 t) (ms0_3 t) (hs0_3 t) (ms0_4 t) (hs0_4 t) (xq m c t) (xk m c t) (xv m c t) := by
  unfold outsAt0 xq xk xv
  sl_kernel_rfl
theorem outs_l (t : Fin cfg0.N) : (outsAt0 m c t).2 = out0_A_4 c (grid0.coords t) (ms0_0 t) (hs0_0 t) (ms0_1 t) (hs0_1 t) (ms0_2 t) (hs0_2 t) (ms0_3 t) (hs0_3 t) (ms0_4 t) (hs0_4 t) (xq m c t) (xk m c t) (xv m c t) := by
  unfold outsAt0 xq xk xv
  sl_kernel_rfl
/-- Lane `d` of head `H` of the values, laid out by parity. -/
theorem vPad_lane (I : Args) (p : Fin 4) (h : Fin 2) (H : Fin 8) (hH : H = hp p h) (k : Fin 4096) (d : Fin 128) : vPad (vE I) (ix2 (n0 := 4096) (n1 := 1024) k ⟨128 * H.val + d.val, by omega⟩) = ((vLane I p h k d : ℝ) : EReal) := by
  have hb : h.val = H.val % 2 := by rw [hH]; show h.val = (2 * p.val + h.val) % 2; omega
  unfold vLane
  rw [← hH]
  by_cases hd2 : d.val < 64
  · have ho := odd_word k H ⟨d.val, hd2⟩
    refine (vPad_lo (vE I) k H ⟨d.val, hd2⟩).trans ?_
    show Scalar.select (oddB _) (zeroB _) _ = _
    rw [ho, zeroB_at]
    by_cases h1 : H.val % 2 = 1
    · rw [if_pos h1, dif_neg (by omega)]; rfl
    · rw [if_neg h1, dif_pos (by omega)]
      exact congrArg (fun z => ((I.v k H z : ℝ) : EReal)) (Fin.ext (by show d.val = d.val - 64 * h.val; omega))
  · have ho := odd_word k H ⟨d.val - 64, by omega⟩
    refine (congrArg (vPad (vE I)) (congrArg (ix2 (n0 := 4096) (n1 := 1024) k) (Fin.ext (by show 128 * H.val + d.val = 128 * H.val + (64 + (d.val - 64)); omega)))).trans ((vPad_hi (vE I) k H ⟨d.val - 64, by omega⟩).trans ?_)
    show Scalar.select (oddB _) _ (zeroB _) = _
    rw [ho, zeroB_at]
    by_cases h1 : H.val % 2 = 1
    · rw [if_pos h1, dif_pos (by omega)]
      exact congrArg (fun z => ((I.v k H z : ℝ) : EReal)) (Fin.ext (by show d.val - 64 = d.val - 64 * h.val; omega))
    · rw [if_neg h1, dif_neg (by omega)]; rfl

variable {m c} (hq : kq m c = qE I) (hk : kk m c = kE I) (hv : kv m c = vE I)
variable (t : Fin cfg0.N) (p : Fin 4) (htp : t.val / 8 = p.val)
include htp

include hq hk in
theorem score_blk (x : Fin 512) (r : Fin 4096) (hr : r.val = 512 * (t.val % 8) + x.val) (h : Fin 2) (k : Fin 4096) :
    ∑ d : Fin 128, xq m c t (ix2 (n0 := 512) (n1 := 256) x (col h d)) * xk m c t (ix2 (n0 := 4096) (n1 := 256) k (col h d)) = ((sc2 I (hp p h) r k : ℝ) : EReal) := by
  rw [← dot_pad, Cert.AttnVal.coe_sum]
  refine Finset.sum_congr rfl fun d _ => ?_
  by_cases hd : d.val < 96
  · have hw : 128 * (hp p h).val + (⟨d.val, hd⟩ : Fin 96).val = 256 * (t.val / 8) + (col h d).val := by show 128 * (2 * p.val + h.val) + d.val = 256 * _ + (128 * h.val + d.val); omega
    rw [dif_pos hd, blk_q m c t x r hr (col h d) ⟨_, by have := (hp p h).isLt; show 128 * (hp p h).val + (⟨d.val, hd⟩ : Fin 96).val < 1024; show 128 * (hp p h).val + d.val < 1024; omega⟩ hw,
      blk_k m c t k (col h d) ⟨_, by have := (hp p h).isLt; show 128 * (hp p h).val + (⟨d.val, hd⟩ : Fin 96).val < 1024; show 128 * (hp p h).val + d.val < 1024; omega⟩ hw, V_q, V_k, hq, hk, mul_word, padH_in, qscale_at]
    show _ * _ * padH (kE I) _ = _
    rw [padH_in, EReal.coe_mul, EReal.coe_mul]
    rfl
  · have hw : 128 * (hp p h).val + (96 + (⟨d.val - 96, by omega⟩ : Fin 32).val) = 256 * (t.val / 8) + (col h d).val := by
      show 128 * (2 * p.val + h.val) + (96 + (d.val - 96)) = 256 * _ + (128 * h.val + d.val); omega
    rw [dif_neg hd, blk_q m c t x r hr (col h d) ⟨_, by have := (hp p h).isLt; show 128 * (hp p h).val + (96 + (⟨d.val - 96, by omega⟩ : Fin 32).val) < 1024; show 128 * (hp p h).val + (96 + (d.val - 96)) < 1024; omega⟩ hw, V_q, hq, mul_word, padH_out, zero_mul, zero_mul]
    rfl

include hv in
theorem value_blk (h : Fin 2) (k : Fin 4096) (d : Fin 128) : xv m c t (ix2 (n0 := 4096) (n1 := 256) k (col h d)) = ((vLane I p h k d : ℝ) : EReal) := by
  refine (blk_v m c t k (col h d) ⟨128 * (hp p h).val + d.val, by omega⟩ (by show 128 * (2 * p.val + h.val) + _ = 256 * _ + (128 * h.val + d.val); omega)).trans ?_
  rw [V_v, hv]
  exact vPad_lane I p h (hp p h) rfl k d

include hq hk hv
theorem point (x : Fin 512) (r : Fin 4096) (hr : r.val = 512 * (t.val % 8) + x.val) (h : Fin 2) (d : Fin 64) :
    (outsAt0 m c t).1 (ix2 (n0 := 512) (n1 := 128) x (lh h d)) = ((outR I r (hp p h) d : ℝ) : EReal)
    ∧ (outsAt0 m c t).2 (ix2 (n0 := 512) (n1 := 128) x (lh h d)) = ((Real.log (total I (hp p h) r) * (1 / Real.log 2) : ℝ) : EReal) := by
  rw [outs_o, outs_l]
  have hr' : r.val = 512 * (grid0.coords t 1).val + x.val := by rw [row_of]; exact hr
  have hS := score_blk hq hk t p htp x r hr
  have hW := value_blk hv t p htp
  generalize xq m c t = x0 at hS ⊢
  generalize xk m c t = x1 at hS ⊢
  generalize xv m c t = x2 at hW ⊢
  exact row_o c (grid0.coords t) (ms0_0 t) (hs0_0 t) (ms0_1 t) (hs0_1 t) (ms0_2 t) (hs0_2 t) (ms0_3 t) (hs0_3 t) (ms0_4 t) (hs0_4 t) x0 x1 x2 p x r hr' hS hW h d
omit htp

theorem final_o (x : Fin 4096) (H : Fin 8) (d : Fin 64) : (dats m 0 c).arrAt 3 cfg0.N (ix2 (n0 := 4096) (n1 := 512) x (oc H d)) = ((outR I x H d : ℝ) : EReal) := by
  refine (dats m 0 c).arrAt_forall_of_covers 3 (fun i v => ∀ (x : Fin 4096) (H : Fin 8) (d : Fin 64), (i 0).val = x.val → (i 1).val = 64 * H.val + d.val → v = ((outR I x H d : ℝ) : EReal)) (by decide +kernel) (fun t hf y x H d h0 h1 => ?_) _ (Memref.isWhole_whole _) x H d rfl rfl
  blk_simp
  rw [after0_3]
  have a0 := (win0_3.rect_emb_val t y 0).symm.trans h0
  have a1 := (win0_3.rect_emb_val t y 1).symm.trans h1
  rw [(idx t).2.2.2.1] at a0 a1
  have b0 : (t.val % 8) * 512 + (y 0).val = x.val := a0
  have b1 : (t.val / 8) * 128 + (y 1).val = 64 * H.val + d.val := a1
  have hy0 : (y 0).val < 512 := (y 0).isLt
  have hy1 : (y 1).val < 128 := (y 1).isLt
  have ht : t.val < 32 := lt_of_lt_of_eq t.isLt N_32
  have ey : y = ix2 (n0 := 512) (n1 := 128) (⟨(y 0).val, hy0⟩ : Fin 512) (lh ⟨H.val % 2, by omega⟩ d) := by
    funext a
    refine Fin.ext ?_
    fin_cases a
    · rfl
    · show (y 1).val = 64 * (H.val % 2) + d.val
      omega
  rw [ey]
  refine (point hq hk hv t ⟨H.val / 2, by omega⟩ (by show t.val / 8 = H.val / 2; omega) (⟨(y 0).val, hy0⟩ : Fin 512) x (by show x.val = 512 * (t.val % 8) + (y 0).val; omega) ⟨H.val % 2, by omega⟩ d).1.trans ?_
  rw [pair_of]
theorem final_l (x : Fin 4096) (H : Fin 8) (d : Fin 64) : (dats m 0 c).arrAt 4 cfg0.N (ix2 (n0 := 4096) (n1 := 512) x (oc H d)) = ((Real.log (total I H x) * (1 / Real.log 2) : ℝ) : EReal) := by
  refine (dats m 0 c).arrAt_forall_of_covers 4 (fun i v => ∀ (x : Fin 4096) (H : Fin 8) (d : Fin 64), (i 0).val = x.val → (i 1).val = 64 * H.val + d.val → v = ((Real.log (total I H x) * (1 / Real.log 2) : ℝ) : EReal)) (by decide +kernel) (fun t hf y x H d h0 h1 => ?_) _ (Memref.isWhole_whole _) x H d rfl rfl
  blk_simp
  rw [after0_4]
  have a0 := (win0_4.rect_emb_val t y 0).symm.trans h0
  have a1 := (win0_4.rect_emb_val t y 1).symm.trans h1
  rw [(idx t).2.2.2.2] at a0 a1
  have b0 : (t.val % 8) * 512 + (y 0).val = x.val := a0
  have b1 : (t.val / 8) * 128 + (y 1).val = 64 * H.val + d.val := a1
  have hy0 : (y 0).val < 512 := (y 0).isLt
  have hy1 : (y 1).val < 128 := (y 1).isLt
  have ht : t.val < 32 := lt_of_lt_of_eq t.isLt N_32
  have ey : y = ix2 (n0 := 512) (n1 := 128) (⟨(y 0).val, hy0⟩ : Fin 512) (lh ⟨H.val % 2, by omega⟩ d) := by
    funext a
    refine Fin.ext ?_
    fin_cases a
    · rfl
    · show (y 1).val = 64 * (H.val % 2) + d.val
      omega
  rw [ey]
  refine (point hq hk hv t ⟨H.val / 2, by omega⟩ (by show t.val / 8 = H.val / 2; omega) (⟨(y 0).val, hy0⟩ : Fin 512) x (by show x.val = 512 * (t.val % 8) + (y 0).val; omega) ⟨H.val % 2, by omega⟩ d).2.trans ?_
  rw [pair_of]
end Cert.FwdVal
end
-- ==== Proof.FwdRef.lean ====
module
public import proofs.«01_k».proof.Proof.AttnRef
public import proofs.«01_k».proof.Proof.Gen.FwdRefIdeal.Run
@[expose] public section
set_option maxRecDepth 16384
noncomputable section
/-!
The forward reference's two results over the real numbers: the output, and the log-sums in base two.
-/
open Idealize.ShloMosaic Idealize.ShloMosaic.TcCoe Idealize.SL.Sem
namespace Cert.FwdVal
open Cert.FwdRefIdeal Cert.FwdRefIdeal.Gen
open Cert.AttnVal (sRef mRef eRef maxH sumH expH probH outH qE kE vE Args IsScore oc outR total sRef_is mRef_at max_at sum_at prob_at outH_at word_2 log2 log2_ne sum_shifted_pos lse_eq coe_sum)

/-- The log-sums of rows, repeated over a head's 64 columns. -/
def lseRef (mx l : FVec Ideal S8x4096 .f32) : FVec Ideal S4096x512 .f32 :=
  shapeCast S4096x512 (broadcastInDim S4096x8x64 ![0, 1] bcast_S4096x8_S4096x8x64_0_1 (transpose S4096x8 [1, 0] (Host.divf (addf mx (Host.log l)) (broadcastInDim S8x4096 ![] bcast_S_S8x4096 (Host.log (constant S_ .f32 0x40000000#32)))) transposes_S8x4096_S4096x8_1_0)) shapeCasts_S4096x8x64_S4096x512

section
variable (m : (ℓ : Loc nD τ sig) → Buf (Elt Ideal) ℓ) (c : Dev nD)
def aq : FVec Ideal S4096x8x96 .f32 := m ((c.tc : Thread nD τ).loc main_arg0)
def ak : FVec Ideal S4096x8x96 .f32 := m ((c.tc : Thread nD τ).loc main_arg1)
def av : FVec Ideal S4096x8x64 .f32 := m ((c.tc : Thread nD τ).loc main_arg2)
theorem res_o : Value.res_main_v25 m c = outH (av m c) (probH (eRef (aq m c) (ak m c))) := rfl
theorem res_lse : Value.res_main_v39 m c = lseRef (maxH (sRef (aq m c) (ak m c))) (sumH (expH (sRef (aq m c) (ak m c)) (maxH (sRef (aq m c) (ak m c))))) := rfl
end

theorem lseRef_at (mx l : FVec Ideal S8x4096 .f32) (x : Fin 4096) (h : Fin 8) (d : Fin 64) : lseRef mx l (ix2 (n0 := 4096) (n1 := 512) x ⟨64 * h.val + d.val, by omega⟩)
    = Ideal.div (mx (ix2 (n0 := 8) (n1 := 4096) h x) + Ideal.log (l (ix2 (n0 := 8) (n1 := 4096) h x))) (Ideal.log (Ideal.ofBits .f32 1073741824#32)) := by
  pointwise [lseRef]

variable (I : Args) (x : Fin 4096) (h : Fin 8) (d : Fin 64)
theorem o_ref : outH (vE I) (probH (eRef (qE I) (kE I))) (ix2 (n0 := 4096) (n1 := 512) x (oc h d)) = ((outR I x h d : ℝ) : EReal) := by
  obtain ⟨M, hM⟩ := mRef_at I (sRef_is I) h x
  unfold oc outR eRef
  rw [coe_sum, outH_at]
  exact Finset.sum_congr rfl fun y _ => (congrArg₂ (fun a b : EReal => a * b) rfl (prob_at (sRef_is I) h x y hM)).trans (EReal.coe_mul _ _).symm
theorem lse_ref : lseRef (maxH (sRef (qE I) (kE I))) (sumH (expH (sRef (qE I) (kE I)) (maxH (sRef (qE I) (kE I))))) (ix2 (n0 := 4096) (n1 := 512) x (oc h d))
    = ((Real.log (total I h x) * (1 / Real.log 2) : ℝ) : EReal) := by
  have hs := sRef_is I
  obtain ⟨M, hM⟩ := max_at hs h x
  unfold oc
  rw [lseRef_at, word_2, log2, Ideal.div_coe log2_ne, hM, sum_at hs h x hM, Ideal.log_coe, if_neg (not_le.mpr (sum_shifted_pos I M h x)), ← EReal.coe_add, ← EReal.coe_mul, lse_eq]
end Cert.FwdVal
end
-- ==== Proof.FwdValue.lean ====
module
public import proofs.«01_k».proof.Defs
public import proofs.«01_k».proof.Proof.Gen.Fwd.Frame
public import proofs.«01_k».proof.Proof.Gen.Pre_finite_fwd
public import proofs.«01_k».proof.Proof.FwdFinal
public import proofs.«01_k».proof.Proof.FwdRef
public import proofs.«01_k».proof.Proof.AttnValue
public import Idealize.ShloMosaic.Lib.Quiescent
@[expose] public section
set_option maxRecDepth 16384
noncomputable section
/-!
The forward attention's kernel and its reference leave the same output and the same log-sums.
-/
open Idealize.ShloMosaic Idealize.ShloMosaic.TcCoe Idealize.SL.Sem
namespace Cert.FwdVal
open Cert.FwdIdeal Cert.FwdIdeal.Gen
open Cert.AttnVal (sRef eRef maxH sumH expH probH outH qE kE vE Args oc real_of_word)

section
variable (a0 a1 : FVec Ideal S4096x8x96 .f32) (a2 : FVec Ideal S4096x8x64 .f32)
/-- The arrays' entries as reals. -/
def argsOf : Args where
  q x h d := EReal.toReal (a0 (ix3 (n0 := 4096) (n1 := 8) (n2 := 96) x h d))
  k x h d := EReal.toReal (a1 (ix3 (n0 := 4096) (n1 := 8) (n2 := 96) x h d))
  v x h d := EReal.toReal (a2 (ix3 (n0 := 4096) (n1 := 8) (n2 := 64) x h d))
  g _ _ := 0

variable (h : (Cert.Pre_finite_fwd.fn (F := Ideal) a0 a1 a2).1 = (fun _ => 1#1) ∧ (Cert.Pre_finite_fwd.fn (F := Ideal) a0 a1 a2).2.1 = (fun _ => 1#1)
  ∧ (Cert.Pre_finite_fwd.fn (F := Ideal) a0 a1 a2).2.2 = (fun _ => 1#1))
include h
theorem fin_q : a0 = qE (argsOf a0 a1 a2) := by
  funext i
  obtain ⟨x, hh, d, rfl⟩ : ∃ (x : Fin 4096) (hh : Fin 8) (d : Fin 96), i = ix3 (n0 := 4096) (n1 := 8) (n2 := 96) x hh d := ⟨i 0, i 1, i 2, (eq_ix3 i)⟩
  exact (real_of_word (congrFun h.1 _)).symm
theorem fin_k : a1 = kE (argsOf a0 a1 a2) := by
  funext i
  obtain ⟨x, hh, d, rfl⟩ : ∃ (x : Fin 4096) (hh : Fin 8) (d : Fin 96), i = ix3 (n0 := 4096) (n1 := 8) (n2 := 96) x hh d := ⟨i 0, i 1, i 2, (eq_ix3 i)⟩
  exact (real_of_word (congrFun h.2.1 _)).symm
theorem fin_v : a2 = vE (argsOf a0 a1 a2) := by
  funext i
  obtain ⟨x, hh, d, rfl⟩ : ∃ (x : Fin 4096) (hh : Fin 8) (d : Fin 64), i = ix3 (n0 := 4096) (n1 := 8) (n2 := 64) x hh d := ⟨i 0, i 1, i 2, (eq_ix3 i)⟩
  exact (real_of_word (congrFun h.2.2 _)).symm
end

variable {m : (ℓ : Loc nD τ sig) → Buf (Elt Ideal) ℓ} {c : Dev nD} {I : Args}
/-- Every column belongs to a head. -/
theorem col_of (i : S4096x512.Idx) : ∃ (x : Fin 4096) (H : Fin 8) (d : Fin 64), i = ix2 (n0 := 4096) (n1 := 512) x (oc H d) := by
  have h1 : (i 1).val < 512 := (i 1).isLt
  refine ⟨i 0, ⟨(i 1).val / 64, by omega⟩, ⟨(i 1).val % 64, by omega⟩, (eq_ix2 i).trans (congrArg (ix2 (n0 := 4096) (n1 := 512) (i 0)) (Fin.ext ?_))⟩
  show (i 1).val = 64 * ((i 1).val / 64) + (i 1).val % 64
  omega
theorem out_o (hq : kq m c = qE I) (hk : kk m c = kE I) (hv : kv m c = vE I) : (dats m 0 c).arrAt 3 cfg0.N = outH (vE I) (probH (eRef (qE I) (kE I))) := by
  funext i
  obtain ⟨x, H, d, rfl⟩ := col_of i
  exact (final_o hq hk hv x H d).trans (o_ref I x H d).symm
theorem out_l (hq : kq m c = qE I) (hk : kk m c = kE I) (hv : kv m c = vE I) :
    (dats m 0 c).arrAt 4 cfg0.N = lseRef (maxH (sRef (qE I) (kE I))) (sumH (expH (sRef (qE I) (kE I)) (maxH (sRef (qE I) (kE I))))) := by
  funext i
  obtain ⟨x, H, d, rfl⟩ := col_of i
  exact (final_l hq hk hv x H d).trans (lse_ref I x H d).symm

/-- The reference runs and leaves its arguments alone. -/
theorem frame_reference : Cert.quiescent_FwdRefIdeal := fun m ρ _ =>
  (θ_run Cert.FwdRefIdeal.defs _ _).mono (fun r h => ⟨fun c => (h c).2.2, sem_eq_zero_of_no_sems (by decide) r.2⟩)
    (Cert.FwdRefIdeal.Value.run (F := Ideal) m ρ)

/-- Equal outputs and log-sums of finite arguments. -/
theorem value : Cert.algebraic_FwdIdeal_FwdRefIdeal_pre_finite_fwd := by
  intro m ρ m' ρ' hpre hagree
  refine ⟨fun c => Cert.FwdRefIdeal.Value.res_main_v25 m' c, fun c => Cert.FwdRefIdeal.Value.res_main_v39 m' c, ?_, Cert.FwdRefIdeal.Value.run (F := Ideal) m' ρ'⟩
  refine (θ_run defs _ _).mono (fun r h c => ?_) (Value.run_blocks (F := Ideal) m ρ)
  have hq := fin_q _ _ _ (hpre c)
  have hk := fin_k _ _ _ (hpre c)
  have hv := fin_v _ _ _ (hpre c)
  have eq0 : aq m' c = kq m c := (hagree c).1
  have eq1 : ak m' c = kk m c := (hagree c).2.1
  have eq2 : av m' c = kv m c := (hagree c).2.2
  refine ⟨?_, ?_, (h c).2.2⟩
  · refine (h c).1.trans ((out_o hq hk hv).trans ?_)
    refine Eq.trans ?_ (res_o m' c).symm
    rw [eq0, eq1, eq2]
    exact (congr (congrArg outH hv) (congrArg probH (congr (congrArg eRef hq) hk))).symm
  · refine (h c).2.1.trans ((out_l hq hk hv).trans ?_)
    refine Eq.trans ?_ (res_lse m' c).symm
    rw [eq0, eq1]
    have e : sRef (kq m c) (kk m c) = sRef (qE _) (kE _) := congr (congrArg sRef hq) hk
    exact (congrArg (fun s => lseRef (maxH s) (sumH (expH s (maxH s)))) e).symm
end Cert.FwdVal
end
-- ==== Proof.Frames.lean ====
/- The frames of the backward calls whose values stay open: each reference ends with its arguments unchanged. -/
module

public import proofs.«01_k».proof.Defs
public import proofs.«01_k».proof.Proof.Gen.InBack.Frame
public import proofs.«01_k».proof.Proof.Gen.InBackIdeal.Frame
public import proofs.«01_k».proof.Proof.Gen.InBackRefIdeal.Run
public import proofs.«01_k».proof.Proof.Gen.Mla.Frame
public import proofs.«01_k».proof.Proof.Gen.MlaIdeal.Frame
public import proofs.«01_k».proof.Proof.Gen.MlaRefIdeal.Run
public import Idealize.ShloMosaic.Lib.Quiescent

@[expose] public section

noncomputable section

namespace Cert.Frames

open Idealize.ShloMosaic Idealize.SL.Sem

/-- The frame of the reference of the gradients at the end of the backward pass: its run, and no semaphore is declared. -/
theorem reference_InBack : Cert.quiescent_InBackRefIdeal := fun m ρ _ =>
  (θ_run Cert.InBackRefIdeal.defs _ _).mono (fun r h => ⟨fun c => (h c).2.2.2.2.2, sem_eq_zero_of_no_sems (by decide) r.2⟩)
    (Cert.InBackRefIdeal.Value.run (F := Ideal) m ρ)

/-- The frame of the reference of the gradients of the latent projections: its run, and no semaphore is declared. -/
theorem reference_Mla : Cert.quiescent_MlaRefIdeal := fun m ρ _ =>
  (θ_run Cert.MlaRefIdeal.defs _ _).mono (fun r h => ⟨fun c => (h c).2.2.2.2.2.2.2, sem_eq_zero_of_no_sems (by decide) r.2⟩)
    (Cert.MlaRefIdeal.Value.run (F := Ideal) m ρ)

end Cert.Frames

end
-- ==== Proof.MlpTile.lean ====
module
public import proofs.«01_k».proof.Proof.Gen.MlpIdeal.Skeleton
public import Idealize.ShloMosaic.Lib.Pointwise
@[expose] public section
set_option maxRecDepth 16384
noncomputable section
/-!
One tile of the projections' kernel, element by element: the normalised rows, their products and the rotation's two terms.
-/
open Idealize.ShloMosaic Idealize.ShloMosaic.TcCoe
namespace Cert.Mlp.Mine
open Cert.MlpIdeal Cert.MlpIdeal.Gen

/-- Lane `l` of head `h`. -/
def ln (h : Fin 8) (l : Fin 128) : Fin 1024 := ⟨128 * h.val + l.val, by omega⟩

/-- Eight copies of a 128-lane array side by side. -/
def eight (v : FVec Ideal S512x128 .f32) : FVec Ideal S512x1024 .f32 :=
  concatenate S512x1024 1 [⟨S512x128, v⟩, ⟨S512x128, v⟩, ⟨S512x128, v⟩, ⟨S512x128, v⟩, ⟨S512x128, v⟩, ⟨S512x128, v⟩, ⟨S512x128, v⟩, ⟨S512x128, v⟩] concatenates_S512x128_S512x128_S512x128_S512x128_S512x128_S512x128_S512x128_S512x128_S512x1024_d1
/-- Each head's lanes are the array's. -/
theorem eight_at (v : FVec Ideal S512x128 .f32) (r : Fin 512) (h : Fin 8) (l : Fin 128) :
    eight v (ix2 (n0 := 512) (n1 := 1024) r (ln h l)) = v (ix2 (n0 := 512) (n1 := 128) r l) := by
  unfold ln
  have hl := l.isLt
  have hh := h.isLt
  pointwise [eight]
  split_ifs <;> first | (exfalso; omega) | exact congrArg (fun z => v (ix2 r z)) (Fin.ext (by dsimp only; omega))

/-- A row over the root of its mean square, times the gain. -/
def nrm {n : ℕ} (size : BitVec 32) (x g : Fin n → EReal) (a : Fin n) : EReal :=
  x a * Ideal.rsqrt (Ideal.div (∑ b, x b * x b) (Ideal.ofBits .f32 size) + Ideal.ofBits .f32 897988541#32) * g a

theorem tile_kv (X : FVec Ideal S512x128 .f32) (G : Vec Ideal S1x128 .f32) (r : Fin 512) (a : Fin 128) :
    k0_pay14 X G (ix2 (n0 := 512) (n1 := 128) r a) = nrm 1124073472#32 (fun b => X (ix2 r b)) (fun b => G (ix2 0 b)) a := by
  pointwise [k0_pay14]
  rfl

theorem tile_v (X : Vec Ideal S512x128 .bf16) (G : Vec Ideal S1x128 .f32) (W : Vec Ideal S128x1024 .bf16) (r : Fin 512) (w : Fin 1024) :
    k0_pay1 (k0_pay15 (k0_pay3 X) G (k0_pay11 W)) (ix2 (n0 := 512) (n1 := 1024) r w)
      = ∑ a, nrm 1124073472#32 (fun b => (X (ix2 r b) : EReal)) (fun b => G (ix2 0 b)) a * W (ix2 (n0 := 128) (n1 := 1024) a w) := by
  pointwise [k0_pay1, k0_pay15, k0_pay3, k0_pay11]
  refine Finset.sum_congr rfl fun a _ => ?_
  rw [tile_kv]
  rfl

/-- One on the rotated lanes and beyond, zero before. -/
def late (l : Fin 128) : EReal := FloatOps.sitofp (F := Ideal) FTy.f32 (BitVec.setWidth 32 (IntOp.cmpi CmpIPredicate.sge (BitVec.ofNat 32 l.val) 64#32))
theorem late_bit : ∀ l : Fin 128, BitVec.setWidth 32 (IntOp.cmpi CmpIPredicate.sge (BitVec.ofNat 32 l.val) 64#32) = if 64 ≤ l.val then 1#32 else 0#32 := by decide
theorem late_lo (l : Fin 128) (h : l.val < 64) : late l = 0 := by
  unfold late
  rw [late_bit, if_neg (by omega)]
  show ((((0#32 : BitVec 32).toInt : ℤ) : ℝ) : EReal) = 0
  simp
theorem late_hi (l : Fin 128) (h : 64 ≤ l.val) : late l = 1 := by
  unfold late
  rw [late_bit, if_pos h]
  show ((((1#32 : BitVec 32).toInt : ℤ) : ℝ) : EReal) = 1
  simp

theorem pay17 (x5 x8 x11 x13 x15 : FVec Ideal S512x128 .f32) (G : Vec Ideal S1x128 .f32) (W : FVec Ideal S128x1024 .bf16) :
    k0_pay17 x5 x8 x11 x13 x15 G W = truncf .bf16 (addf (matmul dot_S512x128_S128x1024_S512x1024_1_0_0_1_n_n none (truncf .bf16 (k0_pay14 x5 G) bitsLt_bf16_f32) W (constant S512x1024 .f32 0x00000000#32))
      (eight (addf (mulf x8 (mulf x13 (sitofp .f32 (extui 32 (cmpi .sge (iota .tc S512x128 32 [1] iota_S512x128_d1_w32) (broadcast S512x128 64#32)) natLt_1_32)))) (mulf x11 x15)))) bitsLt_bf16_f32 := rfl

theorem tile_k (X K R : Vec Ideal S512x128 .bf16) (C S : Vec Ideal S512x128 .f32) (G : Vec Ideal S1x128 .f32) (W : Vec Ideal S128x1024 .bf16) (r : Fin 512) (h : Fin 8) (l : Fin 128) :
    k0_pay17 (k0_pay3 X) (k0_pay4 K) (k0_pay5 R) (k0_pay6 C) (k0_pay7 S) G (k0_pay10 W) (ix2 (n0 := 512) (n1 := 1024) r (ln h l))
      = (∑ a, nrm 1124073472#32 (fun b => (X (ix2 r b) : EReal)) (fun b => G (ix2 0 b)) a * W (ix2 (n0 := 128) (n1 := 1024) a (ln h l)))
        + (K (ix2 (n0 := 512) (n1 := 128) r l) * (C (ix2 (n0 := 512) (n1 := 128) r l) * late l) + R (ix2 (n0 := 512) (n1 := 128) r l) * S (ix2 (n0 := 512) (n1 := 128) r l)) := by
  rw [pay17]
  pointwise [k0_pay3, k0_pay10]
  rw [eight_at]
  refine congrArg₂ (· + ·) (Finset.sum_congr rfl fun a _ => ?_) ?_
  · rw [tile_kv]
    rfl
  · pointwise [k0_pay4, k0_pay5, k0_pay6, k0_pay7]
    rfl

theorem pay16 (x2 : FVec Ideal S512x256 .f32) (x13 x15 : FVec Ideal S512x128 .f32) (G : Vec Ideal S1x256 .f32) (W R : FVec Ideal S256x1024 .bf16) (x30 x31 : FVec Ideal S512x1 .f32) :
    k0_pay16 x2 x13 x15 G W R x30 x31 = truncf .bf16 (mulf (addf
      (mulf (matmul dot_S512x256_S256x1024_S512x1024_1_0_0_1_n_n none (truncf .bf16 (mulf (mulf x2 (broadcastTo S512x256 (rsqrt (addf x30 x31)) broadcasts_S512x1_S512x256)) (broadcastTo S512x256 G broadcasts_S1x256_S512x256)) bitsLt_bf16_f32) W (constant S512x1024 .f32 0x00000000#32)) (eight x13))
      (mulf (matmul dot_S512x256_S256x1024_S512x1024_1_0_0_1_n_n none (truncf .bf16 (mulf (mulf x2 (broadcastTo S512x256 (rsqrt (addf x30 x31)) broadcasts_S512x1_S512x256)) (broadcastTo S512x256 G broadcasts_S1x256_S512x256)) bitsLt_bf16_f32) R (constant S512x1024 .f32 0x00000000#32)) (eight x15)))
      (broadcast S512x1024 (Scalar.ofBits .f32 0x3E16C740#32))) bitsLt_bf16_f32 := rfl

theorem tile_q (X : Vec Ideal S512x256 .bf16) (C S : Vec Ideal S512x128 .f32) (G : Vec Ideal S1x256 .f32) (W R : Vec Ideal S256x1024 .bf16) (r : Fin 512) (h : Fin 8) (l : Fin 128) :
    k0_pay16 (k0_pay2 X) (k0_pay6 C) (k0_pay7 S) G (k0_pay8 W) (k0_pay9 R) (k0_pay12 X) k0_pay13 (ix2 (n0 := 512) (n1 := 1024) r (ln h l))
      = ((∑ a, nrm 1132462080#32 (fun b => (X (ix2 r b) : EReal)) (fun b => G (ix2 0 b)) a * W (ix2 (n0 := 256) (n1 := 1024) a (ln h l))) * C (ix2 (n0 := 512) (n1 := 128) r l)
        + (∑ a, nrm 1132462080#32 (fun b => (X (ix2 r b) : EReal)) (fun b => G (ix2 0 b)) a * R (ix2 (n0 := 256) (n1 := 1024) a (ln h l))) * S (ix2 (n0 := 512) (n1 := 128) r l)) * Ideal.ofBits .f32 0x3E16C740#32 := by
  rw [pay16]
  pointwise [k0_pay2, k0_pay8, k0_pay9, k0_pay12, k0_pay13]
  rw [eight_at, eight_at]
  pointwise [k0_pay6, k0_pay7]
  rfl
end Cert.Mlp.Mine
-- ==== Proof.MlpArr.lean ====
module
public import proofs.«01_k».proof.Proof.MlpTile
@[expose] public section
set_option maxRecDepth 16384
noncomputable section
/-!
The arrays the projections' kernel is called with, as the host lines prepare them, and their entries.
-/
open Idealize.ShloMosaic Idealize.ShloMosaic.TcCoe Idealize.SL.Sem
namespace Cert.Mlp.Mine
open Cert.MlpIdeal Cert.MlpIdeal.Gen

section Arrays
/-- The rotation's angles. -/
def ang (p : IVec S4096 32) : FVec Ideal S4096x16 .f32 :=
  mulf (broadcastInDim S4096x16 ![0, 1] bcast_S4096x1_S4096x16_0_1 (broadcastInDim S4096x1 ![0] bcast_S4096_S4096x1_0 (sitofp .f32 p)))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0)))))
          (broadcastInDim S16 ![] bcast_S_S16 (constant S_ .f32 0x42000000#32))))))
def zeros64 : FVec Ideal S4096x64 .f32 := broadcastInDim S4096x64 ![] bcast_S_S4096x64 (constant (F := Ideal) S_ .f32 0x00000000#32)
def zeros32 : FVec Ideal S4096x32 .f32 := broadcastInDim S4096x32 ![] bcast_S_S4096x32 (constant (F := Ideal) S_ .f32 0x00000000#32)
/-- The cosines by lane: one on the plain lanes, zero on the padding; -/
def cosT (p : IVec S4096 32) : FVec Ideal S4096x128 .f32 :=
  concatenate S4096x128 1 [⟨S4096x64, broadcastInDim S4096x64 ![] bcast_S_S4096x64 (constant (F := Ideal) S_ .f32 0x3F800000#32)⟩, ⟨S4096x16, Host.cos (ang p)⟩, ⟨S4096x16, Host.cos (ang p)⟩, ⟨S4096x32, zeros32⟩] concatenates_S4096x64_S4096x16_S4096x16_S4096x32_S4096x128_d1
/-- the sines by lane. -/
def sinT (p : IVec S4096 32) : FVec Ideal S4096x128 .f32 :=
  concatenate S4096x128 1 [⟨S4096x64, zeros64⟩, ⟨S4096x16, Host.sin (ang p)⟩, ⟨S4096x16, Host.sin (ang p)⟩, ⟨S4096x32, zeros32⟩] concatenates_S4096x64_S4096x16_S4096x16_S4096x32_S4096x128_d1
/-- The rotary key's columns turned. -/
def turned (k : FVec Ideal S4096x32 .f32) : FVec Ideal S4096x32 .f32 :=
  concatenate S4096x32 1 [⟨S4096x16, Host.negf (extractStridedSlice S4096x16 ![0, 16] k slices_S4096x32_S4096x16_0_16)⟩, ⟨S4096x16, extractStridedSlice S4096x16 ![0, 0] k slices_S4096x32_S4096x16_0_0⟩] concatenates_S4096x16_S4096x16_S4096x32_d1
/-- The columns side by side, each block starting on a multiple of 128. -/
def cols (q : FVec Ideal S4096x256 .f32) (kv : FVec Ideal S4096x128 .f32) (k : FVec Ideal S4096x32 .f32) : FVec Ideal S4096x640 .bf16 :=
  truncf .bf16 (concatenate S4096x640 1 [⟨S4096x256, q⟩, ⟨S4096x128, kv⟩, ⟨S4096x64, zeros64⟩, ⟨S4096x32, k⟩, ⟨S4096x32, zeros32⟩, ⟨S4096x64, zeros64⟩, ⟨S4096x32, turned k⟩, ⟨S4096x32, zeros32⟩] concatenates_S4096x256_S4096x128_S4096x64_S4096x32_S4096x32_S4096x64_S4096x32_S4096x32_S4096x640_d1) bitsLt_bf16_f32
/-- The query weight by head, and its rotary columns. -/
def w3 (w : FVec Ideal S256x768 .f32) : FVec Ideal S256x8x96 .bf16 := shapeCast S256x8x96 (truncf .bf16 w bitsLt_bf16_f32) shapeCasts_S256x768_S256x8x96
def wrot (w : FVec Ideal S256x768 .f32) : FVec Ideal S256x8x32 .bf16 := extractStridedSlice S256x8x32 ![0, 0, 64] (w3 w) slices_S256x8x96_S256x8x32_0_0_64
def wz32 : FVec Ideal S256x8x32 .bf16 := broadcastInDim S256x8x32 ![] bcast_S_S256x8x32 (constant (F := Ideal) S_ .bf16 0x0000#16)
/-- The query weight, each head on 128 lanes; -/
def wqA (w : FVec Ideal S256x768 .f32) : FVec Ideal S256x1024 .bf16 :=
  shapeCast S256x1024 (concatenate S256x8x128 2 [⟨S256x8x96, w3 w⟩, ⟨S256x8x32, wz32⟩] concatenates_S256x8x96_S256x8x32_S256x8x128_d2) shapeCasts_S256x8x128_S256x1024
/-- its rotary columns turned, in their place. -/
def wrA (w : FVec Ideal S256x768 .f32) : FVec Ideal S256x1024 .bf16 :=
  shapeCast S256x1024 (concatenate S256x8x128 2 [⟨S256x8x64, broadcastInDim S256x8x64 ![] bcast_S_S256x8x64 (constant (F := Ideal) S_ .bf16 0x0000#16)⟩,
    ⟨S256x8x32, concatenate S256x8x32 2 [⟨S256x8x16, Host.negf (extractStridedSlice S256x8x16 ![0, 0, 16] (wrot w) slices_S256x8x32_S256x8x16_0_0_16)⟩, ⟨S256x8x16, extractStridedSlice S256x8x16 ![0, 0, 0] (wrot w) slices_S256x8x32_S256x8x16_0_0_0⟩] concatenates_S256x8x16_S256x8x16_S256x8x32_d2⟩,
    ⟨S256x8x32, wz32⟩] concatenates_S256x8x64_S256x8x32_S256x8x32_S256x8x128_d2) shapeCasts_S256x8x128_S256x1024
/-- The key and value weight by head. -/
def u3 (w : FVec Ideal S128x1024 .f32) : FVec Ideal S128x8x128 .bf16 := shapeCast S128x8x128 (truncf .bf16 w bitsLt_bf16_f32) shapeCasts_S128x1024_S128x8x128
/-- The key columns, each head on 128 lanes. -/
def wkA (w : FVec Ideal S128x1024 .f32) : FVec Ideal S128x1024 .bf16 :=
  shapeCast S128x1024 (concatenate S128x8x128 2 [⟨S128x8x64, extractStridedSlice S128x8x64 ![0, 0, 0] (u3 w) slices_S128x8x128_S128x8x64_0_0_0⟩, ⟨S128x8x64, broadcastInDim S128x8x64 ![] bcast_S_S128x8x64 (constant (F := Ideal) S_ .bf16 0x0000#16)⟩] concatenates_S128x8x64_S128x8x64_S128x8x128_d2) shapeCasts_S128x8x128_S128x1024
/-- Two, or one were it zero: the divisor of each head's number, and the remainder. -/
def two : IVec S_ 32 := select (cmpi CmpIPredicate.eq (id (constantI S_ 32 2#32)) (constantI S_ 32 0#32)) (constantI S_ 32 1#32) (id (constantI S_ 32 2#32))
def rem2 : IVec S8 32 := Host.remsi (iotaInDim S8 32 0) (broadcastInDim S8 ![] bcast_S_S8 two)
/-- The odd heads. -/
def odd : IVec S1x8x1 1 := broadcastInDim S1x8x1 ![1] bcast_S8_S1x8x1_1 (cmpi CmpIPredicate.eq
  (select (andi (cmpi CmpIPredicate.ne (cmpi CmpIPredicate.slt rem2 (broadcastInDim S8 ![] bcast_S_S8 (constantI S_ 32 0#32))) (broadcastInDim S8 ![] bcast_S_S8 (cmpi CmpIPredicate.slt two (constantI S_ 32 0#32))))
    (cmpi CmpIPredicate.ne rem2 (broadcastInDim S8 ![] bcast_S_S8 (constantI S_ 32 0#32)))) (addi rem2 (broadcastInDim S8 ![] bcast_S_S8 two)) rem2)
  (broadcastInDim S8 ![] bcast_S_S8 (constantI S_ 32 1#32)))
def oddW : IVec S128x8x64 1 := broadcastInDim S128x8x64 ![0, 1, 2] bcast_S1x8x1_S128x8x64_0_1_2 odd
def zeroW : FVec Ideal S128x8x64 .bf16 := broadcastInDim S128x8x64 ![] bcast_S_S128x8x64 (sitofp FTy.bf16 (constantI S_ 32 0#32))
def vcols (w : FVec Ideal S128x1024 .f32) : FVec Ideal S128x8x64 .bf16 := extractStridedSlice S128x8x64 ![0, 0, 64] (u3 w) slices_S128x8x128_S128x8x64_0_0_64
/-- The value columns, in the half of a head's lanes that its parity gives. -/
def wvA (w : FVec Ideal S128x1024 .f32) : FVec Ideal S128x1024 .bf16 :=
  shapeCast S128x1024 (concatenate S128x8x128 2 [⟨S128x8x64, select oddW zeroW (vcols w)⟩, ⟨S128x8x64, select oddW (vcols w) zeroW⟩] concatenates_S128x8x64_S128x8x64_S128x8x128_d2) shapeCasts_S128x8x128_S128x1024
end Arrays

/-- The cosine and the sine of a row's angle. -/
def cosA (p : IVec S4096 32) (r : Fin 4096) (d : Fin 16) : EReal := Host.cos (ang p) (ix2 (n0 := 4096) (n1 := 16) r d)
def sinA (p : IVec S4096 32) (r : Fin 4096) (d : Fin 16) : EReal := Host.sin (ang p) (ix2 (n0 := 4096) (n1 := 16) r d)
theorem cos_n (p : IVec S4096 32) (r : Fin 4096) (d : Fin 64) : cosT p (ix2 (n0 := 4096) (n1 := 128) r ⟨d.val, by omega⟩) = 1 := by
  pointwise [cosT, zeros64, zeros32]
theorem cos_a (p : IVec S4096 32) (r : Fin 4096) (d : Fin 16) : cosT p (ix2 (n0 := 4096) (n1 := 128) r ⟨64 + d.val, by omega⟩) = cosA p r d := by
  pointwise [cosT, zeros64, zeros32]
  rfl
theorem cos_b (p : IVec S4096 32) (r : Fin 4096) (d : Fin 16) : cosT p (ix2 (n0 := 4096) (n1 := 128) r ⟨80 + d.val, by omega⟩) = cosA p r d := by
  pointwise [cosT, zeros64, zeros32]
  have hd := d.isLt
  split_ifs <;> first | (exfalso; omega) | rfl | exact congrArg (fun z => cosA p r z) (Fin.ext (by dsimp only; omega)) | exact congrArg (fun z => sinA p r z) (Fin.ext (by dsimp only; omega))
theorem cos_z (p : IVec S4096 32) (r : Fin 4096) (d : Fin 32) : cosT p (ix2 (n0 := 4096) (n1 := 128) r ⟨96 + d.val, by omega⟩) = 0 := by
  pointwise [cosT, zeros64, zeros32]
  have hd := d.isLt
  split_ifs <;> first | (exfalso; omega) | rfl | exact congrArg (fun z => cosA p r z) (Fin.ext (by dsimp only; omega)) | exact congrArg (fun z => sinA p r z) (Fin.ext (by dsimp only; omega))
theorem sin_n (p : IVec S4096 32) (r : Fin 4096) (d : Fin 64) : sinT p (ix2 (n0 := 4096) (n1 := 128) r ⟨d.val, by omega⟩) = 0 := by
  pointwise [sinT, zeros64, zeros32]
theorem sin_a (p : IVec S4096 32) (r : Fin 4096) (d : Fin 16) : sinT p (ix2 (n0 := 4096) (n1 := 128) r ⟨64 + d.val, by omega⟩) = sinA p r d := by
  pointwise [sinT, zeros64, zeros32]
  rfl
theorem sin_b (p : IVec S4096 32) (r : Fin 4096) (d : Fin 16) : sinT p (ix2 (n0 := 4096) (n1 := 128) r ⟨80 + d.val, by omega⟩) = sinA p r d := by
  pointwise [sinT, zeros64, zeros32]
  have hd := d.isLt
  split_ifs <;> first | (exfalso; omega) | rfl | exact congrArg (fun z => cosA p r z) (Fin.ext (by dsimp only; omega)) | exact congrArg (fun z => sinA p r z) (Fin.ext (by dsimp only; omega))
theorem sin_z (p : IVec S4096 32) (r : Fin 4096) (d : Fin 32) : sinT p (ix2 (n0 := 4096) (n1 := 128) r ⟨96 + d.val, by omega⟩) = 0 := by
  pointwise [sinT, zeros64, zeros32]
  have hd := d.isLt
  split_ifs <;> first | (exfalso; omega) | rfl | exact congrArg (fun z => cosA p r z) (Fin.ext (by dsimp only; omega)) | exact congrArg (fun z => sinA p r z) (Fin.ext (by dsimp only; omega))
theorem cols_q (q : FVec Ideal S4096x256 .f32) (kv : FVec Ideal S4096x128 .f32) (k : FVec Ideal S4096x32 .f32) (r : Fin 4096) (d : Fin 256) :
    cols q kv k (ix2 (n0 := 4096) (n1 := 640) r ⟨d.val, by omega⟩) = q (ix2 r d) := by
  pointwise [cols, turned, zeros64, zeros32]
theorem cols_kv (q : FVec Ideal S4096x256 .f32) (kv : FVec Ideal S4096x128 .f32) (k : FVec Ideal S4096x32 .f32) (r : Fin 4096) (d : Fin 128) :
    cols q kv k (ix2 (n0 := 4096) (n1 := 640) r ⟨256 + d.val, by omega⟩) = kv (ix2 r d) := by
  pointwise [cols, turned, zeros64, zeros32]
theorem cols_kn (q : FVec Ideal S4096x256 .f32) (kv : FVec Ideal S4096x128 .f32) (k : FVec Ideal S4096x32 .f32) (r : Fin 4096) (d : Fin 64) :
    cols q kv k (ix2 (n0 := 4096) (n1 := 640) r ⟨384 + d.val, by omega⟩) = 0 := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_ka (q : FVec Ideal S4096x256 .f32) (kv : FVec Ideal S4096x128 .f32) (k : FVec Ideal S4096x32 .f32) (r : Fin 4096) (d : Fin 16) :
    cols q kv k (ix2 (n0 := 4096) (n1 := 640) r ⟨448 + d.val, by omega⟩) = k (ix2 (n0 := 4096) (n1 := 32) r ⟨d.val, by omega⟩) := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_kb (q : FVec Ideal S4096x256 .f32) (kv : FVec Ideal S4096x128 .f32) (k : FVec Ideal S4096x32 .f32) (r : Fin 4096) (d : Fin 16) :
    cols q kv k (ix2 (n0 := 4096) (n1 := 640) r ⟨464 + d.val, by omega⟩) = k (ix2 (n0 := 4096) (n1 := 32) r ⟨16 + d.val, by omega⟩) := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_kz (q : FVec Ideal S4096x256 .f32) (kv : FVec Ideal S4096x128 .f32) (k : FVec Ideal S4096x32 .f32) (r : Fin 4096) (d : Fin 32) :
    cols q kv k (ix2 (n0 := 4096) (n1 := 640) r ⟨480 + d.val, by omega⟩) = 0 := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_rn (q : FVec Ideal S4096x256 .f32) (kv : FVec Ideal S4096x128 .f32) (k : FVec Ideal S4096x32 .f32) (r : Fin 4096) (d : Fin 64) :
    cols q kv k (ix2 (n0 := 4096) (n1 := 640) r ⟨512 + d.val, by omega⟩) = 0 := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_ra (q : FVec Ideal S4096x256 .f32) (kv : FVec Ideal S4096x128 .f32) (k : FVec Ideal S4096x32 .f32) (r : Fin 4096) (d : Fin 16) :
    cols q kv k (ix2 (n0 := 4096) (n1 := 640) r ⟨576 + d.val, by omega⟩) = -(k (ix2 (n0 := 4096) (n1 := 32) r ⟨16 + d.val, by omega⟩) : EReal) := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_rb (q : FVec Ideal S4096x256 .f32) (kv : FVec Ideal S4096x128 .f32) (k : FVec Ideal S4096x32 .f32) (r : Fin 4096) (d : Fin 16) :
    cols q kv k (ix2 (n0 := 4096) (n1 := 640) r ⟨592 + d.val, by omega⟩) = k (ix2 (n0 := 4096) (n1 := 32) r ⟨d.val, by omega⟩) := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
theorem cols_rz (q : FVec Ideal S4096x256 .f32) (kv : FVec Ideal S4096x128 .f32) (k : FVec Ideal S4096x32 .f32) (r : Fin 4096) (d : Fin 32) :
    cols q kv k (ix2 (n0 := 4096) (n1 := 640) r ⟨608 + d.val, by omega⟩) = 0 := by
  pointwise [cols, turned, zeros64, zeros32]
  have hd := d.isLt
  split_ifs <;> first | (exfalso; omega) | rfl | exact congrArg (fun z => (k (ix2 r z) : EReal)) (Fin.ext (by dsimp only; omega)) | exact congrArg (fun z => -(k (ix2 r z) : EReal)) (Fin.ext (by dsimp only; omega)) | exact congrArg (fun z => (q (ix2 r z) : EReal)) (Fin.ext (by dsimp only; omega)) | exact congrArg (fun z => (kv (ix2 r z) : EReal)) (Fin.ext (by dsimp only; omega))
/-- The word zero as a number. -/
theorem zero_word : (FloatOps.sitofp (F := Ideal) FTy.bf16 (0#32 : BitVec 32) : EReal) = 0 := by
  show ((((0#32 : BitVec 32).toInt : ℤ) : ℝ) : EReal) = 0
  simp
theorem wq_n (w : FVec Ideal S256x768 .f32) (a : Fin 256) (h : Fin 8) (d : Fin 64) :
    wqA w (ix2 (n0 := 256) (n1 := 1024) a (ln h ⟨d.val, by omega⟩)) = w (ix2 (n0 := 256) (n1 := 768) a ⟨96 * h.val + (d.val), by omega⟩) := by
  pointwise [wqA, w3, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wq_a (w : FVec Ideal S256x768 .f32) (a : Fin 256) (h : Fin 8) (d : Fin 16) :
    wqA w (ix2 (n0 := 256) (n1 := 1024) a (ln h ⟨64 + d.val, by omega⟩)) = w (ix2 (n0 := 256) (n1 := 768) a ⟨96 * h.val + (64 + d.val), by omega⟩) := by
  pointwise [wqA, w3, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wq_b (w : FVec Ideal S256x768 .f32) (a : Fin 256) (h : Fin 8) (d : Fin 16) :
    wqA w (ix2 (n0 := 256) (n1 := 1024) a (ln h ⟨80 + d.val, by omega⟩)) = w (ix2 (n0 := 256) (n1 := 768) a ⟨96 * h.val + (80 + d.val), by omega⟩) := by
  pointwise [wqA, w3, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wq_z (w : FVec Ideal S256x768 .f32) (a : Fin 256) (h : Fin 8) (d : Fin 32) :
    wqA w (ix2 (n0 := 256) (n1 := 1024) a (ln h ⟨96 + d.val, by omega⟩)) = 0 := by
  pointwise [wqA, w3, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wr_n (w : FVec Ideal S256x768 .f32) (a : Fin 256) (h : Fin 8) (d : Fin 64) :
    wrA w (ix2 (n0 := 256) (n1 := 1024) a (ln h ⟨d.val, by omega⟩)) = 0 := by
  pointwise [wrA, w3, wrot, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wr_a (w : FVec Ideal S256x768 .f32) (a : Fin 256) (h : Fin 8) (d : Fin 16) :
    wrA w (ix2 (n0 := 256) (n1 := 1024) a (ln h ⟨64 + d.val, by omega⟩)) = -(w (ix2 (n0 := 256) (n1 := 768) a ⟨96 * h.val + (80 + d.val), by omega⟩) : EReal) := by
  pointwise [wrA, w3, wrot, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wr_b (w : FVec Ideal S256x768 .f32) (a : Fin 256) (h : Fin 8) (d : Fin 16) :
    wrA w (ix2 (n0 := 256) (n1 := 1024) a (ln h ⟨80 + d.val, by omega⟩)) = w (ix2 (n0 := 256) (n1 := 768) a ⟨96 * h.val + (64 + d.val), by omega⟩) := by
  pointwise [wrA, w3, wrot, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wr_z (w : FVec Ideal S256x768 .f32) (a : Fin 256) (h : Fin 8) (d : Fin 32) :
    wrA w (ix2 (n0 := 256) (n1 := 1024) a (ln h ⟨96 + d.val, by omega⟩)) = 0 := by
  pointwise [wrA, w3, wrot, wz32, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wk_n (w : FVec Ideal S128x1024 .f32) (a : Fin 128) (h : Fin 8) (d : Fin 64) :
    wkA w (ix2 (n0 := 128) (n1 := 1024) a (ln h ⟨d.val, by omega⟩)) = w (ix2 (n0 := 128) (n1 := 1024) a (ln h ⟨d.val, by omega⟩)) := by
  pointwise [wkA, u3, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wk_z (w : FVec Ideal S128x1024 .f32) (a : Fin 128) (h : Fin 8) (d : Fin 64) :
    wkA w (ix2 (n0 := 128) (n1 := 1024) a (ln h ⟨64 + d.val, by omega⟩)) = 0 := by
  pointwise [wkA, u3, ln]
  have hd := d.isLt
  have hh := h.isLt
  split_ifs <;> first | (exfalso; omega) | rfl | exact congrArg (fun z => (w (ix2 a z) : EReal)) (Fin.ext (by dsimp only; omega)) | exact congrArg (fun z => -(w (ix2 a z) : EReal)) (Fin.ext (by dsimp only; omega))
theorem wv_n (w : FVec Ideal S128x1024 .f32) (a : Fin 128) (h : Fin 8) (d : Fin 64) :
    wvA w (ix2 (n0 := 128) (n1 := 1024) a (ln h ⟨d.val, by omega⟩)) = Scalar.select (odd (ix3 (n0 := 1) (n1 := 8) (n2 := 1) 0 h 0)) (0 : EReal) (w (ix2 (n0 := 128) (n1 := 1024) a (ln h ⟨64 + d.val, by omega⟩))) := by
  pointwise [wvA, u3, vcols, oddW, zeroW, ln]
  have hd := d.isLt
  have hh := h.isLt
  rw [zero_word]
  split_ifs <;> first | (exfalso; omega) | exact congrArg (fun z => Scalar.select (odd (ix3 (n0 := 1) (n1 := 8) (n2 := 1) 0 h 0)) (0 : EReal) (w (ix2 a z))) (Fin.ext (by dsimp only; omega)) | exact congrArg (fun z => Scalar.select (odd (ix3 (n0 := 1) (n1 := 8) (n2 := 1) 0 h 0)) (w (ix2 a z) : EReal) 0) (Fin.ext (by dsimp only; omega))
theorem wv_z (w : FVec Ideal S128x1024 .f32) (a : Fin 128) (h : Fin 8) (d : Fin 64) :
    wvA w (ix2 (n0 := 128) (n1 := 1024) a (ln h ⟨64 + d.val, by omega⟩)) = Scalar.select (odd (ix3 (n0 := 1) (n1 := 8) (n2 := 1) 0 h 0)) (w (ix2 (n0 := 128) (n1 := 1024) a (ln h ⟨64 + d.val, by omega⟩)) : EReal) 0 := by
  pointwise [wvA, u3, vcols, oddW, zeroW, ln]
  have hd := d.isLt
  have hh := h.isLt
  rw [zero_word]
  split_ifs <;> first | (exfalso; omega) | exact congrArg (fun z => Scalar.select (odd (ix3 (n0 := 1) (n1 := 8) (n2 := 1) 0 h 0)) (0 : EReal) (w (ix2 a z))) (Fin.ext (by dsimp only; omega)) | exact congrArg (fun z => Scalar.select (odd (ix3 (n0 := 1) (n1 := 8) (n2 := 1) 0 h 0)) (w (ix2 a z) : EReal) 0) (Fin.ext (by dsimp only; omega))
end Cert.Mlp.Mine
-- ==== Proof.MlpHost.lean ====
module
public import proofs.«01_k».proof.Proof.MlpArr
public import proofs.«01_k».proof.Proof.Gen.MlpIdeal.Frame
public import Idealize.ShloMosaic.Lib.StableHlo.RunRead
@[expose] public section
set_option maxRecDepth 16384
noncomputable section
/-!
What the projections' kernel finds in its arrays: the host lines' arrays of the arguments.
-/
open Idealize.ShloMosaic Idealize.ShloMosaic.TcCoe Idealize.SL.Sem
namespace Cert.Mlp.Mine
open Cert.MlpIdeal Cert.MlpIdeal.Gen

variable (m : (ℓ : Loc nD τ sig) → Buf (Elt Ideal) ℓ) (c : Dev nD)
set_option maxHeartbeats 2000000
theorem V_cos : V m c main_v50 = cosT (m ((c.tc : Thread nD τ).loc main_arg3)) := by
  unfold V
  after_reads_simp
  rfl
theorem V_sin : V m c main_v53 = sinT (m ((c.tc : Thread nD τ).loc main_arg3)) := by
  unfold V
  after_reads_simp
  rfl
theorem V_cols : V m c main_v59 = cols (m ((c.tc : Thread nD τ).loc main_arg0)) (m ((c.tc : Thread nD τ).loc main_arg1)) (m ((c.tc : Thread nD τ).loc main_arg2)) := by
  unfold V
  after_reads_simp
  rfl
theorem V_wq : V m c main_v4 = wqA (m ((c.tc : Thread nD τ).loc main_arg5)) := by
  unfold V
  after_reads_simp
  rfl
theorem V_wr : V m c main_v12 = wrA (m ((c.tc : Thread nD τ).loc main_arg5)) := by
  unfold V
  after_reads_simp
  rfl
theorem V_wk : V m c main_v18 = wkA (m ((c.tc : Thread nD τ).loc main_arg7)) := by
  unfold V
  after_reads_simp
  rfl
theorem V_wv : V m c main_v28 = wvA (m ((c.tc : Thread nD τ).loc main_arg7)) := by
  unfold V
  after_reads_simp
  rfl
theorem V_gq : V m c main_arg4 = m ((c.tc : Thread nD τ).loc main_arg4) := by
  unfold V
  after_reads_simp
theorem V_gkv : V m c main_arg6 = m ((c.tc : Thread nD τ).loc main_arg6) := by
  unfold V
  after_reads_simp
end Cert.Mlp.Mine
-- ==== Proof.MlpRef.lean ====
module
public import proofs.«01_k».proof.Proof.MlpArr
public import proofs.«01_k».proof.Proof.Gen.MlpRefIdeal.Run
@[expose] public section
set_option maxRecDepth 16384
noncomputable section
/-!
The reference's three arrays, entry by entry.
-/
open Idealize.ShloMosaic Idealize.ShloMosaic.TcCoe Idealize.SL.Sem
namespace Cert.Mlp.Mine
open Cert.MlpRefIdeal

variable (m : (ℓ : Loc nD τ sig) → Buf (Elt Ideal) ℓ) (c : Dev nD)
/-- The reference's arguments. -/
def rq : FVec Ideal S4096x256 .f32 := m ((c.tc : Thread nD τ).loc main_arg0)
def rkv : FVec Ideal S4096x128 .f32 := m ((c.tc : Thread nD τ).loc main_arg1)
def rk : FVec Ideal S4096x32 .f32 := m ((c.tc : Thread nD τ).loc main_arg2)
def rp : IVec S4096 32 := m ((c.tc : Thread nD τ).loc main_arg3)
def rgq : FVec Ideal S1x256 .f32 := m ((c.tc : Thread nD τ).loc main_arg4)
def rw_ : FVec Ideal S256x768 .f32 := m ((c.tc : Thread nD τ).loc main_arg5)
def rgkv : FVec Ideal S1x128 .f32 := m ((c.tc : Thread nD τ).loc main_arg6)
def ru : FVec Ideal S128x1024 .f32 := m ((c.tc : Thread nD τ).loc main_arg7)

/-- A query's entry before the rotation, and a key's or value's. -/
def qE (q : FVec Ideal S4096x256 .f32) (g : FVec Ideal S1x256 .f32) (w : FVec Ideal S256x768 .f32) (r : Fin 4096) (j : Fin 768) : EReal :=
  ∑ a, nrm 1132462080#32 (fun b => (q (ix2 (n0 := 4096) (n1 := 256) r b) : EReal)) (fun b => g (ix2 (n0 := 1) (n1 := 256) 0 b)) a * w (ix2 (n0 := 256) (n1 := 768) a j)
def kvE (x : FVec Ideal S4096x128 .f32) (g : FVec Ideal S1x128 .f32) (w : FVec Ideal S128x1024 .f32) (r : Fin 4096) (j : Fin 1024) : EReal :=
  ∑ a, nrm 1124073472#32 (fun b => (x (ix2 (n0 := 4096) (n1 := 128) r b) : EReal)) (fun b => g (ix2 (n0 := 1) (n1 := 128) 0 b)) a * w (ix2 (n0 := 128) (n1 := 1024) a j)
/-- The word zero as a number. -/
theorem zero_word_f32 : (FloatOps.sitofp (F := Ideal) FTy.f32 (0#32 : BitVec 32) : EReal) = 0 := by
  show ((((0#32 : BitVec 32).toInt : ℤ) : ℝ) : EReal) = 0
  simp
theorem ref_q_n (r : Fin 4096) (h : Fin 8) (d : Fin 64) : Value.res_main_v95 m c (ix2 (n0 := 4096) (n1 := 1024) r (ln h ⟨d.val, by omega⟩)) = qE (rq m c) (rgq m c) (rw_ m c) r ⟨96 * h.val + (d.val), by omega⟩ * Ideal.ofBits .f32 0x3E16C740#32 := by
  have hd := d.isLt
  have hh := h.isLt
  pointwise [Value.res_main_v95, ln]
  split_ifs <;> first | (exfalso; omega) | exact congrArg (fun z => qE (rq m c) (rgq m c) (rw_ m c) r z * _) (Fin.ext (by dsimp only <;> omega))
theorem ref_q_a (r : Fin 4096) (h : Fin 8) (d : Fin 16) : Value.res_main_v95 m c (ix2 (n0 := 4096) (n1 := 1024) r (ln h ⟨64 + d.val, by omega⟩)) = (qE (rq m c) (rgq m c) (rw_ m c) r ⟨96 * h.val + (64 + d.val), by omega⟩ * cosA (rp m c) r d - qE (rq m c) (rgq m c) (rw_ m c) r ⟨96 * h.val + (80 + d.val), by omega⟩ * sinA (rp m c) r d) * Ideal.ofBits .f32 0x3E16C740#32 := by
  have hd := d.isLt
  have hh := h.isLt
  pointwise [Value.res_main_v95, cosA, sinA, ang, ln]
  simp only [show (128 * h.val + (64 + d.val)) % 128 = 64 + d.val by omega, show 64 + d.val - 64 = d.val by omega]
  split_ifs <;> first | (exfalso; omega) | exact congrArg₂ (fun y z => (qE (rq m c) (rgq m c) (rw_ m c) r y * _ - qE (rq m c) (rgq m c) (rw_ m c) r z * _) * _) (Fin.ext (by dsimp only <;> omega)) (Fin.ext (by dsimp only <;> omega))
theorem ref_q_b (r : Fin 4096) (h : Fin 8) (d : Fin 16) : Value.res_main_v95 m c (ix2 (n0 := 4096) (n1 := 1024) r (ln h ⟨80 + d.val, by omega⟩)) = (qE (rq m c) (rgq m c) (rw_ m c) r ⟨96 * h.val + (64 + d.val), by omega⟩ * sinA (rp m c) r d + qE (rq m c) (rgq m c) (rw_ m c) r ⟨96 * h.val + (80 + d.val), by omega⟩ * cosA (rp m c) r d) * Ideal.ofBits .f32 0x3E16C740#32 := by
  have hd := d.isLt
  have hh := h.isLt
  pointwise [Value.res_main_v95, cosA, sinA, ang, ln]
  simp only [show (128 * h.val + (80 + d.val)) % 128 = 80 + d.val by omega, show 80 + d.val - 64 = 16 + d.val by omega, show 16 + d.val - 16 = d.val by omega]
  split_ifs <;> first | (exfalso; omega) | exact congrArg₂ (fun y z => (qE (rq m c) (rgq m c) (rw_ m c) r y * _ + qE (rq m c) (rgq m c) (rw_ m c) r z * _) * _) (Fin.ext (by dsimp only <;> omega)) (Fin.ext (by dsimp only <;> omega))
theorem ref_q_z (r : Fin 4096) (h : Fin 8) (d : Fin 32) : Value.res_main_v95 m c (ix2 (n0 := 4096) (n1 := 1024) r (ln h ⟨96 + d.val, by omega⟩)) = (0 : EReal) * Ideal.ofBits .f32 0x3E16C740#32 := by
  have hd := d.isLt
  have hh := h.isLt
  pointwise [Value.res_main_v95, ln]
  split_ifs <;> first | (exfalso; omega) | exact rfl
theorem ref_k_n (r : Fin 4096) (h : Fin 8) (d : Fin 64) : Value.res_main_v96 m c (ix2 (n0 := 4096) (n1 := 1024) r (ln h ⟨d.val, by omega⟩)) = kvE (rkv m c) (rgkv m c) (ru m c) r (ln h ⟨d.val, by omega⟩) := by
  have hd := d.isLt
  have hh := h.isLt
  pointwise [Value.res_main_v96, ln]
  split_ifs <;> first | (exfalso; omega) | exact congrArg (kvE (rkv m c) (rgkv m c) (ru m c) r) (Fin.ext (by dsimp only <;> omega))
theorem ref_k_a (r : Fin 4096) (h : Fin 8) (d : Fin 16) : Value.res_main_v96 m c (ix2 (n0 := 4096) (n1 := 1024) r (ln h ⟨64 + d.val, by omega⟩)) = (rk m c (ix2 (n0 := 4096) (n1 := 32) r ⟨d.val, by omega⟩) * cosA (rp m c) r d - rk m c (ix2 (n0 := 4096) (n1 := 32) r ⟨16 + d.val, by omega⟩) * sinA (rp m c) r d : EReal) := by
  have hd := d.isLt
  have hh := h.isLt
  pointwise [Value.res_main_v96, cosA, sinA, ang, ln]
  simp only [show (128 * h.val + (64 + d.val)) % 128 = 64 + d.val by omega, show 64 + d.val - 64 = d.val by omega]
  split_ifs <;> first | (exfalso; omega) | exact congrArg₂ (fun y z => (rk m c (ix2 (n0 := 4096) (n1 := 32) r y) * _ - rk m c (ix2 (n0 := 4096) (n1 := 32) r z) * _ : EReal)) (Fin.ext (by dsimp only <;> omega)) (Fin.ext (by dsimp only <;> omega))
theorem ref_k_b (r : Fin 4096) (h : Fin 8) (d : Fin 16) : Value.res_main_v96 m c (ix2 (n0 := 4096) (n1 := 1024) r (ln h ⟨80 + d.val, by omega⟩)) = (rk m c (ix2 (n0 := 4096) (n1 := 32) r ⟨d.val, by omega⟩) * sinA (rp m c) r d + rk m c (ix2 (n0 := 4096) (n1 := 32) r ⟨16 + d.val, by omega⟩) * cosA (rp m c) r d : EReal) := by
  have hd := d.isLt
  have hh := h.isLt
  pointwise [Value.res_main_v96, cosA, sinA, ang, ln]
  simp only [show (128 * h.val + (80 + d.val)) % 128 = 80 + d.val by omega, show 80 + d.val - 64 = 16 + d.val by omega, show 16 + d.val - 16 = d.val by omega]
  split_ifs <;> first | (exfalso; omega) | exact congrArg₂ (fun y z => (rk m c (ix2 (n0 := 4096) (n1 := 32) r y) * _ + rk m c (ix2 (n0 := 4096) (n1 := 32) r z) * _ : EReal)) (Fin.ext (by dsimp only <;> omega)) (Fin.ext (by dsimp only <;> omega))
theorem ref_k_z (r : Fin 4096) (h : Fin 8) (d : Fin 32) : Value.res_main_v96 m c (ix2 (n0 := 4096) (n1 := 1024) r (ln h ⟨96 + d.val, by omega⟩)) = (0 : EReal) := by
  have hd := d.isLt
  have hh := h.isLt
  pointwise [Value.res_main_v96, ln]
  split_ifs <;> first | (exfalso; omega) | exact rfl
theorem ref_v_lo (r : Fin 4096) (h : Fin 8) (d : Fin 64) : Value.res_main_v97 m c (ix2 (n0 := 4096) (n1 := 1024) r (ln h ⟨d.val, by omega⟩)) = Scalar.select (odd (ix3 (n0 := 1) (n1 := 8) (n2 := 1) 0 h 0)) (0 : EReal) (kvE (rkv m c) (rgkv m c) (ru m c) r (ln h ⟨64 + d.val, by omega⟩)) := by
  have hd := d.isLt
  have hh := h.isLt
  pointwise [Value.res_main_v97, odd, rem2, two, ln]
  rw [zero_word_f32]
  split_ifs <;> first | (exfalso; omega) | exact congrArg (fun z => Scalar.select _ (0 : EReal) (kvE (rkv m c) (rgkv m c) (ru m c) r z)) (Fin.ext (by dsimp only <;> omega))
theorem ref_v_hi (r : Fin 4096) (h : Fin 8) (d : Fin 64) : Value.res_main_v97 m c (ix2 (n0 := 4096) (n1 := 1024) r (ln h ⟨64 + d.val, by omega⟩)) = Scalar.select (odd (ix3 (n0 := 1) (n1 := 8) (n2 := 1) 0 h 0)) (kvE (rkv m c) (rgkv m c) (ru m c) r (ln h ⟨64 + d.val, by omega⟩)) (0 : EReal) := by
  have hd := d.isLt
  have hh := h.isLt
  pointwise [Value.res_main_v97, odd, rem2, two, ln]
  rw [zero_word_f32]
  split_ifs <;> first | (exfalso; omega) | exact congrArg (fun z => Scalar.select _ (kvE (rkv m c) (rgkv m c) (ru m c) r z) (0 : EReal)) (Fin.ext (by dsimp only <;> omega))
end Cert.Mlp.Mine
-- ==== Proof.MlpMath.lean ====
module
public import proofs.«01_k».proof.Proof.MlpRef
@[expose] public section
set_option maxRecDepth 16384
noncomputable section
/-!
The three results of the projections' kernel as sums over the host's arrays, lane by lane equal to the reference's entries.
-/
open Idealize.ShloMosaic Idealize.ShloMosaic.TcCoe Idealize.SL.Sem
namespace Cert.Mlp.Mine
open Cert.MlpIdeal Cert.MlpIdeal.Gen

section Sums
theorem sum_coe {n : ℕ} (f : Fin n → ℝ) : ((∑ a, f a : ℝ) : EReal) = ∑ a, (f a : EReal) := by
  induction n with
  | zero => simp
  | succ n ih => rw [Fin.sum_univ_succ, Fin.sum_univ_succ, EReal.coe_add, ih]
/-- A sum of products with negated reals is the negated sum. -/
theorem sum_neg {n : ℕ} (f w : Fin n → EReal) (hf : ∀ a, ∃ x : ℝ, f a = (x : EReal)) (hw : ∀ a, ∃ x : ℝ, w a = (x : EReal)) : ∑ a, f a * -(w a) = -∑ a, f a * w a := by
  choose F hF using hf
  choose W hW using hw
  simp only [hF, hW, ← EReal.coe_neg, ← EReal.coe_mul, ← sum_coe]
  refine congrArg _ ?_
  rw [← Finset.sum_neg_distrib]
  exact Finset.sum_congr rfl fun a _ => by ring
theorem word_256 : Ideal.ofBits .f32 1132462080#32 = ((256 : ℝ) : EReal) := by simp [Ideal.ofBits, Ideal.ieee, -EReal.coe_mul]; norm_num
theorem word_eps : ∃ e : ℝ, 0 < e ∧ Ideal.ofBits .f32 897988541#32 = (e : EReal) :=
  ⟨8796093 / 2 ^ 43, by norm_num, by simp [Ideal.ofBits, Ideal.ieee, -EReal.coe_mul]; norm_num⟩
/-- A normalised row of reals is of reals. -/
theorem nrm_real (x g : Fin 256 → EReal) (hx : ∀ a, ∃ y : ℝ, x a = (y : EReal)) (hg : ∀ a, ∃ y : ℝ, g a = (y : EReal)) (a : Fin 256) : ∃ y : ℝ, nrm 1132462080#32 x g a = (y : EReal) := by
  obtain ⟨e, he, hE⟩ := word_eps
  choose X hX using hx
  choose G hG using hg
  have hs : 0 ≤ ∑ b, X b * X b := Finset.sum_nonneg fun b _ => mul_self_nonneg _
  unfold nrm
  simp only [hX, hG, hE, word_256, ← EReal.coe_mul, ← sum_coe]
  have hm : Ideal.div ((∑ b, X b * X b : ℝ) : EReal) ((256 : ℝ) : EReal) = (((∑ b, X b * X b) / 256 : ℝ) : EReal) := by
    unfold Ideal.div
    rw [if_neg (by norm_num), ← EReal.coe_inv, ← EReal.coe_mul]
    rfl
  have hp : 0 < (∑ b, X b * X b) / 256 + e := by positivity
  rw [hm, ← EReal.coe_add, Ideal.rsqrt_coe, if_neg hp.not_gt, if_neg hp.ne', ← EReal.coe_mul, ← EReal.coe_mul]
  exact ⟨_, rfl⟩
end Sums

/-- Every lane of a head is plain, in one of the rotation's halves, or padding. -/
theorem lanes (P : Fin 128 → Prop) (hn : ∀ d : Fin 64, P ⟨d.val, by omega⟩) (ha : ∀ d : Fin 16, P ⟨64 + d.val, by omega⟩) (hb : ∀ d : Fin 16, P ⟨80 + d.val, by omega⟩)
    (hz : ∀ d : Fin 32, P ⟨96 + d.val, by omega⟩) (l : Fin 128) : P l := by
  have hl := l.isLt
  have at' : ∀ (n : ℕ) (hn : n < 128), n = l.val → P ⟨n, hn⟩ → P l := fun n hn e h => by subst e; exact h
  by_cases h1 : l.val < 64
  · exact hn ⟨l.val, h1⟩
  by_cases h2 : l.val < 80
  · exact at' _ _ (by show 64 + (l.val - 64) = _; omega) (ha ⟨l.val - 64, by omega⟩)
  by_cases h3 : l.val < 96
  · exact at' _ _ (by show 80 + (l.val - 80) = _; omega) (hb ⟨l.val - 80, by omega⟩)
  · exact at' _ _ (by show 96 + (l.val - 96) = _; omega) (hz ⟨l.val - 96, by omega⟩)

variable (q : FVec Ideal S4096x256 .f32) (kv : FVec Ideal S4096x128 .f32) (k : FVec Ideal S4096x32 .f32) (p : IVec S4096 32)
  (gq : FVec Ideal S1x256 .f32) (w : FVec Ideal S256x768 .f32) (g : FVec Ideal S1x128 .f32) (u : FVec Ideal S128x1024 .f32)
/-- The queries' lane: two products, one with the turned weight, times cosine and sine, scaled. -/
def qK (r : Fin 4096) (h : Fin 8) (l : Fin 128) : EReal :=
  ((∑ a, nrm 1132462080#32 (fun b => (q (ix2 (n0 := 4096) (n1 := 256) r b) : EReal)) (fun b => gq (ix2 (n0 := 1) (n1 := 256) 0 b)) a * wqA w (ix2 (n0 := 256) (n1 := 1024) a (ln h l))) * cosT p (ix2 (n0 := 4096) (n1 := 128) r l)
    + (∑ a, nrm 1132462080#32 (fun b => (q (ix2 (n0 := 4096) (n1 := 256) r b) : EReal)) (fun b => gq (ix2 (n0 := 1) (n1 := 256) 0 b)) a * wrA w (ix2 (n0 := 256) (n1 := 1024) a (ln h l))) * sinT p (ix2 (n0 := 4096) (n1 := 128) r l)) * Ideal.ofBits .f32 0x3E16C740#32
/-- The rotary key's columns on a head's lanes, and turned. -/
def kcol (r : Fin 4096) (l : Fin 128) : EReal := cols q kv k (ix2 (n0 := 4096) (n1 := 640) r ⟨384 + l.val, by omega⟩)
def kturn (r : Fin 4096) (l : Fin 128) : EReal := cols q kv k (ix2 (n0 := 4096) (n1 := 640) r ⟨512 + l.val, by omega⟩)
/-- The keys' lane. -/
def kK (r : Fin 4096) (h : Fin 8) (l : Fin 128) : EReal :=
  (∑ a, nrm 1124073472#32 (fun b => (kv (ix2 (n0 := 4096) (n1 := 128) r b) : EReal)) (fun b => g (ix2 (n0 := 1) (n1 := 128) 0 b)) a * wkA u (ix2 (n0 := 128) (n1 := 1024) a (ln h l)))
    + (kcol q kv k r l * (cosT p (ix2 (n0 := 4096) (n1 := 128) r l) * late l) + kturn q kv k r l * sinT p (ix2 (n0 := 4096) (n1 := 128) r l))
/-- The values' lane. -/
def vK (r : Fin 4096) (h : Fin 8) (l : Fin 128) : EReal :=
  ∑ a, nrm 1124073472#32 (fun b => (kv (ix2 (n0 := 4096) (n1 := 128) r b) : EReal)) (fun b => g (ix2 (n0 := 1) (n1 := 128) 0 b)) a * wvA u (ix2 (n0 := 128) (n1 := 1024) a (ln h l))

theorem q_n (r : Fin 4096) (h : Fin 8) (d : Fin 64) : qK q p gq w r h ⟨d.val, by omega⟩ = qE q gq w r ⟨96 * h.val + (d.val), by omega⟩ * Ideal.ofBits .f32 0x3E16C740#32 := by
  unfold qK
  rw [cos_n, sin_n, mul_one, mul_zero, add_zero]
  simp only [wq_n]
  rfl
theorem q_a (hq : ∀ r b, ∃ y : ℝ, (q (ix2 (n0 := 4096) (n1 := 256) r b) : EReal) = y) (hg : ∀ b, ∃ y : ℝ, (gq (ix2 (n0 := 1) (n1 := 256) 0 b) : EReal) = y) (hw : ∀ a j, ∃ y : ℝ, (w (ix2 (n0 := 256) (n1 := 768) a j) : EReal) = y)
    (r : Fin 4096) (h : Fin 8) (d : Fin 16) : qK q p gq w r h ⟨64 + d.val, by omega⟩ = (qE q gq w r ⟨96 * h.val + (64 + d.val), by omega⟩ * cosA p r d - qE q gq w r ⟨96 * h.val + (80 + d.val), by omega⟩ * sinA p r d) * Ideal.ofBits .f32 0x3E16C740#32 := by
  unfold qK
  rw [cos_a, sin_a]
  simp only [wq_a, wr_a]
  rw [sum_neg _ _ (nrm_real _ _ (hq r) hg) (fun a => hw a _), EReal.neg_mul, ← sub_eq_add_neg]
  rfl
theorem q_b (r : Fin 4096) (h : Fin 8) (d : Fin 16) : qK q p gq w r h ⟨80 + d.val, by omega⟩ = (qE q gq w r ⟨96 * h.val + (64 + d.val), by omega⟩ * sinA p r d + qE q gq w r ⟨96 * h.val + (80 + d.val), by omega⟩ * cosA p r d) * Ideal.ofBits .f32 0x3E16C740#32 := by
  unfold qK
  rw [cos_b, sin_b, add_comm]
  simp only [wq_b, wr_b]
  rfl
theorem q_z (r : Fin 4096) (h : Fin 8) (d : Fin 32) : qK q p gq w r h ⟨96 + d.val, by omega⟩ = (0 : EReal) * Ideal.ofBits .f32 0x3E16C740#32 := by
  unfold qK
  rw [cos_z, sin_z, mul_zero, mul_zero, add_zero]

theorem wk_late (a : Fin 128) (h : Fin 8) (l : Fin 128) (hl : 64 ≤ l.val) : (wkA u (ix2 (n0 := 128) (n1 := 1024) a (ln h l)) : EReal) = 0 :=
  (congrArg (fun z => wkA u (ix2 (n0 := 128) (n1 := 1024) a (ln h z))) (Fin.ext (by show l.val = 64 + (l.val - 64); omega))).trans (wk_z u a h ⟨l.val - 64, by omega⟩)
/-- On the late lanes a key is the rotation's two terms. -/
theorem k_late (r : Fin 4096) (h : Fin 8) (l : Fin 128) (hl : 64 ≤ l.val) :
    kK q kv k p g u r h l = kcol q kv k r l * cosT p (ix2 (n0 := 4096) (n1 := 128) r l) + kturn q kv k r l * sinT p (ix2 (n0 := 4096) (n1 := 128) r l) := by
  unfold kK
  rw [late_hi l hl, Finset.sum_eq_zero fun a _ => by rw [wk_late u a h l hl, mul_zero], zero_add]
  exact congrArg (fun z => kcol q kv k r l * z + kturn q kv k r l * sinT p (ix2 (n0 := 4096) (n1 := 128) r l)) (mul_one (cosT p (ix2 (n0 := 4096) (n1 := 128) r l) : EReal))
theorem col_at {r : Fin 4096} {i j : Fin 640} (e : i.val = j.val) : cols q kv k (ix2 (n0 := 4096) (n1 := 640) r i) = cols q kv k (ix2 (n0 := 4096) (n1 := 640) r j) := by rw [Fin.ext e]
theorem k_n (r : Fin 4096) (h : Fin 8) (d : Fin 64) : kK q kv k p g u r h ⟨d.val, by omega⟩ = kvE kv g u r (ln h ⟨d.val, by omega⟩) := by
  unfold kK
  rw [show kcol q kv k r ⟨d.val, by omega⟩ = 0 from cols_kn q kv k r d, show kturn q kv k r ⟨d.val, by omega⟩ = 0 from cols_rn q kv k r d, zero_mul, zero_mul, add_zero, add_zero]
  simp only [wk_n]
  rfl
theorem k_a (r : Fin 4096) (h : Fin 8) (d : Fin 16) : kK q kv k p g u r h ⟨64 + d.val, by omega⟩ = (k (ix2 (n0 := 4096) (n1 := 32) r ⟨d.val, by omega⟩) * cosA p r d - k (ix2 (n0 := 4096) (n1 := 32) r ⟨16 + d.val, by omega⟩) * sinA p r d : EReal) := by
  rw [k_late _ _ _ _ _ _ _ _ _ (by dsimp only; omega), cos_a, sin_a, show kcol q kv k r ⟨64 + d.val, by omega⟩ = _ from (col_at q kv k (by dsimp only; omega)).trans (cols_ka q kv k r d),
    show kturn q kv k r ⟨64 + d.val, by omega⟩ = _ from (col_at q kv k (by dsimp only; omega)).trans (cols_ra q kv k r d), EReal.neg_mul, ← sub_eq_add_neg]
theorem k_b (r : Fin 4096) (h : Fin 8) (d : Fin 16) : kK q kv k p g u r h ⟨80 + d.val, by omega⟩ = (k (ix2 (n0 := 4096) (n1 := 32) r ⟨d.val, by omega⟩) * sinA p r d + k (ix2 (n0 := 4096) (n1 := 32) r ⟨16 + d.val, by omega⟩) * cosA p r d : EReal) := by
  rw [k_late _ _ _ _ _ _ _ _ _ (by dsimp only; omega), cos_b, sin_b, show kcol q kv k r ⟨80 + d.val, by omega⟩ = _ from (col_at q kv k (by dsimp only; omega)).trans (cols_kb q kv k r d),
    show kturn q kv k r ⟨80 + d.val, by omega⟩ = _ from (col_at q kv k (by dsimp only; omega)).trans (cols_rb q kv k r d), add_comm]
theorem k_z (r : Fin 4096) (h : Fin 8) (d : Fin 32) : kK q kv k p g u r h ⟨96 + d.val, by omega⟩ = (0 : EReal) := by
  rw [k_late _ _ _ _ _ _ _ _ _ (by dsimp only; omega), cos_z, sin_z, mul_zero, mul_zero, add_zero]

/-- A sum of products with a chosen factor is the chosen sum. -/
theorem sum_select {n : ℕ} (b : BitVec 1) (f x y : Fin n → EReal) : ∑ a, f a * Scalar.select b (x a) (y a) = Scalar.select b (∑ a, f a * x a) (∑ a, f a * y a) := by
  unfold Scalar.select
  split <;> rfl
theorem v_lo (r : Fin 4096) (h : Fin 8) (d : Fin 64) : vK kv g u r h ⟨d.val, by omega⟩ = Scalar.select (odd (ix3 (n0 := 1) (n1 := 8) (n2 := 1) 0 h 0)) (0 : EReal) (kvE kv g u r (ln h ⟨64 + d.val, by omega⟩)) := by
  unfold vK
  simp only [wv_n]
  rw [sum_select]
  simp only [mul_zero, Finset.sum_const_zero]
  rfl
theorem v_hi (r : Fin 4096) (h : Fin 8) (d : Fin 64) : vK kv g u r h ⟨64 + d.val, by omega⟩ = Scalar.select (odd (ix3 (n0 := 1) (n1 := 8) (n2 := 1) 0 h 0)) (kvE kv g u r (ln h ⟨64 + d.val, by omega⟩)) (0 : EReal) := by
  unfold vK
  simp only [wv_z]
  rw [sum_select]
  simp only [mul_zero, Finset.sum_const_zero]
  rfl
end Cert.Mlp.Mine
-- ==== Proof.MlpOut.lean ====
module
public import proofs.«01_k».proof.Proof.MlpHost
public import proofs.«01_k».proof.Proof.MlpMath
public import proofs.«01_k».proof.Proof.Gen.MlpIdeal.Value
public import Idealize.ShloMosaic.Lib.Pipeline.ValueKit
public import Idealize.ShloMosaic.Lib.VecWindow
@[expose] public section
set_option maxRecDepth 16384
noncomputable section
/-!
What the projections' kernel writes: each point's blocks, and the three final arrays lane by lane.
-/
open Idealize.ShloMosaic Idealize.ShloMosaic.TcCoe Idealize.SL.Sem
open Idealize.ShloMosaic.Pipeline (Dat)
namespace Cert.Mlp.Mine
open Cert.MlpIdeal Cert.MlpIdeal.Gen

section Body
variable (c : Dev nD) (i : grid0.Coords)
  (arg1 : Memref sig .tc .vmem S512x256 .bf16) (harg1 : arg1.IsWhole) (arg2 : Memref sig .tc .vmem S512x128 .bf16) (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S512x128 .f32) (harg5 : arg5.IsWhole) (arg6 : Memref sig .tc .vmem S512x128 .f32) (harg6 : arg6.IsWhole)
  (arg7 : Memref sig .tc .vmem S1x256 .f32) (harg7 : arg7.IsWhole) (arg8 : Memref sig .tc .vmem S1x128 .f32) (harg8 : arg8.IsWhole) (arg9 : Memref sig .tc .vmem S256x1024 .bf16) (harg9 : arg9.IsWhole)
  (arg10 : Memref sig .tc .vmem S256x1024 .bf16) (harg10 : arg10.IsWhole) (arg11 : Memref sig .tc .vmem S128x1024 .bf16) (harg11 : arg11.IsWhole) (arg12 : Memref sig .tc .vmem S128x1024 .bf16) (harg12 : arg12.IsWhole)
  (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole)
  (x0 : Vec Ideal S512x256 .bf16) (x1 : Vec Ideal S512x128 .bf16) (x2 : Vec Ideal S512x128 .bf16) (x3 : Vec Ideal S512x128 .bf16) (x4 : Vec Ideal S512x128 .f32) (x5 : Vec Ideal S512x128 .f32) (x6 : Vec Ideal S1x256 .f32) (x7 : Vec Ideal S1x128 .f32) (x8 : Vec Ideal S256x1024 .bf16) (x9 : Vec Ideal S256x1024 .bf16) (x10 : Vec Ideal S128x1024 .bf16) (x11 : Vec Ideal S128x1024 .bf16)
/-- The three outputs are the body's own terms of the blocks. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = k0_pay16 (k0_pay2 x0) (k0_pay6 x4) (k0_pay7 x5) x6 (k0_pay8 x8) (k0_pay9 x9) (k0_pay12 x0) k0_pay13 := by
  frame_out
@[inherit_doc out12]
theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = k0_pay17 (k0_pay3 x1) (k0_pay4 x2) (k0_pay5 x3) (k0_pay6 x4) (k0_pay7 x5) x7 (k0_pay10 x10) := by
  frame_out
@[inherit_doc out12]
theorem out14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = k0_pay1 (k0_pay15 (k0_pay3 x1) x7 (k0_pay11 x11)) := by
  frame_out
end Body

variable (m : (ℓ : Loc nD τ sig) → Buf (Elt Ideal) ℓ) (c : Dev nD)
/-- The arguments. -/
def aq : FVec Ideal S4096x256 .f32 := m ((c.tc : Thread nD τ).loc main_arg0)
def akv : FVec Ideal S4096x128 .f32 := m ((c.tc : Thread nD τ).loc main_arg1)
def ak : FVec Ideal S4096x32 .f32 := m ((c.tc : Thread nD τ).loc main_arg2)
def ap : IVec S4096 32 := m ((c.tc : Thread nD τ).loc main_arg3)
def agq : FVec Ideal S1x256 .f32 := m ((c.tc : Thread nD τ).loc main_arg4)
def aw : FVec Ideal S256x768 .f32 := m ((c.tc : Thread nD τ).loc main_arg5)
def agkv : FVec Ideal S1x128 .f32 := m ((c.tc : Thread nD τ).loc main_arg6)
def au : FVec Ideal S128x1024 .f32 := m ((c.tc : Thread nD τ).loc main_arg7)

theorem N_8 : cfg0.N = 8 := by decide +kernel
/-- A point's row in the whole array. -/
def rowOf (t : Fin cfg0.N) (x : Fin 512) : Fin 4096 := ⟨512 * t.val + x.val, by have := lt_of_lt_of_eq t.isLt N_8; omega⟩
/-- The blocks' positions: rows by the point, columns fixed; gains and weights whole. -/
theorem idx_cols : ∀ t : Fin cfg0.N, win0_0.index t = ![t.val, 0] ∧ win0_1.index t = ![t.val, 2] ∧ win0_2.index t = ![t.val, 3] ∧ win0_3.index t = ![t.val, 4] :=
  (by decide +kernel : ∀ t : Fin grid0.N, _)
theorem idx_tables : ∀ t : Fin cfg0.N, win0_4.index t = ![t.val, 0] ∧ win0_5.index t = ![t.val, 0] := (by decide +kernel : ∀ t : Fin grid0.N, _)
theorem idx_whole : ∀ t : Fin cfg0.N, ∀ a, win0_6.index t a = 0 ∧ win0_7.index t a = 0 ∧ win0_8.index t a = 0 ∧ win0_9.index t a = 0 ∧ win0_10.index t a = 0 ∧ win0_11.index t a = 0 :=
  (by decide +kernel : ∀ t : Fin grid0.N, _)
theorem idx_out : ∀ t : Fin cfg0.N, win0_12.index t = ![t.val, 0] ∧ win0_13.index t = ![t.val, 0] ∧ win0_14.index t = ![t.val, 0] := (by decide +kernel : ∀ t : Fin grid0.N, _)
/-- Two coordinates make the index. -/
theorem ext2 {n0 n1 : ℕ} {i : (⟨2, ![n0, n1]⟩ : Shape).Idx} {a : Fin n0} {b : Fin n1} (ha : (i 0).val = a.val) (hb : (i 1).val = b.val) : i = ix2 a b := by
  funext z
  fin_cases z
  · exact Fin.ext ha
  · exact Fin.ext hb
theorem blk_q (t : Fin cfg0.N) (x : Fin 512) (z : Fin 256) : (X0_0 m c t (ix2 (n0 := 512) (n1 := 256) x z) : EReal) = aq m c (ix2 (n0 := 4096) (n1 := 256) (rowOf t x) z) := by
  unfold X0_0 Pipeline.Window.fill
  rw [dif_pos (moved0_0 t _)]
  refine Eq.trans ?_ ((congrFun (V_cols m c) _).trans (cols_q _ _ _ (rowOf t x) z))
  unfold iblk
  generalize V m c = W
  show W main_v59 _ = _
  refine congrArg (W main_v59) (ext2 (n0 := 4096) (n1 := 640) ((win0_0.rect_emb_val t _ 0).trans ?_) ((win0_0.rect_emb_val t _ 1).trans ?_))
  · rw [(idx_cols t).1]
    show t.val * 512 + x.val = 512 * t.val + x.val
    omega
  · rw [(idx_cols t).1]
    show 0 * 256 + z.val = z.val
    omega
theorem blk_kv (t : Fin cfg0.N) (x : Fin 512) (z : Fin 128) : (iblk m c 1 t (ix2 (n0 := 512) (n1 := 128) x z) : EReal) = akv m c (ix2 (n0 := 4096) (n1 := 128) (rowOf t x) z) := by
  refine Eq.trans ?_ ((congrFun (V_cols m c) _).trans (cols_kv _ _ _ (rowOf t x) z))
  unfold iblk
  generalize V m c = W
  show W main_v59 _ = _
  refine congrArg (W main_v59) (ext2 (n0 := 4096) (n1 := 640) ((win0_1.rect_emb_val t _ 0).trans ?_) ((win0_1.rect_emb_val t _ 1).trans ?_))
  · rw [(idx_cols t).2.1]
    show t.val * 512 + x.val = 512 * t.val + x.val
    omega
  · rw [(idx_cols t).2.1]
    show 2 * 128 + z.val = 256 + z.val
    omega
theorem blk_k (t : Fin cfg0.N) (x : Fin 512) (z : Fin 128) : (iblk m c 2 t (ix2 (n0 := 512) (n1 := 128) x z) : EReal) = kcol (aq m c) (akv m c) (ak m c) (rowOf t x) z := by
  refine Eq.trans ?_ (congrFun (V_cols m c) (ix2 (n0 := 4096) (n1 := 640) (rowOf t x) ⟨384 + z.val, by omega⟩))
  unfold iblk
  generalize V m c = W
  show W main_v59 _ = _
  refine congrArg (W main_v59) (ext2 (n0 := 4096) (n1 := 640) ((win0_2.rect_emb_val t _ 0).trans ?_) ((win0_2.rect_emb_val t _ 1).trans ?_))
  · rw [(idx_cols t).2.2.1]
    show t.val * 512 + x.val = 512 * t.val + x.val
    omega
  · rw [(idx_cols t).2.2.1]
    show 3 * 128 + z.val = 384 + z.val
    omega
theorem blk_r (t : Fin cfg0.N) (x : Fin 512) (z : Fin 128) : (iblk m c 3 t (ix2 (n0 := 512) (n1 := 128) x z) : EReal) = kturn (aq m c) (akv m c) (ak m c) (rowOf t x) z := by
  refine Eq.trans ?_ (congrFun (V_cols m c) (ix2 (n0 := 4096) (n1 := 640) (rowOf t x) ⟨512 + z.val, by omega⟩))
  unfold iblk
  generalize V m c = W
  show W main_v59 _ = _
  refine congrArg (W main_v59) (ext2 (n0 := 4096) (n1 := 640) ((win0_3.rect_emb_val t _ 0).trans ?_) ((win0_3.rect_emb_val t _ 1).trans ?_))
  · rw [(idx_cols t).2.2.2]
    show t.val * 512 + x.val = 512 * t.val + x.val
    omega
  · rw [(idx_cols t).2.2.2]
    show 4 * 128 + z.val = 512 + z.val
    omega
theorem blk_c (t : Fin cfg0.N) (x : Fin 512) (z : Fin 128) : (iblk m c 4 t (ix2 (n0 := 512) (n1 := 128) x z) : EReal) = cosT (ap m c) (ix2 (n0 := 4096) (n1 := 128) (rowOf t x) z) := by
  refine Eq.trans ?_ (congrFun (V_cos m c) _)
  unfold iblk
  generalize V m c = W
  show W main_v50 _ = _
  refine congrArg (W main_v50) (ext2 (n0 := 4096) (n1 := 128) ((win0_4.rect_emb_val t _ 0).trans ?_) ((win0_4.rect_emb_val t _ 1).trans ?_))
  · rw [(idx_tables t).1]
    show t.val * 512 + x.val = 512 * t.val + x.val
    omega
  · rw [(idx_tables t).1]
    show 0 * 128 + z.val = z.val
    omega
theorem blk_s (t : Fin cfg0.N) (x : Fin 512) (z : Fin 128) : (iblk m c 5 t (ix2 (n0 := 512) (n1 := 128) x z) : EReal) = sinT (ap m c) (ix2 (n0 := 4096) (n1 := 128) (rowOf t x) z) := by
  refine Eq.trans ?_ (congrFun (V_sin m c) _)
  unfold iblk
  generalize V m c = W
  show W main_v53 _ = _
  refine congrArg (W main_v53) (ext2 (n0 := 4096) (n1 := 128) ((win0_5.rect_emb_val t _ 0).trans ?_) ((win0_5.rect_emb_val t _ 1).trans ?_))
  · rw [(idx_tables t).2]
    show t.val * 512 + x.val = 512 * t.val + x.val
    omega
  · rw [(idx_tables t).2]
    show 0 * 128 + z.val = z.val
    omega
theorem blk_gq (t : Fin cfg0.N) : iblk m c 6 t = agq m c := by
  refine Eq.trans ?_ (V_gq m c)
  unfold iblk
  generalize V m c = W
  funext y
  show W main_arg4 _ = W main_arg4 y
  exact congrArg (W main_arg4) (funext fun a => Fin.ext (win0_6.rect_emb_val_of_index_zero t a (idx_whole t a).1 y))
theorem blk_gkv (t : Fin cfg0.N) : iblk m c 7 t = agkv m c := by
  refine Eq.trans ?_ (V_gkv m c)
  unfold iblk
  generalize V m c = W
  funext y
  show W main_arg6 _ = W main_arg6 y
  exact congrArg (W main_arg6) (funext fun a => Fin.ext (win0_7.rect_emb_val_of_index_zero t a (idx_whole t a).2.1 y))
theorem blk_wq (t : Fin cfg0.N) : iblk m c 8 t = wqA (aw m c) := by
  refine Eq.trans ?_ (V_wq m c)
  unfold iblk
  generalize V m c = W
  funext y
  show W main_v4 _ = W main_v4 y
  exact congrArg (W main_v4) (funext fun a => Fin.ext (win0_8.rect_emb_val_of_index_zero t a (idx_whole t a).2.2.1 y))
theorem blk_wr (t : Fin cfg0.N) : iblk m c 9 t = wrA (aw m c) := by
  refine Eq.trans ?_ (V_wr m c)
  unfold iblk
  generalize V m c = W
  funext y
  show W main_v12 _ = W main_v12 y
  exact congrArg (W main_v12) (funext fun a => Fin.ext (win0_9.rect_emb_val_of_index_zero t a (idx_whole t a).2.2.2.1 y))
theorem blk_wk (t : Fin cfg0.N) : iblk m c 10 t = wkA (au m c) := by
  refine Eq.trans ?_ (V_wk m c)
  unfold iblk
  generalize V m c = W
  funext y
  show W main_v18 _ = W main_v18 y
  exact congrArg (W main_v18) (funext fun a => Fin.ext (win0_10.rect_emb_val_of_index_zero t a (idx_whole t a).2.2.2.2.1 y))
theorem blk_wv (t : Fin cfg0.N) : iblk m c 11 t = wvA (au m c) := by
  refine Eq.trans ?_ (V_wv m c)
  unfold iblk
  generalize V m c = W
  funext y
  show W main_v28 _ = W main_v28 y
  exact congrArg (W main_v28) (funext fun a => Fin.ext (win0_11.rect_emb_val_of_index_zero t a (idx_whole t a).2.2.2.2.2 y))

/-- A point's rows of the three outputs. -/
theorem at_q (t : Fin cfg0.N) (x : Fin 512) (h : Fin 8) (l : Fin 128) : ((outsAt0 m c t).1 (ix2 (n0 := 512) (n1 := 1024) x (ln h l)) : EReal) = qK (aq m c) (ap m c) (agq m c) (aw m c) (rowOf t x) h l := by
  unfold outsAt0
  rw [out12]
  dsimp only
  rw [tile_q]
  simp only [blk_q, blk_c, blk_s, blk_gq, blk_wq, blk_wr]
  rfl
theorem at_k (t : Fin cfg0.N) (x : Fin 512) (h : Fin 8) (l : Fin 128) : ((outsAt0 m c t).2.1 (ix2 (n0 := 512) (n1 := 1024) x (ln h l)) : EReal) = kK (aq m c) (akv m c) (ak m c) (ap m c) (agkv m c) (au m c) (rowOf t x) h l := by
  unfold outsAt0
  rw [out13]
  dsimp only
  rw [tile_k]
  simp only [blk_kv, blk_k, blk_r, blk_c, blk_s, blk_gkv, blk_wk]
  rfl
theorem at_v (t : Fin cfg0.N) (x : Fin 512) (h : Fin 8) (l : Fin 128) : ((outsAt0 m c t).2.2 (ix2 (n0 := 512) (n1 := 1024) x (ln h l)) : EReal) = vK (akv m c) (agkv m c) (au m c) (rowOf t x) h l := by
  unfold outsAt0
  rw [out14]
  dsimp only
  rw [tile_v]
  simp only [blk_kv, blk_gkv, blk_wv]
  rfl

/-- Where an element of an output's block lies. -/
theorem place {t : Fin cfg0.N} {y : S512x1024.Idx} {x : Fin 4096} {h : Fin 8} {l : Fin 128} (b0 : t.val * 512 + (y 0).val = x.val) (b1 : 0 * 1024 + (y 1).val = 128 * h.val + l.val) :
    ∃ z : Fin 512, y = ix2 (n0 := 512) (n1 := 1024) z (ln h l) ∧ rowOf t z = x :=
  ⟨y 0, ext2 (n0 := 512) (n1 := 1024) rfl (by show (y 1).val = 128 * h.val + l.val; omega), Fin.ext (by show 512 * t.val + (y 0).val = x.val; omega)⟩
theorem final_q (x : Fin 4096) (h : Fin 8) (l : Fin 128) : ((dats m 0 c).arrAt 12 cfg0.N (ix2 (n0 := 4096) (n1 := 1024) x (ln h l)) : EReal) = qK (aq m c) (ap m c) (agq m c) (aw m c) x h l := by
  refine (dats m 0 c).arrAt_forall_of_covers 12 (fun i v => ∀ (x : Fin 4096) (h : Fin 8) (l : Fin 128), (i 0).val = x.val → (i 1).val = 128 * h.val + l.val → (v : EReal) = qK (aq m c) (ap m c) (agq m c) (aw m c) x h l) (by decide +kernel) (fun t hf y x h l h0 h1 => ?_) _ (Memref.isWhole_whole _) x h l rfl rfl
  blk_simp
  rw [after0_12]
  have a0 := (win0_12.rect_emb_val t y 0).symm.trans h0
  have a1 := (win0_12.rect_emb_val t y 1).symm.trans h1
  rw [(idx_out t).1] at a0 a1
  obtain ⟨z, hy, hz⟩ := place (t := t) (y := y) a0 a1
  rw [hy, ← hz]
  exact at_q m c t z h l
theorem final_k (x : Fin 4096) (h : Fin 8) (l : Fin 128) : ((dats m 0 c).arrAt 13 cfg0.N (ix2 (n0 := 4096) (n1 := 1024) x (ln h l)) : EReal) = kK (aq m c) (akv m c) (ak m c) (ap m c) (agkv m c) (au m c) x h l := by
  refine (dats m 0 c).arrAt_forall_of_covers 13 (fun i v => ∀ (x : Fin 4096) (h : Fin 8) (l : Fin 128), (i 0).val = x.val → (i 1).val = 128 * h.val + l.val → (v : EReal) = kK (aq m c) (akv m c) (ak m c) (ap m c) (agkv m c) (au m c) x h l) (by decide +kernel) (fun t hf y x h l h0 h1 => ?_) _ (Memref.isWhole_whole _) x h l rfl rfl
  blk_simp
  rw [after0_13]
  have a0 := (win0_13.rect_emb_val t y 0).symm.trans h0
  have a1 := (win0_13.rect_emb_val t y 1).symm.trans h1
  rw [(idx_out t).2.1] at a0 a1
  obtain ⟨z, hy, hz⟩ := place (t := t) (y := y) a0 a1
  rw [hy, ← hz]
  exact at_k m c t z h l
theorem final_v (x : Fin 4096) (h : Fin 8) (l : Fin 128) : ((dats m 0 c).arrAt 14 cfg0.N (ix2 (n0 := 4096) (n1 := 1024) x (ln h l)) : EReal) = vK (akv m c) (agkv m c) (au m c) x h l := by
  refine (dats m 0 c).arrAt_forall_of_covers 14 (fun i v => ∀ (x : Fin 4096) (h : Fin 8) (l : Fin 128), (i 0).val = x.val → (i 1).val = 128 * h.val + l.val → (v : EReal) = vK (akv m c) (agkv m c) (au m c) x h l) (by decide +kernel) (fun t hf y x h l h0 h1 => ?_) _ (Memref.isWhole_whole _) x h l rfl rfl
  blk_simp
  rw [after0_14]
  have a0 := (win0_14.rect_emb_val t y 0).symm.trans h0
  have a1 := (win0_14.rect_emb_val t y 1).symm.trans h1
  rw [(idx_out t).2.2] at a0 a1
  obtain ⟨z, hy, hz⟩ := place (t := t) (y := y) a0 a1
  rw [hy, ← hz]
  exact at_v m c t z h l
end Cert.Mlp.Mine
-- ==== Proof.MlpValue.lean ====
module
public import proofs.«01_k».proof.Defs
public import proofs.«01_k».proof.Proof.Gen.Mlp.Frame
public import proofs.«01_k».proof.Proof.Gen.Pre_finite_mlp
public import proofs.«01_k».proof.Proof.AttnValue
public import proofs.«01_k».proof.Proof.MlpOut
public import Idealize.ShloMosaic.Lib.Quiescent
@[expose] public section
set_option maxRecDepth 16384
noncomputable section
/-!
The projections' kernel and its reference leave the same queries, keys and values.
-/
open Idealize.ShloMosaic Idealize.ShloMosaic.TcCoe Idealize.SL.Sem
namespace Cert.Mlp.Mine

/-- The reference runs and leaves its arguments alone. -/
theorem frame_reference : Cert.quiescent_MlpRefIdeal := fun m ρ _ =>
  (θ_run Cert.MlpRefIdeal.defs _ _).mono (fun r h => ⟨fun c => (h c).2.2.2, sem_eq_zero_of_no_sems (by decide) r.2⟩)
    (Cert.MlpRefIdeal.Value.run (F := Ideal) m ρ)

open Cert.MlpIdeal Cert.MlpIdeal.Gen

/-- Every column is a head's lane. -/
theorem lane_of (i : S4096x1024.Idx) : ∃ (x : Fin 4096) (h : Fin 8) (l : Fin 128), i = ix2 (n0 := 4096) (n1 := 1024) x (ln h l) := by
  have h1 : (i 1).val < 1024 := (i 1).isLt
  exact ⟨i 0, ⟨(i 1).val / 128, by omega⟩, ⟨(i 1).val % 128, by omega⟩, ext2 rfl (by show (i 1).val = 128 * ((i 1).val / 128) + (i 1).val % 128; omega)⟩

section Finite
variable (a0 : FVec Ideal S4096x256 .f32) (a1 : FVec Ideal S4096x128 .f32) (a2 : FVec Ideal S4096x32 .f32) (a3 : IVec S4096 32)
  (a4 : FVec Ideal S1x256 .f32) (a5 : FVec Ideal S256x768 .f32) (a6 : FVec Ideal S1x128 .f32) (a7 : FVec Ideal S128x1024 .f32)
  (h : (Cert.Pre_finite_mlp.fn (F := Ideal) a0 a1 a2 a3 a4 a5 a6 a7).1 = (fun _ => 1#1) ∧ (Cert.Pre_finite_mlp.fn (F := Ideal) a0 a1 a2 a3 a4 a5 a6 a7).2.1 = (fun _ => 1#1)
    ∧ (Cert.Pre_finite_mlp.fn (F := Ideal) a0 a1 a2 a3 a4 a5 a6 a7).2.2 = (fun _ => 1#1))
include h
/-- The columns, the gain and the weight of the queries are real. -/
theorem fin_q (r : Fin 4096) (b : Fin 256) : ∃ y : ℝ, (a0 (ix2 (n0 := 4096) (n1 := 256) r b) : EReal) = y := ⟨_, (Cert.AttnVal.real_of_word (congrFun h.1 _)).symm⟩
@[inherit_doc fin_q]
theorem fin_g (b : Fin 256) : ∃ y : ℝ, (a4 (ix2 (n0 := 1) (n1 := 256) 0 b) : EReal) = y := ⟨_, (Cert.AttnVal.real_of_word (congrFun h.2.1 _)).symm⟩
@[inherit_doc fin_q]
theorem fin_w (a : Fin 256) (j : Fin 768) : ∃ y : ℝ, (a5 (ix2 (n0 := 256) (n1 := 768) a j) : EReal) = y := ⟨_, (Cert.AttnVal.real_of_word (congrFun h.2.2 _)).symm⟩
end Finite

section Outputs
variable {m : (ℓ : Loc nD τ sig) → Buf (Elt Ideal) ℓ} {m' : (ℓ : Loc Cert.MlpRefIdeal.nD Cert.MlpRefIdeal.τ Cert.MlpRefIdeal.sig) → Buf (Elt Ideal) ℓ} {c : Dev nD}
theorem out_q (e0 : rq m' c = aq m c) (e3 : rp m' c = ap m c) (e4 : rgq m' c = agq m c) (e5 : rw_ m' c = aw m c)
    (hq : ∀ r b, ∃ y : ℝ, (aq m c (ix2 (n0 := 4096) (n1 := 256) r b) : EReal) = y) (hg : ∀ b, ∃ y : ℝ, (agq m c (ix2 (n0 := 1) (n1 := 256) 0 b) : EReal) = y)
    (hw : ∀ a j, ∃ y : ℝ, (aw m c (ix2 (n0 := 256) (n1 := 768) a j) : EReal) = y) : (dats m 0 c).arrAt 12 cfg0.N = Cert.MlpRefIdeal.Value.res_main_v95 m' c := by
  funext i
  obtain ⟨x, hh, l, rfl⟩ := lane_of i
  refine (final_q m c x hh l).trans ?_
  rw [← e0, ← e3, ← e4, ← e5]
  rw [← e0] at hq
  rw [← e4] at hg
  rw [← e5] at hw
  exact lanes (fun l => qK (rq m' c) (rp m' c) (rgq m' c) (rw_ m' c) x hh l = Cert.MlpRefIdeal.Value.res_main_v95 m' c (ix2 (n0 := 4096) (n1 := 1024) x (ln hh l)))
    (fun d => (q_n _ _ _ _ x hh d).trans (ref_q_n m' c x hh d).symm) (fun d => (q_a _ _ _ _ hq hg hw x hh d).trans (ref_q_a m' c x hh d).symm)
    (fun d => (q_b _ _ _ _ x hh d).trans (ref_q_b m' c x hh d).symm) (fun d => (q_z _ _ _ _ x hh d).trans (ref_q_z m' c x hh d).symm) l
theorem out_k (e0 : rq m' c = aq m c) (e1 : rkv m' c = akv m c) (e2 : rk m' c = ak m c) (e3 : rp m' c = ap m c) (e6 : rgkv m' c = agkv m c) (e7 : ru m' c = au m c) :
    (dats m 0 c).arrAt 13 cfg0.N = Cert.MlpRefIdeal.Value.res_main_v96 m' c := by
  funext i
  obtain ⟨x, hh, l, rfl⟩ := lane_of i
  refine (final_k m c x hh l).trans ?_
  rw [← e0, ← e1, ← e2, ← e3, ← e6, ← e7]
  exact lanes (fun l => kK (rq m' c) (rkv m' c) (rk m' c) (rp m' c) (rgkv m' c) (ru m' c) x hh l = Cert.MlpRefIdeal.Value.res_main_v96 m' c (ix2 (n0 := 4096) (n1 := 1024) x (ln hh l)))
    (fun d => (k_n _ _ _ _ _ _ x hh d).trans (ref_k_n m' c x hh d).symm) (fun d => (k_a _ _ _ _ _ _ x hh d).trans (ref_k_a m' c x hh d).symm)
    (fun d => (k_b _ _ _ _ _ _ x hh d).trans (ref_k_b m' c x hh d).symm) (fun d => (k_z _ _ _ _ _ _ x hh d).trans (ref_k_z m' c x hh d).symm) l
theorem out_v (e1 : rkv m' c = akv m c) (e6 : rgkv m' c = agkv m c) (e7 : ru m' c = au m c) : (dats m 0 c).arrAt 14 cfg0.N = Cert.MlpRefIdeal.Value.res_main_v97 m' c := by
  funext i
  obtain ⟨x, hh, l, rfl⟩ := lane_of i
  refine (final_v m c x hh l).trans ?_
  rw [← e1, ← e6, ← e7]
  by_cases hl : l.val < 64
  · exact (v_lo _ _ _ x hh ⟨l.val, hl⟩).trans (ref_v_lo m' c x hh ⟨l.val, hl⟩).symm
  · obtain ⟨d, hd⟩ : ∃ d : Fin 64, l = ⟨64 + d.val, by omega⟩ := ⟨⟨l.val - 64, by omega⟩, Fin.ext (by show l.val = 64 + (l.val - 64); omega)⟩
    rw [hd]
    exact (v_hi _ _ _ x hh d).trans (ref_v_hi m' c x hh d).symm
end Outputs

/-- Equal queries, keys and values of finite arguments. -/
theorem value : Cert.algebraic_MlpIdeal_MlpRefIdeal_pre_finite_mlp := by
  intro m ρ m' ρ' hpre hagree
  refine ⟨fun c => Cert.MlpRefIdeal.Value.res_main_v95 m' c, fun c => Cert.MlpRefIdeal.Value.res_main_v96 m' c, fun c => Cert.MlpRefIdeal.Value.res_main_v97 m' c, ?_, Cert.MlpRefIdeal.Value.run (F := Ideal) m' ρ'⟩
  refine (θ_run Cert.MlpIdeal.defs _ _).mono (fun r h c => ?_) (Cert.MlpIdeal.Value.run_blocks (F := Ideal) m ρ)
  have e0 : rq m' c = aq m c := (hagree c).1
  have e1 : rkv m' c = akv m c := (hagree c).2.1
  have e2 : rk m' c = ak m c := (hagree c).2.2.1
  have e3 : rp m' c = ap m c := (hagree c).2.2.2.1
  have e4 : rgq m' c = agq m c := (hagree c).2.2.2.2.1
  have e5 : rw_ m' c = aw m c := (hagree c).2.2.2.2.2.1
  have e6 : rgkv m' c = agkv m c := (hagree c).2.2.2.2.2.2.1
  have e7 : ru m' c = au m c := (hagree c).2.2.2.2.2.2.2
  exact ⟨(h c).1.trans (out_q e0 e3 e4 e5 (fin_q _ _ _ _ _ _ _ _ (hpre c)) (fin_g _ _ _ _ _ _ _ _ (hpre c)) (fin_w _ _ _ _ _ _ _ _ (hpre c))),
    (h c).2.1.trans (out_k e0 e1 e2 e3 e6 e7), (h c).2.2.1.trans (out_v e1 e6 e7), (h c).2.2.2⟩
end Cert.Mlp.Mine
-- ==== Proof.InpMath.lean ====
module
public import proofs.«01_k».proof.Proof.Gen.InpIdeal.Value
public import Idealize.ShloMosaic.Lib.Pointwise
@[expose] public section
set_option maxRecDepth 16384
noncomputable section
/-!
The normalised and modulated row, and the order in which the input projection's columns are laid out.
-/
open Idealize.ShloMosaic
namespace Cert.Inp.Mine
theorem sum_coe {n : ℕ} (f : Fin n → ℝ) : ((∑ a, f a : ℝ) : EReal) = ∑ a, (f a : EReal) := by
  induction n with
  | zero => simp
  | succ n ih => rw [Fin.sum_univ_succ, Fin.sum_univ_succ, EReal.coe_add, ih]
/-- A sum of products with negated reals is the negated sum. -/
theorem sum_neg {n : ℕ} (f w : Fin n → EReal) (hf : ∀ a, ∃ x : ℝ, f a = (x : EReal)) (hw : ∀ a, ∃ x : ℝ, w a = (x : EReal)) : ∑ a, f a * -(w a) = -∑ a, f a * w a := by
  choose F hF using hf
  choose W hW using hw
  simp only [hF, hW, ← EReal.coe_neg, ← EReal.coe_mul, ← sum_coe]
  refine congrArg _ ?_
  rw [← Finset.sum_neg_distrib]
  exact Finset.sum_congr rfl fun a _ => by ring
/-- Two coordinates make the index. -/
theorem ext2 {n0 n1 : ℕ} {i : (⟨2, ![n0, n1]⟩ : Shape).Idx} {a : Fin n0} {b : Fin n1} (ha : (i 0).val = a.val) (hb : (i 1).val = b.val) : i = ix2 a b := by
  funext z
  fin_cases z
  · exact Fin.ext ha
  · exact Fin.ext hb

/-- Rows of arrays laid one under another: an index in piece `k`, which starts at row `pre`. -/
theorem rows_piece {α : Type} {N n k pre : ℕ} {xs : List ((s : Shape) × (s.Idx → α))} {h : Shape.Concatenates (xs.map (·.1)) ⟨2, ![N, 1024]⟩ 0} (hk : k < xs.length)
    {x : (⟨2, ![n, 1024]⟩ : Shape).Idx → α} (hx : xs[k] = ⟨⟨2, ![n, 1024]⟩, x⟩)
    (hpre : (((xs.take k).map (·.1)).map fun s => if h : s.rank = (⟨2, ![N, 1024]⟩ : Shape).rank then s.size ((0 : Fin (⟨2, ![N, 1024]⟩ : Shape).rank).cast h.symm) else 0).sum = pre)
    {j : Fin N} (i : Fin n) (hi : pre + i.val = j.val) (a : Fin 1024) : concatenate ⟨2, ![N, 1024]⟩ 0 xs h (ix2 j a) = x (ix2 i a) := by
  refine concatenate_apply_piece 0 xs h (ix2 j a) k hk _ x hx rfl pre hpre (ix2 i a) (fun b hb => ?_) hi
  fin_cases b
  · exact absurd rfl hb
  · rfl
/-- Columns of arrays laid side by side. -/
theorem cols_piece {α : Type} {N n k pre : ℕ} {xs : List ((s : Shape) × (s.Idx → α))} {h : Shape.Concatenates (xs.map (·.1)) ⟨2, ![4096, N]⟩ 1} (hk : k < xs.length)
    {x : (⟨2, ![4096, n]⟩ : Shape).Idx → α} (hx : xs[k] = ⟨⟨2, ![4096, n]⟩, x⟩)
    (hpre : (((xs.take k).map (·.1)).map fun s => if h : s.rank = (⟨2, ![4096, N]⟩ : Shape).rank then s.size ((1 : Fin (⟨2, ![4096, N]⟩ : Shape).rank).cast h.symm) else 0).sum = pre)
    {j : Fin N} (i : Fin n) (hi : pre + i.val = j.val) (r : Fin 4096) : concatenate ⟨2, ![4096, N]⟩ 1 xs h (ix2 r j) = x (ix2 r i) := by
  refine concatenate_apply_piece 1 xs h (ix2 r j) k hk _ x hx rfl pre hpre (ix2 r i) (fun b hb => ?_) hi
  fin_cases b
  · rfl
  · exact absurd rfl hb
/-- A cut of rows, and of columns, read at an index. -/
theorem rows_cut {α : Type} {N n o : ℕ} {x : (⟨2, ![N, 1024]⟩ : Shape).Idx → α} {h : Shape.Slices ⟨2, ![N, 1024]⟩ ![o, 0] ⟨2, ![n, 1024]⟩} {i : Fin n} {a : Fin 1024} (s : Fin N) (hs : o + i.val = s.val) :
    extractStridedSlice ⟨2, ![n, 1024]⟩ ![o, 0] x h (ix2 i a) = x (ix2 s a) :=
  congrArg x (ext2 (by exact hs) (by show 0 + a.val = a.val; omega))
@[inherit_doc rows_cut]
theorem cols_cut {α : Type} {N n o : ℕ} {x : (⟨2, ![4096, N]⟩ : Shape).Idx → α} {h : Shape.Slices ⟨2, ![4096, N]⟩ ![0, o] ⟨2, ![4096, n]⟩} {r : Fin 4096} {i : Fin n} (s : Fin N) (hs : o + i.val = s.val) :
    extractStridedSlice ⟨2, ![4096, n]⟩ ![0, o] x h (ix2 r i) = x (ix2 r s) :=
  congrArg x (ext2 (by show 0 + r.val = r.val; omega) (by exact hs))

/-- A row less its mean. -/
def ctr (x : Fin 1024 → EReal) (a : Fin 1024) : EReal := x a - Ideal.div (∑ b, x b) (Ideal.ofBits .f32 1149239296#32)
/-- The centred row over its deviation, scaled by one more than `s`, and shifted by `t`. -/
def hRow (x s t : Fin 1024 → EReal) (a : Fin 1024) : EReal :=
  ctr x a * Ideal.rsqrt (Ideal.div (∑ b, ctr x b * ctr x b) (Ideal.ofBits .f32 1149239296#32) + Ideal.ofBits .f32 925353388#32) * (1 + s a) + t a

theorem word_0b : Ideal.ofBits .bf16 0 = 0 := by simp [Ideal.ofBits, Ideal.ieee]
theorem word_0 : Ideal.ofBits .f32 0 = 0 := by simp [Ideal.ofBits, Ideal.ieee]
theorem word_1024 : Ideal.ofBits .f32 1149239296#32 = ((1024 : ℝ) : EReal) := by simp [Ideal.ofBits, Ideal.ieee, -EReal.coe_mul]; norm_num
theorem word_ln : ∃ e : ℝ, 0 < e ∧ Ideal.ofBits .f32 925353388#32 = (e : EReal) :=
  ⟨10995116 / 2 ^ 40, by norm_num, by simp [Ideal.ofBits, Ideal.ieee, -EReal.coe_mul]; norm_num⟩
theorem div_1024 (y : ℝ) : Ideal.div (y : EReal) ((1024 : ℝ) : EReal) = ((y / 1024 : ℝ) : EReal) := by
  unfold Ideal.div
  rw [if_neg (by norm_num), ← EReal.coe_inv, ← EReal.coe_mul]
  rfl
/-- A centred row of reals is of reals. -/
theorem ctr_real (X : Fin 1024 → ℝ) (a : Fin 1024) : ctr (fun b => (X b : EReal)) a = ((X a - (∑ b, X b) / 1024 : ℝ) : EReal) := by
  unfold ctr
  rw [word_1024, ← sum_coe, div_1024, ← EReal.coe_sub]
/-- A normalised row of reals is of reals. -/
theorem hRow_real (x s t : Fin 1024 → EReal) (hx : ∀ a, ∃ y : ℝ, x a = (y : EReal)) (hs : ∀ a, ∃ y : ℝ, s a = (y : EReal)) (ht : ∀ a, ∃ y : ℝ, t a = (y : EReal)) (a : Fin 1024) :
    ∃ y : ℝ, hRow x s t a = (y : EReal) := by
  obtain ⟨e, he, hE⟩ := word_ln
  choose X hX using hx
  choose S hS using hs
  choose T hT using ht
  obtain rfl : x = fun b => (X b : EReal) := funext hX
  have hq : 0 ≤ ∑ b, (X b - (∑ b, X b) / 1024) * (X b - (∑ b, X b) / 1024) := Finset.sum_nonneg fun b _ => mul_self_nonneg _
  unfold hRow
  simp only [ctr_real, hS, hT, hE, word_1024, ← EReal.coe_mul, ← sum_coe, div_1024]
  have hp : 0 < (∑ b, (X b - (∑ b, X b) / 1024) * (X b - (∑ b, X b) / 1024)) / 1024 + e := by positivity
  rw [← EReal.coe_add, Ideal.rsqrt_coe, if_neg hp.not_gt, if_neg hp.ne', ← EReal.coe_one, ← EReal.coe_add, ← EReal.coe_mul, ← EReal.coe_mul, ← EReal.coe_add]
  exact ⟨_, rfl⟩

/-- Column `j` of the projection as the step lays it out, of a function of the parameter's columns: blocks of columns, zeros
    beside the rotary key, and the rotary key once more with its halves turned. -/
def pick (f : Fin 5152 → EReal) (j : Fin 5376) : EReal :=
  if h0 : j.val < 2048 then f ⟨3104 + (j.val - 0), by omega⟩ else
  if h1 : j.val < 3584 then f ⟨928 + (j.val - 2048), by omega⟩ else
  if h2 : j.val < 4096 then f ⟨416 + (j.val - 3584), by omega⟩ else
  if h3 : j.val < 4608 then f ⟨2592 + (j.val - 4096), by omega⟩ else
  if h4 : j.val < 4864 then f ⟨0 + (j.val - 4608), by omega⟩ else
  if h5 : j.val < 4992 then f ⟨256 + (j.val - 4864), by omega⟩ else
  if h6 : j.val < 5056 then 0 else
  if h7 : j.val < 5088 then f ⟨384 + (j.val - 5056), by omega⟩ else
  if h8 : j.val < 5184 then 0 else
  if h9 : j.val < 5200 then -f ⟨400 + (j.val - 5184), by omega⟩ else
  if h10 : j.val < 5216 then f ⟨384 + (j.val - 5200), by omega⟩ else
  if h11 : j.val < 5248 then 0 else
  f ⟨2464 + (j.val - 5248), by omega⟩

theorem pick_0 (f : Fin 5152 → EReal) (j : Fin 5376) (h' : j.val < 2048) : pick f j = f ⟨3104 + (j.val - 0), by omega⟩ := by
  unfold pick
  rw [dif_pos h']
theorem pick_1 (f : Fin 5152 → EReal) (j : Fin 5376) (h : 2048 ≤ j.val) (h' : j.val < 3584) : pick f j = f ⟨928 + (j.val - 2048), by omega⟩ := by
  unfold pick
  rw [dif_neg (by omega), dif_pos h']
theorem pick_2 (f : Fin 5152 → EReal) (j : Fin 5376) (h : 3584 ≤ j.val) (h' : j.val < 4096) : pick f j = f ⟨416 + (j.val - 3584), by omega⟩ := by
  unfold pick
  rw [dif_neg (by omega), dif_neg (by omega), dif_pos h']
theorem pick_3 (f : Fin 5152 → EReal) (j : Fin 5376) (h : 4096 ≤ j.val) (h' : j.val < 4608) : pick f j = f ⟨2592 + (j.val - 4096), by omega⟩ := by
  unfold pick
  rw [dif_neg (by omega), dif_neg (by omega), dif_neg (by omega), dif_pos h']
theorem pick_4 (f : Fin 5152 → EReal) (j : Fin 5376) (h : 4608 ≤ j.val) (h' : j.val < 4864) : pick f j = f ⟨0 + (j.val - 4608), by omega⟩ := by
  unfold pick
  rw [dif_neg (by omega), dif_neg (by omega), dif_neg (by omega), dif_neg (by omega), dif_pos h']
theorem pick_5 (f : Fin 5152 → EReal) (j : Fin 5376) (h : 4864 ≤ j.val) (h' : j.val < 4992) : pick f j = f ⟨256 + (j.val - 4864), by omega⟩ := by
  unfold pick
  rw [dif_neg (by omega), dif_neg (by omega), dif_neg (by omega), dif_neg (by omega), dif_neg (by omega), dif_pos h']
theorem pick_6 (f : Fin 5152 → EReal) (j : Fin 5376) (h : 4992 ≤ j.val) (h' : j.val < 5056) : pick f j = 0 := by
  unfold pick
  rw [dif_neg (by omega), dif_neg (by omega), dif_neg (by omega), dif_neg (by omega), dif_neg (by omega), dif_neg (by omega), dif_pos h']
theorem pick_7 (f : Fin 5152 → EReal) (j : Fin 5376) (h : 5056 ≤ j.val) (h' : j.val < 5088) : pick f j = f ⟨384 + (j.val - 5056), by omega⟩ := by
  unfold pick
  rw [dif_neg (by omega), dif_neg (by omega), dif_neg (by omega), dif_neg (by omega), dif_neg (by omega), dif_neg (by omega), dif_neg (by omega), dif_pos h']
theorem pick_8 (f : Fin 5152 → EReal) (j : Fin 5376) (h : 5088 ≤ j.val) (h' : j.val < 5184) : pick f j = 0 := by
  unfold pick
  rw [dif_neg (by omega), dif_neg (by omega), dif_neg (by omega), dif_neg (by omega), dif_neg (by omega), dif_neg (by omega), dif_neg (by omega), dif_neg (by omega), dif_pos h']
theorem pick_9 (f : Fin 5152 → EReal) (j : Fin 5376) (h : 5184 ≤ j.val) (h' : j.val < 5200) : pick f j = -f ⟨400 + (j.val - 5184), by omega⟩ := by
  unfold pick
  rw [dif_neg (by omega), dif_neg (by omega), dif_neg (by omega), dif_neg (by omega), dif_neg (by omega), dif_neg (by omega), dif_neg (by omega), dif_neg (by omega), dif_neg (by omega), dif_pos h']
theorem pick_10 (f : Fin 5152 → EReal) (j : Fin 5376) (h : 5200 ≤ j.val) (h' : j.val < 5216) : pick f j = f ⟨384 + (j.val - 5200), by omega⟩ := by
  unfold pick
  rw [dif_neg (by omega), dif_neg (by omega), dif_neg (by omega), dif_neg (by omega), dif_neg (by omega), dif_neg (by omega), dif_neg (by omega), dif_neg (by omega), dif_neg (by omega), dif_neg (by omega), dif_pos h']
theorem pick_11 (f : Fin 5152 → EReal) (j : Fin 5376) (h : 5216 ≤ j.val) (h' : j.val < 5248) : pick f j = 0 := by
  unfold pick
  rw [dif_neg (by omega), dif_neg (by omega), dif_neg (by omega), dif_neg (by omega), dif_neg (by omega), dif_neg (by omega), dif_neg (by omega), dif_neg (by omega), dif_neg (by omega), dif_neg (by omega), dif_neg (by omega), dif_pos h']
theorem pick_12 (f : Fin 5152 → EReal) (j : Fin 5376) (h : 5248 ≤ j.val) : pick f j = f ⟨2464 + (j.val - 5248), by omega⟩ := by
  unfold pick
  rw [dif_neg (by omega), dif_neg (by omega), dif_neg (by omega), dif_neg (by omega), dif_neg (by omega), dif_neg (by omega), dif_neg (by omega), dif_neg (by omega), dif_neg (by omega), dif_neg (by omega), dif_neg (by omega), dif_neg (by omega)]
/-- Products with the laid-out weight are the laid-out products, of reals. -/
theorem sum_pick (h : Fin 1024 → EReal) (w : Fin 1024 → Fin 5152 → EReal) (hh : ∀ a, ∃ y : ℝ, h a = (y : EReal)) (hw : ∀ a s, ∃ y : ℝ, w a s = (y : EReal)) (j : Fin 5376) :
    ∑ a, h a * pick (w a) j = pick (fun s => ∑ a, h a * w a s) j := by
  by_cases h0 : j.val < 2048
  · simp only [fun f => pick_0 f j h0]
  by_cases h1 : j.val < 3584
  · simp only [fun f => pick_1 f j (by omega) h1]
  by_cases h2 : j.val < 4096
  · simp only [fun f => pick_2 f j (by omega) h2]
  by_cases h3 : j.val < 4608
  · simp only [fun f => pick_3 f j (by omega) h3]
  by_cases h4 : j.val < 4864
  · simp only [fun f => pick_4 f j (by omega) h4]
  by_cases h5 : j.val < 4992
  · simp only [fun f => pick_5 f j (by omega) h5]
  by_cases h6 : j.val < 5056
  · simp only [fun f => pick_6 f j (by omega) h6]
    simp only [mul_zero, Finset.sum_const_zero]
  by_cases h7 : j.val < 5088
  · simp only [fun f => pick_7 f j (by omega) h7]
  by_cases h8 : j.val < 5184
  · simp only [fun f => pick_8 f j (by omega) h8]
    simp only [mul_zero, Finset.sum_const_zero]
  by_cases h9 : j.val < 5200
  · simp only [fun f => pick_9 f j (by omega) h9]
    exact sum_neg _ _ hh fun a => hw a _
  by_cases h10 : j.val < 5216
  · simp only [fun f => pick_10 f j (by omega) h10]
  by_cases h11 : j.val < 5248
  · simp only [fun f => pick_11 f j (by omega) h11]
    simp only [mul_zero, Finset.sum_const_zero]
  simp only [fun f => pick_12 f j (by omega)]
end Cert.Inp.Mine
-- ==== Proof.InpTile.lean ====
module
public import proofs.«01_k».proof.Proof.InpMath
public import proofs.«01_k».proof.Proof.Gen.InpIdeal.Value
public import Idealize.ShloMosaic.Lib.Pointwise
public import Idealize.ShloMosaic.Lib.StableHlo.RunRead
public import Idealize.ShloMosaic.Lib.Pipeline.ValueKit
public import Idealize.ShloMosaic.Lib.VecWindow
@[expose] public section
set_option maxRecDepth 16384
noncomputable section
/-!
What the input projection's kernel writes, column by column: the normalised rows' products with the laid-out weight.
-/
open Idealize.ShloMosaic Idealize.ShloMosaic.TcCoe Idealize.SL.Sem
open Idealize.ShloMosaic.Pipeline (Dat)
namespace Cert.Inp.Mine
open Cert.InpIdeal Cert.InpIdeal.Gen

/-- One tile: the normalised row times a row of the laid-out weight. -/
theorem tile (X : Vec Ideal S512x1024 .f32) (M : Vec Ideal S3x1024 .f32) (W : Vec Ideal S5376x1024 .bf16) (r : Fin 512) (j : Fin 5376) :
    k0_pay1 X M W (ix2 (n0 := 512) (n1 := 5376) r j)
      = ∑ a, hRow (fun b => (X (ix2 (n0 := 512) (n1 := 1024) r b) : EReal)) (fun b => M (ix2 (n0 := 3) (n1 := 1024) 1 b)) (fun b => M (ix2 (n0 := 3) (n1 := 1024) 0 b)) a * W (ix2 (n0 := 5376) (n1 := 1024) j a) := by
  pointwise [k0_pay1]
  rfl

/-- The rows of the shared rotary key in the parameter, and turned. -/
def kr (w2 : FVec Ideal S5152x1024 .bf16) : FVec Ideal S32x1024 .bf16 := extractStridedSlice S32x1024 ![384, 0] w2 slices_S5152x1024_S32x1024_384_0
def turn (w2 : FVec Ideal S5152x1024 .bf16) : FVec Ideal S32x1024 .bf16 :=
  concatenate S32x1024 0 [⟨S16x1024, Host.negf (extractStridedSlice S16x1024 ![16, 0] (kr w2) slices_S32x1024_S16x1024_16_0)⟩, ⟨S16x1024, extractStridedSlice S16x1024 ![0, 0] (kr w2) slices_S32x1024_S16x1024_0_0⟩] concatenates_S16x1024_S16x1024_S32x1024_d0
/-- The parameter's rows as the step lays them out. -/
def lay (w2 : FVec Ideal S5152x1024 .bf16) : FVec Ideal S5376x1024 .bf16 :=
  concatenate S5376x1024 0 [⟨S1024x1024, extractStridedSlice S1024x1024 ![3104, 0] w2 slices_S5152x1024_S1024x1024_3104_0⟩, ⟨S1024x1024, extractStridedSlice S1024x1024 ![4128, 0] w2 slices_S5152x1024_S1024x1024_4128_0⟩, ⟨S512x1024, extractStridedSlice S512x1024 ![928, 0] w2 slices_S5152x1024_S512x1024_928_0⟩, ⟨S512x1024, extractStridedSlice S512x1024 ![1440, 0] w2 slices_S5152x1024_S512x1024_1440_0⟩, ⟨S512x1024, extractStridedSlice S512x1024 ![1952, 0] w2 slices_S5152x1024_S512x1024_1952_0⟩, ⟨S512x1024, extractStridedSlice S512x1024 ![416, 0] w2 slices_S5152x1024_S512x1024_416_0⟩, ⟨S512x1024, extractStridedSlice S512x1024 ![2592, 0] w2 slices_S5152x1024_S512x1024_2592_0⟩, ⟨S256x1024, extractStridedSlice S256x1024 ![0, 0] w2 slices_S5152x1024_S256x1024_0_0⟩, ⟨S128x1024, extractStridedSlice S128x1024 ![256, 0] w2 slices_S5152x1024_S128x1024_256_0⟩, ⟨S64x1024, broadcastInDim S64x1024 ![] bcast_S_S64x1024 (constant (F := Ideal) S_ .bf16 0x0000#16)⟩, ⟨S32x1024, kr w2⟩, ⟨S32x1024, broadcastInDim S32x1024 ![] bcast_S_S32x1024 (constant (F := Ideal) S_ .bf16 0x0000#16)⟩, ⟨S64x1024, broadcastInDim S64x1024 ![] bcast_S_S64x1024 (constant (F := Ideal) S_ .bf16 0x0000#16)⟩, ⟨S32x1024, turn w2⟩, ⟨S32x1024, broadcastInDim S32x1024 ![] bcast_S_S32x1024 (constant (F := Ideal) S_ .bf16 0x0000#16)⟩, ⟨S128x1024, extractStridedSlice S128x1024 ![2464, 0] w2 slices_S5152x1024_S128x1024_2464_0⟩] concatenates_S1024x1024_S1024x1024_S512x1024_S512x1024_S512x1024_S512x1024_S512x1024_S256x1024_S128x1024_S64x1024_S32x1024_S32x1024_S64x1024_S32x1024_S32x1024_S128x1024_S5376x1024_d0
theorem turn_at (w2 : FVec Ideal S5152x1024 .bf16) (i : Fin 32) (a : Fin 1024) : (turn w2 (ix2 (n0 := 32) (n1 := 1024) i a) : EReal)
    = if h : i.val < 16 then -(w2 (ix2 (n0 := 5152) (n1 := 1024) ⟨400 + i.val, by omega⟩ a) : EReal) else w2 (ix2 (n0 := 5152) (n1 := 1024) ⟨384 + (i.val - 16), by omega⟩ a) := by
  have hi := i.isLt
  pointwise [turn, kr]
  split_ifs <;> first | (exfalso; omega) | exact congrArg (fun z => -(w2 (ix2 (n0 := 5152) (n1 := 1024) z a) : EReal)) (Fin.ext (by dsimp only <;> omega)) | exact congrArg (fun z => w2 (ix2 (n0 := 5152) (n1 := 1024) z a)) (Fin.ext (by dsimp only <;> omega))
set_option maxHeartbeats 4000000 in
theorem lay_at (w2 : FVec Ideal S5152x1024 .bf16) (j : Fin 5376) (a : Fin 1024) : (lay w2 (ix2 (n0 := 5376) (n1 := 1024) j a) : EReal) = pick (fun s => w2 (ix2 (n0 := 5152) (n1 := 1024) s a)) j := by
  have hj := j.isLt
  unfold lay
  by_cases h0 : j.val < 1024
  · refine (rows_piece (k := 0) (pre := 0) (by show 0 < 16; decide) rfl rfl (⟨j.val - 0, by omega⟩ : Fin 1024) (by show 0 + (j.val - 0) = j.val; omega) a).trans ?_
    exact Eq.trans (rows_cut ⟨3104 + (j.val - 0), by omega⟩ (by show 3104 + (j.val - 0) = 3104 + (j.val - 0); omega)) (pick_0 (fun s => (w2 (ix2 (n0 := 5152) (n1 := 1024) s a) : EReal)) j (by omega)).symm
  by_cases h1 : j.val < 2048
  · refine (rows_piece (k := 1) (pre := 1024) (by show 1 < 16; decide) rfl rfl (⟨j.val - 1024, by omega⟩ : Fin 1024) (by show 1024 + (j.val - 1024) = j.val; omega) a).trans ?_
    exact Eq.trans (rows_cut ⟨3104 + (j.val - 0), by omega⟩ (by show 4128 + (j.val - 1024) = 3104 + (j.val - 0); omega)) (pick_0 (fun s => (w2 (ix2 (n0 := 5152) (n1 := 1024) s a) : EReal)) j (by omega)).symm
  by_cases h2 : j.val < 2560
  · refine (rows_piece (k := 2) (pre := 2048) (by show 2 < 16; decide) rfl rfl (⟨j.val - 2048, by omega⟩ : Fin 512) (by show 2048 + (j.val - 2048) = j.val; omega) a).trans ?_
    exact Eq.trans (rows_cut ⟨928 + (j.val - 2048), by omega⟩ (by show 928 + (j.val - 2048) = 928 + (j.val - 2048); omega)) (pick_1 (fun s => (w2 (ix2 (n0 := 5152) (n1 := 1024) s a) : EReal)) j (by omega) (by omega)).symm
  by_cases h3 : j.val < 3072
  · refine (rows_piece (k := 3) (pre := 2560) (by show 3 < 16; decide) rfl rfl (⟨j.val - 2560, by omega⟩ : Fin 512) (by show 2560 + (j.val - 2560) = j.val; omega) a).trans ?_
    exact Eq.trans (rows_cut ⟨928 + (j.val - 2048), by omega⟩ (by show 1440 + (j.val - 2560) = 928 + (j.val - 2048); omega)) (pick_1 (fun s => (w2 (ix2 (n0 := 5152) (n1 := 1024) s a) : EReal)) j (by omega) (by omega)).symm
  by_cases h4 : j.val < 3584
  · refine (rows_piece (k := 4) (pre := 3072) (by show 4 < 16; decide) rfl rfl (⟨j.val - 3072, by omega⟩ : Fin 512) (by show 3072 + (j.val - 3072) = j.val; omega) a).trans ?_
    exact Eq.trans (rows_cut ⟨928 + (j.val - 2048), by omega⟩ (by show 1952 + (j.val - 3072) = 928 + (j.val - 2048); omega)) (pick_1 (fun s => (w2 (ix2 (n0 := 5152) (n1 := 1024) s a) : EReal)) j (by omega) (by omega)).symm
  by_cases h5 : j.val < 4096
  · refine (rows_piece (k := 5) (pre := 3584) (by show 5 < 16; decide) rfl rfl (⟨j.val - 3584, by omega⟩ : Fin 512) (by show 3584 + (j.val - 3584) = j.val; omega) a).trans ?_
    exact Eq.trans (rows_cut ⟨416 + (j.val - 3584), by omega⟩ (by show 416 + (j.val - 3584) = 416 + (j.val - 3584); omega)) (pick_2 (fun s => (w2 (ix2 (n0 := 5152) (n1 := 1024) s a) : EReal)) j (by omega) (by omega)).symm
  by_cases h6 : j.val < 4608
  · refine (rows_piece (k := 6) (pre := 4096) (by show 6 < 16; decide) rfl rfl (⟨j.val - 4096, by omega⟩ : Fin 512) (by show 4096 + (j.val - 4096) = j.val; omega) a).trans ?_
    exact Eq.trans (rows_cut ⟨2592 + (j.val - 4096), by omega⟩ (by show 2592 + (j.val - 4096) = 2592 + (j.val - 4096); omega)) (pick_3 (fun s => (w2 (ix2 (n0 := 5152) (n1 := 1024) s a) : EReal)) j (by omega) (by omega)).symm
  by_cases h7 : j.val < 4864
  · refine (rows_piece (k := 7) (pre := 4608) (by show 7 < 16; decide) rfl rfl (⟨j.val - 4608, by omega⟩ : Fin 256) (by show 4608 + (j.val - 4608) = j.val; omega) a).trans ?_
    exact Eq.trans (rows_cut ⟨0 + (j.val - 4608), by omega⟩ (by show 0 + (j.val - 4608) = 0 + (j.val - 4608); omega)) (pick_4 (fun s => (w2 (ix2 (n0 := 5152) (n1 := 1024) s a) : EReal)) j (by omega) (by omega)).symm
  by_cases h8 : j.val < 4992
  · refine (rows_piece (k := 8) (pre := 4864) (by show 8 < 16; decide) rfl rfl (⟨j.val - 4864, by omega⟩ : Fin 128) (by show 4864 + (j.val - 4864) = j.val; omega) a).trans ?_
    exact Eq.trans (rows_cut ⟨256 + (j.val - 4864), by omega⟩ (by show 256 + (j.val - 4864) = 256 + (j.val - 4864); omega)) (pick_5 (fun s => (w2 (ix2 (n0 := 5152) (n1 := 1024) s a) : EReal)) j (by omega) (by omega)).symm
  by_cases h9 : j.val < 5056
  · refine (rows_piece (k := 9) (pre := 4992) (by show 9 < 16; decide) rfl rfl (⟨j.val - 4992, by omega⟩ : Fin 64) (by show 4992 + (j.val - 4992) = j.val; omega) a).trans ?_
    exact Eq.trans word_0b (pick_6 (fun s => (w2 (ix2 (n0 := 5152) (n1 := 1024) s a) : EReal)) j (by omega) (by omega)).symm
  by_cases h10 : j.val < 5088
  · refine (rows_piece (k := 10) (pre := 5056) (by show 10 < 16; decide) rfl rfl (⟨j.val - 5056, by omega⟩ : Fin 32) (by show 5056 + (j.val - 5056) = j.val; omega) a).trans ?_
    exact Eq.trans (rows_cut ⟨384 + (j.val - 5056), by omega⟩ (by show 384 + (j.val - 5056) = 384 + (j.val - 5056); omega)) (pick_7 (fun s => (w2 (ix2 (n0 := 5152) (n1 := 1024) s a) : EReal)) j (by omega) (by omega)).symm
  by_cases h11 : j.val < 5120
  · refine (rows_piece (k := 11) (pre := 5088) (by show 11 < 16; decide) rfl rfl (⟨j.val - 5088, by omega⟩ : Fin 32) (by show 5088 + (j.val - 5088) = j.val; omega) a).trans ?_
    exact Eq.trans word_0b (pick_8 (fun s => (w2 (ix2 (n0 := 5152) (n1 := 1024) s a) : EReal)) j (by omega) (by omega)).symm
  by_cases h12 : j.val < 5184
  · refine (rows_piece (k := 12) (pre := 5120) (by show 12 < 16; decide) rfl rfl (⟨j.val - 5120, by omega⟩ : Fin 64) (by show 5120 + (j.val - 5120) = j.val; omega) a).trans ?_
    exact Eq.trans word_0b (pick_8 (fun s => (w2 (ix2 (n0 := 5152) (n1 := 1024) s a) : EReal)) j (by omega) (by omega)).symm
  by_cases h13 : j.val < 5216
  · refine (rows_piece (k := 13) (pre := 5184) (by show 13 < 16; decide) rfl rfl (⟨j.val - 5184, by omega⟩ : Fin 32) (by show 5184 + (j.val - 5184) = j.val; omega) a).trans ?_
    refine (turn_at w2 _ a).trans ?_
    by_cases hT : j.val < 5200
    · rw [dif_pos (by show j.val - 5184 < 16; omega)]
      exact (pick_9 (fun s => (w2 (ix2 (n0 := 5152) (n1 := 1024) s a) : EReal)) j (by omega) (by omega)).symm
    · rw [dif_neg (by show ¬ j.val - 5184 < 16; omega)]
      refine Eq.trans ?_ (pick_10 (fun s => (w2 (ix2 (n0 := 5152) (n1 := 1024) s a) : EReal)) j (by omega) (by omega)).symm
      exact congrArg (fun z => (w2 (ix2 (n0 := 5152) (n1 := 1024) z a) : EReal)) (Fin.ext (by dsimp only <;> omega))
  by_cases h14 : j.val < 5248
  · refine (rows_piece (k := 14) (pre := 5216) (by show 14 < 16; decide) rfl rfl (⟨j.val - 5216, by omega⟩ : Fin 32) (by show 5216 + (j.val - 5216) = j.val; omega) a).trans ?_
    exact Eq.trans word_0b (pick_11 (fun s => (w2 (ix2 (n0 := 5152) (n1 := 1024) s a) : EReal)) j (by omega) (by omega)).symm
  refine (rows_piece (k := 15) (pre := 5248) (by show 15 < 16; decide) rfl rfl (⟨j.val - 5248, by omega⟩ : Fin 128) (by show 5248 + (j.val - 5248) = j.val; omega) a).trans ?_
  exact Eq.trans (rows_cut ⟨2464 + (j.val - 5248), by omega⟩ (by show 2464 + (j.val - 5248) = 2464 + (j.val - 5248); omega)) (pick_12 (fun s => (w2 (ix2 (n0 := 5152) (n1 := 1024) s a) : EReal)) j (by omega)).symm

variable (m : (ℓ : Loc nD τ sig) → Buf (Elt Ideal) ℓ) (c : Dev nD)
/-- The arguments. -/
def ax : FVec Ideal S4096x1024 .f32 := m ((c.tc : Thread nD τ).loc main_arg0)
def am : FVec Ideal S1x3072 .f32 := m ((c.tc : Thread nD τ).loc main_arg1)
def aw : FVec Ideal S1024x5152 .f32 := m ((c.tc : Thread nD τ).loc main_arg2)
/-- The modulation by rows, and the weight turned over. -/
def mod3 (v : FVec Ideal S1x3072 .f32) : FVec Ideal S3x1024 .f32 := shapeCast S3x1024 v shapeCasts_S1x3072_S3x1024
def wT (w : FVec Ideal S1024x5152 .f32) : FVec Ideal S5152x1024 .bf16 := truncf .bf16 (transpose S5152x1024 [1, 0] w transposes_S1024x5152_S5152x1024_1_0) bitsLt_bf16_f32
theorem mod3_at (v : FVec Ideal S1x3072 .f32) (k : Fin 3) (b : Fin 1024) : mod3 v (ix2 (n0 := 3) (n1 := 1024) k b) = v (ix2 (n0 := 1) (n1 := 3072) 0 ⟨1024 * k.val + b.val, by omega⟩) := by
  have hk := k.isLt
  have hb := b.isLt
  pointwise [mod3]
  exact congrArg (fun z => v (ix2 (n0 := 1) (n1 := 3072) 0 z)) (Fin.ext (by dsimp only <;> omega))
theorem wT_at (w : FVec Ideal S1024x5152 .f32) (s : Fin 5152) (a : Fin 1024) : (wT w (ix2 (n0 := 5152) (n1 := 1024) s a) : EReal) = w (ix2 (n0 := 1024) (n1 := 5152) a s) := by
  pointwise [wT]
  try rfl

set_option maxHeartbeats 2000000 in
theorem V_mod : V m c main_v0 = mod3 (am m c) := by
  unfold V
  after_reads_simp
  rfl
set_option maxHeartbeats 2000000 in
theorem V_w : V m c main_v22 = lay (wT (aw m c)) := by
  unfold V
  after_reads_simp
  rfl
theorem V_x : V m c main_arg0 = ax m c := V_main_arg0 m c

theorem N_8 : cfg0.N = 8 := by decide +kernel
/-- A point's row in the whole array. -/
def rowOf (t : Fin cfg0.N) (x : Fin 512) : Fin 4096 := ⟨512 * t.val + x.val, by have := lt_of_lt_of_eq t.isLt N_8; omega⟩
theorem idx_rows : ∀ t : Fin cfg0.N, win0_0.index t = ![t.val, 0] ∧ win0_3.index t = ![t.val, 0] := (by decide +kernel : ∀ t : Fin grid0.N, _)
theorem idx_whole : ∀ t : Fin cfg0.N, ∀ a, win0_1.index t a = 0 ∧ win0_2.index t a = 0 := (by decide +kernel : ∀ t : Fin grid0.N, _)
theorem blk_x (t : Fin cfg0.N) (x : Fin 512) (z : Fin 1024) : (iblk m c 0 t (ix2 (n0 := 512) (n1 := 1024) x z) : EReal) = ax m c (ix2 (n0 := 4096) (n1 := 1024) (rowOf t x) z) := by
  refine Eq.trans ?_ (congrFun (V_x m c) (ix2 (n0 := 4096) (n1 := 1024) (rowOf t x) z))
  unfold iblk
  generalize V m c = W
  show W main_arg0 _ = _
  refine congrArg (W main_arg0) (ext2 (n0 := 4096) (n1 := 1024) ((win0_0.rect_emb_val t _ 0).trans ?_) ((win0_0.rect_emb_val t _ 1).trans ?_))
  · rw [(idx_rows t).1]
    show t.val * 512 + x.val = 512 * t.val + x.val
    omega
  · rw [(idx_rows t).1]
    show 0 * 1024 + z.val = z.val
    omega
theorem blk_m (t : Fin cfg0.N) : iblk m c 1 t = mod3 (am m c) := by
  refine Eq.trans ?_ (V_mod m c)
  unfold iblk
  generalize V m c = W
  funext y
  show W main_v0 _ = W main_v0 y
  exact congrArg (W main_v0) (funext fun a => Fin.ext (win0_1.rect_emb_val_of_index_zero t a (idx_whole t a).1 y))
theorem blk_w (t : Fin cfg0.N) : iblk m c 2 t = lay (wT (aw m c)) := by
  refine Eq.trans ?_ (V_w m c)
  unfold iblk
  generalize V m c = W
  funext y
  show W main_v22 _ = W main_v22 y
  exact congrArg (W main_v22) (funext fun a => Fin.ext (win0_2.rect_emb_val_of_index_zero t a (idx_whole t a).2 y))

/-- The one store through the whole block leaves its payload. -/
theorem hz : (![0, 0] : Fin 2 → ℕ) = fun _ => 0 := by decide
theorem out_eq (X : Vec Ideal S512x1024 .f32) (M : Vec Ideal S3x1024 .f32) (W : Vec Ideal S5376x1024 .bf16) : out0_3 (F := Ideal) X M W = k0_pay1 X M W := by
  unfold out0_3
  rw [View.canon_unit_zero hz, View.ld_unit_zero (S := S512x1024) hz _ X, View.ld_unit_zero (S := S3x1024) hz _ M, View.ld_unit_zero (S := S5376x1024) hz _ W]

/-- The row of `x` with its modulation. -/
def hX (x : FVec Ideal S4096x1024 .f32) (v : FVec Ideal S1x3072 .f32) (r : Fin 4096) (a : Fin 1024) : EReal :=
  hRow (fun b => (x (ix2 (n0 := 4096) (n1 := 1024) r b) : EReal)) (fun b => v (ix2 (n0 := 1) (n1 := 3072) 0 ⟨1024 + b.val, by omega⟩)) (fun b => v (ix2 (n0 := 1) (n1 := 3072) 0 ⟨b.val, by omega⟩)) a
/-- A point's rows of the output. -/
theorem at_p (t : Fin cfg0.N) (x : Fin 512) (j : Fin 5376) : (out0_3 (iblk m c 0 t) (iblk m c 1 t) (iblk m c 2 t) (ix2 (n0 := 512) (n1 := 5376) x j) : EReal)
    = ∑ a, hX (ax m c) (am m c) (rowOf t x) a * pick (fun s => (aw m c (ix2 (n0 := 1024) (n1 := 5152) a s) : EReal)) j := by
  rw [out_eq, tile]
  refine Finset.sum_congr rfl fun a _ => ?_
  rw [blk_m, blk_w, lay_at]
  simp only [blk_x, mod3_at, wT_at]
  refine congrArg (· * _) ?_
  unfold hX
  refine congrArg₂ (fun s u => hRow _ s u a) (funext fun b => ?_) (funext fun b => ?_)
  · exact congrArg (fun z => am m c (ix2 (n0 := 1) (n1 := 3072) 0 z)) (Fin.ext (by show 1024 * 1 + b.val = 1024 + b.val; omega))
  · exact congrArg (fun z => am m c (ix2 (n0 := 1) (n1 := 3072) 0 z)) (Fin.ext (by show 1024 * 0 + b.val = b.val; omega))
/-- Where an element of the output's block lies. -/
theorem place {t : Fin cfg0.N} {y : S512x5376.Idx} {x : Fin 4096} {j : Fin 5376} (b0 : t.val * 512 + (y 0).val = x.val) (b1 : 0 * 5376 + (y 1).val = j.val) :
    ∃ z : Fin 512, y = ix2 (n0 := 512) (n1 := 5376) z j ∧ rowOf t z = x :=
  ⟨y 0, ext2 (n0 := 512) (n1 := 5376) rfl (by omega), Fin.ext (by show 512 * t.val + (y 0).val = x.val; omega)⟩
/-- The final array. -/
theorem final (x : Fin 4096) (j : Fin 5376) : ((dats m 0 c).arrAt 3 cfg0.N (ix2 (n0 := 4096) (n1 := 5376) x j) : EReal)
    = ∑ a, hX (ax m c) (am m c) x a * pick (fun s => (aw m c (ix2 (n0 := 1024) (n1 := 5152) a s) : EReal)) j := by
  refine (dats m 0 c).arrAt_forall_of_covers 3 (fun i v => ∀ (x : Fin 4096) (j : Fin 5376), (i 0).val = x.val → (i 1).val = j.val → (v : EReal) = ∑ a, hX (ax m c) (am m c) x a * pick (fun s => (aw m c (ix2 (n0 := 1024) (n1 := 5152) a s) : EReal)) j) (by decide +kernel) (fun t hf y x j h0 h1 => ?_) _ (Memref.isWhole_whole _) x j rfl rfl
  blk_simp
  rw [after0_3]
  have a0 := (win0_3.rect_emb_val t y 0).symm.trans h0
  have a1 := (win0_3.rect_emb_val t y 1).symm.trans h1
  rw [(idx_rows t).2] at a0 a1
  obtain ⟨z, hy, hz⟩ := place (t := t) (y := y) a0 a1
  rw [hy, ← hz]
  exact at_p m c t z j
end Cert.Inp.Mine
-- ==== Proof.InpRef.lean ====
module
public import proofs.«01_k».proof.Proof.InpTile
public import proofs.«01_k».proof.Proof.Gen.InpRefIdeal.Run
@[expose] public section
set_option maxRecDepth 16384
noncomputable section
/-!
The reference's projection, column by column.
-/
open Idealize.ShloMosaic Idealize.ShloMosaic.TcCoe Idealize.SL.Sem
namespace Cert.Inp.Mine
open Cert.InpRefIdeal Cert.InpRefIdeal.Gen

/-- The product's columns as the step lays them out. -/
def catR (p : FVec Ideal S4096x5152 .f32) : FVec Ideal S4096x5376 .f32 :=
  concatenate S4096x5376 1 [⟨S4096x1024, extractStridedSlice S4096x1024 ![0, 3104] p slices_S4096x5152_S4096x1024_0_3104⟩, ⟨S4096x1024, extractStridedSlice S4096x1024 ![0, 4128] p slices_S4096x5152_S4096x1024_0_4128⟩, ⟨S4096x1536, extractStridedSlice S4096x1536 ![0, 0] (extractStridedSlice S4096x1664 ![0, 928] p slices_S4096x5152_S4096x1664_0_928) slices_S4096x1664_S4096x1536_0_0⟩, ⟨S4096x512, extractStridedSlice S4096x512 ![0, 416] p slices_S4096x5152_S4096x512_0_416⟩, ⟨S4096x512, extractStridedSlice S4096x512 ![0, 2592] p slices_S4096x5152_S4096x512_0_2592⟩, ⟨S4096x256, extractStridedSlice S4096x256 ![0, 0] p slices_S4096x5152_S4096x256_0_0⟩, ⟨S4096x128, extractStridedSlice S4096x128 ![0, 256] p slices_S4096x5152_S4096x128_0_256⟩, ⟨S4096x64, broadcastInDim S4096x64 ![] bcast_S_S4096x64 (constant (F := Ideal) S_ .f32 0x00000000#32)⟩, ⟨S4096x16, extractStridedSlice S4096x16 ![0, 0] (extractStridedSlice S4096x32 ![0, 384] p slices_S4096x5152_S4096x32_0_384) slices_S4096x32_S4096x16_0_0⟩, ⟨S4096x16, extractStridedSlice S4096x16 ![0, 16] (extractStridedSlice S4096x32 ![0, 384] p slices_S4096x5152_S4096x32_0_384) slices_S4096x32_S4096x16_0_16⟩, ⟨S4096x32, broadcastInDim S4096x32 ![] bcast_S_S4096x32 (constant (F := Ideal) S_ .f32 0x00000000#32)⟩, ⟨S4096x64, broadcastInDim S4096x64 ![] bcast_S_S4096x64 (constant (F := Ideal) S_ .f32 0x00000000#32)⟩, ⟨S4096x16, Host.negf (extractStridedSlice S4096x16 ![0, 16] (extractStridedSlice S4096x32 ![0, 384] p slices_S4096x5152_S4096x32_0_384) slices_S4096x32_S4096x16_0_16)⟩, ⟨S4096x16, extractStridedSlice S4096x16 ![0, 0] (extractStridedSlice S4096x32 ![0, 384] p slices_S4096x5152_S4096x32_0_384) slices_S4096x32_S4096x16_0_0⟩, ⟨S4096x32, broadcastInDim S4096x32 ![] bcast_S_S4096x32 (constant (F := Ideal) S_ .f32 0x00000000#32)⟩, ⟨S4096x128, extractStridedSlice S4096x128 ![0, 1536] (extractStridedSlice S4096x1664 ![0, 928] p slices_S4096x5152_S4096x1664_0_928) slices_S4096x1664_S4096x128_0_1536⟩] concatenates_S4096x1024_S4096x1024_S4096x1536_S4096x512_S4096x512_S4096x256_S4096x128_S4096x64_S4096x16_S4096x16_S4096x32_S4096x64_S4096x16_S4096x16_S4096x32_S4096x128_S4096x5376_d1
/-- The same, cast. -/
def layR (p : FVec Ideal S4096x5152 .f32) : FVec Ideal S4096x5376 .bf16 := truncf .bf16 (catR p) bitsLt_bf16_f32
set_option maxHeartbeats 4000000 in
theorem catR_at (p : FVec Ideal S4096x5152 .f32) (r : Fin 4096) (j : Fin 5376) : (catR p (ix2 (n0 := 4096) (n1 := 5376) r j) : EReal) = pick (fun s => p (ix2 (n0 := 4096) (n1 := 5152) r s)) j := by
  have hj := j.isLt
  unfold catR
  by_cases h0 : j.val < 1024
  · refine (cols_piece (k := 0) (pre := 0) (by show 0 < 16; decide) rfl rfl (⟨j.val - 0, by omega⟩ : Fin 1024) (by show 0 + (j.val - 0) = j.val; omega) r).trans ?_
    exact Eq.trans (cols_cut ⟨3104 + (j.val - 0), by omega⟩ (by show 3104 + (j.val - 0) = 3104 + (j.val - 0); omega)) (pick_0 (fun s => (p (ix2 (n0 := 4096) (n1 := 5152) r s) : EReal)) j (by omega)).symm
  by_cases h1 : j.val < 2048
  · refine (cols_piece (k := 1) (pre := 1024) (by show 1 < 16; decide) rfl rfl (⟨j.val - 1024, by omega⟩ : Fin 1024) (by show 1024 + (j.val - 1024) = j.val; omega) r).trans ?_
    exact Eq.trans (cols_cut ⟨3104 + (j.val - 0), by omega⟩ (by show 4128 + (j.val - 1024) = 3104 + (j.val - 0); omega)) (pick_0 (fun s => (p (ix2 (n0 := 4096) (n1 := 5152) r s) : EReal)) j (by omega)).symm
  by_cases h2 : j.val < 3584
  · refine (cols_piece (k := 2) (pre := 2048) (by show 2 < 16; decide) rfl rfl (⟨j.val - 2048, by omega⟩ : Fin 1536) (by show 2048 + (j.val - 2048) = j.val; omega) r).trans ?_
    exact Eq.trans ((cols_cut ⟨0 + (j.val - 2048), by omega⟩ (by show 0 + (j.val - 2048) = 0 + (j.val - 2048); omega)).trans (cols_cut ⟨928 + (j.val - 2048), by omega⟩ (by show 928 + (0 + (j.val - 2048)) = 928 + (j.val - 2048); omega))) (pick_1 (fun s => (p (ix2 (n0 := 4096) (n1 := 5152) r s) : EReal)) j (by omega) (by omega)).symm
  by_cases h3 : j.val < 4096
  · refine (cols_piece (k := 3) (pre := 3584) (by show 3 < 16; decide) rfl rfl (⟨j.val - 3584, by omega⟩ : Fin 512) (by show 3584 + (j.val - 3584) = j.val; omega) r).trans ?_
    exact Eq.trans (cols_cut ⟨416 + (j.val - 3584), by omega⟩ (by show 416 + (j.val - 3584) = 416 + (j.val - 3584); omega)) (pick_2 (fun s => (p (ix2 (n0 := 4096) (n1 := 5152) r s) : EReal)) j (by omega) (by omega)).symm
  by_cases h4 : j.val < 4608
  · refine (cols_piece (k := 4) (pre := 4096) (by show 4 < 16; decide) rfl rfl (⟨j.val - 4096, by omega⟩ : Fin 512) (by show 4096 + (j.val - 4096) = j.val; omega) r).trans ?_
    exact Eq.trans (cols_cut ⟨2592 + (j.val - 4096), by omega⟩ (by show 2592 + (j.val - 4096) = 2592 + (j.val - 4096); omega)) (pick_3 (fun s => (p (ix2 (n0 := 4096) (n1 := 5152) r s) : EReal)) j (by omega) (by omega)).symm
  by_cases h5 : j.val < 4864
  · refine (cols_piece (k := 5) (pre := 4608) (by show 5 < 16; decide) rfl rfl (⟨j.val - 4608, by omega⟩ : Fin 256) (by show 4608 + (j.val - 4608) = j.val; omega) r).trans ?_
    exact Eq.trans (cols_cut ⟨0 + (j.val - 4608), by omega⟩ (by show 0 + (j.val - 4608) = 0 + (j.val - 4608); omega)) (pick_4 (fun s => (p (ix2 (n0 := 4096) (n1 := 5152) r s) : EReal)) j (by omega) (by omega)).symm
  by_cases h6 : j.val < 4992
  · refine (cols_piece (k := 6) (pre := 4864) (by show 6 < 16; decide) rfl rfl (⟨j.val - 4864, by omega⟩ : Fin 128) (by show 4864 + (j.val - 4864) = j.val; omega) r).trans ?_
    exact Eq.trans (cols_cut ⟨256 + (j.val - 4864), by omega⟩ (by show 256 + (j.val - 4864) = 256 + (j.val - 4864); omega)) (pick_5 (fun s => (p (ix2 (n0 := 4096) (n1 := 5152) r s) : EReal)) j (by omega) (by omega)).symm
  by_cases h7 : j.val < 5056
  · refine (cols_piece (k := 7) (pre := 4992) (by show 7 < 16; decide) rfl rfl (⟨j.val - 4992, by omega⟩ : Fin 64) (by show 4992 + (j.val - 4992) = j.val; omega) r).trans ?_
    exact Eq.trans word_0 (pick_6 (fun s => (p (ix2 (n0 := 4096) (n1 := 5152) r s) : EReal)) j (by omega) (by omega)).symm
  by_cases h8 : j.val < 5072
  · refine (cols_piece (k := 8) (pre := 5056) (by show 8 < 16; decide) rfl rfl (⟨j.val - 5056, by omega⟩ : Fin 16) (by show 5056 + (j.val - 5056) = j.val; omega) r).trans ?_
    exact Eq.trans ((cols_cut ⟨0 + (j.val - 5056), by omega⟩ (by show 0 + (j.val - 5056) = 0 + (j.val - 5056); omega)).trans (cols_cut ⟨384 + (j.val - 5056), by omega⟩ (by show 384 + (0 + (j.val - 5056)) = 384 + (j.val - 5056); omega))) (pick_7 (fun s => (p (ix2 (n0 := 4096) (n1 := 5152) r s) : EReal)) j (by omega) (by omega)).symm
  by_cases h9 : j.val < 5088
  · refine (cols_piece (k := 9) (pre := 5072) (by show 9 < 16; decide) rfl rfl (⟨j.val - 5072, by omega⟩ : Fin 16) (by show 5072 + (j.val - 5072) = j.val; omega) r).trans ?_
    exact Eq.trans ((cols_cut ⟨16 + (j.val - 5072), by omega⟩ (by show 16 + (j.val - 5072) = 16 + (j.val - 5072); omega)).trans (cols_cut ⟨384 + (j.val - 5056), by omega⟩ (by show 384 + (16 + (j.val - 5072)) = 384 + (j.val - 5056); omega))) (pick_7 (fun s => (p (ix2 (n0 := 4096) (n1 := 5152) r s) : EReal)) j (by omega) (by omega)).symm
  by_cases h10 : j.val < 5120
  · refine (cols_piece (k := 10) (pre := 5088) (by show 10 < 16; decide) rfl rfl (⟨j.val - 5088, by omega⟩ : Fin 32) (by show 5088 + (j.val - 5088) = j.val; omega) r).trans ?_
    exact Eq.trans word_0 (pick_8 (fun s => (p (ix2 (n0 := 4096) (n1 := 5152) r s) : EReal)) j (by omega) (by omega)).symm
  by_cases h11 : j.val < 5184
  · refine (cols_piece (k := 11) (pre := 5120) (by show 11 < 16; decide) rfl rfl (⟨j.val - 5120, by omega⟩ : Fin 64) (by show 5120 + (j.val - 5120) = j.val; omega) r).trans ?_
    exact Eq.trans word_0 (pick_8 (fun s => (p (ix2 (n0 := 4096) (n1 := 5152) r s) : EReal)) j (by omega) (by omega)).symm
  by_cases h12 : j.val < 5200
  · refine (cols_piece (k := 12) (pre := 5184) (by show 12 < 16; decide) rfl rfl (⟨j.val - 5184, by omega⟩ : Fin 16) (by show 5184 + (j.val - 5184) = j.val; omega) r).trans ?_
    exact Eq.trans (congrArg (fun z : EReal => -z) ((cols_cut ⟨16 + (j.val - 5184), by omega⟩ (by show 16 + (j.val - 5184) = 16 + (j.val - 5184); omega)).trans (cols_cut ⟨400 + (j.val - 5184), by omega⟩ (by show 384 + (16 + (j.val - 5184)) = 400 + (j.val - 5184); omega)))) (pick_9 (fun s => (p (ix2 (n0 := 4096) (n1 := 5152) r s) : EReal)) j (by omega) (by omega)).symm
  by_cases h13 : j.val < 5216
  · refine (cols_piece (k := 13) (pre := 5200) (by show 13 < 16; decide) rfl rfl (⟨j.val - 5200, by omega⟩ : Fin 16) (by show 5200 + (j.val - 5200) = j.val; omega) r).trans ?_
    exact Eq.trans ((cols_cut ⟨0 + (j.val - 5200), by omega⟩ (by show 0 + (j.val - 5200) = 0 + (j.val - 5200); omega)).trans (cols_cut ⟨384 + (j.val - 5200), by omega⟩ (by show 384 + (0 + (j.val - 5200)) = 384 + (j.val - 5200); omega))) (pick_10 (fun s => (p (ix2 (n0 := 4096) (n1 := 5152) r s) : EReal)) j (by omega) (by omega)).symm
  by_cases h14 : j.val < 5248
  · refine (cols_piece (k := 14) (pre := 5216) (by show 14 < 16; decide) rfl rfl (⟨j.val - 5216, by omega⟩ : Fin 32) (by show 5216 + (j.val - 5216) = j.val; omega) r).trans ?_
    exact Eq.trans word_0 (pick_11 (fun s => (p (ix2 (n0 := 4096) (n1 := 5152) r s) : EReal)) j (by omega) (by omega)).symm
  refine (cols_piece (k := 15) (pre := 5248) (by show 15 < 16; decide) rfl rfl (⟨j.val - 5248, by omega⟩ : Fin 128) (by show 5248 + (j.val - 5248) = j.val; omega) r).trans ?_
  exact Eq.trans ((cols_cut ⟨1536 + (j.val - 5248), by omega⟩ (by show 1536 + (j.val - 5248) = 1536 + (j.val - 5248); omega)).trans (cols_cut ⟨2464 + (j.val - 5248), by omega⟩ (by show 928 + (1536 + (j.val - 5248)) = 2464 + (j.val - 5248); omega))) (pick_12 (fun s => (p (ix2 (n0 := 4096) (n1 := 5152) r s) : EReal)) j (by omega)).symm
theorem layR_at (p : FVec Ideal S4096x5152 .f32) (r : Fin 4096) (j : Fin 5376) : (layR p (ix2 (n0 := 4096) (n1 := 5376) r j) : EReal) = pick (fun s => p (ix2 (n0 := 4096) (n1 := 5152) r s)) j := catR_at p r j

/-- The modulated rows, and their product with the weight. -/
def xcR (x : FVec Ideal S4096x1024 .f32) : FVec Ideal S4096x1024 .f32 :=
  subf x (broadcastInDim S4096x1024 ![0, 1] bcast_S4096x1_S4096x1024_0_1 (Host.divf (broadcastInDim S4096x1 ![0] bcast_S4096_S4096x1_0 (Host.reduceAdd x (constant S_ .f32 0x00000000#32) reducesTo_S4096x1024_S4096_d1 h_S_)) (broadcastInDim S4096x1 ![] bcast_S_S4096x1 (constant S_ .f32 0x44800000#32))))
def hR (x : FVec Ideal S4096x1024 .f32) (v : FVec Ideal S1x3072 .f32) : FVec Ideal S4096x1024 .f32 :=
  addf (mulf (mulf (xcR x) (broadcastInDim S4096x1024 ![0, 1] bcast_S4096x1_S4096x1024_0_1 (Host.rsqrt (addf (Host.divf (broadcastInDim S4096x1 ![0] bcast_S4096_S4096x1_0 (Host.reduceAdd (mulf (xcR x) (xcR x)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))))))
    (broadcastInDim S4096x1024 ![0, 1] bcast_S1x1024_S4096x1024_0_1 (addf (broadcastInDim S1x1024 ![] bcast_S_S1x1024 (constant S_ .f32 0x3F800000#32)) (extractStridedSlice S1x1024 ![0, 1024] v slices_S1x3072_S1x1024_0_1024))))
    (broadcastInDim S4096x1024 ![0, 1] bcast_S1x1024_S4096x1024_0_1 (extractStridedSlice S1x1024 ![0, 0] v slices_S1x3072_S1x1024_0_0))
def pR (x : FVec Ideal S4096x1024 .f32) (v : FVec Ideal S1x3072 .f32) (w : FVec Ideal S1024x5152 .f32) : FVec Ideal S4096x5152 .f32 :=
  Host.dotGeneral dot_S4096x1024_S1024x5152_S4096x5152_1_0_0_1_n_n none (hR x v) w
theorem xcR_at (x : FVec Ideal S4096x1024 .f32) (r : Fin 4096) (a : Fin 1024) : xcR x (ix2 (n0 := 4096) (n1 := 1024) r a) = ctr (fun b => (x (ix2 (n0 := 4096) (n1 := 1024) r b) : EReal)) a := by
  pointwise [xcR]
  rfl
theorem hR_at (x : FVec Ideal S4096x1024 .f32) (v : FVec Ideal S1x3072 .f32) (r : Fin 4096) (a : Fin 1024) : hR x v (ix2 (n0 := 4096) (n1 := 1024) r a) = hX x v r a := by
  pointwise [hR]
  simp only [xcR_at]
  unfold hX hRow
  rfl
theorem pR_at (x : FVec Ideal S4096x1024 .f32) (v : FVec Ideal S1x3072 .f32) (w : FVec Ideal S1024x5152 .f32) (r : Fin 4096) (s : Fin 5152) :
    pR x v w (ix2 (n0 := 4096) (n1 := 5152) r s) = ∑ a, hX x v r a * w (ix2 (n0 := 1024) (n1 := 5152) a s) := by
  pointwise [pR]
  refine Finset.sum_congr rfl fun a _ => ?_
  rw [hR_at]

variable (m : (ℓ : Loc nD τ sig) → Buf (Elt Ideal) ℓ) (c : Dev nD)
/-- The reference's arguments. -/
def rx : FVec Ideal S4096x1024 .f32 := m ((c.tc : Thread nD τ).loc main_arg0)
def rm : FVec Ideal S1x3072 .f32 := m ((c.tc : Thread nD τ).loc main_arg1)
def rw_ : FVec Ideal S1024x5152 .f32 := m ((c.tc : Thread nD τ).loc main_arg2)
theorem res_eq : Value.res_main_v44 m c = layR (pR (rx m c) (rm m c) (rw_ m c)) := rfl
end Cert.Inp.Mine
-- ==== Proof.InpValue.lean ====
module
public import proofs.«01_k».proof.Defs
public import proofs.«01_k».proof.Proof.Gen.Inp.Frame
public import proofs.«01_k».proof.Proof.Gen.Pre_finite_inp
public import proofs.«01_k».proof.Proof.InpRef
public import Idealize.ShloMosaic.Lib.Quiescent
@[expose] public section
set_option maxRecDepth 16384
noncomputable section
/-!
The input projection's kernel and its reference leave the same columns.
-/
open Idealize.ShloMosaic Idealize.ShloMosaic.TcCoe Idealize.SL.Sem
namespace Cert.Inp.Mine

/-- The reference runs and leaves its arguments alone. -/
theorem frame_reference : Cert.quiescent_InpRefIdeal := fun m ρ _ =>
  (θ_run Cert.InpRefIdeal.defs _ _).mono (fun r h => ⟨fun c => (h c).2, sem_eq_zero_of_no_sems (by decide) r.2⟩)
    (Cert.InpRefIdeal.Value.run (F := Ideal) m ρ)

theorem word_inf : (FloatOps.ofBits (F := Ideal) .f32 0x7F800000#32 : EReal) = ⊤ := by
  show Ideal.ofBits .f32 0x7F800000#32 = _
  simp [Ideal.ofBits, Ideal.ieee]
/-- An entry of magnitude below infinity is a real. -/
theorem real_of_lt {x : EReal} (h : max x (-x) < ⊤) : ((x.toReal : ℝ) : EReal) = x := by
  refine EReal.coe_toReal ?_ ?_
  · rintro rfl; simp at h
  · rintro rfl; simp at h
theorem real_of_word {x : Ideal .f32} (h : FloatOps.cmpf .olt (FloatOps.absf x) (FloatOps.ofBits (F := Ideal) .f32 0x7F800000#32) = 1#1) : ((EReal.toReal x : ℝ) : EReal) = x := by
  refine real_of_lt ?_
  rw [word_inf] at h
  by_contra hn
  have : FloatOps.cmpf (F := Ideal) (φ := .f32) .olt (FloatOps.absf x) (⊤ : EReal) = 0#1 := by
    show BitVec.ofBool (decide (max x (-x) < (⊤ : EReal))) = _
    rw [decide_eq_false hn]; rfl
  rw [this] at h
  exact absurd h (by decide)

open Cert.InpIdeal Cert.InpIdeal.Gen

section Finite
variable (a0 : FVec Ideal S4096x1024 .f32) (a1 : FVec Ideal S1x3072 .f32) (a2 : FVec Ideal S1024x5152 .f32)
  (h : (Cert.Pre_finite_inp.fn (F := Ideal) a0 a1 a2).1 = (fun _ => 1#1) ∧ (Cert.Pre_finite_inp.fn (F := Ideal) a0 a1 a2).2.1 = (fun _ => 1#1)
    ∧ (Cert.Pre_finite_inp.fn (F := Ideal) a0 a1 a2).2.2 = (fun _ => 1#1))
include h
/-- The rows, the modulation and the weight are real. -/
theorem fin_x (r : Fin 4096) (b : Fin 1024) : ∃ y : ℝ, (a0 (ix2 (n0 := 4096) (n1 := 1024) r b) : EReal) = y := ⟨_, (real_of_word (congrFun h.1 _)).symm⟩
@[inherit_doc fin_x]
theorem fin_m (b : Fin 3072) : ∃ y : ℝ, (a1 (ix2 (n0 := 1) (n1 := 3072) 0 b) : EReal) = y := ⟨_, (real_of_word (congrFun h.2.1 _)).symm⟩
@[inherit_doc fin_x]
theorem fin_w (a : Fin 1024) (s : Fin 5152) : ∃ y : ℝ, (a2 (ix2 (n0 := 1024) (n1 := 5152) a s) : EReal) = y := ⟨_, (real_of_word (congrFun h.2.2 _)).symm⟩
end Finite

theorem out {m : (ℓ : Loc nD τ sig) → Buf (Elt Ideal) ℓ} {m' : (ℓ : Loc Cert.InpRefIdeal.nD Cert.InpRefIdeal.τ Cert.InpRefIdeal.sig) → Buf (Elt Ideal) ℓ} {c : Dev nD}
    (e0 : rx m' c = ax m c) (e1 : rm m' c = am m c) (e2 : rw_ m' c = aw m c)
    (hx : ∀ r b, ∃ y : ℝ, (ax m c (ix2 (n0 := 4096) (n1 := 1024) r b) : EReal) = y) (hm : ∀ b, ∃ y : ℝ, (am m c (ix2 (n0 := 1) (n1 := 3072) 0 b) : EReal) = y)
    (hw : ∀ a s, ∃ y : ℝ, (aw m c (ix2 (n0 := 1024) (n1 := 5152) a s) : EReal) = y) : (dats m 0 c).arrAt 3 cfg0.N = Cert.InpRefIdeal.Value.res_main_v44 m' c := by
  funext i
  obtain ⟨x, j, rfl⟩ : ∃ (x : Fin 4096) (j : Fin 5376), i = ix2 (n0 := 4096) (n1 := 5376) x j := ⟨i 0, i 1, ext2 rfl rfl⟩
  refine (final m c x j).trans ?_
  refine (sum_pick _ (fun a s => (aw m c (ix2 (n0 := 1024) (n1 := 5152) a s) : EReal)) (fun a => hRow_real _ _ _ (fun b => hx x b) (fun b => hm _) (fun b => hm _) a) hw j).trans ?_
  rw [res_eq, e0, e1, e2]
  refine Eq.trans ?_ (layR_at _ x j).symm
  exact congrArg (fun f => pick f j) (funext fun s => (pR_at _ _ _ x s).symm)

/-- Equal columns of finite arguments. -/
theorem value : Cert.algebraic_InpIdeal_InpRefIdeal_pre_finite_inp := by
  intro m ρ m' ρ' hpre hagree
  refine ⟨fun c => Cert.InpRefIdeal.Value.res_main_v44 m' c, ?_, Cert.InpRefIdeal.Value.run (F := Ideal) m' ρ'⟩
  refine (θ_run Cert.InpIdeal.defs _ _).mono (fun r h c => ?_) (Cert.InpIdeal.Value.run_blocks (F := Ideal) m ρ)
  have e0 : rx m' c = ax m c := (hagree c).1
  have e1 : rm m' c = am m c := (hagree c).2.1
  have e2 : rw_ m' c = aw m c := (hagree c).2.2
  exact ⟨(h c).1.trans (out e0 e1 e2 (fin_x _ _ _ (hpre c)) (fin_m _ _ _ (hpre c)) (fin_w _ _ _ (hpre c))), (h c).2⟩
end Cert.Inp.Mine
-- ==== Proof.lean ====
/- The claims about the calls of the step: each call's frame and value by its own module. -/
module

public import proofs.«01_k».proof.Defs
public import proofs.«01_k».proof.Proof.Ada
public import proofs.«01_k».proof.Proof.Adw
public import proofs.«01_k».proof.Proof.AttnFrame
public import proofs.«01_k».proof.Proof.AttnValue
public import proofs.«01_k».proof.Proof.FwdValue
public import proofs.«01_k».proof.Proof.Frames
public import proofs.«01_k».proof.Proof.MlpValue
public import proofs.«01_k».proof.Proof.InpValue

@[expose] public section

noncomputable section

namespace Cert.Proof

open Idealize.ShloMosaic Idealize.SL.Sem

theorem claim : Cert.Claim := ⟨Cert.Ada.Gen.facts, Cert.AdaIdeal.Gen.facts, Cert.AdaRefIdeal.Gen.facts,
  Cert.Adw.Gen.facts, Cert.AdwIdeal.Gen.facts, Cert.AdwRefIdeal.Gen.facts,
  Cert.Attn.Gen.facts, Cert.AttnIdeal.Gen.facts, Cert.AttnRefIdeal.Gen.facts,
  Cert.Fwd.Gen.facts, Cert.FwdIdeal.Gen.facts, Cert.FwdRefIdeal.Gen.facts,
  Cert.Mlp.Gen.facts, Cert.MlpIdeal.Gen.facts, Cert.MlpRefIdeal.Gen.facts,
  Cert.Inp.Gen.facts, Cert.InpIdeal.Gen.facts, Cert.InpRefIdeal.Gen.facts,
  Cert.InBack.Gen.facts, Cert.InBackIdeal.Gen.facts, Cert.InBackRefIdeal.Gen.facts,
  Cert.Mla.Gen.facts, Cert.MlaIdeal.Gen.facts, Cert.MlaRefIdeal.Gen.facts,
  Cert.Pre_finite_attn.Gen.facts, Cert.Pre_finite_fwd.Gen.facts, Cert.Pre_finite_mlp.Gen.facts, Cert.Pre_finite_inp.Gen.facts,
  fun m ρ _ => Cert.Ada.Gen.frame m ρ, fun m ρ _ => Cert.AdaIdeal.Gen.frame m ρ, Cert.Ada.Mine.frame_reference,
  fun m ρ _ => Cert.Adw.Gen.frame m ρ, fun m ρ _ => Cert.AdwIdeal.Gen.frame m ρ, Cert.Adw.Mine.frame_reference,
  Cert.AttnFrame.frame_bits, Cert.AttnVal.frame_ideal, fun m ρ _ => Cert.AttnVal.frame_ideal m ρ trivial,
  Cert.AttnVal.frame_reference, fun m ρ _ => Cert.AttnVal.frame_reference m ρ trivial,
  fun m ρ _ => Cert.Fwd.Gen.frame m ρ, fun m ρ _ => Cert.FwdIdeal.Gen.frame m ρ, fun m ρ _ => Cert.FwdIdeal.Gen.frame m ρ,
  Cert.FwdVal.frame_reference, fun m ρ _ => Cert.FwdVal.frame_reference m ρ trivial,
  fun m ρ _ => Cert.Mlp.Gen.frame m ρ, fun m ρ _ => Cert.MlpIdeal.Gen.frame m ρ, fun m ρ _ => Cert.MlpIdeal.Gen.frame m ρ,
  Cert.Mlp.Mine.frame_reference, fun m ρ _ => Cert.Mlp.Mine.frame_reference m ρ trivial,
  fun m ρ _ => Cert.Inp.Gen.frame m ρ, fun m ρ _ => Cert.InpIdeal.Gen.frame m ρ, fun m ρ _ => Cert.InpIdeal.Gen.frame m ρ,
  Cert.Inp.Mine.frame_reference, fun m ρ _ => Cert.Inp.Mine.frame_reference m ρ trivial,
  fun m ρ _ => Cert.InBack.Gen.frame m ρ, fun m ρ _ => Cert.InBackIdeal.Gen.frame m ρ, Cert.Frames.reference_InBack,
  fun m ρ _ => Cert.Mla.Gen.frame m ρ, fun m ρ _ => Cert.MlaIdeal.Gen.frame m ρ, Cert.Frames.reference_Mla,
  (trivial : preserves_Ada_AdaIdeal), Cert.Ada.Mine.value, (trivial : preserves_Adw_AdwIdeal), Cert.Adw.Mine.value,
  ⟨IdealRules.named_const.statement Cert.AttnIdeal.κ "attn_scale" .f32 0x3DD105EC#32 (((Real.sqrt 96)⁻¹ : ℝ) : EReal) rfl,
   IdealRules.named_const.statement Cert.AttnIdeal.κ "ln_2" .f32 0x3F317218#32 ((Real.log 2 : ℝ) : EReal) rfl⟩,
  Cert.AttnVal.value,
  IdealRules.named_const.statement Cert.FwdIdeal.κ "log2_e" .f32 0x3FB8AA3B#32 (((Real.log 2)⁻¹ : ℝ) : EReal) rfl,
  Cert.FwdVal.value, (trivial : preserves_Mlp_MlpIdeal), Cert.Mlp.Mine.value, (trivial : preserves_Inp_InpIdeal), Cert.Inp.Mine.value,
  (trivial : preserves_InBack_InBackIdeal), (trivial : preserves_Mla_MlaIdeal)⟩

end Cert.Proof

end
